-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def preserves_Kernel_KernelIdeal : Prop :=
  IdealRules.named_const.Statement Cert.KernelIdeal.κ "neg_q_scale" .f32 0xBE38AA3B#32 ((-((8 * (Real.log 2))⁻¹) : ℝ) : EReal)
  ∧ IdealRules.named_const.Statement Cert.KernelIdeal.κ "log2_e" .f32 0x3FB8AA3B#32 (((Real.log 2)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference2Ideal [hKernel3Ideal : Cert.Kernel3Ideal.Facts] [hReference2Ideal : Cert.Reference2Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel3Ideal m →
    (∀ c : Dev Cert.Kernel3Ideal.nD,
      m' ((c.tc : Thread Cert.Reference2Ideal.nD Cert.Reference2Ideal.τ).loc Cert.Reference2Ideal.main_arg0) = m ((c.tc : Thread Cert.Kernel3Ideal.nD Cert.Kernel3Ideal.τ).loc Cert.Kernel3Ideal.main_arg0)
      ∧ m' ((c.tc : Thread Cert.Reference2Ideal.nD Cert.Reference2Ideal.τ).loc Cert.Reference2Ideal.main_arg1) = m ((c.tc : Thread Cert.Kernel3Ideal.nD Cert.Kernel3Ideal.τ).loc Cert.Kernel3Ideal.main_arg1)
      ∧ m' ((c.tc : Thread Cert.Reference2Ideal.nD Cert.Reference2Ideal.τ).loc Cert.Reference2Ideal.main_arg2) = m ((c.tc : Thread Cert.Kernel3Ideal.nD Cert.Kernel3Ideal.τ).loc Cert.Kernel3Ideal.main_arg2)
      ∧ m' ((c.tc : Thread Cert.Reference2Ideal.nD Cert.Reference2Ideal.τ).loc Cert.Reference2Ideal.main_arg3) = m ((c.tc : Thread Cert.Kernel3Ideal.nD Cert.Kernel3Ideal.τ).loc Cert.Kernel3Ideal.main_arg3)
      ∧ m' ((c.tc : Thread Cert.Reference2Ideal.nD Cert.Reference2Ideal.τ).loc Cert.Reference2Ideal.main_arg4) = m ((c.tc : Thread Cert.Kernel3Ideal.nD Cert.Kernel3Ideal.τ).loc Cert.Kernel3Ideal.main_arg4)
      ∧ m' ((c.tc : Thread Cert.Reference2Ideal.nD Cert.Reference2Ideal.τ).loc Cert.Reference2Ideal.main_arg5) = m ((c.tc : Thread Cert.Kernel3Ideal.nD Cert.Kernel3Ideal.τ).loc Cert.Kernel3Ideal.main_arg5)
      ∧ m' ((c.tc : Thread Cert.Reference2Ideal.nD Cert.Reference2Ideal.τ).loc Cert.Reference2Ideal.main_arg6) = m ((c.tc : Thread Cert.Kernel3Ideal.nD Cert.Kernel3Ideal.τ).loc Cert.Kernel3Ideal.main_arg6)
      ∧ m' ((c.tc : Thread Cert.Reference2Ideal.nD Cert.Reference2Ideal.τ).loc Cert.Reference2Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_v22) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "neg_q_scale" .f32 0xBE38AA3B#32 ((-((8 * (Real.log 2))⁻¹) : ℝ) : EReal)
  ∧ IdealRules.named_const.Statement Cert.Kernel6Ideal.κ "q_scale" .f32 0x3E38AA3B#32 (((8 * (Real.log 2))⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)) (v3 : (c : Dev Cert.Kernel6Ideal.nD) → Buf (Elt Ideal) ((c.tc : Thread Cert.Kernel6Ideal.nD Cert.Kernel6Ideal.τ).loc Cert.Kernel6Ideal.main_v6_3)) (v4 : (c : Dev Cert.Kernel6Ideal.nD) → Buf (Elt Ideal) ((c.tc : Thread Cert.Kernel6Ideal.nD Cert.Kernel6Ideal.τ).loc Cert.Kernel6Ideal.main_v6_4)) (v5 : (c : Dev Cert.Kernel6Ideal.nD) → Buf (Elt Ideal) ((c.tc : Thread Cert.Kernel6Ideal.nD Cert.Kernel6Ideal.τ).loc Cert.Kernel6Ideal.main_v6_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_v6_3) = v3 c
          ∧ r.2.mem ((c.tc : Thread Cert.Kernel6Ideal.nD Cert.Kernel6Ideal.τ).loc Cert.Kernel6Ideal.main_v6_4) = v4 c
          ∧ r.2.mem ((c.tc : Thread Cert.Kernel6Ideal.nD Cert.Kernel6Ideal.τ).loc Cert.Kernel6Ideal.main_v6_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v36) = v2 c
          ∧ r.2.mem ((c.tc : Thread Cert.Reference6Ideal.nD Cert.Reference6Ideal.τ).loc Cert.Reference6Ideal.main_v37) = v3 c
          ∧ r.2.mem ((c.tc : Thread Cert.Reference6Ideal.nD Cert.Reference6Ideal.τ).loc Cert.Reference6Ideal.main_v38) = v4 c
          ∧ r.2.mem ((c.tc : Thread Cert.Reference6Ideal.nD Cert.Reference6Ideal.τ).loc Cert.Reference6Ideal.main_v41) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "neg_q_scale" .f32 0xBE38AA3B#32 ((-((8 * (Real.log 2))⁻¹) : ℝ) : EReal)
  ∧ IdealRules.named_const.Statement Cert.Kernel7Ideal.κ "q_scale" .f32 0x3E38AA3B#32 (((8 * (Real.log 2))⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_v34) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v48_8)) (v1 : (c : Dev Cert.Kernel8Ideal.nD) → Buf (Elt Ideal) ((c.tc : Thread Cert.Kernel8Ideal.nD Cert.Kernel8Ideal.τ).loc Cert.Kernel8Ideal.main_v48_9)) (v2 : (c : Dev Cert.Kernel8Ideal.nD) → Buf (Elt Ideal) ((c.tc : Thread Cert.Kernel8Ideal.nD Cert.Kernel8Ideal.τ).loc Cert.Kernel8Ideal.main_v48_10)) (v3 : (c : Dev Cert.Kernel8Ideal.nD) → Buf (Elt Ideal) ((c.tc : Thread Cert.Kernel8Ideal.nD Cert.Kernel8Ideal.τ).loc Cert.Kernel8Ideal.main_v48_11)) (v4 : (c : Dev Cert.Kernel8Ideal.nD) → Buf (Elt Ideal) ((c.tc : Thread Cert.Kernel8Ideal.nD Cert.Kernel8Ideal.τ).loc Cert.Kernel8Ideal.main_v48_12)) (v5 : (c : Dev Cert.Kernel8Ideal.nD) → Buf (Elt Ideal) ((c.tc : Thread Cert.Kernel8Ideal.nD Cert.Kernel8Ideal.τ).loc Cert.Kernel8Ideal.main_v48_13)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v48_8) = v0 c
          ∧ r.2.mem ((c.tc : Thread Cert.Kernel8Ideal.nD Cert.Kernel8Ideal.τ).loc Cert.Kernel8Ideal.main_v48_9) = v1 c
          ∧ r.2.mem ((c.tc : Thread Cert.Kernel8Ideal.nD Cert.Kernel8Ideal.τ).loc Cert.Kernel8Ideal.main_v48_10) = v2 c
          ∧ r.2.mem ((c.tc : Thread Cert.Kernel8Ideal.nD Cert.Kernel8Ideal.τ).loc Cert.Kernel8Ideal.main_v48_11) = v3 c
          ∧ r.2.mem ((c.tc : Thread Cert.Kernel8Ideal.nD Cert.Kernel8Ideal.τ).loc Cert.Kernel8Ideal.main_v48_12) = v4 c
          ∧ r.2.mem ((c.tc : Thread Cert.Kernel8Ideal.nD Cert.Kernel8Ideal.τ).loc Cert.Kernel8Ideal.main_v48_13) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v96) = v0 c
          ∧ r.2.mem ((c.tc : Thread Cert.Reference8Ideal.nD Cert.Reference8Ideal.τ).loc Cert.Reference8Ideal.main_v97) = v1 c
          ∧ r.2.mem ((c.tc : Thread Cert.Reference8Ideal.nD Cert.Reference8Ideal.τ).loc Cert.Reference8Ideal.main_v98) = v2 c
          ∧ r.2.mem ((c.tc : Thread Cert.Reference8Ideal.nD Cert.Reference8Ideal.τ).loc Cert.Reference8Ideal.main_v99) = v3 c
          ∧ r.2.mem ((c.tc : Thread Cert.Reference8Ideal.nD Cert.Reference8Ideal.τ).loc Cert.Reference8Ideal.main_v100) = v4 c
          ∧ r.2.mem ((c.tc : Thread Cert.Reference8Ideal.nD Cert.Reference8Ideal.τ).loc Cert.Reference8Ideal.main_v101) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference4Ideal [hKernel9Ideal : Cert.Kernel9Ideal.Facts] [hReference4Ideal : Cert.Reference4Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel9Ideal m →
    (∀ c : Dev Cert.Kernel9Ideal.nD,
      m' ((c.tc : Thread Cert.Reference4Ideal.nD Cert.Reference4Ideal.τ).loc Cert.Reference4Ideal.main_arg0) = m ((c.tc : Thread Cert.Kernel9Ideal.nD Cert.Kernel9Ideal.τ).loc Cert.Kernel9Ideal.main_arg0)
      ∧ m' ((c.tc : Thread Cert.Reference4Ideal.nD Cert.Reference4Ideal.τ).loc Cert.Reference4Ideal.main_arg1) = m ((c.tc : Thread Cert.Kernel9Ideal.nD Cert.Kernel9Ideal.τ).loc Cert.Kernel9Ideal.main_arg1)
      ∧ m' ((c.tc : Thread Cert.Reference4Ideal.nD Cert.Reference4Ideal.τ).loc Cert.Reference4Ideal.main_arg2) = m ((c.tc : Thread Cert.Kernel9Ideal.nD Cert.Kernel9Ideal.τ).loc Cert.Kernel9Ideal.main_arg2)
      ∧ m' ((c.tc : Thread Cert.Reference4Ideal.nD Cert.Reference4Ideal.τ).loc Cert.Reference4Ideal.main_arg3) = m ((c.tc : Thread Cert.Kernel9Ideal.nD Cert.Kernel9Ideal.τ).loc Cert.Kernel9Ideal.main_arg3)
      ∧ m' ((c.tc : Thread Cert.Reference4Ideal.nD Cert.Reference4Ideal.τ).loc Cert.Reference4Ideal.main_arg4) = m ((c.tc : Thread Cert.Kernel9Ideal.nD Cert.Kernel9Ideal.τ).loc Cert.Kernel9Ideal.main_arg4)
      ∧ m' ((c.tc : Thread Cert.Reference4Ideal.nD Cert.Reference4Ideal.τ).loc Cert.Reference4Ideal.main_arg5) = m ((c.tc : Thread Cert.Kernel9Ideal.nD Cert.Kernel9Ideal.τ).loc Cert.Kernel9Ideal.main_arg5)
      ∧ m' ((c.tc : Thread Cert.Reference4Ideal.nD Cert.Reference4Ideal.τ).loc Cert.Reference4Ideal.main_arg6) = m ((c.tc : Thread Cert.Kernel9Ideal.nD Cert.Kernel9Ideal.τ).loc Cert.Kernel9Ideal.main_arg6)
      ∧ m' ((c.tc : Thread Cert.Reference4Ideal.nD Cert.Reference4Ideal.τ).loc Cert.Reference4Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v13)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference2Ideal (hKernel3Ideal := hKernel3Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference4Ideal (hKernel9Ideal := hKernel9Ideal) (hReference4Ideal := hReference4Ideal)
-- ==== Pre_scores_finite.lean ====
abbrev S4x4096x12x64 : Shape := ⟨4, ![4, 4096, 12, 64]⟩
abbrev S_ : Shape := ⟨0, ![]⟩

class Facts : Prop where
  bcast_S_S4x4096x12x64 : S_.BroadcastsInDim S4x4096x12x64 (![] : Fin 0 → Fin S4x4096x12x64.rank)

variable [Facts]

def fn {F : FTy → Type} [FloatOps F] (main_arg0 : FVec F S4x4096x12x64 .f32) (main_arg1 : FVec F S4x4096x12x64 .f32) (main_arg2 : FVec F S4x4096x12x64 .f32) : IVec S4x4096x12x64 1 :=
  let main_v0 : FVec F S4x4096x12x64 .f32 := Host.absf main_arg0
  let main_cst : FVec F S_ .f32 := constant S_ .f32 0x7F800000#32
  let main_v1 : FVec F S4x4096x12x64 .f32 := broadcastInDim S4x4096x12x64 ![] bcast_S_S4x4096x12x64 main_cst
  let main_v2 : IVec S4x4096x12x64 1 := cmpf .olt main_v0 main_v1
  let main_v3 : FVec F S4x4096x12x64 .f32 := Host.absf main_arg1
  let main_cst_0 : FVec F S_ .f32 := constant S_ .f32 0x7F800000#32
  let main_v4 : FVec F S4x4096x12x64 .f32 := broadcastInDim S4x4096x12x64 ![] bcast_S_S4x4096x12x64 main_cst_0
  let main_v5 : IVec S4x4096x12x64 1 := cmpf .olt main_v3 main_v4
  let main_v6 : IVec S4x4096x12x64 1 := andi main_v2 main_v5
  main_v6
-- ==== Kernel.lean ====
abbrev S4x4096x12x64 : Shape := ⟨4, ![4, 4096, 12, 64]⟩
abbrev S_ : Shape := ⟨0, ![]⟩
abbrev S256x256 : Shape := ⟨2, ![256, 256]⟩
abbrev S16384x768 : Shape := ⟨2, ![16384, 768]⟩
abbrev S64x256x768 : Shape := ⟨3, ![64, 256, 768]⟩
abbrev S64x768x256 : Shape := ⟨3, ![64, 768, 256]⟩
abbrev S256x128 : Shape := ⟨2, ![256, 128]⟩
abbrev S4096x128 : Shape := ⟨2, ![4096, 128]⟩
abbrev S16x128x256 : Shape := ⟨3, ![16, 128, 256]⟩
abbrev S128x256 : Shape := ⟨2, ![128, 256]⟩
abbrev S8x256 : Shape := ⟨2, ![8, 256]⟩
abbrev S1x256 : Shape := ⟨2, ![1, 256]⟩
abbrev S1x128x256 : Shape := ⟨3, ![1, 128, 256]⟩

abbrev nBuf : Space → Nat
  | .hbm => 22
  | .vmem => 11
  | .smem => 0
  | _ => 0

abbrev bufTy : (tb : Table) → Fin (tcTables nBuf tb) → BufTy
  | .hbm, ⟨0, _⟩ => ⟨S4x4096x12x64, .f32⟩
  | .hbm, ⟨1, _⟩ => ⟨S4x4096x12x64, .f32⟩
  | .hbm, ⟨2, _⟩ => ⟨S4x4096x12x64, .f32⟩
  | .hbm, ⟨3, _⟩ => ⟨S_, .bf16⟩
  | .hbm, ⟨4, _⟩ => ⟨S256x256, .bf16⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S_, .bf16⟩
  | .hbm, ⟨12, _⟩ => ⟨S256x256, .bf16⟩
  | .hbm, ⟨13, _⟩ => ⟨S256x256, .bf16⟩
  | .hbm, ⟨14, _⟩ => ⟨S16384x768, .f32⟩
  | .hbm, ⟨15, _⟩ => ⟨S16384x768, .bf16⟩
  | .hbm, ⟨16, _⟩ => ⟨S16384x768, .f32⟩
  | .hbm, ⟨17, _⟩ => ⟨S16384x768, .bf16⟩
  | .hbm, ⟨18, _⟩ => ⟨S64x256x768, .f32⟩
  | .hbm, ⟨19, _⟩ => ⟨S64x768x256, .f32⟩
  | .hbm, ⟨20, _⟩ => ⟨S64x768x256, .bf16⟩
  | .hbm, ⟨21, _⟩ => ⟨S16384x768, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S16x128x256, .bf16⟩
  | .local _ .vmem, ⟨5, _⟩ => ⟨S16x128x256, .bf16⟩
  | .local _ .vmem, ⟨6, _⟩ => ⟨S256x256, .bf16⟩
  | .local _ .vmem, ⟨7, _⟩ => ⟨S256x128, .bf16⟩
  | .local _ .vmem, ⟨8, _⟩ => ⟨S256x128, .bf16⟩
  | .local _ .vmem, ⟨9, _⟩ => ⟨S128x256, .f32⟩
  | .local _ .vmem, ⟨10, _⟩ => ⟨S8x256, .f32⟩
  | _, _ => ⟨S4x4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 6, 16], ![false, false, false]⟩

def k0_mult1 (i : grid0.Coords) : BitVec 32 :=
  let arg2 : BitVec 32 := BitVec.ofNat 32 (i 2).val
  let c256_i32 : BitVec 32 := 256#32
  let v26 : BitVec 32 := Scalar.muli arg2 c256_i32
  v26
def k0_off1 (i : grid0.Coords) : Fin 2 → Nat :=
  let arg2 : BitVec 32 := BitVec.ofNat 32 (i 2).val
  let c256_i32 : BitVec 32 := 256#32
  let v26 : BitVec 32 := Scalar.muli arg2 c256_i32
  let v27 : BitVec 32 := v26
  let v28 : Index := Scalar.indexCast v27
  let c0_14 : Index := 0#32
  ![v28.toNat, 0]
def k0_off2 (i : grid0.Coords) : Fin 3 → Nat :=
  let arg2 : BitVec 32 := BitVec.ofNat 32 (i 2).val
  let v31 : Index := Scalar.indexCast arg2
  let c0_15 : Index := 0#32
  let c0_16 : Index := 0#32
  ![v31.toNat, 0, 0]
def k0_cond1 (i : grid0.Coords) : BitVec 1 :=
  let arg2 : BitVec 32 := BitVec.ofNat 32 (i 2).val
  let c1_i32 : BitVec 32 := 1#32
  let v117 : BitVec 32 := Scalar.andi arg2 c1_i32
  let c1_i32_46 : BitVec 32 := 1#32
  let v119 : BitVec 1 := Scalar.cmpi .eq v117 c1_i32_46
  let v120 : BitVec 32 := Scalar.extui v119
  let c0_i32 : BitVec 32 := 0#32
  let v121 : BitVec 1 := Scalar.cmpi .ne v120 c0_i32
  v121

def k0_mult2 (i : grid0.Coords) : BitVec 32 :=
  let arg2 : BitVec 32 := BitVec.ofNat 32 (i 2).val
  let c1_i32_59 : BitVec 32 := 1#32
  let v135 : BitVec 32 := Scalar.subi arg2 c1_i32_59
  let c256_i32_64 : BitVec 32 := 256#32
  let v138 : BitVec 32 := Scalar.muli v135 c256_i32_64
  v138
def k0_off3 (i : grid0.Coords) : Fin 2 → Nat :=
  let arg2 : BitVec 32 := BitVec.ofNat 32 (i 2).val
  let c1_i32_59 : BitVec 32 := 1#32
  let v135 : BitVec 32 := Scalar.subi arg2 c1_i32_59
  let c256_i32_64 : BitVec 32 := 256#32
  let v138 : BitVec 32 := Scalar.muli v135 c256_i32_64
  let v139 : BitVec 32 := v138
  let v140 : Index := Scalar.indexCast v139
  let c0_65 : Index := 0#32
  ![v140.toNat, 0]
def k0_off4 (i : grid0.Coords) : Fin 3 → Nat :=
  let arg2 : BitVec 32 := BitVec.ofNat 32 (i 2).val
  let c1_i32_59 : BitVec 32 := 1#32
  let v135 : BitVec 32 := Scalar.subi arg2 c1_i32_59
  let v143 : Index := Scalar.indexCast v135
  let c0_66 : Index := 0#32
  let c0_67 : Index := 0#32
  ![v143.toNat, 0, 0]
def k0_cond2 (i : grid0.Coords) : BitVec 1 :=
  let arg2 : BitVec 32 := BitVec.ofNat 32 (i 2).val
  let c2_i32 : BitVec 32 := 2#32
  let v118 : BitVec 32 := Scalar.andi arg2 c2_i32
  let c2_i32_47 : BitVec 32 := 2#32
  let v122 : BitVec 1 := Scalar.cmpi .eq v118 c2_i32_47
  let v123 : BitVec 32 := Scalar.extui v122
  let c0_i32_48 : BitVec 32 := 0#32
  let v124 : BitVec 1 := Scalar.cmpi .ne v123 c0_i32_48
  v124

def k0_mult3 (i : grid0.Coords) : BitVec 32 :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c256_i32_65 : BitVec 32 := 256#32
  let v141 : BitVec 32 := Scalar.muli v136 c256_i32_65
  v141
def k0_off5 (i : grid0.Coords) (c1_i32_59 : BitVec 32) : Fin 2 → Nat :=
  let arg2 : BitVec 32 := BitVec.ofNat 32 (i 2).val
  let v135 : BitVec 32 := Scalar.subi arg2 c1_i32_59
  let c1_i32 : BitVec 32 := 1#32
  let v117 : BitVec 32 := Scalar.andi arg2 c1_i32
  let v136 : BitVec 32 := Scalar.subi v135 v117
  let c256_i32_65 : BitVec 32 := 256#32
  let v141 : BitVec 32 := Scalar.muli v136 c256_i32_65
  let v142 : BitVec 32 := v141
  let v143 : Index := Scalar.indexCast v142
  let c0_66 : Index := 0#32
  ![v143.toNat, 0]
def k0_off6 (i : grid0.Coords) (c1_i32_59 : BitVec 32) : Fin 3 → Nat :=
  let arg2 : BitVec 32 := BitVec.ofNat 32 (i 2).val
  let v135 : BitVec 32 := Scalar.subi arg2 c1_i32_59
  let c1_i32 : BitVec 32 := 1#32
  let v117 : BitVec 32 := Scalar.andi arg2 c1_i32
  let v136 : BitVec 32 := Scalar.subi v135 v117
  let v146 : Index := Scalar.indexCast v136
  let c0_67 : Index := 0#32
  let c0_68 : Index := 0#32
  ![v146.toNat, 0, 0]
def k0_mult4 (i : grid0.Coords) : BitVec 32 :=
  let arg2 : BitVec 32 := BitVec.ofNat 32 (i 2).val
  let c2_i32_60 : BitVec 32 := 2#32
  let v137 : BitVec 32 := Scalar.subi arg2 c2_i32_60
  let c1_i32 : BitVec 32 := 1#32
  let v117 : BitVec 32 := Scalar.andi arg2 c1_i32
  let v138 : BitVec 32 := Scalar.subi v137 v117
  let c256_i32_84 : BitVec 32 := 256#32
  let v187 : BitVec 32 := Scalar.muli v138 c256_i32_84
  v187
@[reducible] def k0_t1_loop (i : grid0.Coords) : Scf.Loop 32 :=
  let c0_i32_51 : BitVec 32 := 0#32
  let arg2 : BitVec 32 := BitVec.ofNat 32 (i 2).val
  let c2_i32_49 : BitVec 32 := 2#32
  let v125 : BitVec 32 := Scalar.shrsi arg2 c2_i32_49
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_53 : BitVec 32 := 1#32
  ⟨c0_i32_51, v130, c1_i32_53⟩
def k0_mult5 (i : grid0.Coords) (k0_t1 : Fin (k0_t1_loop i).trips) : BitVec 32 :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c1_i32_53 : BitVec 32 := 1#32
  let arg10 : BitVec 32 := Scf.iv c0_i32_51 c1_i32_53 k0_t1
  let v138 : BitVec 32 := Scalar.muli c4_i32 arg10
  let v139 : BitVec 32 := Scalar.subi v137 v138
  let c0_i32_60 : BitVec 32 := 0#32
  let v140 : BitVec 32 := Scalar.subi v139 c0_i32_60
  let c256_i32_67 : BitVec 32 := 256#32
  let v146 : BitVec 32 := Scalar.muli v140 c256_i32_67
  v146
def k0_off7 (i : grid0.Coords) (k0_t1 : Fin (k0_t1_loop i).trips) (c0_i32_60 : BitVec 32) : Fin 2 → Nat :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c1_i32_53 : BitVec 32 := 1#32
  let arg10 : BitVec 32 := Scf.iv c0_i32_51 c1_i32_53 k0_t1
  let v138 : BitVec 32 := Scalar.muli c4_i32 arg10
  let v139 : BitVec 32 := Scalar.subi v137 v138
  let v140 : BitVec 32 := Scalar.subi v139 c0_i32_60
  let c256_i32_67 : BitVec 32 := 256#32
  let v146 : BitVec 32 := Scalar.muli v140 c256_i32_67
  let v147 : BitVec 32 := v146
  let v148 : Index := Scalar.indexCast v147
  let c0_68 : Index := 0#32
  ![v148.toNat, 0]
def k0_off8 (i : grid0.Coords) (k0_t1 : Fin (k0_t1_loop i).trips) (c0_i32_60 : BitVec 32) : Fin 3 → Nat :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c1_i32_53 : BitVec 32 := 1#32
  let arg10 : BitVec 32 := Scf.iv c0_i32_51 c1_i32_53 k0_t1
  let v138 : BitVec 32 := Scalar.muli c4_i32 arg10
  let v139 : BitVec 32 := Scalar.subi v137 v138
  let v140 : BitVec 32 := Scalar.subi v139 c0_i32_60
  let v151 : Index := Scalar.indexCast v140
  let c0_69 : Index := 0#32
  let c0_70 : Index := 0#32
  ![v151.toNat, 0, 0]
def k0_mult6 (i : grid0.Coords) (k0_t1 : Fin (k0_t1_loop i).trips) : BitVec 32 :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c1_i32_53 : BitVec 32 := 1#32
  let arg10 : BitVec 32 := Scf.iv c0_i32_51 c1_i32_53 k0_t1
  let v138 : BitVec 32 := Scalar.muli c4_i32 arg10
  let v139 : BitVec 32 := Scalar.subi v137 v138
  let c1_i32_61 : BitVec 32 := 1#32
  let v141 : BitVec 32 := Scalar.subi v139 c1_i32_61
  let c256_i32_86 : BitVec 32 := 256#32
  let v192 : BitVec 32 := Scalar.muli v141 c256_i32_86
  v192
def k0_mult7 (i : grid0.Coords) (k0_t1 : Fin (k0_t1_loop i).trips) : BitVec 32 :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c1_i32_53 : BitVec 32 := 1#32
  let arg10 : BitVec 32 := Scf.iv c0_i32_51 c1_i32_53 k0_t1
  let v138 : BitVec 32 := Scalar.muli c4_i32 arg10
  let v139 : BitVec 32 := Scalar.subi v137 v138
  let c2_i32_62 : BitVec 32 := 2#32
  let v142 : BitVec 32 := Scalar.subi v139 c2_i32_62
  let c256_i32_105 : BitVec 32 := 256#32
  let v238 : BitVec 32 := Scalar.muli v142 c256_i32_105
  v238
def k0_mult8 (i : grid0.Coords) (k0_t1 : Fin (k0_t1_loop i).trips) : BitVec 32 :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c1_i32_53 : BitVec 32 := 1#32
  let arg10 : BitVec 32 := Scf.iv c0_i32_51 c1_i32_53 k0_t1
  let v138 : BitVec 32 := Scalar.muli c4_i32 arg10
  let v139 : BitVec 32 := Scalar.subi v137 v138
  let c3_i32 : BitVec 32 := 3#32
  let v143 : BitVec 32 := Scalar.subi v139 c3_i32
  let c256_i32_124 : BitVec 32 := 256#32
  let v284 : BitVec 32 := Scalar.muli v143 c256_i32_124
  v284
@[reducible] def k0_t2_loop (i : grid0.Coords) : Scf.Loop 32 :=
  let c0_i32_51 : BitVec 32 := 0#32
  let arg2 : BitVec 32 := BitVec.ofNat 32 (i 2).val
  let c2_i32_49 : BitVec 32 := 2#32
  let v125 : BitVec 32 := Scalar.shrsi arg2 c2_i32_49
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let v127 : BitVec 32 := Scalar.addi c0_i32_51 v126
  let c1_i32_54 : BitVec 32 := 1#32
  ⟨v130, v127, c1_i32_54⟩
def k0_mult9 (i : grid0.Coords) (k0_t2 : Fin (k0_t2_loop i).trips) : BitVec 32 :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c2_i32_49 : BitVec 32 := 2#32
  let v125 : BitVec 32 := Scalar.shrsi arg2 c2_i32_49
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg10 : BitVec 32 := Scf.iv v130 c1_i32_54 k0_t2
  let v138 : BitVec 32 := Scalar.muli c4_i32 arg10
  let v139 : BitVec 32 := Scalar.subi v137 v138
  let c0_i32_60 : BitVec 32 := 0#32
  let v140 : BitVec 32 := Scalar.subi v139 c0_i32_60
  let c256_i32_67 : BitVec 32 := 256#32
  let v146 : BitVec 32 := Scalar.muli v140 c256_i32_67
  v146
def k0_off9 (i : grid0.Coords) (k0_t2 : Fin (k0_t2_loop i).trips) (c0_i32_60 : BitVec 32) : Fin 2 → Nat :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c2_i32_49 : BitVec 32 := 2#32
  let v125 : BitVec 32 := Scalar.shrsi arg2 c2_i32_49
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg10 : BitVec 32 := Scf.iv v130 c1_i32_54 k0_t2
  let v138 : BitVec 32 := Scalar.muli c4_i32 arg10
  let v139 : BitVec 32 := Scalar.subi v137 v138
  let v140 : BitVec 32 := Scalar.subi v139 c0_i32_60
  let c256_i32_67 : BitVec 32 := 256#32
  let v146 : BitVec 32 := Scalar.muli v140 c256_i32_67
  let v147 : BitVec 32 := v146
  let v148 : Index := Scalar.indexCast v147
  let c0_68 : Index := 0#32
  ![v148.toNat, 0]
def k0_off10 (i : grid0.Coords) (k0_t2 : Fin (k0_t2_loop i).trips) (c0_i32_60 : BitVec 32) : Fin 3 → Nat :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c2_i32_49 : BitVec 32 := 2#32
  let v125 : BitVec 32 := Scalar.shrsi arg2 c2_i32_49
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg10 : BitVec 32 := Scf.iv v130 c1_i32_54 k0_t2
  let v138 : BitVec 32 := Scalar.muli c4_i32 arg10
  let v139 : BitVec 32 := Scalar.subi v137 v138
  let v140 : BitVec 32 := Scalar.subi v139 c0_i32_60
  let v151 : Index := Scalar.indexCast v140
  let c0_69 : Index := 0#32
  let c0_70 : Index := 0#32
  ![v151.toNat, 0, 0]
def k0_mult10 (i : grid0.Coords) (k0_t2 : Fin (k0_t2_loop i).trips) : BitVec 32 :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c2_i32_49 : BitVec 32 := 2#32
  let v125 : BitVec 32 := Scalar.shrsi arg2 c2_i32_49
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg10 : BitVec 32 := Scf.iv v130 c1_i32_54 k0_t2
  let v138 : BitVec 32 := Scalar.muli c4_i32 arg10
  let v139 : BitVec 32 := Scalar.subi v137 v138
  let c1_i32_61 : BitVec 32 := 1#32
  let v141 : BitVec 32 := Scalar.subi v139 c1_i32_61
  let c256_i32_86 : BitVec 32 := 256#32
  let v192 : BitVec 32 := Scalar.muli v141 c256_i32_86
  v192
def k0_mult11 (i : grid0.Coords) (k0_t2 : Fin (k0_t2_loop i).trips) : BitVec 32 :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c2_i32_49 : BitVec 32 := 2#32
  let v125 : BitVec 32 := Scalar.shrsi arg2 c2_i32_49
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg10 : BitVec 32 := Scf.iv v130 c1_i32_54 k0_t2
  let v138 : BitVec 32 := Scalar.muli c4_i32 arg10
  let v139 : BitVec 32 := Scalar.subi v137 v138
  let c2_i32_62 : BitVec 32 := 2#32
  let v142 : BitVec 32 := Scalar.subi v139 c2_i32_62
  let c256_i32_105 : BitVec 32 := 256#32
  let v238 : BitVec 32 := Scalar.muli v142 c256_i32_105
  v238
def k0_mult12 (i : grid0.Coords) (k0_t2 : Fin (k0_t2_loop i).trips) : BitVec 32 :=
  let arg2 : BitVec 32 := BitVec.ofNat 32 (i 2).val
  let c1_i32_59 : BitVec 32 := 1#32
  let v135 : BitVec 32 := Scalar.subi arg2 c1_i32_59
  let c1_i32 : BitVec 32 := 1#32
  let v117 : BitVec 32 := Scalar.andi arg2 c1_i32
  let v136 : BitVec 32 := Scalar.subi v135 v117
  let c2_i32 : BitVec 32 := 2#32
  let v118 : BitVec 32 := Scalar.andi arg2 c2_i32
  let v137 : BitVec 32 := Scalar.subi v136 v118
  let c4_i32 : BitVec 32 := 4#32
  let c0_i32_51 : BitVec 32 := 0#32
  let c2_i32_49 : BitVec 32 := 2#32
  let v125 : BitVec 32 := Scalar.shrsi arg2 c2_i32_49
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg10 : BitVec 32 := Scf.iv v130 c1_i32_54 k0_t2
  let v138 : BitVec 32 := Scalar.muli c4_i32 arg10
  let v139 : BitVec 32 := Scalar.subi v137 v138
  let c3_i32 : BitVec 32 := 3#32
  let v143 : BitVec 32 := Scalar.subi v139 c3_i32
  let c256_i32_124 : BitVec 32 := 256#32
  let v284 : BitVec 32 := Scalar.muli v143 c256_i32_124
  v284
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2_e" => some (((Real.log 2)⁻¹ : ℝ) : EReal)
  | "neg_q_scale" => some ((-((8 * (Real.log 2))⁻¹) : ℝ) : EReal)
  | _ => none
-- ==== ReferenceIdeal.lean ====
abbrev S4x4096x12x64 : Shape := ⟨4, ![4, 4096, 12, 64]⟩
abbrev S4x12x4096x4096 : Shape := ⟨4, ![4, 12, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x12x64x4096 : Shape := ⟨4, ![4, 12, 64, 4096]⟩
abbrev S16384x768 : Shape := ⟨2, ![16384, 768]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x12x64, .f32⟩
  | .hbm, ⟨1, _⟩ => ⟨S4x4096x12x64, .f32⟩
  | .hbm, ⟨2, _⟩ => ⟨S4x4096x12x64, .f32⟩
  | .hbm, ⟨3, _⟩ => ⟨S4x12x4096x4096, .f32⟩
  | .hbm, ⟨4, _⟩ => ⟨S_, .f32⟩
  | .hbm, ⟨5, _⟩ => ⟨S4x12x4096x4096, .f32⟩
  | .hbm, ⟨6, _⟩ => ⟨S4x12x4096x4096, .f32⟩
  | .hbm, ⟨7, _⟩ => ⟨S4096, .i32⟩
  | .hbm, ⟨8, _⟩ => ⟨S1x4096, .i32⟩
  | .hbm, ⟨9, _⟩ => ⟨S4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S4x12x4096x4096, .f32⟩
  | .hbm, ⟨15, _⟩ => ⟨S4x12x4096x4096, .f32⟩
  | .hbm, ⟨16, _⟩ => ⟨S_, .f32⟩
  | .hbm, ⟨17, _⟩ => ⟨S4x12x4096x4096, .f32⟩
  | .hbm, ⟨18, _⟩ => ⟨S4x12x4096x4096, .f32⟩
  | .hbm, ⟨19, _⟩ => ⟨S4x12x4096x4096, .f32⟩
  | .hbm, ⟨20, _⟩ => ⟨S4x12x4096x4096, .f32⟩
  | .hbm, ⟨21, _⟩ => ⟨S4x12x4096x4096, .i1⟩
  | .hbm, ⟨22, _⟩ => ⟨S4x12x4096x4096, .f32⟩
  | .hbm, ⟨23, _⟩ => ⟨S4x12x4096x4096, .f32⟩
  | .hbm, ⟨24, _⟩ => ⟨S4x12x4096x4096, .f32⟩
  | .hbm, ⟨25, _⟩ => ⟨S4x12x4096x4096, .f32⟩
  | .hbm, ⟨26, _⟩ => ⟨S4x12x4096x4096, .f32⟩
  | .hbm, ⟨27, _⟩ => ⟨S4x12x4096x4096, .f32⟩
  | .hbm, ⟨28, _⟩ => ⟨S4x12x4096x4096, .f32⟩
  | .hbm, ⟨29, _⟩ => ⟨S4x12x4096x4096, .f32⟩
  | .hbm, ⟨30, _⟩ => ⟨S4x12x4096x4096, .f32⟩
  | .hbm, ⟨31, _⟩ => ⟨S_, .f32⟩
  | .hbm, ⟨32, _⟩ => ⟨S_, .f32⟩
  | .hbm, ⟨33, _⟩ => ⟨S4x12x4096x4096, .i1⟩
  | .hbm, ⟨34, _⟩ => ⟨S4x12x4096x4096, .f32⟩
  | .hbm, ⟨35, _⟩ => ⟨S4x12x4096x4096, .f32⟩
  | .hbm, ⟨36, _⟩ => ⟨S_, .f32⟩
  | .hbm, ⟨37, _⟩ => ⟨S_, .f32⟩
  | .hbm, ⟨38, _⟩ => ⟨S4x12x4096x4096, .f32⟩
  | .hbm, ⟨39, _⟩ => ⟨S4x12x4096x4096, .f32⟩
  | .hbm, ⟨40, _⟩ => ⟨S4x12x4096x4096, .f32⟩
  | .hbm, ⟨41, _⟩ => ⟨S_, .f32⟩
  | .hbm, ⟨42, _⟩ => ⟨S4x12x4096x4096, .f32⟩
  | .hbm, ⟨43, _⟩ => ⟨S4x12x4096x4096, .f32⟩
  | .hbm, ⟨44, _⟩ => ⟨S4x12x4096x4096, .f32⟩
  | .hbm, ⟨45, _⟩ => ⟨S4x12x4096x4096, .f32⟩
  | .hbm, ⟨46, _⟩ => ⟨S4x12x4096x4096, .i1⟩
  | .hbm, ⟨47, _⟩ => ⟨S4x12x4096x4096, .f32⟩
  | .hbm, ⟨48, _⟩ => ⟨S4x12x4096x4096, .f32⟩
  | .hbm, ⟨49, _⟩ => ⟨S4x12x4096x4096, .f32⟩
  | .hbm, ⟨50, _⟩ => ⟨S4x12x4096x4096, .f32⟩
  | .hbm, ⟨51, _⟩ => ⟨S4x12x4096x4096, .f32⟩
  | .hbm, ⟨52, _⟩ => ⟨S4x12x4096x4096, .f32⟩
  | .hbm, ⟨53, _⟩ => ⟨S4x12x4096x4096, .f32⟩
  | .hbm, ⟨54, _⟩ => ⟨S4x12x4096x4096, .f32⟩
  | .hbm, ⟨55, _⟩ => ⟨S4x12x4096x4096, .f32⟩
  | .hbm, ⟨56, _⟩ => ⟨S4x12x4096x4096, .f32⟩
  | .hbm, ⟨57, _⟩ => ⟨S4x12x4096x4096, .f32⟩
  | .hbm, ⟨58, _⟩ => ⟨S_, .f32⟩
  | .hbm, ⟨59, _⟩ => ⟨S_, .f32⟩
  | .hbm, ⟨60, _⟩ => ⟨S4x12x4096x4096, .i1⟩
  | .hbm, ⟨61, _⟩ => ⟨S4x12x4096x4096, .f32⟩
  | .hbm, ⟨62, _⟩ => ⟨S4x12x4096x4096, .f32⟩
  | .hbm, ⟨63, _⟩ => ⟨S4x12x64x4096, .f32⟩
  | .hbm, ⟨64, _⟩ => ⟨S4x4096x12x64, .f32⟩
  | .hbm, ⟨65, _⟩ => ⟨S16384x768, .f32⟩
  | .hbm, ⟨66, _⟩ => ⟨S16384x768, .bf16⟩
  | _, _ => ⟨S4x4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v12 : Ref sig .tc := ⟨.hbm, 35, rfl⟩
abbrev main_call2_cst : Ref sig .tc := ⟨.hbm, 36, rfl⟩
abbrev main_call2_v0 : Ref sig .tc := ⟨.hbm, 37, rfl⟩
abbrev main_v13 : Ref sig .tc := ⟨.hbm, 38, rfl⟩
abbrev main_v14 : Ref sig .tc := ⟨.hbm, 39, rfl⟩
abbrev main_call3_v0 : Ref sig .tc := ⟨.hbm, 40, rfl⟩
abbrev main_call3_call0_cst : Ref sig .tc := ⟨.hbm, 41, rfl⟩
abbrev main_call3_call0_v0 : Ref sig .tc := ⟨.hbm, 42, rfl⟩
abbrev main_call3_call0_v1 : Ref sig .tc := ⟨.hbm, 43, rfl⟩
abbrev main_call3_call0_v2 : Ref sig .tc := ⟨.hbm, 44, rfl⟩
abbrev main_call3_call0_v3 : Ref sig .tc := ⟨.hbm, 45, rfl⟩
abbrev main_call3_call0_v4 : Ref sig .tc := ⟨.hbm, 46, rfl⟩
abbrev main_call3_call0_v5 : Ref sig .tc := ⟨.hbm, 47, rfl⟩
abbrev main_call3_call0_v6 : Ref sig .tc := ⟨.hbm, 48, rfl⟩
abbrev main_call3_call0_v7 : Ref sig .tc := ⟨.hbm, 49, rfl⟩
abbrev main_call3_call0_v8 : Ref sig .tc := ⟨.hbm, 50, rfl⟩
abbrev main_call3_call0_v9 : Ref sig .tc := ⟨.hbm, 51, rfl⟩
abbrev main_call3_call0_v10 : Ref sig .tc := ⟨.hbm, 52, rfl⟩
abbrev main_call3_call0_v11 : Ref sig .tc := ⟨.hbm, 53, rfl⟩
abbrev main_call3_v1 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S4x4096x768 : Shape := ⟨3, ![4, 4096, 768]⟩
abbrev S16384x4x3x64 : Shape := ⟨4, ![16384, 4, 3, 64]⟩
abbrev S16384x4x1x64 : Shape := ⟨4, ![16384, 4, 1, 64]⟩
abbrev S16384x4x64 : Shape := ⟨3, ![16384, 4, 64]⟩
abbrev S16384x256 : Shape := ⟨2, ![16384, 256]⟩
abbrev S4x4096x256 : Shape := ⟨3, ![4, 4096, 256]⟩
abbrev S_ : Shape := ⟨0, ![]⟩
abbrev S1024x1 : Shape := ⟨2, ![1024, 1]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 41
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .i32⟩
  | .hbm, ⟨9, _⟩ => ⟨S1024, .i1⟩
  | .hbm, ⟨10, _⟩ => ⟨S16384x1024, .f32⟩
  | .hbm, ⟨11, _⟩ => ⟨S4x4096x768, .f32⟩
  | .hbm, ⟨12, _⟩ => ⟨S16384x4x3x64, .f32⟩
  | .hbm, ⟨13, _⟩ => ⟨S16384x4x1x64, .f32⟩
  | .hbm, ⟨14, _⟩ => ⟨S16384x4x64, .f32⟩
  | .hbm, ⟨15, _⟩ => ⟨S16384x256, .f32⟩
  | .hbm, ⟨16, _⟩ => ⟨S16384x256, .bf16⟩
  | .hbm, ⟨17, _⟩ => ⟨S16384x4x1x64, .f32⟩
  | .hbm, ⟨18, _⟩ => ⟨S16384x4x64, .f32⟩
  | .hbm, ⟨19, _⟩ => ⟨S16384x256, .f32⟩
  | .hbm, ⟨20, _⟩ => ⟨S16384x256, .bf16⟩
  | .hbm, ⟨21, _⟩ => ⟨S16384x4x1x64, .f32⟩
  | .hbm, ⟨22, _⟩ => ⟨S16384x4x64, .f32⟩
  | .hbm, ⟨23, _⟩ => ⟨S16384x256, .f32⟩
  | .hbm, ⟨24, _⟩ => ⟨S16384x256, .bf16⟩
  | .hbm, ⟨25, _⟩ => ⟨S4x4096x256, .f32⟩
  | .hbm, ⟨26, _⟩ => ⟨S16384x256, .f32⟩
  | .hbm, ⟨27, _⟩ => ⟨S16384x256, .bf16⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x1024, .f32⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1024x5632, .bf16⟩
  | .hbm, ⟨39, _⟩ => ⟨S2816x1024, .bf16⟩
  | .hbm, ⟨40, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S512x1024, .f32⟩
  | .local _ .vmem, ⟨17, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
abbrev S4x4096x1024 : Shape := ⟨3, ![4, 4096, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S4x4096x768 : Shape := ⟨3, ![4, 4096, 768]⟩
abbrev S16384x4x3x64 : Shape := ⟨4, ![16384, 4, 3, 64]⟩
abbrev S16384x4x1x64 : Shape := ⟨4, ![16384, 4, 1, 64]⟩
abbrev S16384x4x64 : Shape := ⟨3, ![16384, 4, 64]⟩
abbrev S16384x256 : Shape := ⟨2, ![16384, 256]⟩
abbrev S4x4096x256 : Shape := ⟨3, ![4, 4096, 256]⟩
abbrev S_ : Shape := ⟨0, ![]⟩
abbrev S1024x1 : Shape := ⟨2, ![1024, 1]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 41
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .i32⟩
  | .hbm, ⟨9, _⟩ => ⟨S1024, .i1⟩
  | .hbm, ⟨10, _⟩ => ⟨S16384x1024, .f32⟩
  | .hbm, ⟨11, _⟩ => ⟨S4x4096x768, .f32⟩
  | .hbm, ⟨12, _⟩ => ⟨S16384x4x3x64, .f32⟩
  | .hbm, ⟨13, _⟩ => ⟨S16384x4x1x64, .f32⟩
  | .hbm, ⟨14, _⟩ => ⟨S16384x4x64, .f32⟩
  | .hbm, ⟨15, _⟩ => ⟨S16384x256, .f32⟩
  | .hbm, ⟨16, _⟩ => ⟨S16384x256, .bf16⟩
  | .hbm, ⟨17, _⟩ => ⟨S16384x4x1x64, .f32⟩
  | .hbm, ⟨18, _⟩ => ⟨S16384x4x64, .f32⟩
  | .hbm, ⟨19, _⟩ => ⟨S16384x256, .f32⟩
  | .hbm, ⟨20, _⟩ => ⟨S16384x256, .bf16⟩
  | .hbm, ⟨21, _⟩ => ⟨S16384x4x1x64, .f32⟩
  | .hbm, ⟨22, _⟩ => ⟨S16384x4x64, .f32⟩
  | .hbm, ⟨23, _⟩ => ⟨S16384x256, .f32⟩
  | .hbm, ⟨24, _⟩ => ⟨S16384x256, .bf16⟩
  | .hbm, ⟨25, _⟩ => ⟨S4x4096x256, .f32⟩
  | .hbm, ⟨26, _⟩ => ⟨S16384x256, .f32⟩
  | .hbm, ⟨27, _⟩ => ⟨S16384x256, .bf16⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x1024, .f32⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1024x5632, .bf16⟩
  | .hbm, ⟨39, _⟩ => ⟨S2816x1024, .bf16⟩
  | .hbm, ⟨40, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S512x1024, .f32⟩
  | .local _ .vmem, ⟨17, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x4096x1024 : Shape := ⟨3, ![4, 4096, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x4096, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S4x4096x1, .f32⟩
  | .hbm, ⟨37, _⟩ => ⟨S4x4096x1024, .f32⟩
  | .hbm, ⟨38, _⟩ => ⟨S4x4096x1024, .f32⟩
  | .hbm, ⟨39, _⟩ => ⟨S1x1x1024, .f32⟩
  | .hbm, ⟨40, _⟩ => ⟨S4x4096x1024, .f32⟩
  | .hbm, ⟨41, _⟩ => ⟨S4x4096x1024, .f32⟩
  | .hbm, ⟨42, _⟩ => ⟨S4x4096x5632, .f32⟩
  | .hbm, ⟨43, _⟩ => ⟨S4x4096x2816, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S_, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1, .f32⟩
  | .hbm, ⟨67, _⟩ => ⟨S4x4096x1024, .f32⟩
  | .hbm, ⟨68, _⟩ => ⟨S4x4096x1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S4x4096x768 : Shape := ⟨3, ![4, 4096, 768]⟩
abbrev S16384x768 : Shape := ⟨2, ![16384, 768]⟩
abbrev S4x4096x256 : Shape := ⟨3, ![4, 4096, 256]⟩
abbrev S16384x256 : Shape := ⟨2, ![16384, 256]⟩
abbrev S1x1024 : Shape := ⟨2, ![1, 1024]⟩
abbrev S512x1024 : Shape := ⟨2, ![512, 1024]⟩
abbrev S512x768 : Shape := ⟨2, ![512, 768]⟩
abbrev S512x256 : Shape := ⟨2, ![512, 256]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 22
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S16384x1024, .f32⟩
  | .hbm, ⟨9, _⟩ => ⟨S4x4096x768, .f32⟩
  | .hbm, ⟨10, _⟩ => ⟨S16384x768, .f32⟩
  | .hbm, ⟨11, _⟩ => ⟨S16384x768, .bf16⟩
  | .hbm, ⟨12, _⟩ => ⟨S4x4096x256, .f32⟩
  | .hbm, ⟨13, _⟩ => ⟨S16384x256, .f32⟩
  | .hbm, ⟨14, _⟩ => ⟨S16384x256, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1024x5632, .bf16⟩
  | .hbm, ⟨20, _⟩ => ⟨S2816x1024, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel3Ideal.lean ====
abbrev S4x4096x1024 : Shape := ⟨3, ![4, 4096, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S4x4096x768 : Shape := ⟨3, ![4, 4096, 768]⟩
abbrev S16384x768 : Shape := ⟨2, ![16384, 768]⟩
abbrev S4x4096x256 : Shape := ⟨3, ![4, 4096, 256]⟩
abbrev S16384x256 : Shape := ⟨2, ![16384, 256]⟩
abbrev S1x1024 : Shape := ⟨2, ![1, 1024]⟩
abbrev S512x1024 : Shape := ⟨2, ![512, 1024]⟩
abbrev S512x768 : Shape := ⟨2, ![512, 768]⟩
abbrev S512x256 : Shape := ⟨2, ![512, 256]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 22
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S16384x1024, .f32⟩
  | .hbm, ⟨9, _⟩ => ⟨S4x4096x768, .f32⟩
  | .hbm, ⟨10, _⟩ => ⟨S16384x768, .f32⟩
  | .hbm, ⟨11, _⟩ => ⟨S16384x768, .bf16⟩
  | .hbm, ⟨12, _⟩ => ⟨S4x4096x256, .f32⟩
  | .hbm, ⟨13, _⟩ => ⟨S16384x256, .f32⟩
  | .hbm, ⟨14, _⟩ => ⟨S16384x256, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1024x5632, .bf16⟩
  | .hbm, ⟨20, _⟩ => ⟨S2816x1024, .bf16⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel4.lean ====
abbrev S128x8x1024 : Shape := ⟨3, ![128, 8, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S128x8x768 : Shape := ⟨3, ![128, 8, 768]⟩
abbrev S1024x4x3x64 : Shape := ⟨4, ![1024, 4, 3, 64]⟩
abbrev S1024x4x1x64 : Shape := ⟨4, ![1024, 4, 1, 64]⟩
abbrev S1024x4x64 : Shape := ⟨3, ![1024, 4, 64]⟩
abbrev S1024x256 : Shape := ⟨2, ![1024, 256]⟩
abbrev S128x8x256 : Shape := ⟨3, ![128, 8, 256]⟩
abbrev S_ : Shape := ⟨0, ![]⟩
abbrev S1024x1 : Shape := ⟨2, ![1024, 1]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 41
  | .vmem => 18
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .i32⟩
  | .hbm, ⟨9, _⟩ => ⟨S1024, .i1⟩
  | .hbm, ⟨10, _⟩ => ⟨S1024x1024, .f32⟩
  | .hbm, ⟨11, _⟩ => ⟨S128x8x768, .f32⟩
  | .hbm, ⟨12, _⟩ => ⟨S1024x4x3x64, .f32⟩
  | .hbm, ⟨13, _⟩ => ⟨S1024x4x1x64, .f32⟩
  | .hbm, ⟨14, _⟩ => ⟨S1024x4x64, .f32⟩
  | .hbm, ⟨15, _⟩ => ⟨S1024x256, .f32⟩
  | .hbm, ⟨16, _⟩ => ⟨S1024x256, .bf16⟩
  | .hbm, ⟨17, _⟩ => ⟨S1024x4x1x64, .f32⟩
  | .hbm, ⟨18, _⟩ => ⟨S1024x4x64, .f32⟩
  | .hbm, ⟨19, _⟩ => ⟨S1024x256, .f32⟩
  | .hbm, ⟨20, _⟩ => ⟨S1024x256, .bf16⟩
  | .hbm, ⟨21, _⟩ => ⟨S1024x4x1x64, .f32⟩
  | .hbm, ⟨22, _⟩ => ⟨S1024x4x64, .f32⟩
  | .hbm, ⟨23, _⟩ => ⟨S1024x256, .f32⟩
  | .hbm, ⟨24, _⟩ => ⟨S1024x256, .bf16⟩
  | .hbm, ⟨25, _⟩ => ⟨S128x8x256, .f32⟩
  | .hbm, ⟨26, _⟩ => ⟨S1024x256, .f32⟩
  | .hbm, ⟨27, _⟩ => ⟨S1024x256, .bf16⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x1024, .f32⟩
  | .hbm, ⟨34, _⟩ => ⟨S1024x1024, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1024x5632, .bf16⟩
  | .hbm, ⟨39, _⟩ => ⟨S2816x1024, .bf16⟩
  | .hbm, ⟨40, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S512x1024, .f32⟩
  | .local _ .vmem, ⟨17, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S128x8x1024 : Shape := ⟨3, ![128, 8, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x5632 : Shape := ⟨3, ![128, 8, 5632]⟩
abbrev S128x8x2816 : Shape := ⟨3, ![128, 8, 2816]⟩

abbrev nBuf : Space → Nat
  | .hbm => 74
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S128x8x1024, .f32⟩
  | .hbm, ⟨9, _⟩ => ⟨S128x8x1024, .f32⟩
  | .hbm, ⟨10, _⟩ => ⟨S_, .f32⟩
  | .hbm, ⟨11, _⟩ => ⟨S128x8, .f32⟩
  | .hbm, ⟨12, _⟩ => ⟨S128x8x1, .f32⟩
  | .hbm, ⟨13, _⟩ => ⟨S_, .f32⟩
  | .hbm, ⟨14, _⟩ => ⟨S128x8x1, .f32⟩
  | .hbm, ⟨15, _⟩ => ⟨S128x8x1, .f32⟩
  | .hbm, ⟨16, _⟩ => ⟨S_, .f32⟩
  | .hbm, ⟨17, _⟩ => ⟨S128x8x1, .f32⟩
  | .hbm, ⟨18, _⟩ => ⟨S128x8x1, .f32⟩
  | .hbm, ⟨19, _⟩ => ⟨S128x8x1, .f32⟩
  | .hbm, ⟨20, _⟩ => ⟨S128x8x1024, .f32⟩
  | .hbm, ⟨21, _⟩ => ⟨S128x8x1024, .f32⟩
  | .hbm, ⟨22, _⟩ => ⟨S1x1x1024, .f32⟩
  | .hbm, ⟨23, _⟩ => ⟨S128x8x1024, .f32⟩
  | .hbm, ⟨24, _⟩ => ⟨S128x8x1024, .f32⟩
  | .hbm, ⟨25, _⟩ => ⟨S128x8x1024, .f32⟩
  | .hbm, ⟨26, _⟩ => ⟨S128x8x1024, .f32⟩
  | .hbm, ⟨27, _⟩ => ⟨S_, .f32⟩
  | .hbm, ⟨28, _⟩ => ⟨S128x8, .f32⟩
  | .hbm, ⟨29, _⟩ => ⟨S128x8x1, .f32⟩
  | .hbm, ⟨30, _⟩ => ⟨S_, .f32⟩
  | .hbm, ⟨31, _⟩ => ⟨S128x8x1, .f32⟩
  | .hbm, ⟨32, _⟩ => ⟨S128x8x1, .f32⟩
  | .hbm, ⟨33, _⟩ => ⟨S_, .f32⟩
  | .hbm, ⟨34, _⟩ => ⟨S128x8x1, .f32⟩
  | .hbm, ⟨35, _⟩ => ⟨S128x8x1, .f32⟩
  | .hbm, ⟨36, _⟩ => ⟨S128x8x1, .f32⟩
  | .hbm, ⟨37, _⟩ => ⟨S128x8x1024, .f32⟩
  | .hbm, ⟨38, _⟩ => ⟨S128x8x1024, .f32⟩
  | .hbm, ⟨39, _⟩ => ⟨S1x1x1024, .f32⟩
  | .hbm, ⟨40, _⟩ => ⟨S128x8x1024, .f32⟩
  | .hbm, ⟨41, _⟩ => ⟨S128x8x1024, .f32⟩
  | .hbm, ⟨42, _⟩ => ⟨S128x8x5632, .f32⟩
  | .hbm, ⟨43, _⟩ => ⟨S128x8x2816, .f32⟩
  | .hbm, ⟨44, _⟩ => ⟨S128x8x2816, .f32⟩
  | .hbm, ⟨45, _⟩ => ⟨S128x8x2816, .f32⟩
  | .hbm, ⟨46, _⟩ => ⟨S128x8x2816, .f32⟩
  | .hbm, ⟨47, _⟩ => ⟨S_, .f32⟩
  | .hbm, ⟨48, _⟩ => ⟨S128x8x2816, .f32⟩
  | .hbm, ⟨49, _⟩ => ⟨S128x8x2816, .f32⟩
  | .hbm, ⟨50, _⟩ => ⟨S_, .f32⟩
  | .hbm, ⟨51, _⟩ => ⟨S128x8x2816, .f32⟩
  | .hbm, ⟨52, _⟩ => ⟨S128x8x2816, .f32⟩
  | .hbm, ⟨53, _⟩ => ⟨S128x8x2816, .f32⟩
  | .hbm, ⟨54, _⟩ => ⟨S128x8x2816, .f32⟩
  | .hbm, ⟨55, _⟩ => ⟨S128x8x1024, .f32⟩
  | .hbm, ⟨56, _⟩ => ⟨S128x8x1024, .f32⟩
  | .hbm, ⟨57, _⟩ => ⟨S_, .f32⟩
  | .hbm, ⟨58, _⟩ => ⟨S128x8, .f32⟩
  | .hbm, ⟨59, _⟩ => ⟨S128x8x1, .f32⟩
  | .hbm, ⟨60, _⟩ => ⟨S_, .f32⟩
  | .hbm, ⟨61, _⟩ => ⟨S128x8x1, .f32⟩
  | .hbm, ⟨62, _⟩ => ⟨S128x8x1, .f32⟩
  | .hbm, ⟨63, _⟩ => ⟨S_, .f32⟩
  | .hbm, ⟨64, _⟩ => ⟨S128x8x1, .f32⟩
  | .hbm, ⟨65, _⟩ => ⟨S128x8x1, .f32⟩
  | .hbm, ⟨66, _⟩ => ⟨S128x8x1, .f32⟩
  | .hbm, ⟨67, _⟩ => ⟨S128x8x1024, .f32⟩
  | .hbm, ⟨68, _⟩ => ⟨S128x8x1024, .f32⟩
  | .hbm, ⟨69, _⟩ => ⟨S1x1x1024, .f32⟩
  | .hbm, ⟨70, _⟩ => ⟨S128x8x1024, .f32⟩
  | .hbm, ⟨71, _⟩ => ⟨S128x8x1024, .f32⟩
  | .hbm, ⟨72, _⟩ => ⟨S128x8x1024, .f32⟩
  | .hbm, ⟨73, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Kernel5.lean ====
abbrev S4x256x1024 : Shape := ⟨3, ![4, 256, 1024]⟩
abbrev S1024 : Shape := ⟨1, ![1024]⟩
abbrev S1024x512 : Shape := ⟨2, ![1024, 512]⟩
abbrev S1024x1024 : Shape := ⟨2, ![1024, 1024]⟩
abbrev S1x1024 : Shape := ⟨2, ![1, 1024]⟩
abbrev S512x1024 : Shape := ⟨2, ![512, 1024]⟩
abbrev S1024x256 : Shape := ⟨2, ![1024, 256]⟩
abbrev S4x256x256 : Shape := ⟨3, ![4, 256, 256]⟩
abbrev S256x1024 : Shape := ⟨2, ![256, 1024]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S1024x1024, .f32⟩
  | .hbm, ⟨4, _⟩ => ⟨S1x1024, .f32⟩
  | .hbm, ⟨5, _⟩ => ⟨S1024x512, .bf16⟩
  | .hbm, ⟨6, _⟩ => ⟨S512x1024, .f32⟩
  | .hbm, ⟨7, _⟩ => ⟨S512x1024, .bf16⟩
  | .hbm, ⟨8, _⟩ => ⟨S1024x256, .bf16⟩
  | .hbm, ⟨9, _⟩ => ⟨S4x256x256, .f32⟩
  | .hbm, ⟨10, _⟩ => ⟨S4x256x256, .f32⟩
  | .hbm, ⟨11, _⟩ => ⟨S256x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S512x1024, .bf16⟩
  | .local _ .vmem, ⟨5, _⟩ => ⟨S256x256, .bf16⟩
  | .local _ .vmem, ⟨6, _⟩ => ⟨S256x256, .bf16⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S256x256, .bf16⟩
  | .local _ .vmem, ⟨12, _⟩ => ⟨S256x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x256x1024 : Shape := ⟨3, ![4, 256, 1024]⟩
abbrev S1024 : Shape := ⟨1, ![1024]⟩
abbrev S1024x512 : Shape := ⟨2, ![1024, 512]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x256 : Shape := ⟨3, ![4, 256, 256]⟩
abbrev S1024x256 : Shape := ⟨2, ![1024, 256]⟩
abbrev S256x1024 : Shape := ⟨2, ![256, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x512, .f32⟩
  | .hbm, ⟨20, _⟩ => ⟨S4x256x256, .f32⟩
  | .hbm, ⟨21, _⟩ => ⟨S4x256x256, .f32⟩
  | .hbm, ⟨22, _⟩ => ⟨S1024x256, .f32⟩
  | .hbm, ⟨23, _⟩ => ⟨S1024x256, .bf16⟩
  | .hbm, ⟨24, _⟩ => ⟨S4x256x256, .f32⟩
  | .hbm, ⟨25, _⟩ => ⟨S4x256x256, .f32⟩
  | .hbm, ⟨26, _⟩ => ⟨S1024x256, .f32⟩
  | .hbm, ⟨27, _⟩ => ⟨S256x1024, .f32⟩
  | .hbm, ⟨28, _⟩ => ⟨S256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel6.lean ====
abbrev S4x4096x1024 : Shape := ⟨3, ![4, 4096, 1024]⟩
abbrev S1024 : Shape := ⟨1, ![1024]⟩
abbrev S1024x2560 : Shape := ⟨2, ![1024, 2560]⟩
abbrev S1024x1536 : Shape := ⟨2, ![1024, 1536]⟩
abbrev S1536x1024 : Shape := ⟨2, ![1536, 1024]⟩
abbrev S16384x1024 : Shape := ⟨2, ![16384, 1024]⟩
abbrev S1x1024 : Shape := ⟨2, ![1, 1024]⟩
abbrev S16384x768 : Shape := ⟨2, ![16384, 768]⟩
abbrev S16384x256 : Shape := ⟨2, ![16384, 256]⟩
abbrev S4x768x4096 : Shape := ⟨3, ![4, 768, 4096]⟩
abbrev S64x768x256 : Shape := ⟨3, ![64, 768, 256]⟩
abbrev S512x1024 : Shape := ⟨2, ![512, 1024]⟩
abbrev S512x768 : Shape := ⟨2, ![512, 768]⟩
abbrev S512x256 : Shape := ⟨2, ![512, 256]⟩
abbrev S1x768x512 : Shape := ⟨3, ![1, 768, 512]⟩
abbrev S2x768x256 : Shape := ⟨3, ![2, 768, 256]⟩
abbrev S512 : Shape := ⟨1, ![512]⟩
abbrev S512x1 : Shape := ⟨2, ![512, 1]⟩
abbrev S1024x768 : Shape := ⟨2, ![1024, 768]⟩
abbrev S1024x256 : Shape := ⟨2, ![1024, 256]⟩
abbrev S768x1024 : Shape := ⟨2, ![768, 1024]⟩
abbrev S768x512 : Shape := ⟨2, ![768, 512]⟩
abbrev S768x256 : Shape := ⟨2, ![768, 256]⟩
abbrev S1x768x256 : Shape := ⟨3, ![1, 768, 256]⟩

abbrev nBuf : Space → Nat
  | .hbm => 15
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2560, .f32⟩
  | .hbm, ⟨3, _⟩ => ⟨S1024x1536, .f32⟩
  | .hbm, ⟨4, _⟩ => ⟨S1536x1024, .f32⟩
  | .hbm, ⟨5, _⟩ => ⟨S1536x1024, .bf16⟩
  | .hbm, ⟨6, _⟩ => ⟨S16384x1024, .f32⟩
  | .hbm, ⟨7, _⟩ => ⟨S1x1024, .f32⟩
  | .hbm, ⟨8, _⟩ => ⟨S1024x2560, .bf16⟩
  | .hbm, ⟨9, _⟩ => ⟨S16384x768, .bf16⟩
  | .hbm, ⟨10, _⟩ => ⟨S16384x256, .bf16⟩
  | .hbm, ⟨11, _⟩ => ⟨S16384x768, .bf16⟩
  | .hbm, ⟨12, _⟩ => ⟨S4x768x4096, .f32⟩
  | .hbm, ⟨13, _⟩ => ⟨S4x768x4096, .f32⟩
  | .hbm, ⟨14, _⟩ => ⟨S64x768x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1536x1024, .bf16⟩
  | .local _ .vmem, ⟨5, _⟩ => ⟨S512x768, .bf16⟩
  | .local _ .vmem, ⟨6, _⟩ => ⟨S512x768, .bf16⟩
  | .local _ .vmem, ⟨7, _⟩ => ⟨S512x256, .bf16⟩
  | .local _ .vmem, ⟨8, _⟩ => ⟨S512x256, .bf16⟩
  | .local _ .vmem, ⟨9, _⟩ => ⟨S512x768, .bf16⟩
  | .local _ .vmem, ⟨10, _⟩ => ⟨S512x768, .bf16⟩
  | .local _ .vmem, ⟨11, _⟩ => ⟨S1x768x512, .f32⟩
  | .local _ .vmem, ⟨12, _⟩ => ⟨S1x768x512, .f32⟩
  | .local _ .vmem, ⟨13, _⟩ => ⟨S1x768x512, .f32⟩
  | .local _ .vmem, ⟨14, _⟩ => ⟨S1x768x512, .f32⟩
  | .local _ .vmem, ⟨15, _⟩ => ⟨S2x768x256, .bf16⟩
  | .local _ .vmem, ⟨16, _⟩ => ⟨S2x768x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev main_v6_4 : Ref sig .tc := ⟨.hbm, 13, rfl⟩
abbrev main_v6_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x768x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x768x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel6Ideal.lean ====
variable {F : FTy → Type} [FloatOps F] [Named F]
def κ : String → Option EReal := fun
  | "neg_q_scale" => some ((-((8 * (Real.log 2))⁻¹) : ℝ) : EReal)
  | "q_scale" => some (((8 * (Real.log 2))⁻¹ : ℝ) : EReal)
  | _ => none
-- ==== Reference6Ideal.lean ====
abbrev S4x4096x1024 : Shape := ⟨3, ![4, 4096, 1024]⟩
abbrev S1024 : Shape := ⟨1, ![1024]⟩
abbrev S1024x2560 : Shape := ⟨2, ![1024, 2560]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2560 : Shape := ⟨3, ![4, 4096, 2560]⟩
abbrev S4x4096x768 : Shape := ⟨3, ![4, 4096, 768]⟩
abbrev S4x4096x256 : Shape := ⟨3, ![4, 4096, 256]⟩
abbrev S16384x768 : Shape := ⟨2, ![16384, 768]⟩
abbrev S16384x256 : Shape := ⟨2, ![16384, 256]⟩
abbrev S4x768x4096 : Shape := ⟨3, ![4, 768, 4096]⟩
abbrev S64x256x768 : Shape := ⟨3, ![64, 256, 768]⟩
abbrev S64x768x256 : Shape := ⟨3, ![64, 768, 256]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2560, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x2560, .f32⟩
  | .hbm, ⟨20, _⟩ => ⟨S4x4096x768, .f32⟩
  | .hbm, ⟨21, _⟩ => ⟨S4x4096x768, .f32⟩
  | .hbm, ⟨22, _⟩ => ⟨S4x4096x768, .f32⟩
  | .hbm, ⟨23, _⟩ => ⟨S4x4096x256, .f32⟩
  | .hbm, ⟨24, _⟩ => ⟨S_, .f32⟩
  | .hbm, ⟨25, _⟩ => ⟨S4x4096x768, .f32⟩
  | .hbm, ⟨26, _⟩ => ⟨S4x4096x768, .f32⟩
  | .hbm, ⟨27, _⟩ => ⟨S4x4096x768, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4096x768, .f32⟩
  | .hbm, ⟨32, _⟩ => ⟨S4x4096x768, .f32⟩
  | .hbm, ⟨33, _⟩ => ⟨S_, .f32⟩
  | .hbm, ⟨34, _⟩ => ⟨S4x4096x256, .f32⟩
  | .hbm, ⟨35, _⟩ => ⟨S4x4096x256, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x4096x256, .f32⟩
  | .hbm, ⟨40, _⟩ => ⟨S4x4096x256, .f32⟩
  | .hbm, ⟨41, _⟩ => ⟨S16384x768, .f32⟩
  | .hbm, ⟨42, _⟩ => ⟨S16384x768, .bf16⟩
  | .hbm, ⟨43, _⟩ => ⟨S16384x256, .f32⟩
  | .hbm, ⟨44, _⟩ => ⟨S16384x256, .bf16⟩
  | .hbm, ⟨45, _⟩ => ⟨S16384x768, .f32⟩
  | .hbm, ⟨46, _⟩ => ⟨S16384x768, .bf16⟩
  | .hbm, ⟨47, _⟩ => ⟨S4x768x4096, .f32⟩
  | .hbm, ⟨48, _⟩ => ⟨S4x768x4096, .f32⟩
  | .hbm, ⟨49, _⟩ => ⟨S64x256x768, .f32⟩
  | .hbm, ⟨50, _⟩ => ⟨S64x768x256, .f32⟩
  | .hbm, ⟨51, _⟩ => ⟨S64x768x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel7.lean ====
abbrev S128x8x1024 : Shape := ⟨3, ![128, 8, 1024]⟩
abbrev S1024 : Shape := ⟨1, ![1024]⟩
abbrev S1024x2560 : Shape := ⟨2, ![1024, 2560]⟩
abbrev S1024x1536 : Shape := ⟨2, ![1024, 1536]⟩
abbrev S1536x1024 : Shape := ⟨2, ![1536, 1024]⟩
abbrev S1024x1024 : Shape := ⟨2, ![1024, 1024]⟩
abbrev S1x1024 : Shape := ⟨2, ![1, 1024]⟩
abbrev S1024x768 : Shape := ⟨2, ![1024, 768]⟩
abbrev S1024x256 : Shape := ⟨2, ![1024, 256]⟩
abbrev S512x1024 : Shape := ⟨2, ![512, 1024]⟩
abbrev S512x768 : Shape := ⟨2, ![512, 768]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2560, .f32⟩
  | .hbm, ⟨3, _⟩ => ⟨S1024x1536, .f32⟩
  | .hbm, ⟨4, _⟩ => ⟨S1536x1024, .f32⟩
  | .hbm, ⟨5, _⟩ => ⟨S1536x1024, .bf16⟩
  | .hbm, ⟨6, _⟩ => ⟨S1024x1024, .f32⟩
  | .hbm, ⟨7, _⟩ => ⟨S1x1024, .f32⟩
  | .hbm, ⟨8, _⟩ => ⟨S1024x2560, .bf16⟩
  | .hbm, ⟨9, _⟩ => ⟨S1024x768, .f32⟩
  | .hbm, ⟨10, _⟩ => ⟨S1024x256, .f32⟩
  | .hbm, ⟨11, _⟩ => ⟨S1024x768, .f32⟩
  | .hbm, ⟨12, _⟩ => ⟨S1024x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1536x1024, .bf16⟩
  | .local _ .vmem, ⟨5, _⟩ => ⟨S512x768, .f32⟩
  | .local _ .vmem, ⟨6, _⟩ => ⟨S512x768, .f32⟩
  | .local _ .vmem, ⟨7, _⟩ => ⟨S512x256, .f32⟩
  | .local _ .vmem, ⟨8, _⟩ => ⟨S512x256, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel7Ideal.lean ====
variable {F : FTy → Type} [FloatOps F] [Named F]
def κ : String → Option EReal := fun
  | "neg_q_scale" => some ((-((8 * (Real.log 2))⁻¹) : ℝ) : EReal)
  | "q_scale" => some (((8 * (Real.log 2))⁻¹ : ℝ) : EReal)
  | _ => none
-- ==== Reference7Ideal.lean ====
abbrev S128x8x1024 : Shape := ⟨3, ![128, 8, 1024]⟩
abbrev S1024 : Shape := ⟨1, ![1024]⟩
abbrev S1024x2560 : Shape := ⟨2, ![1024, 2560]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2560 : Shape := ⟨3, ![128, 8, 2560]⟩
abbrev S128x8x768 : Shape := ⟨3, ![128, 8, 768]⟩
abbrev S128x8x256 : Shape := ⟨3, ![128, 8, 256]⟩
abbrev S1024x768 : Shape := ⟨2, ![1024, 768]⟩
abbrev S1024x256 : Shape := ⟨2, ![1024, 256]⟩

abbrev nBuf : Space → Nat
  | .hbm => 45
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2560, .f32⟩
  | .hbm, ⟨3, _⟩ => ⟨S128x8x1024, .f32⟩
  | .hbm, ⟨4, _⟩ => ⟨S_, .f32⟩
  | .hbm, ⟨5, _⟩ => ⟨S128x8, .f32⟩
  | .hbm, ⟨6, _⟩ => ⟨S128x8x1, .f32⟩
  | .hbm, ⟨7, _⟩ => ⟨S_, .f32⟩
  | .hbm, ⟨8, _⟩ => ⟨S128x8x1, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S128x8x1, .f32⟩
  | .hbm, ⟨14, _⟩ => ⟨S128x8x1024, .f32⟩
  | .hbm, ⟨15, _⟩ => ⟨S128x8x1024, .f32⟩
  | .hbm, ⟨16, _⟩ => ⟨S1x1x1024, .f32⟩
  | .hbm, ⟨17, _⟩ => ⟨S128x8x1024, .f32⟩
  | .hbm, ⟨18, _⟩ => ⟨S128x8x1024, .f32⟩
  | .hbm, ⟨19, _⟩ => ⟨S128x8x2560, .f32⟩
  | .hbm, ⟨20, _⟩ => ⟨S128x8x768, .f32⟩
  | .hbm, ⟨21, _⟩ => ⟨S128x8x768, .f32⟩
  | .hbm, ⟨22, _⟩ => ⟨S128x8x768, .f32⟩
  | .hbm, ⟨23, _⟩ => ⟨S128x8x256, .f32⟩
  | .hbm, ⟨24, _⟩ => ⟨S_, .f32⟩
  | .hbm, ⟨25, _⟩ => ⟨S128x8x768, .f32⟩
  | .hbm, ⟨26, _⟩ => ⟨S128x8x768, .f32⟩
  | .hbm, ⟨27, _⟩ => ⟨S128x8x768, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S128x8x768, .f32⟩
  | .hbm, ⟨32, _⟩ => ⟨S128x8x768, .f32⟩
  | .hbm, ⟨33, _⟩ => ⟨S_, .f32⟩
  | .hbm, ⟨34, _⟩ => ⟨S128x8x256, .f32⟩
  | .hbm, ⟨35, _⟩ => ⟨S128x8x256, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S128x8x256, .f32⟩
  | .hbm, ⟨40, _⟩ => ⟨S128x8x256, .f32⟩
  | .hbm, ⟨41, _⟩ => ⟨S1024x768, .f32⟩
  | .hbm, ⟨42, _⟩ => ⟨S1024x256, .f32⟩
  | .hbm, ⟨43, _⟩ => ⟨S1024x768, .f32⟩
  | .hbm, ⟨44, _⟩ => ⟨S1024x768, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel8.lean ====
abbrev S128x8x1024 : Shape := ⟨3, ![128, 8, 1024]⟩
abbrev S1024 : Shape := ⟨1, ![1024]⟩
abbrev S1024x2596 : Shape := ⟨2, ![1024, 2596]⟩
abbrev S2816 : Shape := ⟨1, ![2816]⟩
abbrev S512 : Shape := ⟨1, ![512]⟩
abbrev S_ : Shape := ⟨0, ![]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S1x512x1x64 : Shape := ⟨4, ![1, 512, 1, 64]⟩
abbrev S1x512x2x64 : Shape := ⟨4, ![1, 512, 2, 64]⟩
abbrev S512x128 : Shape := ⟨2, ![512, 128]⟩
abbrev S1024x1024 : Shape := ⟨2, ![1024, 1024]⟩
abbrev S1x1024 : Shape := ⟨2, ![1, 1024]⟩
abbrev S1024x1 : Shape := ⟨2, ![1024, 1]⟩
abbrev S1024x2597 : Shape := ⟨2, ![1024, 2597]⟩
abbrev S2816x1 : Shape := ⟨2, ![2816, 1]⟩
abbrev S1024x2816 : Shape := ⟨2, ![1024, 2816]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 96
  | .vmem => 35
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2596, .f32⟩
  | .hbm, ⟨3, _⟩ => ⟨S2816, .i32⟩
  | .hbm, ⟨4, _⟩ => ⟨S2816, .i1⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S_, .i1⟩
  | .hbm, ⟨22, _⟩ => ⟨S512, .i1⟩
  | .hbm, ⟨23, _⟩ => ⟨S512, .i1⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S512, .f32⟩
  | .hbm, ⟨43, _⟩ => ⟨S512x1, .f32⟩
  | .hbm, ⟨44, _⟩ => ⟨S1x8, .f32⟩
  | .hbm, ⟨45, _⟩ => ⟨S512x8, .f32⟩
  | .hbm, ⟨46, _⟩ => ⟨S512x8, .f32⟩
  | .hbm, ⟨47, _⟩ => ⟨S512x8, .f32⟩
  | .hbm, ⟨48, _⟩ => ⟨S512x8, .f32⟩
  | .hbm, ⟨49, _⟩ => ⟨S512x8, .f32⟩
  | .hbm, ⟨50, _⟩ => ⟨S_, .f32⟩
  | .hbm, ⟨51, _⟩ => ⟨S512x48, .f32⟩
  | .hbm, ⟨52, _⟩ => ⟨S512x64, .f32⟩
  | .hbm, ⟨53, _⟩ => ⟨S512x8, .f32⟩
  | .hbm, ⟨54, _⟩ => ⟨S_, .f32⟩
  | .hbm, ⟨55, _⟩ => ⟨S512x48, .f32⟩
  | .hbm, ⟨56, _⟩ => ⟨S512x64, .f32⟩
  | .hbm, ⟨57, _⟩ => ⟨S1x512x1x64, .f32⟩
  | .hbm, ⟨58, _⟩ => ⟨S1x512x2x64, .f32⟩
  | .hbm, ⟨59, _⟩ => ⟨S512x128, .f32⟩
  | .hbm, ⟨60, _⟩ => ⟨S1x512x1x64, .f32⟩
  | .hbm, ⟨61, _⟩ => ⟨S1x512x2x64, .f32⟩
  | .hbm, ⟨62, _⟩ => ⟨S512x128, .f32⟩
  | .hbm, ⟨63, _⟩ => ⟨S1024x1024, .f32⟩
  | .hbm, ⟨64, _⟩ => ⟨S1x1024, .f32⟩
  | .hbm, ⟨65, _⟩ => ⟨S_, .f32⟩
  | .hbm, ⟨66, _⟩ => ⟨S1024x1, .f32⟩
  | .hbm, ⟨67, _⟩ => ⟨S1024x2597, .f32⟩
  | .hbm, ⟨68, _⟩ => ⟨S_, .i32⟩
  | .hbm, ⟨69, _⟩ => ⟨S2816, .i32⟩
  | .hbm, ⟨70, _⟩ => ⟨S2816, .i32⟩
  | .hbm, ⟨71, _⟩ => ⟨S2816, .i32⟩
  | .hbm, ⟨72, _⟩ => ⟨S2816x1, .i32⟩
  | .hbm, ⟨73, _⟩ => ⟨S1024x2816, .f32⟩
  | .hbm, ⟨74, _⟩ => ⟨S1024x2816, .bf16⟩
  | .hbm, ⟨75, _⟩ => ⟨S1024x256, .f32⟩
  | .hbm, ⟨76, _⟩ => ⟨S1024x256, .f32⟩
  | .hbm, ⟨77, _⟩ => ⟨S1024x256, .f32⟩
  | .hbm, ⟨78, _⟩ => ⟨S1024x256, .f32⟩
  | .hbm, ⟨79, _⟩ => ⟨S1024x1024, .f32⟩
  | .hbm, ⟨80, _⟩ => ⟨S1024x1024, .f32⟩
  | .hbm, ⟨81, _⟩ => ⟨S1024x1024, .bf16⟩
  | .hbm, ⟨82, _⟩ => ⟨S1024x256, .f32⟩
  | .hbm, ⟨83, _⟩ => ⟨S1024x256, .f32⟩
  | .hbm, ⟨84, _⟩ => ⟨S1024x256, .f32⟩
  | .hbm, ⟨85, _⟩ => ⟨S1024x256, .f32⟩
  | .hbm, ⟨86, _⟩ => ⟨S1024x256, .f32⟩
  | .hbm, ⟨87, _⟩ => ⟨S1024x256, .f32⟩
  | .hbm, ⟨88, _⟩ => ⟨S1024x256, .f32⟩
  | .hbm, ⟨89, _⟩ => ⟨S1024x256, .f32⟩
  | .hbm, ⟨90, _⟩ => ⟨S1024x256, .f32⟩
  | .hbm, ⟨91, _⟩ => ⟨S1024x256, .f32⟩
  | .hbm, ⟨92, _⟩ => ⟨S1024x256, .f32⟩
  | .hbm, ⟨93, _⟩ => ⟨S1024x256, .f32⟩
  | .hbm, ⟨94, _⟩ => ⟨S1024x256, .f32⟩
  | .hbm, ⟨95, _⟩ => ⟨S1024x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x1024, .bf16⟩
  | .local _ .vmem, ⟨5, _⟩ => ⟨S512x128, .f32⟩
  | .local _ .vmem, ⟨6, _⟩ => ⟨S512x128, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x256, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_2 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_cst_3 : Ref sig .tc := ⟨.hbm, 36, rfl⟩
abbrev main_v8 : Ref sig .tc := ⟨.hbm, 37, rfl⟩
abbrev main_v9 : Ref sig .tc := ⟨.hbm, 38, rfl⟩
abbrev main_cst_4 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_5 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_6 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_7 : Ref sig .tc := ⟨.hbm, 65, rfl⟩
abbrev main_v33 : Ref sig .tc := ⟨.hbm, 66, rfl⟩
abbrev main_v34 : Ref sig .tc := ⟨.hbm, 67, rfl⟩
abbrev main_c_8 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48_0 : Ref sig .tc := ⟨.hbm, 82, rfl⟩
abbrev main_v48_1 : Ref sig .tc := ⟨.hbm, 83, rfl⟩
abbrev main_v48_2 : Ref sig .tc := ⟨.hbm, 84, rfl⟩
abbrev main_v48_3 : Ref sig .tc := ⟨.hbm, 85, rfl⟩
abbrev main_v48_4 : Ref sig .tc := ⟨.hbm, 86, rfl⟩
abbrev main_v48_5 : Ref sig .tc := ⟨.hbm, 87, rfl⟩
abbrev main_v48_6 : Ref sig .tc := ⟨.hbm, 88, rfl⟩
abbrev main_v48_7 : Ref sig .tc := ⟨.hbm, 89, rfl⟩
abbrev main_v48_8 : Ref sig .tc := ⟨.hbm, 90, rfl⟩
abbrev main_v48_9 : Ref sig .tc := ⟨.hbm, 91, rfl⟩
abbrev main_v48_10 : Ref sig .tc := ⟨.hbm, 92, rfl⟩
abbrev main_v48_11 : Ref sig .tc := ⟨.hbm, 93, rfl⟩
abbrev main_v48_12 : Ref sig .tc := ⟨.hbm, 94, rfl⟩
abbrev main_v48_13 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference8Ideal.lean ====
abbrev S128x8x1024 : Shape := ⟨3, ![128, 8, 1024]⟩
abbrev S1024 : Shape := ⟨1, ![1024]⟩
abbrev S1024x2596 : Shape := ⟨2, ![1024, 2596]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2596 : Shape := ⟨3, ![128, 8, 2596]⟩
abbrev S128x8x768 : Shape := ⟨3, ![128, 8, 768]⟩
abbrev S128x8x256 : Shape := ⟨3, ![128, 8, 256]⟩
abbrev S128x8x36 : Shape := ⟨3, ![128, 8, 36]⟩
abbrev S8 : Shape := ⟨1, ![8]⟩
abbrev S128x8x4x64 : Shape := ⟨4, ![128, 8, 4, 64]⟩
abbrev S8x1 : Shape := ⟨2, ![8, 1]⟩
abbrev S1x8 : Shape := ⟨2, ![1, 8]⟩
abbrev S8x8 : Shape := ⟨2, ![8, 8]⟩
abbrev S1x8x1x8 : Shape := ⟨4, ![1, 8, 1, 8]⟩
abbrev S128x8x4x8 : Shape := ⟨4, ![128, 8, 4, 8]⟩
abbrev S128x8x4x48 : Shape := ⟨4, ![128, 8, 4, 48]⟩
abbrev S1024x256 : Shape := ⟨2, ![1024, 256]⟩

abbrev nBuf : Space → Nat
  | .hbm => 115
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2596, .f32⟩
  | .hbm, ⟨3, _⟩ => ⟨S128x8x1024, .f32⟩
  | .hbm, ⟨4, _⟩ => ⟨S_, .f32⟩
  | .hbm, ⟨5, _⟩ => ⟨S128x8, .f32⟩
  | .hbm, ⟨6, _⟩ => ⟨S128x8x1, .f32⟩
  | .hbm, ⟨7, _⟩ => ⟨S_, .f32⟩
  | .hbm, ⟨8, _⟩ => ⟨S128x8x1, .f32⟩
  | .hbm, ⟨9, _⟩ => ⟨S128x8x1, .f32⟩
  | .hbm, ⟨10, _⟩ => ⟨S_, .f32⟩
  | .hbm, ⟨11, _⟩ => ⟨S128x8x1, .f32⟩
  | .hbm, ⟨12, _⟩ => ⟨S128x8x1, .f32⟩
  | .hbm, ⟨13, _⟩ => ⟨S128x8x1, .f32⟩
  | .hbm, ⟨14, _⟩ => ⟨S128x8x1024, .f32⟩
  | .hbm, ⟨15, _⟩ => ⟨S128x8x1024, .f32⟩
  | .hbm, ⟨16, _⟩ => ⟨S1x1x1024, .f32⟩
  | .hbm, ⟨17, _⟩ => ⟨S128x8x1024, .f32⟩
  | .hbm, ⟨18, _⟩ => ⟨S128x8x1024, .f32⟩
  | .hbm, ⟨19, _⟩ => ⟨S128x8x2596, .f32⟩
  | .hbm, ⟨20, _⟩ => ⟨S128x8x768, .f32⟩
  | .hbm, ⟨21, _⟩ => ⟨S128x8x256, .f32⟩
  | .hbm, ⟨22, _⟩ => ⟨S128x8x256, .f32⟩
  | .hbm, ⟨23, _⟩ => ⟨S128x8x256, .f32⟩
  | .hbm, ⟨24, _⟩ => ⟨S128x8x256, .f32⟩
  | .hbm, ⟨25, _⟩ => ⟨S128x8x256, .f32⟩
  | .hbm, ⟨26, _⟩ => ⟨S128x8x256, .f32⟩
  | .hbm, ⟨27, _⟩ => ⟨S128x8x36, .f32⟩
  | .hbm, ⟨28, _⟩ => ⟨S128x8x256, .f32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S128x8x4x64, .f32⟩
  | .hbm, ⟨34, _⟩ => ⟨S128x8x4x64, .f32⟩
  | .hbm, ⟨35, _⟩ => ⟨S128x8x4x64, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S8x1, .f32⟩
  | .hbm, ⟨49, _⟩ => ⟨S1x8, .f32⟩
  | .hbm, ⟨50, _⟩ => ⟨S8x8, .f32⟩
  | .hbm, ⟨51, _⟩ => ⟨S8x8, .f32⟩
  | .hbm, ⟨52, _⟩ => ⟨S8x8, .f32⟩
  | .hbm, ⟨53, _⟩ => ⟨S8x8, .f32⟩
  | .hbm, ⟨54, _⟩ => ⟨S1x8x1x8, .f32⟩
  | .hbm, ⟨55, _⟩ => ⟨S8x8, .f32⟩
  | .hbm, ⟨56, _⟩ => ⟨S1x8x1x8, .f32⟩
  | .hbm, ⟨57, _⟩ => ⟨S128x8x4x8, .f32⟩
  | .hbm, ⟨58, _⟩ => ⟨S128x8x4x8, .f32⟩
  | .hbm, ⟨59, _⟩ => ⟨S128x8x4x48, .f32⟩
  | .hbm, ⟨60, _⟩ => ⟨S128x8x4x8, .f32⟩
  | .hbm, ⟨61, _⟩ => ⟨S128x8x4x8, .f32⟩
  | .hbm, ⟨62, _⟩ => ⟨S128x8x4x8, .f32⟩
  | .hbm, ⟨63, _⟩ => ⟨S128x8x4x8, .f32⟩
  | .hbm, ⟨64, _⟩ => ⟨S128x8x4x8, .f32⟩
  | .hbm, ⟨65, _⟩ => ⟨S128x8x4x8, .f32⟩
  | .hbm, ⟨66, _⟩ => ⟨S128x8x4x8, .f32⟩
  | .hbm, ⟨67, _⟩ => ⟨S128x8x4x8, .f32⟩
  | .hbm, ⟨68, _⟩ => ⟨S128x8x4x8, .f32⟩
  | .hbm, ⟨69, _⟩ => ⟨S128x8x4x8, .f32⟩
  | .hbm, ⟨70, _⟩ => ⟨S128x8x4x64, .f32⟩
  | .hbm, ⟨71, _⟩ => ⟨S128x8x4x64, .f32⟩
  | .hbm, ⟨72, _⟩ => ⟨S128x8x4x64, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S_, .f32⟩
  | .hbm, ⟨82, _⟩ => ⟨S8, .f32⟩
  | .hbm, ⟨83, _⟩ => ⟨S8, .f32⟩
  | .hbm, ⟨84, _⟩ => ⟨S8, .f32⟩
  | .hbm, ⟨85, _⟩ => ⟨S8x1, .f32⟩
  | .hbm, ⟨86, _⟩ => ⟨S1x8, .f32⟩
  | .hbm, ⟨87, _⟩ => ⟨S8x8, .f32⟩
  | .hbm, ⟨88, _⟩ => ⟨S8x8, .f32⟩
  | .hbm, ⟨89, _⟩ => ⟨S8x8, .f32⟩
  | .hbm, ⟨90, _⟩ => ⟨S8x8, .f32⟩
  | .hbm, ⟨91, _⟩ => ⟨S1x8x1x8, .f32⟩
  | .hbm, ⟨92, _⟩ => ⟨S8x8, .f32⟩
  | .hbm, ⟨93, _⟩ => ⟨S1x8x1x8, .f32⟩
  | .hbm, ⟨94, _⟩ => ⟨S128x8x4x8, .f32⟩
  | .hbm, ⟨95, _⟩ => ⟨S128x8x4x8, .f32⟩
  | .hbm, ⟨96, _⟩ => ⟨S128x8x4x48, .f32⟩
  | .hbm, ⟨97, _⟩ => ⟨S128x8x4x8, .f32⟩
  | .hbm, ⟨98, _⟩ => ⟨S128x8x4x8, .f32⟩
  | .hbm, ⟨99, _⟩ => ⟨S128x8x4x8, .f32⟩
  | .hbm, ⟨100, _⟩ => ⟨S128x8x4x8, .f32⟩
  | .hbm, ⟨101, _⟩ => ⟨S128x8x4x8, .f32⟩
  | .hbm, ⟨102, _⟩ => ⟨S128x8x4x8, .f32⟩
  | .hbm, ⟨103, _⟩ => ⟨S128x8x4x8, .f32⟩
  | .hbm, ⟨104, _⟩ => ⟨S128x8x4x8, .f32⟩
  | .hbm, ⟨105, _⟩ => ⟨S128x8x4x8, .f32⟩
  | .hbm, ⟨106, _⟩ => ⟨S128x8x4x8, .f32⟩
  | .hbm, ⟨107, _⟩ => ⟨S128x8x4x64, .f32⟩
  | .hbm, ⟨108, _⟩ => ⟨S128x8x4x64, .f32⟩
  | .hbm, ⟨109, _⟩ => ⟨S1024x256, .f32⟩
  | .hbm, ⟨110, _⟩ => ⟨S1024x256, .f32⟩
  | .hbm, ⟨111, _⟩ => ⟨S1024x256, .f32⟩
  | .hbm, ⟨112, _⟩ => ⟨S1024x256, .f32⟩
  | .hbm, ⟨113, _⟩ => ⟨S1024x256, .f32⟩
  | .hbm, ⟨114, _⟩ => ⟨S1024x256, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_5 : Ref sig .tc := ⟨.hbm, 75, rfl⟩
abbrev main_v65 : Ref sig .tc := ⟨.hbm, 76, rfl⟩
abbrev main_v66 : Ref sig .tc := ⟨.hbm, 77, rfl⟩
abbrev main_cst_6 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩

abbrev nD : Nat := 1
abbrev τ : Topo := Topo.v7x

variable {F : FTy → Type} [FloatOps F]
-- ==== Kernel9.lean ====
abbrev S128x8x1024 : Shape := ⟨3, ![128, 8, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S128x8x768 : Shape := ⟨3, ![128, 8, 768]⟩
abbrev S1024x768 : Shape := ⟨2, ![1024, 768]⟩
abbrev S128x8x256 : Shape := ⟨3, ![128, 8, 256]⟩
abbrev S1024x256 : Shape := ⟨2, ![1024, 256]⟩
abbrev S1x1024 : Shape := ⟨2, ![1, 1024]⟩
abbrev S512x1024 : Shape := ⟨2, ![512, 1024]⟩
abbrev S512x768 : Shape := ⟨2, ![512, 768]⟩
abbrev S512x256 : Shape := ⟨2, ![512, 256]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩

abbrev nBuf : Space → Nat
  | .hbm => 22
  | .vmem => 14
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024x1024, .f32⟩
  | .hbm, ⟨9, _⟩ => ⟨S128x8x768, .f32⟩
  | .hbm, ⟨10, _⟩ => ⟨S1024x768, .f32⟩
  | .hbm, ⟨11, _⟩ => ⟨S1024x768, .bf16⟩
  | .hbm, ⟨12, _⟩ => ⟨S128x8x256, .f32⟩
  | .hbm, ⟨13, _⟩ => ⟨S1024x256, .f32⟩
  | .hbm, ⟨14, _⟩ => ⟨S1024x256, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1024x5632, .bf16⟩
  | .hbm, ⟨20, _⟩ => ⟨S2816x1024, .bf16⟩
  | .hbm, ⟨21, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x256, .bf16⟩
  | .local _ .vmem, ⟨5, _⟩ => ⟨S512x256, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.TailRow.lean ====
module

public import Idealize.ShloMosaic.Lib.IdealHost
public import Mathlib.Algebra.BigOperators.Fin

@[expose] public section

noncomputable section

namespace Cert.Tail

open Idealize.ShloMosaic
open scoped BigOperators

/-! ## One row of the residual tail -/

/-- The reciprocal root of a row's mean square, moved off zero by a small constant. -/
def scale (x : Fin 1024 → EReal) : EReal :=
  Ideal.rsqrt (Ideal.div (∑ k, x k * x k) (Ideal.ofBits .f32 0x44800000#32) + Ideal.ofBits .f32 0x358637BD#32)

/-- A row normalized to unit mean square, times a learned gain. -/
def rms (x g : Fin 1024 → EReal) (j : Fin 1024) : EReal := x j * scale x * g j

/-- One hidden unit: the gate through its sigmoid, times the other projection. -/
def act (g u : EReal) : EReal := g * Ideal.div 1 (1 + Ideal.exp (-g)) * u

/-- The residual stream after the mixer. -/
def mid (h y g : Fin 1024 → EReal) (j : Fin 1024) : EReal := h j + rms y g j

/-- The feed-forward layer's output at a normalized row. -/
def ffn (x : Fin 1024 → EReal) (wg wu : Fin 1024 → Fin 2816 → EReal) (wd : Fin 2816 → Fin 1024 → EReal) (j : Fin 1024) : EReal :=
  ∑ n, act (∑ d, x d * wg d n) (∑ d, x d * wu d n) * wd n j

/-- The residual stream after the layer. -/
def row (h y g1 g2 g3 : Fin 1024 → EReal) (wg wu : Fin 1024 → Fin 2816 → EReal) (wd : Fin 2816 → Fin 1024 → EReal) (j : Fin 1024) : EReal :=
  mid h y g1 j + rms (ffn (rms (mid h y g1) g2) wg wu wd) g3 j

/-! ## The hidden units in eleven blocks -/

abbrev unit (c : Fin 11) (l : Fin 256) : Fin 2816 := ⟨256 * c.val + l.val, by have := c.isLt; have := l.isLt; omega⟩

theorem sum_units (f : Fin 2816 → EReal) : ∑ n, f n = ∑ c : Fin 11, ∑ l : Fin 256, f (unit c l) := by
  rw [← Fintype.sum_prod_type' (f := fun (c : Fin 11) (l : Fin 256) => f (unit c l))]
  refine (Equiv.sum_comp (finProdFinEquiv : Fin 11 × Fin 256 ≃ Fin (11 * 256)) f).symm.trans ?_
  refine Finset.sum_congr rfl fun p _ => congrArg f (Fin.ext ?_)
  show p.2.val + 256 * p.1.val = 256 * p.1.val + p.2.val
  omega

theorem sum_eleven (p : Fin 11 → EReal) :
    ∑ c, p c = p 0 + p 1 + p 2 + p 3 + p 4 + p 5 + p 6 + p 7 + p 8 + p 9 + p 10 := by
  simp only [Fin.sum_univ_castSucc, Fin.sum_univ_zero, zero_add]
  rfl

abbrev lane (q : Fin 4) (l : Fin 256) : Fin 1024 := ⟨256 * q.val + l.val, by have := q.isLt; have := l.isLt; omega⟩

theorem sum_lanes (f : Fin 1024 → EReal) : ∑ n, f n = ∑ q : Fin 4, ∑ l : Fin 256, f (lane q l) := by
  rw [← Fintype.sum_prod_type' (f := fun (c : Fin 4) (l : Fin 256) => f (lane c l))]
  refine (Equiv.sum_comp (finProdFinEquiv : Fin 4 × Fin 256 ≃ Fin (4 * 256)) f).symm.trans ?_
  refine Finset.sum_congr rfl fun p _ => congrArg f (Fin.ext ?_)
  show p.2.val + 256 * p.1.val = 256 * p.1.val + p.2.val
  omega

theorem sum_four (p : Fin 4 → EReal) : ∑ c, p c = p 0 + p 1 + p 2 + p 3 := by
  simp only [Fin.sum_univ_castSucc, Fin.sum_univ_zero, zero_add]
  rfl

/-! ## The mixer's columns, grouped by a head's place in its group -/

/-- Where a column of the grouped mix stands in the mixer's output. -/
def place (n : Fin 1024) : Fin 1024 :=
  if h : n.val < 768 then ⟨(3 * (n.val % 256 / 64) + n.val / 256) * 64 + n.val % 64, by omega⟩ else n

theorem place_bij : Function.Bijective place := by
  refine Finite.injective_iff_bijective.mp fun a b h => ?_
  have ha := a.isLt
  have hb := b.isLt
  have h := congrArg Fin.val h
  unfold place at h
  refine Fin.ext ?_
  split at h <;> split at h <;> (try dsimp only at h) <;> omega

theorem sum_place (f : Fin 1024 → EReal) : ∑ n, f (place n) = ∑ n, f n := Function.Bijective.sum_comp place_bij f

end Cert.Tail
-- ==== Proof.Proj.lean ====
module

public import proofs.«01_k».proof.Proof.TailRow
public import Idealize.ShloMosaic.Lib.MatmulPlain
public import Idealize.ShloMosaic.Lib.IdealHost
public import Idealize.ShloMosaic.Lib.Pointwise
public import Idealize.ShloMosaic.Lib.Pipeline.Value

@[expose] public section

set_option maxRecDepth 16384

noncomputable section

namespace Cert.Proj

open Idealize.ShloMosaic
open scoped BigOperators

/-! ## A normalized row against a column of a weight -/

/-- A normalized row's product with one column. -/
def dot (x g w : Fin 1024 → EReal) : EReal := ∑ k, Cert.Tail.rms x g k * w k

/-! ## A block of rows -/

section Block
variable {M N : ℕ}

/-- A block's rows normalized to unit mean square, times the gain. -/
def normed (hr : (⟨2, ![M, 1024]⟩ : Shape).Reduces [1] ⟨1, ![M]⟩) (hc : (⟨1, ![M]⟩ : Shape).ShapeCasts ⟨2, ![M, 1]⟩)
    (hs : (⟨2, ![M, 1]⟩ : Shape).Broadcasts ⟨2, ![M, 1024]⟩) (hg : (⟨2, ![1, 1024]⟩ : Shape).Broadcasts ⟨2, ![M, 1024]⟩)
    (x : FVec Ideal ⟨2, ![M, 1024]⟩ .f32) (g : FVec Ideal ⟨2, ![1, 1024]⟩ .f32) : FVec Ideal ⟨2, ![M, 1024]⟩ .f32 :=
  mulf (mulf x (broadcastTo ⟨2, ![M, 1024]⟩ (rsqrt (addf (divf
      (shapeCast ⟨2, ![M, 1]⟩ (multiReduction .add [1] ⟨1, ![M]⟩ (mulf x x) 0x00000000#32 hr (.inl rfl) rfl) hc)
      (broadcast ⟨2, ![M, 1]⟩ (Scalar.ofBits .f32 0x44800000#32))) (broadcast ⟨2, ![M, 1]⟩ (Scalar.ofBits .f32 0x358637BD#32)))) hs))
    (broadcastTo ⟨2, ![M, 1024]⟩ g hg)

theorem normed_apply (hr : (⟨2, ![M, 1024]⟩ : Shape).Reduces [1] ⟨1, ![M]⟩) (hc : (⟨1, ![M]⟩ : Shape).ShapeCasts ⟨2, ![M, 1]⟩)
    (hs : (⟨2, ![M, 1]⟩ : Shape).Broadcasts ⟨2, ![M, 1024]⟩) (hg : (⟨2, ![1, 1024]⟩ : Shape).Broadcasts ⟨2, ![M, 1024]⟩)
    (x : FVec Ideal ⟨2, ![M, 1024]⟩ .f32) (g : FVec Ideal ⟨2, ![1, 1024]⟩ .f32) (r : Fin M) (j : Fin 1024) :
    normed hr hc hs hg x g (ix2 r j) = Cert.Tail.rms (fun k => x (ix2 r k)) (fun k => g (ix2 0 k)) j := by
  have hM : 0 < M := Fin.pos r
  have es : ∀ z : FVec Ideal ⟨2, ![M, 1]⟩ .f32, broadcastTo ⟨2, ![M, 1024]⟩ z hs (ix2 r j) = z (ix2 r 0) := fun z => by
    rw [Pointwise.broadcastTo_apply]
    refine congrArg z (funext fun a => Fin.ext ?_)
    match a with
    | ⟨0, _⟩ =>
      by_cases h : M = 1
      · subst h
        obtain rfl : r = 0 := Subsingleton.elim _ _
        rfl
      · simp [Shape.Idx.norm, h]
    | ⟨1, _⟩ => rfl
  have eg : broadcastTo ⟨2, ![M, 1024]⟩ g hg (ix2 r j) = g (ix2 0 j) := by
    rw [Pointwise.broadcastTo_apply]
    refine congrArg g (funext fun a => Fin.ext ?_)
    match a with
    | ⟨0, _⟩ => rfl
    | ⟨1, _⟩ => rfl
  have ec : ∀ z : FVec Ideal ⟨1, ![M]⟩ .f32, shapeCast ⟨2, ![M, 1]⟩ z hc (ix2 r 0) = z (ix1 r) := fun z => by
    refine shapeCast_apply _ _ (ix2 r 0) (ix1 r) ?_
    rw [Shape.rowMajor_val_one, Shape.rowMajor_val_two]
    show r.val = r.val * 1 + 0
    omega
  have er : multiReduction .add [1] ⟨1, ![M]⟩ (mulf x x) 0x00000000#32 hr (.inl rfl) rfl (ix1 r) = ∑ k, x (ix2 r k) * x (ix2 r k) := by
    refine (Ideal.multiReduction_add_single _ _ hr _ _ (ix1 r)).trans ?_
    refine Finset.sum_congr rfl fun k _ => ?_
    have el : (hr.lift (ix1 r) k) = (ix2 r k : (⟨2, ![M, 1024]⟩ : Shape).Idx) := funext fun a => Fin.ext (by
      match a with
      | ⟨0, _⟩ => rfl
      | ⟨1, _⟩ => rfl)
    rw [el]; rfl
  unfold normed
  show x (ix2 r j) * broadcastTo ⟨2, ![M, 1024]⟩ _ hs (ix2 r j) * broadcastTo ⟨2, ![M, 1024]⟩ g hg (ix2 r j) = _
  rw [es, eg]
  show x (ix2 r j) * Ideal.rsqrt (Ideal.div (shapeCast ⟨2, ![M, 1]⟩ _ hc (ix2 r 0)) (Ideal.ofBits .f32 0x44800000#32) + Ideal.ofBits .f32 0x358637BD#32) * g (ix2 0 j) = _
  rw [ec, er]
  rfl

/-- A block of rows against a weight's columns. -/
theorem rows_apply (a : FVec Ideal ⟨2, ![M, 1024]⟩ .bf16) (w : FVec Ideal ⟨2, ![1024, N]⟩ .bf16) (r : Fin M) (j : Fin N) :
    matmul (DotDims.plain M 1024 N) none a w (constant ⟨2, ![M, N]⟩ .f32 0x00000000#32) (ix2 r j) = ∑ k, a (ix2 r k) * w (ix2 k j) := by
  refine (Ideal.matmul_plain_apply (M := M) (K := 1024) (N := N) none a w _ r j).trans ?_
  rw [ValueIdx.constant_apply, Ideal.ofBits_zero_f32, zero_add]
  rfl

/-- A weight's columns, laid as rows, against a block of rows. -/
theorem cols_apply (a : FVec Ideal ⟨2, ![M, 1024]⟩ .bf16) (w : FVec Ideal ⟨2, ![N, 1024]⟩ .bf16) (r : Fin M) (j : Fin N) :
    matmul (DotDims.transposedRhs N 1024 M) none w a (constant ⟨2, ![N, M]⟩ .f32 0x00000000#32) (ix2 j r) = ∑ k, a (ix2 r k) * w (ix2 j k) := by
  refine (Ideal.matmul_transposedRhs_apply (M := N) (K := 1024) (N := M) none w a _ j r).trans ?_
  rw [ValueIdx.constant_apply, Ideal.ofBits_zero_f32, zero_add]
  exact Finset.sum_congr rfl fun k _ => mul_comm _ _

/-- A band of a matrix read at an entry. -/
theorem band_apply {A B A' B' oa ob : ℕ} {φ : EltTy} (x : Vec Ideal ⟨2, ![A, B]⟩ φ)
    (inb : ∀ a : Fin 2, (![oa, ob] : Fin 2 → ℕ) a + (![A', B'] : Fin 2 → ℕ) a ≤ (⟨2, ![A, B]⟩ : Shape).size a)
    (r : Fin A') (j : Fin B') (R : Fin A) (J : Fin B) (hR : R.val = oa + r.val) (hJ : J.val = ob + j.val) :
    View.ld (Val := Elt Ideal) x (Rect.unit (s := ⟨2, ![A, B]⟩) ![oa, ob] ![A', B'] inb) (ix2 r j) = x (ix2 R J) := by
  show x _ = x _
  refine congrArg x (funext fun a => Fin.ext ?_)
  match a with
  | ⟨0, _⟩ => show oa + 1 * r.val = R.val; omega
  | ⟨1, _⟩ => show ob + 1 * j.val = J.val; omega

section Rows
variable (hr : (⟨2, ![M, 1024]⟩ : Shape).Reduces [1] ⟨1, ![M]⟩) (hc : (⟨1, ![M]⟩ : Shape).ShapeCasts ⟨2, ![M, 1]⟩)
  (hs : (⟨2, ![M, 1]⟩ : Shape).Broadcasts ⟨2, ![M, 1024]⟩) (hg : (⟨2, ![1, 1024]⟩ : Shape).Broadcasts ⟨2, ![M, 1024]⟩) (hb : FTy.bits .bf16 < FTy.bits .f32)
  (x : FVec Ideal ⟨2, ![M, 1024]⟩ .f32) (g : FVec Ideal ⟨2, ![1, 1024]⟩ .f32)

/-- A block's rows, normalized, against a band of a weight's columns. -/
theorem block_rows {W o : ℕ} (w : Vec Ideal ⟨2, ![1024, W]⟩ .bf16)
    (inb : ∀ a : Fin 2, (![0, o] : Fin 2 → ℕ) a + (![1024, N] : Fin 2 → ℕ) a ≤ (⟨2, ![1024, W]⟩ : Shape).size a)
    (r : Fin M) (j : Fin N) (J : Fin W) (hJ : J.val = o + j.val) :
    matmul (φ₁ := .bf16) (φ₂ := .bf16) (DotDims.plain M 1024 N) none (truncf .bf16 (normed hr hc hs hg x g) hb)
      (View.ld (Val := Elt Ideal) w (Rect.unit (s := ⟨2, ![1024, W]⟩) ![0, o] ![1024, N] inb)) (constant ⟨2, ![M, N]⟩ .f32 0x00000000#32) (ix2 r j)
      = dot (fun k => x (ix2 r k)) (fun k => g (ix2 0 k)) (fun k => w (ix2 k J)) := by
  refine (rows_apply _ _ r j).trans (Finset.sum_congr rfl fun k _ => ?_)
  exact congrArg₂ (· * ·) (normed_apply hr hc hs hg x g r k) (band_apply w inb k j k J (Nat.zero_add _).symm hJ)

/-- A band of a weight's columns, laid as rows, against a block's rows, normalized. -/
theorem block_cols {W o : ℕ} (w : Vec Ideal ⟨2, ![W, 1024]⟩ .bf16)
    (inb : ∀ a : Fin 2, (![o, 0] : Fin 2 → ℕ) a + (![N, 1024] : Fin 2 → ℕ) a ≤ (⟨2, ![W, 1024]⟩ : Shape).size a)
    (r : Fin M) (j : Fin N) (J : Fin W) (hJ : J.val = o + j.val) :
    matmul (φ₁ := .bf16) (φ₂ := .bf16) (DotDims.transposedRhs N 1024 M) none
      (View.ld (Val := Elt Ideal) w (Rect.unit (s := ⟨2, ![W, 1024]⟩) ![o, 0] ![N, 1024] inb)) (truncf .bf16 (normed hr hc hs hg x g) hb)
      (constant ⟨2, ![N, M]⟩ .f32 0x00000000#32) (ix2 j r)
      = dot (fun k => x (ix2 r k)) (fun k => g (ix2 0 k)) (fun k => w (ix2 J k)) := by
  refine (cols_apply _ _ r j).trans (Finset.sum_congr rfl fun k _ => ?_)
  exact congrArg₂ (· * ·) (normed_apply hr hc hs hg x g r k) (band_apply w inb j k J k hJ (Nat.zero_add _).symm)
end Rows
end Block

theorem zero_block (n k : ℕ) : 0 * n + k = k := by rw [Nat.zero_mul, Nat.zero_add]

/-- Where an entry of a window's block lies in the array. -/
theorem emb_eq {sig : RefSig} {G : Pipeline.Grid} (w : Pipeline.Window sig G) (t : Fin G.N) (y : (w.xblock (G.coords t)).Idx) (i : w.shape.Idx)
    (hk : w.kind = .blocked) (h : ∀ a, w.index t a * w.size a + (y a).val = (i a).val) : (w.rect t).emb y = i :=
  funext fun a => Fin.ext ((Pipeline.Window.rect_emb_val w t y a hk).trans (h a))

/-! ## The reference's normalization and product -/

section Host
variable {A B N : ℕ}

def hostScale (hd : (⟨3, ![A, B, 1024]⟩ : Shape).ReducesTo [2] ⟨2, ![A, B]⟩) (h0 : 0 < (⟨0, ![]⟩ : Shape).numel)
    (h2 : (⟨2, ![A, B]⟩ : Shape).BroadcastsInDim ⟨3, ![A, B, 1]⟩ ![0, 1]) (hz : (⟨0, ![]⟩ : Shape).BroadcastsInDim ⟨3, ![A, B, 1]⟩ ![])
    (x : FVec Ideal ⟨3, ![A, B, 1024]⟩ .f32) : FVec Ideal ⟨3, ![A, B, 1]⟩ .f32 :=
  Host.rsqrt (addf (Host.divf
      (broadcastInDim ⟨3, ![A, B, 1]⟩ ![0, 1] h2 (Host.reduceAdd (mulf x x) (constant ⟨0, ![]⟩ .f32 0x00000000#32) hd h0))
      (broadcastInDim ⟨3, ![A, B, 1]⟩ ![] hz (constant ⟨0, ![]⟩ .f32 0x44800000#32))) (broadcastInDim ⟨3, ![A, B, 1]⟩ ![] hz (constant ⟨0, ![]⟩ .f32 0x358637BD#32)))

/-- The rows of an array normalized to unit mean square, times the gain. -/
def hostRms (hd : (⟨3, ![A, B, 1024]⟩ : Shape).ReducesTo [2] ⟨2, ![A, B]⟩) (h0 : 0 < (⟨0, ![]⟩ : Shape).numel)
    (h2 : (⟨2, ![A, B]⟩ : Shape).BroadcastsInDim ⟨3, ![A, B, 1]⟩ ![0, 1]) (hz : (⟨0, ![]⟩ : Shape).BroadcastsInDim ⟨3, ![A, B, 1]⟩ ![])
    (h3 : (⟨3, ![A, B, 1]⟩ : Shape).BroadcastsInDim ⟨3, ![A, B, 1024]⟩ ![0, 1, 2]) (hg : (⟨3, ![1, 1, 1024]⟩ : Shape).BroadcastsInDim ⟨3, ![A, B, 1024]⟩ ![0, 1, 2])
    (h1 : (⟨1, ![1024]⟩ : Shape).BroadcastsInDim ⟨3, ![1, 1, 1024]⟩ ![2])
    (x : FVec Ideal ⟨3, ![A, B, 1024]⟩ .f32) (g : FVec Ideal ⟨1, ![1024]⟩ .f32) : FVec Ideal ⟨3, ![A, B, 1024]⟩ .f32 :=
  mulf (mulf x (broadcastInDim ⟨3, ![A, B, 1024]⟩ ![0, 1, 2] h3 (hostScale hd h0 h2 hz x)))
    (broadcastInDim ⟨3, ![A, B, 1024]⟩ ![0, 1, 2] hg (broadcastInDim ⟨3, ![1, 1, 1024]⟩ ![2] h1 g))

theorem hostRms_apply (hd : (⟨3, ![A, B, 1024]⟩ : Shape).ReducesTo [2] ⟨2, ![A, B]⟩) (h0 : 0 < (⟨0, ![]⟩ : Shape).numel)
    (h2 : (⟨2, ![A, B]⟩ : Shape).BroadcastsInDim ⟨3, ![A, B, 1]⟩ ![0, 1]) (hz : (⟨0, ![]⟩ : Shape).BroadcastsInDim ⟨3, ![A, B, 1]⟩ ![])
    (h3 : (⟨3, ![A, B, 1]⟩ : Shape).BroadcastsInDim ⟨3, ![A, B, 1024]⟩ ![0, 1, 2]) (hg : (⟨3, ![1, 1, 1024]⟩ : Shape).BroadcastsInDim ⟨3, ![A, B, 1024]⟩ ![0, 1, 2])
    (h1 : (⟨1, ![1024]⟩ : Shape).BroadcastsInDim ⟨3, ![1, 1, 1024]⟩ ![2]) (red : (⟨3, ![A, B, 1024]⟩ : Shape).Reduces [2] ⟨2, ![A, B]⟩)
    (x : FVec Ideal ⟨3, ![A, B, 1024]⟩ .f32) (g : FVec Ideal ⟨1, ![1024]⟩ .f32) (a : Fin A) (b : Fin B) (j : Fin 1024) :
    hostRms hd h0 h2 hz h3 hg h1 x g (ix3 a b j) = Cert.Tail.rms (fun k => x (ix3 a b k)) (fun k => g (ix1 k)) j := by
  have ha := a.isLt
  have hb := b.isLt
  have es : ∀ z : FVec Ideal ⟨3, ![A, B, 1]⟩ .f32, broadcastInDim ⟨3, ![A, B, 1024]⟩ ![0, 1, 2] h3 z (ix3 a b j) = z (ix3 a b 0) := fun z => by
    refine broadcastInDim_apply _ _ z (ix3 a b j) (ix3 a b 0) fun n => ?_
    match n with
    | ⟨0, _⟩ => show a.val = if A = 1 then 0 else a.val; split <;> omega
    | ⟨1, _⟩ => show b.val = if B = 1 then 0 else b.val; split <;> omega
    | ⟨2, _⟩ => rfl
  have eg : broadcastInDim ⟨3, ![A, B, 1024]⟩ ![0, 1, 2] hg (broadcastInDim ⟨3, ![1, 1, 1024]⟩ ![2] h1 g) (ix3 a b j) = g (ix1 j) := by
    refine (broadcastInDim_apply _ _ _ (ix3 a b j) (ix3 0 0 j) fun n => ?_).trans ?_
    · match n with
      | ⟨0, _⟩ => rfl
      | ⟨1, _⟩ => rfl
      | ⟨2, _⟩ => rfl
    · refine broadcastInDim_apply _ _ g (ix3 0 0 j) (ix1 j) fun n => ?_
      match n with
      | ⟨0, _⟩ => rfl
  have ec : ∀ z : FVec Ideal ⟨2, ![A, B]⟩ .f32, broadcastInDim ⟨3, ![A, B, 1]⟩ ![0, 1] h2 z (ix3 a b 0) = z (ix2 a b) := fun z => by
    refine broadcastInDim_apply _ _ z (ix3 a b 0) (ix2 a b) fun n => ?_
    match n with
    | ⟨0, _⟩ => show a.val = if A = 1 then 0 else a.val; split <;> omega
    | ⟨1, _⟩ => show b.val = if B = 1 then 0 else b.val; split <;> omega
  have er : Host.reduceAdd (mulf x x) (constant ⟨0, ![]⟩ .f32 0x00000000#32) hd h0 (ix2 a b) = ∑ k, x (ix3 a b k) * x (ix3 a b k) := by
    rw [ValueIdx.hostReduceAdd_apply]
    have e0 : Ideal.hostReduceAdd hd (mulf x x) (Ideal.ofBits .f32 0x00000000#32) (ix2 a b)
        = Ideal.ofBits .f32 0x00000000#32 + Ideal.reduceAdd red (mulf x x) (ix2 a b) := rfl
    refine e0.trans ?_
    rw [Ideal.ofBits_zero_f32, zero_add]
    refine (Ideal.reduceAdd_single red _ (ix2 a b)).trans ?_
    refine Finset.sum_congr rfl fun k _ => ?_
    have el : (red.lift (ix2 a b) k) = (ix3 a b k : (⟨3, ![A, B, 1024]⟩ : Shape).Idx) := funext fun n => Fin.ext (by
      match n with
      | ⟨0, _⟩ => rfl
      | ⟨1, _⟩ => rfl
      | ⟨2, _⟩ => rfl)
    rw [el]; rfl
  unfold hostRms
  show x (ix3 a b j) * broadcastInDim ⟨3, ![A, B, 1024]⟩ ![0, 1, 2] h3 (hostScale hd h0 h2 hz x) (ix3 a b j)
    * broadcastInDim ⟨3, ![A, B, 1024]⟩ ![0, 1, 2] hg (broadcastInDim ⟨3, ![1, 1, 1024]⟩ ![2] h1 g) (ix3 a b j) = _
  rw [es, eg]
  have e0 : hostScale hd h0 h2 hz x (ix3 a b 0) = Ideal.rsqrt (Ideal.div (broadcastInDim ⟨3, ![A, B, 1]⟩ ![0, 1] h2
      (Host.reduceAdd (mulf x x) (constant ⟨0, ![]⟩ .f32 0x00000000#32) hd h0) (ix3 a b 0)) (Ideal.ofBits .f32 0x44800000#32) + Ideal.ofBits .f32 0x358637BD#32) := rfl
  rw [e0, ec, er]
  rfl

/-- An array's rows against a weight's columns: the dimension numbers. -/
def rowsDims (wf : DotDims.WF (⟨3, ![A, B, 1024]⟩ : Shape) (⟨2, ![1024, N]⟩ : Shape) (⟨3, ![A, B, N]⟩ : Shape) [2] [0] [0, 1] [1] [] []) :
    DotDims ⟨3, ![A, B, 1024]⟩ ⟨2, ![1024, N]⟩ ⟨3, ![A, B, N]⟩ where
  lhsContracting := [2]
  rhsContracting := [0]
  lhsNonContracting := [0, 1]
  rhsNonContracting := [1]
  lhsBatch := []
  rhsBatch := []
  wf := wf

theorem hostRows_apply (wf : DotDims.WF (⟨3, ![A, B, 1024]⟩ : Shape) (⟨2, ![1024, N]⟩ : Shape) (⟨3, ![A, B, N]⟩ : Shape) [2] [0] [0, 1] [1] [] [])
    (x : FVec Ideal ⟨3, ![A, B, 1024]⟩ .f32) (w : FVec Ideal ⟨2, ![1024, N]⟩ .f32) (a : Fin A) (b : Fin B) (n : Fin N) :
    Host.dotGeneral (rowsDims wf) none x w (ix3 a b n) = ∑ k : Fin 1024, x (ix3 a b k) * w (ix2 k n) := by
  show FloatOps.dotGeneral _ none _ x w (ix3 a b n) = _
  rw [Ideal.dotGeneral_apply, ← Equiv.sum_comp (ValueIdx.contrEquiv1 (rowsDims wf) 1024 rfl rfl).symm]
  refine Finset.sum_congr rfl fun d _ => ?_
  have c := ValueIdx.contrEquiv1_symm_val (rowsDims wf) 1024 rfl rfl d
  congr 2
  · funext i; apply Fin.ext
    match i with
    | ⟨0, _⟩ => rfl
    | ⟨1, _⟩ => rfl
    | ⟨2, _⟩ => exact c
  · funext i; apply Fin.ext
    match i with
    | ⟨0, _⟩ => exact c
    | ⟨1, _⟩ => rfl

/-- A band of the product's columns. -/
theorem cols_of {n o : ℕ} {φ : FTy} (z : FVec Ideal ⟨3, ![A, B, N]⟩ φ) (h : (⟨3, ![A, B, N]⟩ : Shape).Slices ![0, 0, o] ⟨3, ![A, B, n]⟩)
    (a : Fin A) (b : Fin B) (j : Fin n) (J : Fin N) (hJ : J.val = o + j.val) :
    extractStridedSlice ⟨3, ![A, B, n]⟩ ![0, 0, o] z h (ix3 a b j) = z (ix3 a b J) := by
  refine extractStridedSlice_apply _ _ _ _ _ fun i => ?_
  match i with
  | ⟨0, _⟩ => exact (Nat.zero_add _).symm
  | ⟨1, _⟩ => exact (Nat.zero_add _).symm
  | ⟨2, _⟩ => exact hJ

/-- The rows of every batch in one list. -/
theorem flat {C : ℕ} {φ : FTy} (y : FVec Ideal ⟨3, ![A, B, N]⟩ φ) (h : (⟨3, ![A, B, N]⟩ : Shape).ShapeCasts ⟨2, ![C, N]⟩)
    (a : Fin A) (b : Fin B) (j : Fin N) (R : Fin C) (hR : R.val = a.val * B + b.val) :
    shapeCast ⟨2, ![C, N]⟩ y h (ix2 R j) = y (ix3 a b j) := by
  refine shapeCast_apply _ _ (ix2 R j) (ix3 a b j) ?_
  rw [Shape.rowMajor_val_three, Shape.rowMajor_val_two]
  show (a.val * B + b.val) * N + j.val = R.val * N + j.val
  rw [hR]

/-- The rows of every batch cut anew into pages. -/
theorem pages {C D : ℕ} {φ : FTy} (y : FVec Ideal ⟨3, ![A, B, N]⟩ φ) (h : (⟨3, ![A, B, N]⟩ : Shape).ShapeCasts ⟨3, ![C, D, N]⟩)
    (a : Fin A) (b : Fin B) (j : Fin N) (c : Fin C) (d : Fin D) (hR : c.val * D + d.val = a.val * B + b.val) :
    shapeCast ⟨3, ![C, D, N]⟩ y h (ix3 c d j) = y (ix3 a b j) := by
  refine shapeCast_apply _ _ (ix3 c d j) (ix3 a b j) ?_
  rw [Shape.rowMajor_val_three, Shape.rowMajor_val_three]
  show (a.val * B + b.val) * N + j.val = (c.val * D + d.val) * N + j.val
  rw [hR]

/-- Every page turned. -/
theorem turn {φ : FTy} (y : FVec Ideal ⟨3, ![A, B, N]⟩ φ) (h : (⟨3, ![A, B, N]⟩ : Shape).Transposes [0, 2, 1] ⟨3, ![A, N, B]⟩)
    (a : Fin A) (b : Fin B) (j : Fin N) : transpose ⟨3, ![A, N, B]⟩ [0, 2, 1] y h (ix3 a j b) = y (ix3 a b j) := by
  refine transpose_apply _ _ _ (ix3 a j b) (ix3 a b j) fun i => ?_
  match i with
  | ⟨0, _⟩ => rfl
  | ⟨1, _⟩ => rfl
  | ⟨2, _⟩ => rfl
end Host

/-! ## The queries' scale -/

theorem eighth : Ideal.ofBits .f32 0x3E000000#32 = ((1 / 8 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem div_log_two (x : EReal) : Ideal.div x (Ideal.log (Ideal.ofBits .f32 0x40000000#32)) = x * (((Real.log 2)⁻¹ : ℝ) : EReal) := by
  have h : (0 : ℝ) < Real.log 2 := Real.log_pos one_lt_two
  rw [two, Ideal.log_coe, if_neg (by norm_num), Ideal.div, if_neg (by exact_mod_cast h.ne'), EReal.coe_inv]

theorem scale_pos (x : EReal) : Ideal.div (x * Ideal.ofBits .f32 0x3E000000#32) (Ideal.log (Ideal.ofBits .f32 0x40000000#32))
    = x * (((8 * Real.log 2)⁻¹ : ℝ) : EReal) := by
  rw [div_log_two, eighth, mul_assoc, ← EReal.coe_mul, mul_inv, one_div]

theorem scale_neg (x : EReal) : Ideal.div (-(x * Ideal.ofBits .f32 0x3E000000#32)) (Ideal.log (Ideal.ofBits .f32 0x40000000#32))
    = x * ((-((8 * Real.log 2)⁻¹) : ℝ) : EReal) := by
  rw [div_log_two, EReal.neg_mul, eighth, mul_assoc, ← EReal.coe_mul, EReal.coe_neg, mul_comm x (-_), EReal.neg_mul, mul_comm x, mul_inv, one_div]

/-! ## Arrays by their entries -/

theorem ext_two {M N : ℕ} {α : Type} {y y' : (⟨2, ![M, N]⟩ : Shape).Idx → α} (h : ∀ (r : Fin M) (j : Fin N), y (ix2 r j) = y' (ix2 r j)) : y = y' :=
  funext fun i => by
    have e : i = ix2 (i 0) (i 1) := funext fun a => by
      match a with
      | ⟨0, _⟩ => rfl
      | ⟨1, _⟩ => rfl
    rw [e]
    exact h _ _

theorem ext_three {L M N : ℕ} {α : Type} {y y' : (⟨3, ![L, M, N]⟩ : Shape).Idx → α} (h : ∀ (l : Fin L) (r : Fin M) (j : Fin N), y (ix3 l r j) = y' (ix3 l r j)) : y = y' :=
  funext fun i => by
    have e : i = ix3 (i 0) (i 1) (i 2) := funext fun a => by
      match a with
      | ⟨0, _⟩ => rfl
      | ⟨1, _⟩ => rfl
      | ⟨2, _⟩ => rfl
    rw [e]
    exact h _ _ _

/-- A row of the list, as a batch's token. -/
theorem split {A B C : ℕ} (hB : 0 < B) (hC : C = A * B) (R : Fin C) : ∃ (a : Fin A) (b : Fin B), R.val = a.val * B + b.val :=
  ⟨⟨R.val / B, Nat.div_lt_of_lt_mul ((hC ▸ R.isLt : R.val < A * B).trans_eq (Nat.mul_comm A B))⟩, ⟨R.val % B, Nat.mod_lt _ hB⟩, (Nat.div_add_mod' R.val B).symm⟩

theorem congr_three {α β γ δ : Sort _} (f : α → β → γ → δ) {a a' : α} {b b' : β} {c c' : γ} (ha : a = a') (hb : b = b') (hc : c = c') : f a b c = f a' b' c' := by
  rw [ha, hb, hc]

end Cert.Proj
-- ==== Proof.Memkv.lean ====
module

public import proofs.«01_k».proof.Proof.Gen.Kernel5Ideal.Value
public import proofs.«01_k».proof.Proof.Proj
public import Idealize.ShloMosaic.Lib.StableHlo.Run

@[expose] public section

set_option maxRecDepth 16384

noncomputable section

namespace Cert.Kernel5Ideal.Memkv

open Idealize.ShloMosaic Idealize.ShloMosaic.TcCoe Idealize.SL.Sem
open Cert.Kernel5Ideal Cert.Kernel5Ideal.Gen
open scoped BigOperators

/-! ## What the body leaves in its blocks -/

section Body
variable (x0 : Vec Ideal S256x1024 .f32) (x1 : Vec Ideal S1x1024 .f32) (x2 : Vec Ideal S1024x512 .bf16) (x3 : Vec Ideal S512x1024 .bf16)

/-- The block's normalized rows. -/
abbrev nB : FVec Ideal S256x1024 .bf16 :=
  truncf .bf16 (Cert.Proj.normed reduces_S256x1024_S256 shapeCasts_S256_S256x1 broadcasts_S256x1_S256x1024 broadcasts_S1x1024_S256x1024 x0 x1) bitsLt_bf16_f32

theorem nB_eq : k0_pay3 (F := Ideal) (View.ld x0 r0_0) (View.ld x1 r0_1) = nB x0 x1 := by
  have e0 : shapeCast S256x1024 (View.ld (Val := Elt Ideal) x0 r0_0) shapeCasts_S256x1024_S256x1024 = x0 :=
    (shapeCast_id (s := S256x1024) _ _).trans (View.ld_unit_zero (by decide) _ x0)
  have e1 : shapeCast S1x1024 (View.ld (Val := Elt Ideal) x1 r0_1) shapeCasts_S1x1024_S1x1024 = x1 :=
    (shapeCast_id (s := S1x1024) _ _).trans (View.ld_unit_zero (by decide) _ x1)
  show nB (shapeCast S256x1024 (View.ld (Val := Elt Ideal) x0 r0_0) shapeCasts_S256x1024_S256x1024)
    (shapeCast S1x1024 (View.ld (Val := Elt Ideal) x1 r0_1) shapeCasts_S1x1024_S1x1024) = _
  rw [e0, e1]

/-- A block's row against a column. -/
abbrev val (r : Fin 256) (w : Fin 1024 → EReal) : EReal := Cert.Proj.dot (fun k => x0 (ix2 r k)) (fun k => x1 (ix2 0 k)) w

theorem k_val (r : Fin 256) (j : Fin 256) (J : Fin 512) (hJ : J.val = j.val) :
    out0_4 x0 x1 x2 x3 (ix2 r j) = val x0 x1 r (fun k => x2 (ix2 k J)) := by
  have e : out0_4 x0 x1 x2 x3 = k0_pay4 (View.ld x0 r0_0) (View.ld x1 r0_1) (View.ld x2 r0_2) := View.canon_unit_zero (by decide) _ _
  rw [e]
  show matmul (φ₁ := .bf16) (φ₂ := .bf16) dot_S256x1024_S1024x256_S256x256_1_0_0_1_n_n none (k0_pay3 (F := Ideal) (View.ld x0 r0_0) (View.ld x1 r0_1))
    (shapeCast S1024x256 (View.ld (Val := Elt Ideal) x2 r0_2) shapeCasts_S1024x256_S1024x256) (constant S256x256 .f32 0x00000000#32) (ix2 r j) = _
  have e2 : shapeCast S1024x256 (View.ld (Val := Elt Ideal) x2 r0_2) shapeCasts_S1024x256_S1024x256 = View.ld (Val := Elt Ideal) x2 r0_2 :=
    shapeCast_id (s := S1024x256) _ _
  rw [nB_eq, e2]
  exact Cert.Proj.block_rows _ _ _ _ _ x0 x1 x2 _ r j J (hJ.trans (Nat.zero_add _).symm)

/-- A product of the turned weight with the block's rows, read at an entry. -/
theorem turned {o : ℕ} (inb : ∀ a : Fin 2, (![o, 0] : Fin 2 → ℕ) a + (![256, 1024] : Fin 2 → ℕ) a ≤ S512x1024.size a)
    (r : Fin 256) (j : Fin 256) (J : Fin 512) (hJ : J.val = o + j.val) :
    k0_pay6 (F := Ideal) (View.ld x0 r0_0) (View.ld x1 r0_1) (View.ld x3 (Rect.unit (s := S512x1024) ![o, 0] ![256, 1024] inb)) (ix2 j r)
      = val x0 x1 r (fun k => x3 (ix2 J k)) := by
  show matmul (φ₁ := .bf16) (φ₂ := .bf16) dot_S256x1024_S256x1024_S256x256_1_1_0_0_n_n none
    (shapeCast S256x1024 (View.ld (Val := Elt Ideal) x3 (Rect.unit (s := S512x1024) ![o, 0] ![256, 1024] inb)) shapeCasts_S256x1024_S256x1024)
    (k0_pay3 (F := Ideal) (View.ld x0 r0_0) (View.ld x1 r0_1)) (constant S256x256 .f32 0x00000000#32) (ix2 j r) = _
  have e2 : shapeCast S256x1024 (View.ld (Val := Elt Ideal) x3 (Rect.unit (s := S512x1024) ![o, 0] ![256, 1024] inb)) shapeCasts_S256x1024_S256x1024
      = View.ld (Val := Elt Ideal) x3 (Rect.unit (s := S512x1024) ![o, 0] ![256, 1024] inb) := shapeCast_id (s := S256x1024) _ _
  rw [nB_eq, e2]
  exact Cert.Proj.block_cols _ _ _ _ _ x0 x1 x3 _ r j J hJ

/-- A block turned to columns holds the product as its one page. -/
theorem page_apply (z : FVec Ideal S256x256 .f32) (r : Fin 256) (j : Fin 256) : shapeCast S1x256x256 z shapeCasts_S256x256_S1x256x256 (ix3 0 j r) = z (ix2 j r) := by
  refine shapeCast_apply _ _ (ix3 0 j r) (ix2 j r) ?_
  rw [Shape.rowMajor_val_two, Shape.rowMajor_val_three]
  show j.val * 256 + r.val = (0 * 256 + j.val) * 256 + r.val
  rw [Cert.Proj.zero_block]

theorem kt_val (r : Fin 256) (j : Fin 256) (J : Fin 512) (hJ : J.val = j.val) :
    out0_5 x0 x1 x2 x3 (ix3 0 j r) = val x0 x1 r (fun k => x3 (ix2 J k)) := by
  have e : out0_5 x0 x1 x2 x3 = k0_pay5 (View.ld x0 r0_0) (View.ld x1 r0_1) (View.ld x3 r0_4) := View.canon_unit_zero (by decide) _ _
  rw [e]
  exact (page_apply (k0_pay6 (F := Ideal) (View.ld x0 r0_0) (View.ld x1 r0_1) (View.ld x3 r0_4)) r j).trans
    (turned x0 x1 x3 inb_S512x1024_S256x1024_0_0 r j J (hJ.trans (Nat.zero_add _).symm))

theorem vt_val (r : Fin 256) (j : Fin 256) (J : Fin 512) (hJ : J.val = 256 + j.val) :
    out0_6 x0 x1 x2 x3 (ix3 0 j r) = val x0 x1 r (fun k => x3 (ix2 J k)) := by
  have e : out0_6 x0 x1 x2 x3 = k0_pay1 (k0_pay7 x0 x1 x2 x3) := View.canon_unit_zero (by decide) _ _
  rw [e]
  exact (page_apply (k0_pay7 x0 x1 x2 x3) r j).trans (turned x0 x1 x3 inb_S512x1024_S256x1024_256_0 r j J hJ)

theorem v_val (r : Fin 256) (j : Fin 256) (J : Fin 512) (hJ : J.val = 256 + j.val) :
    out0_7 x0 x1 x2 x3 (ix2 j r) = val x0 x1 r (fun k => x3 (ix2 J k)) := by
  have e : out0_7 x0 x1 x2 x3 = k0_pay2 (k0_pay7 x0 x1 x2 x3) := View.canon_unit_zero (by decide) _ _
  rw [e]
  exact turned x0 x1 x3 inb_S512x1024_S256x1024_256_0 r j J hJ
end Body

/-! ## What the host prepares -/

theorem tr0 : ∀ i : grid0.Coords, cc0_transform_0 i 0 = (i 0).val ∧ cc0_transform_0 i 1 = 0 := by decide +kernel
theorem tr1 : ∀ i : grid0.Coords, cc0_transform_1 i = ![0, 0] := by decide +kernel
theorem tr2 : ∀ i : grid0.Coords, cc0_transform_2 i = ![0, 0] := by decide +kernel
theorem tr3 : ∀ i : grid0.Coords, cc0_transform_3 i = ![0, 0] := by decide +kernel
theorem tr4 : ∀ i : grid0.Coords, cc0_transform_4 i 0 = (i 0).val ∧ cc0_transform_4 i 1 = 0 := by decide +kernel
theorem tr5 : ∀ i : grid0.Coords, cc0_transform_5 i 0 = (i 0).val ∧ cc0_transform_5 i 1 = 0 ∧ cc0_transform_5 i 2 = 0 := by decide +kernel
theorem tr6 : ∀ i : grid0.Coords, cc0_transform_6 i 0 = (i 0).val ∧ cc0_transform_6 i 1 = 0 ∧ cc0_transform_6 i 2 = 0 := by decide +kernel
theorem tr7 : ∀ i : grid0.Coords, cc0_transform_7 i 0 = 0 ∧ cc0_transform_7 i 1 = (i 0).val := by decide +kernel

section Host
variable (m : (ℓ : Loc nD τ sig) → Buf (Elt Ideal) ℓ) (c : Dev nD)

abbrev aX : FVec Ideal S4x256x1024 .f32 := m ((c : Thread nD τ).loc main_arg0)
abbrev aG : FVec Ideal S1024 .f32 := m ((c : Thread nD τ).loc main_arg1)
abbrev aW : FVec Ideal S1024x512 .f32 := m ((c : Thread nD τ).loc main_arg2)

theorem V_x : @Eq (FVec Ideal S1024x1024 .f32) (V m c main_v0) (shapeCast S1024x1024 (aX m c) shapeCasts_S4x256x1024_S1024x1024) := by
  show StableHlo.after hostOps0 _ (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g : @Eq (FVec Ideal S1x1024 .f32) (V m c main_v1) (broadcastInDim S1x1024 ![1] bcast_S1024_S1x1024_1 (aG m c)) := by
  show StableHlo.after hostOps0 _ (Proc.devRef .tc main_v1) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_w : @Eq (FVec Ideal S1024x512 .bf16) (V m c main_v2) (truncf .bf16 (aW m c) bitsLt_bf16_f32) := by
  show StableHlo.after hostOps0 _ (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_t : @Eq (FVec Ideal S512x1024 .bf16) (V m c main_v4)
    (truncf .bf16 (transpose S512x1024 [1, 0] (aW m c) transposes_S1024x512_S512x1024_1_0) bitsLt_bf16_f32) := by
  show StableHlo.after hostOps0 _ (Proc.devRef .tc main_v4) = _
  simp only [hostOps0, StableHlo.TRef.binary, StableHlo.TRef.nullary, StableHlo.TRef.ternary, StableHlo.TRef.unary, StableHlo.TRef.toBuf, StableHlo.TRef.ofBuf, cast_eq]
  after_results_simp
  all_goals rfl

/-- A normalized row against a column of the weight. -/
def at' (b : Fin 4) (s : Fin 256) (n : Fin 512) : EReal :=
  Cert.Proj.dot (fun k => aX m c (ix3 b s k)) (fun k => aG m c (ix1 k)) (fun k => aW m c (ix2 k n))

/-! ## What a grid point's blocks hold -/

theorem x_row (t : Fin cfg0.N) (r : Fin 256) (b : Fin 4) (s : Fin 256) (hR : b.val * 256 + s.val = (grid0.coords t 0).val * 256 + r.val) :
    (fun k : Fin 1024 => (iblk m c 0 t : Vec Ideal S256x1024 .f32) (ix2 r k)) = fun k => aX m c (ix3 b s k) := funext fun k => by
  have hb := b.isLt
  have hs := s.isLt
  obtain ⟨R, hR'⟩ : ∃ R : Fin 1024, R.val = b.val * 256 + s.val := ⟨⟨b.val * 256 + s.val, by omega⟩, rfl⟩
  have ht := tr0 (grid0.coords t)
  have ei : (win0_0.rect t).emb (ix2 r k) = (ix2 R k : S1024x1024.Idx) := Cert.Proj.emb_eq win0_0 t _ _ rfl fun a => by
    match a with
    | ⟨0, _⟩ => show cc0_transform_0 (grid0.coords t) 0 * 256 + r.val = R.val; rw [ht.1, hR', hR]
    | ⟨1, _⟩ => exact (congrArg (· * 1024 + k.val) (ht.2)).trans (Cert.Proj.zero_block 1024 k.val)
  show V m c main_v0 ((win0_0.rect t).emb (ix2 r k)) = _
  refine (congrArg _ ei).trans ((congrFun (V_x m c) _).trans (shapeCast_apply _ _ (ix2 R k) (ix3 b s k) ?_))
  rw [Shape.rowMajor_val_three, Shape.rowMajor_val_two]
  show (b.val * 256 + s.val) * 1024 + k.val = R.val * 1024 + k.val
  rw [hR']

theorem g_row (t : Fin cfg0.N) : (fun k : Fin 1024 => (iblk m c 1 t : Vec Ideal S1x1024 .f32) (ix2 0 k)) = fun k => aG m c (ix1 k) := funext fun k => by
  have ht := tr1 (grid0.coords t)
  have ei : (win0_1.rect t).emb (ix2 0 k) = (ix2 0 k : S1x1024.Idx) := Cert.Proj.emb_eq win0_1 t _ _ rfl fun a => by
    match a with
    | ⟨0, _⟩ => exact congrArg (· * 1 + 0) (congrFun ht 0)
    | ⟨1, _⟩ => exact (congrArg (· * 1024 + k.val) (congrFun ht 1)).trans (Cert.Proj.zero_block 1024 k.val)
  show V m c main_v1 ((win0_1.rect t).emb (ix2 0 k)) = _
  refine (congrArg _ ei).trans ((congrFun (V_g m c) _).trans (broadcastInDim_apply _ _ _ (ix2 0 k) (ix1 k) fun a => ?_))
  match a with
  | ⟨0, _⟩ => rfl

theorem w_col (t : Fin cfg0.N) (n : Fin 512) : (fun k : Fin 1024 => (iblk m c 2 t : Vec Ideal S1024x512 .bf16) (ix2 k n)) = fun k => aW m c (ix2 k n) := funext fun k => by
  have ht := tr2 (grid0.coords t)
  have ei : (win0_2.rect t).emb (ix2 k n) = (ix2 k n : S1024x512.Idx) := Cert.Proj.emb_eq win0_2 t _ _ rfl fun a => by
    match a with
    | ⟨0, _⟩ => exact (congrArg (· * 1024 + k.val) (congrFun ht 0)).trans (Cert.Proj.zero_block 1024 k.val)
    | ⟨1, _⟩ => exact (congrArg (· * 512 + n.val) (congrFun ht 1)).trans (Cert.Proj.zero_block 512 n.val)
  show V m c main_v2 ((win0_2.rect t).emb (ix2 k n)) = _
  exact (congrArg _ ei).trans (congrFun (V_w m c) _)

theorem t_row (t : Fin cfg0.N) (n : Fin 512) : (fun k : Fin 1024 => (iblk m c 3 t : Vec Ideal S512x1024 .bf16) (ix2 n k)) = fun k => aW m c (ix2 k n) := funext fun k => by
  have ht := tr3 (grid0.coords t)
  have ei : (win0_3.rect t).emb (ix2 n k) = (ix2 n k : S512x1024.Idx) := Cert.Proj.emb_eq win0_3 t _ _ rfl fun a => by
    match a with
    | ⟨0, _⟩ => exact (congrArg (· * 512 + n.val) (congrFun ht 0)).trans (Cert.Proj.zero_block 512 n.val)
    | ⟨1, _⟩ => exact (congrArg (· * 1024 + k.val) (congrFun ht 1)).trans (Cert.Proj.zero_block 1024 k.val)
  show V m c main_v4 ((win0_3.rect t).emb (ix2 n k)) = _
  refine (congrArg _ ei).trans ((congrFun (V_t m c) _).trans ?_)
  show transpose S512x1024 [1, 0] (aW m c) transposes_S1024x512_S512x1024_1_0 (ix2 n k) = _
  refine transpose_apply _ _ _ (ix2 n k) (ix2 k n) fun a => ?_
  match a with
  | ⟨0, _⟩ => rfl
  | ⟨1, _⟩ => rfl

theorem point (b : Fin 4) : ∃ t : Fin cfg0.N, (grid0.coords t 0).val = b.val := by
  have hb := b.isLt
  obtain ⟨t, ht⟩ : ∃ t : Fin cfg0.N, t.val = b.val := ⟨⟨b.val, by show _ < grid0.N; rw [N_0]; exact hb⟩, rfl⟩
  exact ⟨t, (Pipeline.Grid.coords_val (G := grid0) t 0 (S := 1) (B := 4) (by decide) rfl).trans (by omega)⟩

/-! ## The kernel's results -/

theorem val_eq (t : Fin cfg0.N) (r : Fin 256) (b : Fin 4) (s : Fin 256) (hR : b.val * 256 + s.val = (grid0.coords t 0).val * 256 + r.val)
    (w : Fin 1024 → EReal) (n : Fin 512) (hw : w = fun k => aW m c (ix2 k n)) :
    val (iblk m c 0 t : Vec Ideal S256x1024 .f32) (iblk m c 1 t : Vec Ideal S1x1024 .f32) r w = at' m c b s n := by
  subst hw
  unfold val at'
  rw [x_row m c t r b s hR, g_row]

theorem arr4 (b : Fin 4) (s : Fin 256) (R : Fin 1024) (hR : R.val = b.val * 256 + s.val) (j : Fin 256) (n : Fin 512) (hn : n.val = j.val) :
    ((dats m 0 c).arrAt 4 cfg0.N : FVec Ideal S1024x256 .bf16) (ix2 R j) = at' m c b s n := by
  obtain ⟨t, hb⟩ := point b
  have hr : b.val * 256 + s.val = (grid0.coords t 0).val * 256 + s.val := by rw [hb]
  have ht := tr4 (grid0.coords t)
  have ei : (win0_4.rect t).emb (ix2 s j) = (ix2 R j : S1024x256.Idx) := Cert.Proj.emb_eq win0_4 t _ _ rfl fun a => by
    match a with
    | ⟨0, _⟩ => show cc0_transform_4 (grid0.coords t) 0 * 256 + s.val = R.val; rw [ht.1, hb]; exact hR.symm
    | ⟨1, _⟩ => exact (congrArg (· * 256 + j.val) ht.2).trans (Cert.Proj.zero_block 256 j.val)
  refine (congrArg _ ei.symm).trans ((congrFun ((Value.blocks4 m c t (flush0_4 t)).trans (Value.flushed4 m c t)) (ix2 s j)).trans ?_)
  exact (k_val _ _ _ _ s j n hn).trans (val_eq m c t s b s hr _ n (w_col m c t n))

theorem arr5 (b : Fin 4) (s : Fin 256) (j : Fin 256) (n : Fin 512) (hn : n.val = j.val) :
    ((dats m 0 c).arrAt 5 cfg0.N : FVec Ideal S4x256x256 .f32) (ix3 b j s) = at' m c b s n := by
  obtain ⟨t, hb⟩ := point b
  have hr : b.val * 256 + s.val = (grid0.coords t 0).val * 256 + s.val := by rw [hb]
  have ht := tr5 (grid0.coords t)
  have ei : (win0_5.rect t).emb (ix3 0 j s) = (ix3 b j s : S4x256x256.Idx) := Cert.Proj.emb_eq win0_5 t _ _ rfl fun a => by
    match a with
    | ⟨0, _⟩ => show cc0_transform_5 (grid0.coords t) 0 * 1 + 0 = b.val; rw [ht.1, hb, Nat.mul_one, Nat.add_zero]
    | ⟨1, _⟩ => exact (congrArg (· * 256 + j.val) ht.2.1).trans (Cert.Proj.zero_block 256 j.val)
    | ⟨2, _⟩ => exact (congrArg (· * 256 + s.val) ht.2.2).trans (Cert.Proj.zero_block 256 s.val)
  refine (congrArg _ ei.symm).trans ((congrFun ((Value.blocks5 m c t (flush0_5 t)).trans (Value.flushed5 m c t)) (ix3 0 j s)).trans ?_)
  exact (kt_val _ _ _ _ s j n hn).trans (val_eq m c t s b s hr _ n (t_row m c t n))

theorem arr6 (b : Fin 4) (s : Fin 256) (j : Fin 256) (n : Fin 512) (hn : n.val = 256 + j.val) :
    ((dats m 0 c).arrAt 6 cfg0.N : FVec Ideal S4x256x256 .f32) (ix3 b j s) = at' m c b s n := by
  obtain ⟨t, hb⟩ := point b
  have hr : b.val * 256 + s.val = (grid0.coords t 0).val * 256 + s.val := by rw [hb]
  have ht := tr6 (grid0.coords t)
  have ei : (win0_6.rect t).emb (ix3 0 j s) = (ix3 b j s : S4x256x256.Idx) := Cert.Proj.emb_eq win0_6 t _ _ rfl fun a => by
    match a with
    | ⟨0, _⟩ => show cc0_transform_6 (grid0.coords t) 0 * 1 + 0 = b.val; rw [ht.1, hb, Nat.mul_one, Nat.add_zero]
    | ⟨1, _⟩ => exact (congrArg (· * 256 + j.val) ht.2.1).trans (Cert.Proj.zero_block 256 j.val)
    | ⟨2, _⟩ => exact (congrArg (· * 256 + s.val) ht.2.2).trans (Cert.Proj.zero_block 256 s.val)
  refine (congrArg _ ei.symm).trans ((congrFun ((Value.blocks6 m c t (flush0_6 t)).trans (Value.flushed6 m c t)) (ix3 0 j s)).trans ?_)
  exact (vt_val _ _ _ _ s j n hn).trans (val_eq m c t s b s hr _ n (t_row m c t n))

theorem arr7 (b : Fin 4) (s : Fin 256) (R : Fin 1024) (hR : R.val = b.val * 256 + s.val) (j : Fin 256) (n : Fin 512) (hn : n.val = 256 + j.val) :
    ((dats m 0 c).arrAt 7 cfg0.N : FVec Ideal S256x1024 .bf16) (ix2 j R) = at' m c b s n := by
  obtain ⟨t, hb⟩ := point b
  have hr : b.val * 256 + s.val = (grid0.coords t 0).val * 256 + s.val := by rw [hb]
  have ht := tr7 (grid0.coords t)
  have ei : (win0_7.rect t).emb (ix2 j s) = (ix2 j R : S256x1024.Idx) := Cert.Proj.emb_eq win0_7 t _ _ rfl fun a => by
    match a with
    | ⟨0, _⟩ => exact (congrArg (· * 256 + j.val) ht.1).trans (Cert.Proj.zero_block 256 j.val)
    | ⟨1, _⟩ => show cc0_transform_7 (grid0.coords t) 1 * 256 + s.val = R.val; rw [ht.2, hb]; exact hR.symm
  refine (congrArg _ ei.symm).trans ((congrFun ((Value.blocks7 m c t (flush0_7 t)).trans (Value.flushed7 m c t)) (ix2 j s)).trans ?_)
  exact (v_val _ _ _ _ s j n hn).trans (val_eq m c t s b s hr _ n (t_row m c t n))
end Host

end Cert.Kernel5Ideal.Memkv
-- ==== Proof.MemkvRef.lean ====
module

public import proofs.«01_k».proof.Proof.Gen.Reference5Ideal.Run
public import proofs.«01_k».proof.Proof.Proj

@[expose] public section

set_option maxRecDepth 1024

noncomputable section

namespace Cert.Reference5Ideal.Memkv

open Idealize.ShloMosaic Idealize.ShloMosaic.TcCoe Idealize.SL.Sem
open Cert.Reference5Ideal Cert.Reference5Ideal.Gen

/-! ## The reference's terms -/

section Terms
variable (x : FVec Ideal S4x256x1024 .f32) (g : FVec Ideal S1024 .f32) (w : FVec Ideal S1024x512 .f32)

/-- Every column of the projection. -/
def z : FVec Ideal S4x256x512 .f32 :=
  Host.dotGeneral (F := Ideal) (φ₁ := .f32) (φ₂ := .f32) dot_S4x256x1024_S1024x512_S4x256x512_2_0_01_1_n_n none
    (Cert.Proj.hostRms reducesTo_S4x256x1024_S4x256_d2 h_S_ bcast_S4x256_S4x256x1_0_1 bcast_S_S4x256x1 bcast_S4x256x1_S4x256x1024_0_1_2
      bcast_S1x1x1024_S4x256x1024_0_1_2 bcast_S1024_S1x1x1024_2 x g) w

def keys : FVec Ideal S4x256x256 .f32 := extractStridedSlice S4x256x256 ![0, 0, 0] (z x g w) slices_S4x256x512_S4x256x256_0_0_0

def vals : FVec Ideal S4x256x256 .f32 := extractStridedSlice S4x256x256 ![0, 0, 256] (z x g w) slices_S4x256x512_S4x256x256_0_0_256

def k : FVec Ideal S1024x256 .bf16 := truncf .bf16 (shapeCast S1024x256 (keys x g w) shapeCasts_S4x256x256_S1024x256) bitsLt_bf16_f32

def kt : FVec Ideal S4x256x256 .f32 := transpose S4x256x256 [0, 2, 1] (keys x g w) transposes_S4x256x256_S4x256x256_0_2_1

def vt : FVec Ideal S4x256x256 .f32 := transpose S4x256x256 [0, 2, 1] (vals x g w) transposes_S4x256x256_S4x256x256_0_2_1

def v : FVec Ideal S256x1024 .bf16 :=
  truncf .bf16 (transpose S256x1024 [1, 0] (shapeCast S1024x256 (vals x g w) shapeCasts_S4x256x256_S1024x256) transposes_S1024x256_S256x1024_1_0) bitsLt_bf16_f32

/-! ## Read at an entry -/

variable (b : Fin 4) (s : Fin 256)

theorem z_apply (n : Fin 512) : z x g w (ix3 b s n) = Cert.Proj.dot (fun k => x (ix3 b s k)) (fun k => g (ix1 k)) (fun k => w (ix2 k n)) := by
  unfold z Cert.Proj.dot
  refine (Cert.Proj.hostRows_apply dot_S4x256x1024_S1024x512_S4x256x512_2_0_01_1_n_n_wf _ w b s n).trans (Finset.sum_congr rfl fun k _ => ?_)
  rw [Cert.Proj.hostRms_apply _ _ _ _ _ _ _ (by decide)]

theorem k_apply (R : Fin 1024) (hR : R.val = b.val * 256 + s.val) (j : Fin 256) (n : Fin 512) (hn : n.val = j.val) : k x g w (ix2 R j) = z x g w (ix3 b s n) :=
  (Cert.Proj.flat (φ := .f32) (keys x g w) shapeCasts_S4x256x256_S1024x256 b s j R hR).trans (Cert.Proj.cols_of _ _ b s j n (hn.trans (Nat.zero_add _).symm))

theorem kt_apply (j : Fin 256) (n : Fin 512) (hn : n.val = j.val) : kt x g w (ix3 b j s) = z x g w (ix3 b s n) :=
  (Cert.Proj.turn (φ := .f32) (keys x g w) transposes_S4x256x256_S4x256x256_0_2_1 b s j).trans (Cert.Proj.cols_of _ _ b s j n (hn.trans (Nat.zero_add _).symm))

theorem vt_apply (j : Fin 256) (n : Fin 512) (hn : n.val = 256 + j.val) : vt x g w (ix3 b j s) = z x g w (ix3 b s n) :=
  (Cert.Proj.turn (φ := .f32) (vals x g w) transposes_S4x256x256_S4x256x256_0_2_1 b s j).trans (Cert.Proj.cols_of _ _ b s j n hn)

theorem v_apply (R : Fin 1024) (hR : R.val = b.val * 256 + s.val) (j : Fin 256) (n : Fin 512) (hn : n.val = 256 + j.val) : v x g w (ix2 j R) = z x g w (ix3 b s n) := by
  unfold v
  show transpose S256x1024 [1, 0] (shapeCast S1024x256 (vals x g w) shapeCasts_S4x256x256_S1024x256) transposes_S1024x256_S256x1024_1_0 (ix2 j R) = _
  refine (transpose_apply _ _ _ (ix2 j R) (ix2 R j) fun a => ?_).trans
    ((Cert.Proj.flat (φ := .f32) (vals x g w) shapeCasts_S4x256x256_S1024x256 b s j R hR).trans (Cert.Proj.cols_of _ _ b s j n hn))
  match a with
  | ⟨0, _⟩ => rfl
  | ⟨1, _⟩ => rfl
end Terms

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = k (m ((c.tc : Thread nD τ).loc main_arg0)) (m ((c.tc : Thread nD τ).loc main_arg1)) (m ((c.tc : Thread nD τ).loc main_arg2))
      ∧ r.2.mem ((c.tc : Thread nD τ).loc main_v18) = kt (m ((c.tc : Thread nD τ).loc main_arg0)) (m ((c.tc : Thread nD τ).loc main_arg1)) (m ((c.tc : Thread nD τ).loc main_arg2))
      ∧ r.2.mem ((c.tc : Thread nD τ).loc main_v19) = vt (m ((c.tc : Thread nD τ).loc main_arg0)) (m ((c.tc : Thread nD τ).loc main_arg1)) (m ((c.tc : Thread nD τ).loc main_arg2))
      ∧ r.2.mem ((c.tc : Thread nD τ).loc main_v22) = v (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference5Ideal.Memkv
-- ==== Proof.Inproj.lean ====
module

public import proofs.«01_k».proof.Proof.Gen.Kernel6Ideal.Value
public import proofs.«01_k».proof.Proof.Proj
public import Idealize.ShloMosaic.Lib.StableHlo.Run

@[expose] public section

set_option maxRecDepth 16384

noncomputable section

namespace Cert.Kernel6Ideal.Inproj

open Idealize.ShloMosaic Idealize.ShloMosaic.TcCoe Idealize.SL.Sem
open Cert.Kernel6Ideal Cert.Kernel6Ideal.Gen
open scoped BigOperators

/-! ## What the body leaves in its blocks -/

section Body
variable (x0 : Vec Ideal S512x1024 .f32) (x1 : Vec Ideal S1x1024 .f32) (x2 : Vec Ideal S1024x2560 .bf16) (x3 : Vec Ideal S1536x1024 .bf16)

/-- The block's normalized rows. -/
abbrev nB : FVec Ideal S512x1024 .bf16 :=
  truncf .bf16 (Cert.Proj.normed reduces_S512x1024_S512 shapeCasts_S512_S512x1 broadcasts_S512x1_S512x1024 broadcasts_S1x1024_S512x1024 x0 x1) bitsLt_bf16_f32

theorem nB_eq : k0_pay6 (F := Ideal) (View.ld x0 r0_0) (View.ld x1 r0_1) = nB x0 x1 := by
  have e0 : shapeCast S512x1024 (View.ld (Val := Elt Ideal) x0 r0_0) shapeCasts_S512x1024_S512x1024 = x0 :=
    (shapeCast_id (s := S512x1024) _ _).trans (View.ld_unit_zero (by decide) _ x0)
  have e1 : shapeCast S1x1024 (View.ld (Val := Elt Ideal) x1 r0_1) shapeCasts_S1x1024_S1x1024 = x1 :=
    (shapeCast_id (s := S1x1024) _ _).trans (View.ld_unit_zero (by decide) _ x1)
  show nB (shapeCast S512x1024 (View.ld (Val := Elt Ideal) x0 r0_0) shapeCasts_S512x1024_S512x1024)
    (shapeCast S1x1024 (View.ld (Val := Elt Ideal) x1 r0_1) shapeCasts_S1x1024_S1x1024) = _
  rw [e0, e1]

/-- A block's row against a column. -/
abbrev val (r : Fin 512) (w : Fin 1024 → EReal) : EReal := Cert.Proj.dot (fun k => x0 (ix2 r k)) (fun k => x1 (ix2 0 k)) w

theorem q_val (r : Fin 512) (j : Fin 768) (J : Fin 2560) (hJ : J.val = j.val) :
    out0_4 x0 x1 x2 x3 (ix2 r j) = val x0 x1 r (fun k => x2 (ix2 k J)) * ((-((8 * Real.log 2)⁻¹) : ℝ) : EReal) := by
  have e : out0_4 x0 x1 x2 x3 = k0_pay7 (View.ld x0 r0_0) (View.ld x1 r0_1) (View.ld x2 r0_2) := View.canon_unit_zero (by decide) _ _
  rw [e]
  show matmul (φ₁ := .bf16) (φ₂ := .bf16) dot_S512x1024_S1024x768_S512x768_1_0_0_1_n_n none (k0_pay6 (F := Ideal) (View.ld x0 r0_0) (View.ld x1 r0_1))
    (shapeCast S1024x768 (View.ld (Val := Elt Ideal) x2 r0_2) shapeCasts_S1024x768_S1024x768) (constant S512x768 .f32 0x00000000#32) (ix2 r j)
    * ((-((8 * Real.log 2)⁻¹) : ℝ) : EReal) = _
  have e2 : shapeCast S1024x768 (View.ld (Val := Elt Ideal) x2 r0_2) shapeCasts_S1024x768_S1024x768 = View.ld (Val := Elt Ideal) x2 r0_2 :=
    shapeCast_id (s := S1024x768) _ _
  rw [nB_eq, e2]
  exact congrArg (· * ((-((8 * Real.log 2)⁻¹) : ℝ) : EReal)) (Cert.Proj.block_rows _ _ _ _ _ x0 x1 x2 _ r j J (hJ.trans (Nat.zero_add _).symm))

theorem qm_val (r : Fin 512) (j : Fin 256) (J : Fin 2560) (hJ : J.val = 2304 + j.val) :
    out0_5 x0 x1 x2 x3 (ix2 r j) = val x0 x1 r (fun k => x2 (ix2 k J)) * (((8 * Real.log 2)⁻¹ : ℝ) : EReal) := by
  have e : out0_5 x0 x1 x2 x3 = k0_pay8 (View.ld x0 r0_0) (View.ld x1 r0_1) (View.ld x2 r0_4) := View.canon_unit_zero (by decide) _ _
  rw [e]
  show matmul (φ₁ := .bf16) (φ₂ := .bf16) dot_S512x1024_S1024x256_S512x256_1_0_0_1_n_n none (k0_pay6 (F := Ideal) (View.ld x0 r0_0) (View.ld x1 r0_1))
    (shapeCast S1024x256 (View.ld (Val := Elt Ideal) x2 r0_4) shapeCasts_S1024x256_S1024x256) (constant S512x256 .f32 0x00000000#32) (ix2 r j)
    * (((8 * Real.log 2)⁻¹ : ℝ) : EReal) = _
  have e2 : shapeCast S1024x256 (View.ld (Val := Elt Ideal) x2 r0_4) shapeCasts_S1024x256_S1024x256 = View.ld (Val := Elt Ideal) x2 r0_4 :=
    shapeCast_id (s := S1024x256) _ _
  rw [nB_eq, e2]
  exact congrArg (· * (((8 * Real.log 2)⁻¹ : ℝ) : EReal)) (Cert.Proj.block_rows _ _ _ _ _ x0 x1 x2 _ r j J hJ)

theorem k_val (r : Fin 512) (j : Fin 768) (J : Fin 2560) (hJ : J.val = 768 + j.val) :
    out0_6 x0 x1 x2 x3 (ix2 r j) = val x0 x1 r (fun k => x2 (ix2 k J)) := by
  have e : out0_6 x0 x1 x2 x3 = k0_pay9 (View.ld x0 r0_0) (View.ld x1 r0_1) (View.ld x2 r0_6) := View.canon_unit_zero (by decide) _ _
  rw [e]
  show matmul (φ₁ := .bf16) (φ₂ := .bf16) dot_S512x1024_S1024x768_S512x768_1_0_0_1_n_n none (k0_pay6 (F := Ideal) (View.ld x0 r0_0) (View.ld x1 r0_1))
    (shapeCast S1024x768 (View.ld (Val := Elt Ideal) x2 r0_6) shapeCasts_S1024x768_S1024x768) (constant S512x768 .f32 0x00000000#32) (ix2 r j) = _
  have e2 : shapeCast S1024x768 (View.ld (Val := Elt Ideal) x2 r0_6) shapeCasts_S1024x768_S1024x768 = View.ld (Val := Elt Ideal) x2 r0_6 :=
    shapeCast_id (s := S1024x768) _ _
  rw [nB_eq, e2]
  exact Cert.Proj.block_rows _ _ _ _ _ x0 x1 x2 _ r j J hJ

/-- A product of the turned weight with the block's rows, read at an entry. -/
theorem turned {o : ℕ} (inb : ∀ a : Fin 2, (![o, 0] : Fin 2 → ℕ) a + (![768, 1024] : Fin 2 → ℕ) a ≤ S1536x1024.size a)
    (r : Fin 512) (j : Fin 768) (J : Fin 1536) (hJ : J.val = o + j.val) :
    k0_pay2 (F := Ideal) (k0_pay6 (F := Ideal) (View.ld x0 r0_0) (View.ld x1 r0_1)) (View.ld x3 (Rect.unit (s := S1536x1024) ![o, 0] ![768, 1024] inb)) (ix2 j r)
      = val x0 x1 r (fun k => x3 (ix2 J k)) := by
  show matmul (φ₁ := .bf16) (φ₂ := .bf16) dot_S768x1024_S512x1024_S768x512_1_1_0_0_n_n none
    (shapeCast S768x1024 (View.ld (Val := Elt Ideal) x3 (Rect.unit (s := S1536x1024) ![o, 0] ![768, 1024] inb)) shapeCasts_S768x1024_S768x1024)
    (k0_pay6 (F := Ideal) (View.ld x0 r0_0) (View.ld x1 r0_1)) (constant S768x512 .f32 0x00000000#32) (ix2 j r) = _
  rw [nB_eq, shapeCast_id]
  exact Cert.Proj.block_cols _ _ _ _ _ x0 x1 x3 _ r j J hJ

/-- A block turned to columns holds the product as its one page. -/
theorem page_apply (z : FVec Ideal S768x512 .f32) (r : Fin 512) (j : Fin 768) : shapeCast S1x768x512 z shapeCasts_S768x512_S1x768x512 (ix3 0 j r) = z (ix2 j r) := by
  refine shapeCast_apply _ _ (ix3 0 j r) (ix2 j r) ?_
  rw [Shape.rowMajor_val_two, Shape.rowMajor_val_three]
  show j.val * 512 + r.val = (0 * 768 + j.val) * 512 + r.val
  omega

theorem kt_val (r : Fin 512) (j : Fin 768) (J : Fin 1536) (hJ : J.val = j.val) :
    out0_7 x0 x1 x2 x3 (ix3 0 j r) = val x0 x1 r (fun k => x3 (ix2 J k)) := by
  have e : out0_7 x0 x1 x2 x3 = k0_pay1 (k0_pay10 x0 x1 x2 x3) (View.ld x3 r0_7) := View.canon_unit_zero (by decide) _ _
  rw [e]
  exact (page_apply _ r j).trans (turned x0 x1 x3 _ r j J (hJ.trans (Nat.zero_add _).symm))

theorem vt_val (r : Fin 512) (j : Fin 768) (J : Fin 1536) (hJ : J.val = 768 + j.val) :
    out0_8 x0 x1 x2 x3 (ix3 0 j r) = val x0 x1 r (fun k => x3 (ix2 J k)) := by
  have e : out0_8 x0 x1 x2 x3 = k0_pay3 (k0_pay10 x0 x1 x2 x3) (View.ld x3 r0_9) := View.canon_unit_zero (by decide) _ _
  rw [e]
  exact (page_apply _ r j).trans (turned x0 x1 x3 _ r j J hJ)

theorem v3_val (p : Fin 2) (l : Fin 256) (j : Fin 768) (r : Fin 512) (hr : r.val = p.val * 256 + l.val) (J : Fin 1536) (hJ : J.val = 768 + j.val) :
    out0_9 x0 x1 x2 x3 (ix3 p j l) = val x0 x1 r (fun k => x3 (ix2 J k)) := by
  refine (Value.canon9_eq (F := Ideal) (View.ld x0 r0_0) (View.ld x1 r0_1) (View.ld x3 r0_9) (ix3 p j l)).trans ?_
  have e : Value.ix9_0 (ix3 p j l) = (ix2 j r : S768x512.Idx) := funext fun a => Fin.ext (by
    match a with
    | ⟨0, _⟩ => rfl
    | ⟨1, _⟩ => exact hr.symm)
  refine Eq.trans ?_ (turned x0 x1 x3 inb_S1536x1024_S768x1024_768_0 r j J hJ)
  rw [← e]
  rfl
end Body

/-! ## What the host prepares -/

theorem tr0 : ∀ i : grid0.Coords, cc0_transform_0 i 0 = (i 0).val ∧ cc0_transform_0 i 1 = 0 := by decide +kernel
theorem tr1 : ∀ i : grid0.Coords, cc0_transform_1 i = ![0, 0] := by decide +kernel
theorem tr2 : ∀ i : grid0.Coords, cc0_transform_2 i = ![0, 0] := by decide +kernel
theorem tr3 : ∀ i : grid0.Coords, cc0_transform_3 i = ![0, 0] := by decide +kernel
theorem tr4 : ∀ i : grid0.Coords, cc0_transform_4 i 0 = (i 0).val ∧ cc0_transform_4 i 1 = 0 := by decide +kernel
theorem tr5 : ∀ i : grid0.Coords, cc0_transform_5 i 0 = (i 0).val ∧ cc0_transform_5 i 1 = 0 := by decide +kernel
theorem tr6 : ∀ i : grid0.Coords, cc0_transform_6 i 0 = (i 0).val ∧ cc0_transform_6 i 1 = 0 := by decide +kernel
theorem tr7 : ∀ i : grid0.Coords, cc0_transform_7 i = ![(i 0).val / 8, 0, (i 0).val % 8] := by decide +kernel
theorem tr8 : ∀ i : grid0.Coords, cc0_transform_8 i = ![(i 0).val / 8, 0, (i 0).val % 8] := by decide +kernel
theorem tr9 : ∀ i : grid0.Coords, cc0_transform_9 i 0 = (i 0).val ∧ cc0_transform_9 i 1 = 0 ∧ cc0_transform_9 i 2 = 0 := by decide +kernel

section Host
variable (m : (ℓ : Loc nD τ sig) → Buf (Elt Ideal) ℓ) (c : Dev nD)

abbrev aX : FVec Ideal S4x4096x1024 .f32 := m ((c : Thread nD τ).loc main_arg0)
abbrev aG : FVec Ideal S1024 .f32 := m ((c : Thread nD τ).loc main_arg1)
abbrev aW : FVec Ideal S1024x2560 .f32 := m ((c : Thread nD τ).loc main_arg2)

theorem V_x : @Eq (FVec Ideal S16384x1024 .f32) (V m c main_v3) (shapeCast S16384x1024 (aX m c) shapeCasts_S4x4096x1024_S16384x1024) := by
  show StableHlo.after hostOps0 _ (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g : @Eq (FVec Ideal S1x1024 .f32) (V m c main_v4) (broadcastInDim S1x1024 ![1] bcast_S1024_S1x1024_1 (aG m c)) := by
  show StableHlo.after hostOps0 _ (Proc.devRef .tc main_v4) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_w : @Eq (FVec Ideal S1024x2560 .bf16) (V m c main_v5) (truncf .bf16 (aW m c) bitsLt_bf16_f32) := by
  show StableHlo.after hostOps0 _ (Proc.devRef .tc main_v5) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_t : @Eq (FVec Ideal S1536x1024 .bf16) (V m c main_v2)
    (truncf .bf16 (transpose S1536x1024 [1, 0] (extractStridedSlice S1024x1536 ![0, 768] (aW m c) slices_S1024x2560_S1024x1536_0_768) transposes_S1024x1536_S1536x1024_1_0) bitsLt_bf16_f32) := by
  show StableHlo.after hostOps0 _ (Proc.devRef .tc main_v2) = _
  simp only [hostOps0, StableHlo.TRef.binary, StableHlo.TRef.nullary, StableHlo.TRef.ternary, StableHlo.TRef.unary, StableHlo.TRef.toBuf, StableHlo.TRef.ofBuf, cast_eq]
  after_results_simp
  all_goals rfl

/-- A normalized row against a column of the weight. -/
def at' (b : Fin 4) (s : Fin 4096) (n : Fin 2560) : EReal :=
  Cert.Proj.dot (fun k => aX m c (ix3 b s k)) (fun k => aG m c (ix1 k)) (fun k => aW m c (ix2 k n))

/-! ## What a grid point's blocks hold -/

theorem x_row (t : Fin cfg0.N) (r : Fin 512) (b : Fin 4) (s : Fin 4096) (hR : b.val * 4096 + s.val = (grid0.coords t 0).val * 512 + r.val) :
    (fun k : Fin 1024 => (iblk m c 0 t : Vec Ideal S512x1024 .f32) (ix2 r k)) = fun k => aX m c (ix3 b s k) := funext fun k => by
  have hb := b.isLt
  have hs := s.isLt
  obtain ⟨R, hR'⟩ : ∃ R : Fin 16384, R.val = b.val * 4096 + s.val := ⟨⟨b.val * 4096 + s.val, by omega⟩, rfl⟩
  have ht := tr0 (grid0.coords t)
  have ei : (win0_0.rect t).emb (ix2 r k) = (ix2 R k : S16384x1024.Idx) := Cert.Proj.emb_eq win0_0 t _ _ rfl fun a => by
    match a with
    | ⟨0, _⟩ => show cc0_transform_0 (grid0.coords t) 0 * 512 + r.val = R.val; rw [ht.1, hR', hR]
    | ⟨1, _⟩ => exact (congrArg (· * 1024 + k.val) (ht.2)).trans (Cert.Proj.zero_block 1024 k.val)
  show V m c main_v3 ((win0_0.rect t).emb (ix2 r k)) = _
  refine (congrArg _ ei).trans ((congrFun (V_x m c) _).trans (shapeCast_apply _ _ (ix2 R k) (ix3 b s k) ?_))
  rw [Shape.rowMajor_val_three, Shape.rowMajor_val_two]
  show (b.val * 4096 + s.val) * 1024 + k.val = R.val * 1024 + k.val
  rw [hR']

theorem g_row (t : Fin cfg0.N) : (fun k : Fin 1024 => (iblk m c 1 t : Vec Ideal S1x1024 .f32) (ix2 0 k)) = fun k => aG m c (ix1 k) := funext fun k => by
  have ht := tr1 (grid0.coords t)
  have ei : (win0_1.rect t).emb (ix2 0 k) = (ix2 0 k : S1x1024.Idx) := Cert.Proj.emb_eq win0_1 t _ _ rfl fun a => by
    match a with
    | ⟨0, _⟩ => exact congrArg (· * 1 + 0) (congrFun ht 0)
    | ⟨1, _⟩ => exact (congrArg (· * 1024 + k.val) (congrFun ht 1)).trans (Cert.Proj.zero_block 1024 k.val)
  show V m c main_v4 ((win0_1.rect t).emb (ix2 0 k)) = _
  refine (congrArg _ ei).trans ((congrFun (V_g m c) _).trans (broadcastInDim_apply _ _ _ (ix2 0 k) (ix1 k) fun a => ?_))
  match a with
  | ⟨0, _⟩ => rfl

theorem w_col (t : Fin cfg0.N) (n : Fin 2560) : (fun k : Fin 1024 => (iblk m c 2 t : Vec Ideal S1024x2560 .bf16) (ix2 k n)) = fun k => aW m c (ix2 k n) := funext fun k => by
  have ht := tr2 (grid0.coords t)
  have ei : (win0_2.rect t).emb (ix2 k n) = (ix2 k n : S1024x2560.Idx) := Cert.Proj.emb_eq win0_2 t _ _ rfl fun a => by
    match a with
    | ⟨0, _⟩ => exact (congrArg (· * 1024 + k.val) (congrFun ht 0)).trans (Cert.Proj.zero_block 1024 k.val)
    | ⟨1, _⟩ => exact (congrArg (· * 2560 + n.val) (congrFun ht 1)).trans (Cert.Proj.zero_block 2560 n.val)
  show V m c main_v5 ((win0_2.rect t).emb (ix2 k n)) = _
  exact (congrArg _ ei).trans (congrFun (V_w m c) _)

theorem t_row (t : Fin cfg0.N) (n : Fin 1536) (N : Fin 2560) (hN : N.val = 768 + n.val) :
    (fun k : Fin 1024 => (iblk m c 3 t : Vec Ideal S1536x1024 .bf16) (ix2 n k)) = fun k => aW m c (ix2 k N) := funext fun k => by
  have ht := tr3 (grid0.coords t)
  have ei : (win0_3.rect t).emb (ix2 n k) = (ix2 n k : S1536x1024.Idx) := Cert.Proj.emb_eq win0_3 t _ _ rfl fun a => by
    match a with
    | ⟨0, _⟩ => exact (congrArg (· * 1536 + n.val) (congrFun ht 0)).trans (Cert.Proj.zero_block 1536 n.val)
    | ⟨1, _⟩ => exact (congrArg (· * 1024 + k.val) (congrFun ht 1)).trans (Cert.Proj.zero_block 1024 k.val)
  show V m c main_v2 ((win0_3.rect t).emb (ix2 n k)) = _
  refine (congrArg _ ei).trans ((congrFun (V_t m c) _).trans ?_)
  show transpose S1536x1024 [1, 0] (extractStridedSlice S1024x1536 ![0, 768] (aW m c) slices_S1024x2560_S1024x1536_0_768) transposes_S1024x1536_S1536x1024_1_0 (ix2 n k) = _
  refine (transpose_apply _ _ _ (ix2 n k) (ix2 k n) fun a => ?_).trans (extractStridedSlice_apply _ _ _ _ (ix2 k N) fun a => ?_)
  · match a with
    | ⟨0, _⟩ => rfl
    | ⟨1, _⟩ => rfl
  · match a with
    | ⟨0, _⟩ => exact (Nat.zero_add _).symm
    | ⟨1, _⟩ => exact hN

theorem point (R : ℕ) (hR : R < 16384) : ∃ (t : Fin cfg0.N) (r : Fin 512), R = (grid0.coords t 0).val * 512 + r.val := by
  obtain ⟨t, ht⟩ : ∃ t : Fin cfg0.N, t.val = R / 512 := ⟨⟨R / 512, by show _ < grid0.N; rw [N_0]; omega⟩, rfl⟩
  have c0 : (grid0.coords t 0).val = R / 512 := (Pipeline.Grid.coords_val (G := grid0) t 0 (S := 1) (B := 32) (by decide) rfl).trans (by omega)
  exact ⟨t, ⟨R % 512, Nat.mod_lt _ (by decide)⟩, by rw [c0]; show R = R / 512 * 512 + R % 512; omega⟩

/-! ## The kernel's results -/

theorem val_eq (t : Fin cfg0.N) (r : Fin 512) (b : Fin 4) (s : Fin 4096) (hR : b.val * 4096 + s.val = (grid0.coords t 0).val * 512 + r.val)
    (w : Fin 1024 → EReal) (n : Fin 2560) (hw : w = fun k => aW m c (ix2 k n)) :
    val (iblk m c 0 t : Vec Ideal S512x1024 .f32) (iblk m c 1 t : Vec Ideal S1x1024 .f32) r w = at' m c b s n := by
  subst hw
  unfold val at'
  rw [x_row m c t r b s hR, g_row]

theorem arr4 (b : Fin 4) (s : Fin 4096) (R : Fin 16384) (hR : R.val = b.val * 4096 + s.val) (j : Fin 768) (n : Fin 2560) (hn : n.val = j.val) :
    ((dats m 0 c).arrAt 4 cfg0.N : FVec Ideal S16384x768 .bf16) (ix2 R j) = at' m c b s n * ((-((8 * Real.log 2)⁻¹) : ℝ) : EReal) := by
  obtain ⟨t, r, hr⟩ := point R.val R.isLt
  have ht := tr4 (grid0.coords t)
  have ei : (win0_4.rect t).emb (ix2 r j) = (ix2 R j : S16384x768.Idx) := Cert.Proj.emb_eq win0_4 t _ _ rfl fun a => by
    match a with
    | ⟨0, _⟩ => show cc0_transform_4 (grid0.coords t) 0 * 512 + r.val = R.val; rw [ht.1]; exact hr.symm
    | ⟨1, _⟩ => exact (congrArg (· * 768 + j.val) (ht.2)).trans (Cert.Proj.zero_block 768 j.val)
  refine (congrArg _ ei.symm).trans ((congrFun ((Value.blocks4 m c t (flush0_4 t)).trans (Value.flushed4 m c t)) (ix2 r j)).trans ?_)
  exact (q_val _ _ _ _ r j n hn).trans (congrArg (· * ((-((8 * Real.log 2)⁻¹) : ℝ) : EReal)) (val_eq m c t r b s (hR.symm.trans hr) _ n (w_col m c t n)))

theorem arr5 (b : Fin 4) (s : Fin 4096) (R : Fin 16384) (hR : R.val = b.val * 4096 + s.val) (j : Fin 256) (n : Fin 2560) (hn : n.val = 2304 + j.val) :
    ((dats m 0 c).arrAt 5 cfg0.N : FVec Ideal S16384x256 .bf16) (ix2 R j) = at' m c b s n * (((8 * Real.log 2)⁻¹ : ℝ) : EReal) := by
  obtain ⟨t, r, hr⟩ := point R.val R.isLt
  have ht := tr5 (grid0.coords t)
  have ei : (win0_5.rect t).emb (ix2 r j) = (ix2 R j : S16384x256.Idx) := Cert.Proj.emb_eq win0_5 t _ _ rfl fun a => by
    match a with
    | ⟨0, _⟩ => show cc0_transform_5 (grid0.coords t) 0 * 512 + r.val = R.val; rw [ht.1]; exact hr.symm
    | ⟨1, _⟩ => exact (congrArg (· * 256 + j.val) (ht.2)).trans (Cert.Proj.zero_block 256 j.val)
  refine (congrArg _ ei.symm).trans ((congrFun ((Value.blocks5 m c t (flush0_5 t)).trans (Value.flushed5 m c t)) (ix2 r j)).trans ?_)
  exact (qm_val _ _ _ _ r j n hn).trans (congrArg (· * (((8 * Real.log 2)⁻¹ : ℝ) : EReal)) (val_eq m c t r b s (hR.symm.trans hr) _ n (w_col m c t n)))

theorem arr6 (b : Fin 4) (s : Fin 4096) (R : Fin 16384) (hR : R.val = b.val * 4096 + s.val) (j : Fin 768) (n : Fin 2560) (hn : n.val = 768 + j.val) :
    ((dats m 0 c).arrAt 6 cfg0.N : FVec Ideal S16384x768 .bf16) (ix2 R j) = at' m c b s n := by
  obtain ⟨t, r, hr⟩ := point R.val R.isLt
  have ht := tr6 (grid0.coords t)
  have ei : (win0_6.rect t).emb (ix2 r j) = (ix2 R j : S16384x768.Idx) := Cert.Proj.emb_eq win0_6 t _ _ rfl fun a => by
    match a with
    | ⟨0, _⟩ => show cc0_transform_6 (grid0.coords t) 0 * 512 + r.val = R.val; rw [ht.1]; exact hr.symm
    | ⟨1, _⟩ => exact (congrArg (· * 768 + j.val) (ht.2)).trans (Cert.Proj.zero_block 768 j.val)
  refine (congrArg _ ei.symm).trans ((congrFun ((Value.blocks6 m c t (flush0_6 t)).trans (Value.flushed6 m c t)) (ix2 r j)).trans ?_)
  exact (k_val _ _ _ _ r j n hn).trans (val_eq m c t r b s (hR.symm.trans hr) _ n (w_col m c t n))

/-- Where a token's column lies among the pages of eight points each. -/
theorem page_at {g r b s : ℕ} (hs : s < 4096) (hr : r < 512) (h : b * 4096 + s = g * 512 + r) : g / 8 * 1 + 0 = b ∧ g % 8 * 512 + r = s := by omega

theorem arr7 (b : Fin 4) (s : Fin 4096) (j : Fin 768) (n : Fin 2560) (hn : n.val = 768 + j.val) :
    ((dats m 0 c).arrAt 7 cfg0.N : FVec Ideal S4x768x4096 .f32) (ix3 b j s) = at' m c b s n := by
  obtain ⟨t, r, hr⟩ := point (b.val * 4096 + s.val) (by have := b.isLt; have := s.isLt; omega)
  have ht := tr7 (grid0.coords t)
  have hp := page_at s.isLt r.isLt hr
  have ei : (win0_7.rect t).emb (ix3 0 j r) = (ix3 b j s : S4x768x4096.Idx) := Cert.Proj.emb_eq win0_7 t _ _ rfl fun a => by
    match a with
    | ⟨0, _⟩ => exact (congrArg (· * 1 + 0) (congrFun ht 0)).trans hp.1
    | ⟨1, _⟩ => exact (congrArg (· * 768 + j.val) (congrFun ht 1)).trans (Cert.Proj.zero_block 768 j.val)
    | ⟨2, _⟩ => exact (congrArg (· * 512 + r.val) (congrFun ht 2)).trans hp.2
  refine (congrArg _ ei.symm).trans ((congrFun ((Value.blocks7 m c t (flush0_7 t)).trans (Value.flushed7 m c t)) (ix3 0 j r)).trans ?_)
  exact (kt_val _ _ _ _ r j ⟨j.val, by have := j.isLt; omega⟩ rfl).trans (val_eq m c t r b s hr _ n (t_row m c t _ n hn))

theorem arr8 (b : Fin 4) (s : Fin 4096) (j : Fin 768) (n : Fin 2560) (hn : n.val = 1536 + j.val) :
    ((dats m 0 c).arrAt 8 cfg0.N : FVec Ideal S4x768x4096 .f32) (ix3 b j s) = at' m c b s n := by
  obtain ⟨t, r, hr⟩ := point (b.val * 4096 + s.val) (by have := b.isLt; have := s.isLt; omega)
  have ht := tr8 (grid0.coords t)
  have hp := page_at s.isLt r.isLt hr
  have ei : (win0_8.rect t).emb (ix3 0 j r) = (ix3 b j s : S4x768x4096.Idx) := Cert.Proj.emb_eq win0_8 t _ _ rfl fun a => by
    match a with
    | ⟨0, _⟩ => exact (congrArg (· * 1 + 0) (congrFun ht 0)).trans hp.1
    | ⟨1, _⟩ => exact (congrArg (· * 768 + j.val) (congrFun ht 1)).trans (Cert.Proj.zero_block 768 j.val)
    | ⟨2, _⟩ => exact (congrArg (· * 512 + r.val) (congrFun ht 2)).trans hp.2
  refine (congrArg _ ei.symm).trans ((congrFun ((Value.blocks8 m c t (flush0_8 t)).trans (Value.flushed8 m c t)) (ix3 0 j r)).trans ?_)
  exact (vt_val _ _ _ _ r j ⟨768 + j.val, by have := j.isLt; omega⟩ rfl).trans (val_eq m c t r b s hr _ n (t_row m c t _ n (hn.trans (by show _ = 768 + (768 + j.val); omega))))

theorem arr9 (b : Fin 4) (s : Fin 4096) (z : Fin 64) (l : Fin 256) (hz : z.val * 256 + l.val = b.val * 4096 + s.val) (j : Fin 768) (n : Fin 2560) (hn : n.val = 1536 + j.val) :
    ((dats m 0 c).arrAt 9 cfg0.N : FVec Ideal S64x768x256 .bf16) (ix3 z j l) = at' m c b s n := by
  have hl := l.isLt
  obtain ⟨t, r, hr⟩ := point (z.val * 256 + l.val) (by have := z.isLt; omega)
  have hr' := r.isLt
  obtain ⟨p, hp⟩ : ∃ p : Fin 2, p.val = r.val / 256 := ⟨⟨r.val / 256, by omega⟩, rfl⟩
  have ht := tr9 (grid0.coords t)
  have ei : (win0_9.rect t).emb (ix3 p j l) = (ix3 z j l : S64x768x256.Idx) := Cert.Proj.emb_eq win0_9 t _ _ rfl fun a => by
    match a with
    | ⟨0, _⟩ => show cc0_transform_9 (grid0.coords t) 0 * 2 + p.val = z.val; rw [ht.1]; omega
    | ⟨1, _⟩ => exact (congrArg (· * 768 + j.val) (ht.2.1)).trans (Cert.Proj.zero_block 768 j.val)
    | ⟨2, _⟩ => exact (congrArg (· * 256 + l.val) (ht.2.2)).trans (Cert.Proj.zero_block 256 l.val)
  refine (congrArg _ ei.symm).trans ((congrFun ((Value.blocks9 m c t (flush0_9 t)).trans (Value.flushed9 m c t)) (ix3 p j l)).trans ?_)
  exact (v3_val _ _ _ _ p l j r (by omega) ⟨768 + j.val, by have := j.isLt; omega⟩ rfl).trans
    (val_eq m c t r b s (hz.symm.trans hr) _ n (t_row m c t _ n (hn.trans (by show _ = 768 + (768 + j.val); omega))))
end Host

end Cert.Kernel6Ideal.Inproj
-- ==== Proof.InprojRef.lean ====
module

public import proofs.«01_k».proof.Proof.Gen.Reference6Ideal.Run
public import proofs.«01_k».proof.Proof.Proj

@[expose] public section

set_option maxRecDepth 16384

noncomputable section

namespace Cert.Reference6Ideal.Inproj

open Idealize.ShloMosaic Idealize.ShloMosaic.TcCoe Idealize.SL.Sem
open Cert.Reference6Ideal Cert.Reference6Ideal.Gen

/-! ## The reference's terms -/

section Terms
variable (x : FVec Ideal S4x4096x1024 .f32) (g : FVec Ideal S1024 .f32) (w : FVec Ideal S1024x2560 .f32)

/-- Every column of the projection. -/
def z : FVec Ideal S4x4096x2560 .f32 :=
  Host.dotGeneral (F := Ideal) (φ₁ := .f32) (φ₂ := .f32) dot_S4x4096x1024_S1024x2560_S4x4096x2560_2_0_01_1_n_n none
    (Cert.Proj.hostRms reducesTo_S4x4096x1024_S4x4096_d2 h_S_ bcast_S4x4096_S4x4096x1_0_1 bcast_S_S4x4096x1 bcast_S4x4096x1_S4x4096x1024_0_1_2
      bcast_S1x1x1024_S4x4096x1024_0_1_2 bcast_S1024_S1x1x1024_2 x g) w

def keys : FVec Ideal S4x4096x768 .f32 := extractStridedSlice S4x4096x768 ![0, 0, 768] (z x g w) slices_S4x4096x2560_S4x4096x768_0_0_768

def vals : FVec Ideal S4x4096x768 .f32 := extractStridedSlice S4x4096x768 ![0, 0, 1536] (z x g w) slices_S4x4096x2560_S4x4096x768_0_0_1536

def q : FVec Ideal S16384x768 .bf16 :=
  truncf .bf16 (shapeCast S16384x768 (Host.divf (Host.negf (mulf (extractStridedSlice S4x4096x768 ![0, 0, 0] (z x g w) slices_S4x4096x2560_S4x4096x768_0_0_0)
      (broadcastInDim S4x4096x768 ![] bcast_S_S4x4096x768 (constant S_ .f32 0x3E000000#32))))
    (broadcastInDim S4x4096x768 ![] bcast_S_S4x4096x768 (id (Host.log (constant S_ .f32 0x40000000#32))))) shapeCasts_S4x4096x768_S16384x768) bitsLt_bf16_f32

def qm : FVec Ideal S16384x256 .bf16 :=
  truncf .bf16 (shapeCast S16384x256 (Host.divf (mulf (extractStridedSlice S4x4096x256 ![0, 0, 2304] (z x g w) slices_S4x4096x2560_S4x4096x256_0_0_2304)
      (broadcastInDim S4x4096x256 ![] bcast_S_S4x4096x256 (constant S_ .f32 0x3E000000#32)))
    (broadcastInDim S4x4096x256 ![] bcast_S_S4x4096x256 (id (Host.log (constant S_ .f32 0x40000000#32))))) shapeCasts_S4x4096x256_S16384x256) bitsLt_bf16_f32

def kb : FVec Ideal S16384x768 .bf16 := truncf .bf16 (shapeCast S16384x768 (keys x g w) shapeCasts_S4x4096x768_S16384x768) bitsLt_bf16_f32

def kt : FVec Ideal S4x768x4096 .f32 := transpose S4x768x4096 [0, 2, 1] (keys x g w) transposes_S4x4096x768_S4x768x4096_0_2_1

def vt : FVec Ideal S4x768x4096 .f32 := transpose S4x768x4096 [0, 2, 1] (vals x g w) transposes_S4x4096x768_S4x768x4096_0_2_1

def v3 : FVec Ideal S64x768x256 .bf16 :=
  truncf .bf16 (transpose S64x768x256 [0, 2, 1] (shapeCast S64x256x768 (vals x g w) shapeCasts_S4x4096x768_S64x256x768) transposes_S64x256x768_S64x768x256_0_2_1) bitsLt_bf16_f32

/-! ## Read at an entry -/

variable (b : Fin 4) (s : Fin 4096)

theorem z_apply (n : Fin 2560) : z x g w (ix3 b s n) = Cert.Proj.dot (fun k => x (ix3 b s k)) (fun k => g (ix1 k)) (fun k => w (ix2 k n)) := by
  unfold z Cert.Proj.dot
  refine (Cert.Proj.hostRows_apply dot_S4x4096x1024_S1024x2560_S4x4096x2560_2_0_01_1_n_n_wf _ w b s n).trans (Finset.sum_congr rfl fun k _ => ?_)
  rw [Cert.Proj.hostRms_apply _ _ _ _ _ _ _ (by decide)]

theorem q_apply (R : Fin 16384) (hR : R.val = b.val * 4096 + s.val) (j : Fin 768) (n : Fin 2560) (hn : n.val = j.val) :
    q x g w (ix2 R j) = z x g w (ix3 b s n) * ((-((8 * Real.log 2)⁻¹) : ℝ) : EReal) := by
  unfold q
  refine (Cert.Proj.flat (φ := .f32) (Host.divf _ _) shapeCasts_S4x4096x768_S16384x768 b s j R hR).trans ?_
  show Ideal.div (-(extractStridedSlice S4x4096x768 ![0, 0, 0] (z x g w) slices_S4x4096x2560_S4x4096x768_0_0_0 (ix3 b s j) * Ideal.ofBits .f32 0x3E000000#32))
    (Ideal.log (Ideal.ofBits .f32 0x40000000#32)) = _
  rw [Cert.Proj.scale_neg]
  exact congrArg (· * ((-((8 * Real.log 2)⁻¹) : ℝ) : EReal)) (Cert.Proj.cols_of _ _ b s j n (hn.trans (Nat.zero_add _).symm))

theorem qm_apply (R : Fin 16384) (hR : R.val = b.val * 4096 + s.val) (j : Fin 256) (n : Fin 2560) (hn : n.val = 2304 + j.val) :
    qm x g w (ix2 R j) = z x g w (ix3 b s n) * (((8 * Real.log 2)⁻¹ : ℝ) : EReal) := by
  unfold qm
  refine (Cert.Proj.flat (φ := .f32) (Host.divf _ _) shapeCasts_S4x4096x256_S16384x256 b s j R hR).trans ?_
  show Ideal.div (extractStridedSlice S4x4096x256 ![0, 0, 2304] (z x g w) slices_S4x4096x2560_S4x4096x256_0_0_2304 (ix3 b s j) * Ideal.ofBits .f32 0x3E000000#32)
    (Ideal.log (Ideal.ofBits .f32 0x40000000#32)) = _
  rw [Cert.Proj.scale_pos]
  exact congrArg (· * (((8 * Real.log 2)⁻¹ : ℝ) : EReal)) (Cert.Proj.cols_of _ _ b s j n hn)

theorem kb_apply (R : Fin 16384) (hR : R.val = b.val * 4096 + s.val) (j : Fin 768) (n : Fin 2560) (hn : n.val = 768 + j.val) :
    kb x g w (ix2 R j) = z x g w (ix3 b s n) :=
  (Cert.Proj.flat (φ := .f32) (keys x g w) shapeCasts_S4x4096x768_S16384x768 b s j R hR).trans (Cert.Proj.cols_of _ _ b s j n hn)

theorem kt_apply (j : Fin 768) (n : Fin 2560) (hn : n.val = 768 + j.val) : kt x g w (ix3 b j s) = z x g w (ix3 b s n) :=
  (Cert.Proj.turn (φ := .f32) (keys x g w) transposes_S4x4096x768_S4x768x4096_0_2_1 b s j).trans (Cert.Proj.cols_of _ _ b s j n hn)

theorem vt_apply (j : Fin 768) (n : Fin 2560) (hn : n.val = 1536 + j.val) : vt x g w (ix3 b j s) = z x g w (ix3 b s n) :=
  (Cert.Proj.turn (φ := .f32) (vals x g w) transposes_S4x4096x768_S4x768x4096_0_2_1 b s j).trans (Cert.Proj.cols_of _ _ b s j n hn)

theorem v3_apply (p : Fin 64) (l : Fin 256) (hp : p.val * 256 + l.val = b.val * 4096 + s.val) (j : Fin 768) (n : Fin 2560) (hn : n.val = 1536 + j.val) :
    v3 x g w (ix3 p j l) = z x g w (ix3 b s n) :=
  (Cert.Proj.turn (φ := .f32) (shapeCast S64x256x768 (vals x g w) shapeCasts_S4x4096x768_S64x256x768) transposes_S64x256x768_S64x768x256_0_2_1 p l j).trans
    ((Cert.Proj.pages (φ := .f32) (vals x g w) shapeCasts_S4x4096x768_S64x256x768 b s j p l hp).trans (Cert.Proj.cols_of _ _ b s j n hn))
end Terms

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = q (m ((c.tc : Thread nD τ).loc main_arg0)) (m ((c.tc : Thread nD τ).loc main_arg1)) (m ((c.tc : Thread nD τ).loc main_arg2))
      ∧ r.2.mem ((c.tc : Thread nD τ).loc main_v34) = qm (m ((c.tc : Thread nD τ).loc main_arg0)) (m ((c.tc : Thread nD τ).loc main_arg1)) (m ((c.tc : Thread nD τ).loc main_arg2))
      ∧ r.2.mem ((c.tc : Thread nD τ).loc main_v36) = kb (m ((c.tc : Thread nD τ).loc main_arg0)) (m ((c.tc : Thread nD τ).loc main_arg1)) (m ((c.tc : Thread nD τ).loc main_arg2))
      ∧ r.2.mem ((c.tc : Thread nD τ).loc main_v37) = kt (m ((c.tc : Thread nD τ).loc main_arg0)) (m ((c.tc : Thread nD τ).loc main_arg1)) (m ((c.tc : Thread nD τ).loc main_arg2))
      ∧ r.2.mem ((c.tc : Thread nD τ).loc main_v38) = vt (m ((c.tc : Thread nD τ).loc main_arg0)) (m ((c.tc : Thread nD τ).loc main_arg1)) (m ((c.tc : Thread nD τ).loc main_arg2))
      ∧ r.2.mem ((c.tc : Thread nD τ).loc main_v41) = v3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference6Ideal.Inproj
-- ==== Proof.InprojSample.lean ====
module

public import proofs.«01_k».proof.Proof.Gen.Kernel7Ideal.Value
public import proofs.«01_k».proof.Proof.Proj
public import Idealize.ShloMosaic.Lib.StableHlo.Run

@[expose] public section

set_option maxRecDepth 16384

noncomputable section

namespace Cert.Kernel7Ideal.Inproj

open Idealize.ShloMosaic Idealize.ShloMosaic.TcCoe Idealize.SL.Sem
open Cert.Kernel7Ideal Cert.Kernel7Ideal.Gen
open scoped BigOperators

/-! ## What the body leaves in its blocks -/

section Body
variable (x0 : Vec Ideal S512x1024 .f32) (x1 : Vec Ideal S1x1024 .f32) (x2 : Vec Ideal S1024x2560 .bf16) (x3 : Vec Ideal S1536x1024 .bf16)

/-- The block's normalized rows. -/
abbrev nB : FVec Ideal S512x1024 .bf16 :=
  truncf .bf16 (Cert.Proj.normed reduces_S512x1024_S512 shapeCasts_S512_S512x1 broadcasts_S512x1_S512x1024 broadcasts_S1x1024_S512x1024 x0 x1) bitsLt_bf16_f32

theorem nB_eq : k0_pay2 (F := Ideal) (View.ld x0 r0_0) (View.ld x1 r0_1) = nB x0 x1 := by
  have e0 : shapeCast S512x1024 (View.ld (Val := Elt Ideal) x0 r0_0) shapeCasts_S512x1024_S512x1024 = x0 :=
    (shapeCast_id (s := S512x1024) _ _).trans (View.ld_unit_zero (by decide) _ x0)
  have e1 : shapeCast S1x1024 (View.ld (Val := Elt Ideal) x1 r0_1) shapeCasts_S1x1024_S1x1024 = x1 :=
    (shapeCast_id (s := S1x1024) _ _).trans (View.ld_unit_zero (by decide) _ x1)
  show nB (shapeCast S512x1024 (View.ld (Val := Elt Ideal) x0 r0_0) shapeCasts_S512x1024_S512x1024)
    (shapeCast S1x1024 (View.ld (Val := Elt Ideal) x1 r0_1) shapeCasts_S1x1024_S1x1024) = _
  rw [e0, e1]

/-- A block's row against a column. -/
abbrev val (r : Fin 512) (w : Fin 1024 → EReal) : EReal := Cert.Proj.dot (fun k => x0 (ix2 r k)) (fun k => x1 (ix2 0 k)) w

theorem q_val (r : Fin 512) (j : Fin 768) (J : Fin 2560) (hJ : J.val = j.val) :
    out0_4 x0 x1 x2 x3 (ix2 r j) = val x0 x1 r (fun k => x2 (ix2 k J)) * ((-((8 * Real.log 2)⁻¹) : ℝ) : EReal) := by
  have e : out0_4 x0 x1 x2 x3 = k0_pay3 (View.ld x0 r0_0) (View.ld x1 r0_1) (View.ld x2 r0_2) := View.canon_unit_zero (by decide) _ _
  rw [e]
  show matmul (φ₁ := .bf16) (φ₂ := .bf16) dot_S512x1024_S1024x768_S512x768_1_0_0_1_n_n none (k0_pay2 (F := Ideal) (View.ld x0 r0_0) (View.ld x1 r0_1))
    (shapeCast S1024x768 (View.ld (Val := Elt Ideal) x2 r0_2) shapeCasts_S1024x768_S1024x768) (constant S512x768 .f32 0x00000000#32) (ix2 r j)
    * ((-((8 * Real.log 2)⁻¹) : ℝ) : EReal) = _
  have e2 : shapeCast S1024x768 (View.ld (Val := Elt Ideal) x2 r0_2) shapeCasts_S1024x768_S1024x768 = View.ld (Val := Elt Ideal) x2 r0_2 :=
    shapeCast_id (s := S1024x768) _ _
  rw [nB_eq, e2]
  exact congrArg (· * ((-((8 * Real.log 2)⁻¹) : ℝ) : EReal)) (Cert.Proj.block_rows _ _ _ _ _ x0 x1 x2 _ r j J (hJ.trans (Nat.zero_add _).symm))

theorem qm_val (r : Fin 512) (j : Fin 256) (J : Fin 2560) (hJ : J.val = 2304 + j.val) :
    out0_5 x0 x1 x2 x3 (ix2 r j) = val x0 x1 r (fun k => x2 (ix2 k J)) * (((8 * Real.log 2)⁻¹ : ℝ) : EReal) := by
  have e : out0_5 x0 x1 x2 x3 = k0_pay4 (View.ld x0 r0_0) (View.ld x1 r0_1) (View.ld x2 r0_4) := View.canon_unit_zero (by decide) _ _
  rw [e]
  show matmul (φ₁ := .bf16) (φ₂ := .bf16) dot_S512x1024_S1024x256_S512x256_1_0_0_1_n_n none (k0_pay2 (F := Ideal) (View.ld x0 r0_0) (View.ld x1 r0_1))
    (shapeCast S1024x256 (View.ld (Val := Elt Ideal) x2 r0_4) shapeCasts_S1024x256_S1024x256) (constant S512x256 .f32 0x00000000#32) (ix2 r j)
    * (((8 * Real.log 2)⁻¹ : ℝ) : EReal) = _
  have e2 : shapeCast S1024x256 (View.ld (Val := Elt Ideal) x2 r0_4) shapeCasts_S1024x256_S1024x256 = View.ld (Val := Elt Ideal) x2 r0_4 :=
    shapeCast_id (s := S1024x256) _ _
  rw [nB_eq, e2]
  exact congrArg (· * (((8 * Real.log 2)⁻¹ : ℝ) : EReal)) (Cert.Proj.block_rows _ _ _ _ _ x0 x1 x2 _ r j J hJ)

theorem k_val (r : Fin 512) (j : Fin 768) (J : Fin 2560) (hJ : J.val = 768 + j.val) :
    out0_6 x0 x1 x2 x3 (ix2 r j) = val x0 x1 r (fun k => x2 (ix2 k J)) := by
  have e : out0_6 x0 x1 x2 x3 = k0_pay5 (View.ld x0 r0_0) (View.ld x1 r0_1) (View.ld x2 r0_6) := View.canon_unit_zero (by decide) _ _
  rw [e]
  show matmul (φ₁ := .bf16) (φ₂ := .bf16) dot_S512x1024_S1024x768_S512x768_1_0_0_1_n_n none (k0_pay2 (F := Ideal) (View.ld x0 r0_0) (View.ld x1 r0_1))
    (shapeCast S1024x768 (View.ld (Val := Elt Ideal) x2 r0_6) shapeCasts_S1024x768_S1024x768) (constant S512x768 .f32 0x00000000#32) (ix2 r j) = _
  have e2 : shapeCast S1024x768 (View.ld (Val := Elt Ideal) x2 r0_6) shapeCasts_S1024x768_S1024x768 = View.ld (Val := Elt Ideal) x2 r0_6 :=
    shapeCast_id (s := S1024x768) _ _
  rw [nB_eq, e2]
  exact Cert.Proj.block_rows _ _ _ _ _ x0 x1 x2 _ r j J hJ

theorem v_val (r : Fin 512) (j : Fin 768) (J : Fin 2560) (hJ : J.val = 1536 + j.val) :
    out0_7 x0 x1 x2 x3 (ix2 r j) = val x0 x1 r (fun k => x2 (ix2 k J)) := by
  have e : out0_7 x0 x1 x2 x3 = k0_pay1 (k0_pay2 (View.ld x0 r0_0) (View.ld x1 r0_1)) (View.ld x2 r0_7) := View.canon_unit_zero (by decide) _ _
  rw [e]
  show matmul (φ₁ := .bf16) (φ₂ := .bf16) dot_S512x1024_S1024x768_S512x768_1_0_0_1_n_n none (k0_pay2 (F := Ideal) (View.ld x0 r0_0) (View.ld x1 r0_1))
    (shapeCast S1024x768 (View.ld (Val := Elt Ideal) x2 r0_7) shapeCasts_S1024x768_S1024x768) (constant S512x768 .f32 0x00000000#32) (ix2 r j) = _
  have e2 : shapeCast S1024x768 (View.ld (Val := Elt Ideal) x2 r0_7) shapeCasts_S1024x768_S1024x768 = View.ld (Val := Elt Ideal) x2 r0_7 :=
    shapeCast_id (s := S1024x768) _ _
  rw [nB_eq, e2]
  exact Cert.Proj.block_rows _ _ _ _ _ x0 x1 x2 _ r j J hJ
end Body

/-! ## What the host prepares -/

theorem tr0 : ∀ i : grid0.Coords, cc0_transform_0 i 0 = (i 0).val ∧ cc0_transform_0 i 1 = 0 := by decide +kernel
theorem tr1 : ∀ i : grid0.Coords, cc0_transform_1 i = ![0, 0] := by decide +kernel
theorem tr2 : ∀ i : grid0.Coords, cc0_transform_2 i = ![0, 0] := by decide +kernel
theorem tr4 : ∀ i : grid0.Coords, cc0_transform_4 i 0 = (i 0).val ∧ cc0_transform_4 i 1 = 0 := by decide +kernel
theorem tr5 : ∀ i : grid0.Coords, cc0_transform_5 i 0 = (i 0).val ∧ cc0_transform_5 i 1 = 0 := by decide +kernel
theorem tr6 : ∀ i : grid0.Coords, cc0_transform_6 i 0 = (i 0).val ∧ cc0_transform_6 i 1 = 0 := by decide +kernel
theorem tr7 : ∀ i : grid0.Coords, cc0_transform_7 i 0 = (i 0).val ∧ cc0_transform_7 i 1 = 0 := by decide +kernel

section Host
variable (m : (ℓ : Loc nD τ sig) → Buf (Elt Ideal) ℓ) (c : Dev nD)

abbrev aX : FVec Ideal S128x8x1024 .f32 := m ((c : Thread nD τ).loc main_arg0)
abbrev aG : FVec Ideal S1024 .f32 := m ((c : Thread nD τ).loc main_arg1)
abbrev aW : FVec Ideal S1024x2560 .f32 := m ((c : Thread nD τ).loc main_arg2)

theorem V_x : @Eq (FVec Ideal S1024x1024 .f32) (V m c main_v3) (shapeCast S1024x1024 (aX m c) shapeCasts_S128x8x1024_S1024x1024) := by
  show StableHlo.after hostOps0 _ (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g : @Eq (FVec Ideal S1x1024 .f32) (V m c main_v4) (broadcastInDim S1x1024 ![1] bcast_S1024_S1x1024_1 (aG m c)) := by
  show StableHlo.after hostOps0 _ (Proc.devRef .tc main_v4) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_w : @Eq (FVec Ideal S1024x2560 .bf16) (V m c main_v5) (truncf .bf16 (aW m c) bitsLt_bf16_f32) := by
  show StableHlo.after hostOps0 _ (Proc.devRef .tc main_v5) = _
  simp only [hostOps0, StableHlo.TRef.binary, StableHlo.TRef.nullary, StableHlo.TRef.ternary, StableHlo.TRef.unary, StableHlo.TRef.toBuf, StableHlo.TRef.ofBuf, cast_eq]
  after_results_simp
  all_goals rfl

/-- A normalized row against a column of the weight. -/
def at' (b : Fin 128) (s : Fin 8) (n : Fin 2560) : EReal :=
  Cert.Proj.dot (fun k => aX m c (ix3 b s k)) (fun k => aG m c (ix1 k)) (fun k => aW m c (ix2 k n))

/-! ## What a grid point's blocks hold -/

theorem x_row (t : Fin cfg0.N) (r : Fin 512) (b : Fin 128) (s : Fin 8) (hR : b.val * 8 + s.val = (grid0.coords t 0).val * 512 + r.val) :
    (fun k : Fin 1024 => (iblk m c 0 t : Vec Ideal S512x1024 .f32) (ix2 r k)) = fun k => aX m c (ix3 b s k) := funext fun k => by
  have hb := b.isLt
  have hs := s.isLt
  obtain ⟨R, hR'⟩ : ∃ R : Fin 1024, R.val = b.val * 8 + s.val := ⟨⟨b.val * 8 + s.val, by omega⟩, rfl⟩
  have ht := tr0 (grid0.coords t)
  have ei : (win0_0.rect t).emb (ix2 r k) = (ix2 R k : S1024x1024.Idx) := Cert.Proj.emb_eq win0_0 t _ _ rfl fun a => by
    match a with
    | ⟨0, _⟩ => show cc0_transform_0 (grid0.coords t) 0 * 512 + r.val = R.val; rw [ht.1, hR', hR]
    | ⟨1, _⟩ => exact (congrArg (· * 1024 + k.val) (ht.2)).trans (Cert.Proj.zero_block 1024 k.val)
  show V m c main_v3 ((win0_0.rect t).emb (ix2 r k)) = _
  refine (congrArg _ ei).trans ((congrFun (V_x m c) _).trans (shapeCast_apply _ _ (ix2 R k) (ix3 b s k) ?_))
  rw [Shape.rowMajor_val_three, Shape.rowMajor_val_two]
  show (b.val * 8 + s.val) * 1024 + k.val = R.val * 1024 + k.val
  rw [hR']

theorem g_row (t : Fin cfg0.N) : (fun k : Fin 1024 => (iblk m c 1 t : Vec Ideal S1x1024 .f32) (ix2 0 k)) = fun k => aG m c (ix1 k) := funext fun k => by
  have ht := tr1 (grid0.coords t)
  have ei : (win0_1.rect t).emb (ix2 0 k) = (ix2 0 k : S1x1024.Idx) := Cert.Proj.emb_eq win0_1 t _ _ rfl fun a => by
    match a with
    | ⟨0, _⟩ => exact congrArg (· * 1 + 0) (congrFun ht 0)
    | ⟨1, _⟩ => exact (congrArg (· * 1024 + k.val) (congrFun ht 1)).trans (Cert.Proj.zero_block 1024 k.val)
  show V m c main_v4 ((win0_1.rect t).emb (ix2 0 k)) = _
  refine (congrArg _ ei).trans ((congrFun (V_g m c) _).trans (broadcastInDim_apply _ _ _ (ix2 0 k) (ix1 k) fun a => ?_))
  match a with
  | ⟨0, _⟩ => rfl

theorem w_col (t : Fin cfg0.N) (n : Fin 2560) : (fun k : Fin 1024 => (iblk m c 2 t : Vec Ideal S1024x2560 .bf16) (ix2 k n)) = fun k => aW m c (ix2 k n) := funext fun k => by
  have ht := tr2 (grid0.coords t)
  have ei : (win0_2.rect t).emb (ix2 k n) = (ix2 k n : S1024x2560.Idx) := Cert.Proj.emb_eq win0_2 t _ _ rfl fun a => by
    match a with
    | ⟨0, _⟩ => exact (congrArg (· * 1024 + k.val) (congrFun ht 0)).trans (Cert.Proj.zero_block 1024 k.val)
    | ⟨1, _⟩ => exact (congrArg (· * 2560 + n.val) (congrFun ht 1)).trans (Cert.Proj.zero_block 2560 n.val)
  show V m c main_v5 ((win0_2.rect t).emb (ix2 k n)) = _
  exact (congrArg _ ei).trans (congrFun (V_w m c) _)

theorem point (R : ℕ) (hR : R < 1024) : ∃ (t : Fin cfg0.N) (r : Fin 512), R = (grid0.coords t 0).val * 512 + r.val := by
  obtain ⟨t, ht⟩ : ∃ t : Fin cfg0.N, t.val = R / 512 := ⟨⟨R / 512, by show _ < grid0.N; rw [N_0]; omega⟩, rfl⟩
  have c0 : (grid0.coords t 0).val = R / 512 := (Pipeline.Grid.coords_val (G := grid0) t 0 (S := 1) (B := 2) (by decide) rfl).trans (by omega)
  exact ⟨t, ⟨R % 512, Nat.mod_lt _ (by decide)⟩, by rw [c0]; show R = R / 512 * 512 + R % 512; omega⟩

/-! ## The kernel's results -/

theorem val_eq (t : Fin cfg0.N) (r : Fin 512) (b : Fin 128) (s : Fin 8) (hR : b.val * 8 + s.val = (grid0.coords t 0).val * 512 + r.val)
    (w : Fin 1024 → EReal) (n : Fin 2560) (hw : w = fun k => aW m c (ix2 k n)) :
    val (iblk m c 0 t : Vec Ideal S512x1024 .f32) (iblk m c 1 t : Vec Ideal S1x1024 .f32) r w = at' m c b s n := by
  subst hw
  unfold val at'
  rw [x_row m c t r b s hR, g_row]

theorem arr4 (b : Fin 128) (s : Fin 8) (R : Fin 1024) (hR : R.val = b.val * 8 + s.val) (j : Fin 768) (n : Fin 2560) (hn : n.val = j.val) :
    ((dats m 0 c).arrAt 4 cfg0.N : FVec Ideal S1024x768 .f32) (ix2 R j) = at' m c b s n * ((-((8 * Real.log 2)⁻¹) : ℝ) : EReal) := by
  obtain ⟨t, r, hr⟩ := point R.val R.isLt
  have ht := tr4 (grid0.coords t)
  have ei : (win0_4.rect t).emb (ix2 r j) = (ix2 R j : S1024x768.Idx) := Cert.Proj.emb_eq win0_4 t _ _ rfl fun a => by
    match a with
    | ⟨0, _⟩ => show cc0_transform_4 (grid0.coords t) 0 * 512 + r.val = R.val; rw [ht.1]; exact hr.symm
    | ⟨1, _⟩ => exact (congrArg (· * 768 + j.val) (ht.2)).trans (Cert.Proj.zero_block 768 j.val)
  refine (congrArg _ ei.symm).trans ((congrFun ((Value.blocks4 m c t (flush0_4 t)).trans (Value.flushed4 m c t)) (ix2 r j)).trans ?_)
  exact (q_val _ _ _ _ r j n hn).trans (congrArg (· * ((-((8 * Real.log 2)⁻¹) : ℝ) : EReal)) (val_eq m c t r b s (hR.symm.trans hr) _ n (w_col m c t n)))

theorem arr5 (b : Fin 128) (s : Fin 8) (R : Fin 1024) (hR : R.val = b.val * 8 + s.val) (j : Fin 256) (n : Fin 2560) (hn : n.val = 2304 + j.val) :
    ((dats m 0 c).arrAt 5 cfg0.N : FVec Ideal S1024x256 .f32) (ix2 R j) = at' m c b s n * (((8 * Real.log 2)⁻¹ : ℝ) : EReal) := by
  obtain ⟨t, r, hr⟩ := point R.val R.isLt
  have ht := tr5 (grid0.coords t)
  have ei : (win0_5.rect t).emb (ix2 r j) = (ix2 R j : S1024x256.Idx) := Cert.Proj.emb_eq win0_5 t _ _ rfl fun a => by
    match a with
    | ⟨0, _⟩ => show cc0_transform_5 (grid0.coords t) 0 * 512 + r.val = R.val; rw [ht.1]; exact hr.symm
    | ⟨1, _⟩ => exact (congrArg (· * 256 + j.val) (ht.2)).trans (Cert.Proj.zero_block 256 j.val)
  refine (congrArg _ ei.symm).trans ((congrFun ((Value.blocks5 m c t (flush0_5 t)).trans (Value.flushed5 m c t)) (ix2 r j)).trans ?_)
  exact (qm_val _ _ _ _ r j n hn).trans (congrArg (· * (((8 * Real.log 2)⁻¹ : ℝ) : EReal)) (val_eq m c t r b s (hR.symm.trans hr) _ n (w_col m c t n)))

theorem arr6 (b : Fin 128) (s : Fin 8) (R : Fin 1024) (hR : R.val = b.val * 8 + s.val) (j : Fin 768) (n : Fin 2560) (hn : n.val = 768 + j.val) :
    ((dats m 0 c).arrAt 6 cfg0.N : FVec Ideal S1024x768 .f32) (ix2 R j) = at' m c b s n := by
  obtain ⟨t, r, hr⟩ := point R.val R.isLt
  have ht := tr6 (grid0.coords t)
  have ei : (win0_6.rect t).emb (ix2 r j) = (ix2 R j : S1024x768.Idx) := Cert.Proj.emb_eq win0_6 t _ _ rfl fun a => by
    match a with
    | ⟨0, _⟩ => show cc0_transform_6 (grid0.coords t) 0 * 512 + r.val = R.val; rw [ht.1]; exact hr.symm
    | ⟨1, _⟩ => exact (congrArg (· * 768 + j.val) (ht.2)).trans (Cert.Proj.zero_block 768 j.val)
  refine (congrArg _ ei.symm).trans ((congrFun ((Value.blocks6 m c t (flush0_6 t)).trans (Value.flushed6 m c t)) (ix2 r j)).trans ?_)
  exact (k_val _ _ _ _ r j n hn).trans (val_eq m c t r b s (hR.symm.trans hr) _ n (w_col m c t n))

theorem arr7 (b : Fin 128) (s : Fin 8) (R : Fin 1024) (hR : R.val = b.val * 8 + s.val) (j : Fin 768) (n : Fin 2560) (hn : n.val = 1536 + j.val) :
    ((dats m 0 c).arrAt 7 cfg0.N : FVec Ideal S1024x768 .f32) (ix2 R j) = at' m c b s n := by
  obtain ⟨t, r, hr⟩ := point R.val R.isLt
  have ht := tr7 (grid0.coords t)
  have ei : (win0_7.rect t).emb (ix2 r j) = (ix2 R j : S1024x768.Idx) := Cert.Proj.emb_eq win0_7 t _ _ rfl fun a => by
    match a with
    | ⟨0, _⟩ => show cc0_transform_7 (grid0.coords t) 0 * 512 + r.val = R.val; rw [ht.1]; exact hr.symm
    | ⟨1, _⟩ => exact (congrArg (· * 1536 + j.val) (ht.2)).trans (Cert.Proj.zero_block 768 j.val)
  refine (congrArg _ ei.symm).trans ((congrFun ((Value.blocks7 m c t (flush0_7 t)).trans (Value.flushed7 m c t)) (ix2 r j)).trans ?_)
  exact (v_val _ _ _ _ r j n hn).trans (val_eq m c t r b s (hR.symm.trans hr) _ n (w_col m c t n))
end Host

end Cert.Kernel7Ideal.Inproj
-- ==== Proof.InprojSampleRef.lean ====
module

public import proofs.«01_k».proof.Proof.Gen.Reference7Ideal.Run
public import proofs.«01_k».proof.Proof.Proj

@[expose] public section

set_option maxRecDepth 1024

noncomputable section

namespace Cert.Reference7Ideal.Inproj

open Idealize.ShloMosaic Idealize.ShloMosaic.TcCoe Idealize.SL.Sem
open Cert.Reference7Ideal Cert.Reference7Ideal.Gen

/-! ## The reference's terms -/

section Terms
variable (x : FVec Ideal S128x8x1024 .f32) (g : FVec Ideal S1024 .f32) (w : FVec Ideal S1024x2560 .f32)

/-- Every column of the projection. -/
def z : FVec Ideal S128x8x2560 .f32 :=
  Host.dotGeneral (F := Ideal) (φ₁ := .f32) (φ₂ := .f32) dot_S128x8x1024_S1024x2560_S128x8x2560_2_0_01_1_n_n none
    (Cert.Proj.hostRms reducesTo_S128x8x1024_S128x8_d2 h_S_ bcast_S128x8_S128x8x1_0_1 bcast_S_S128x8x1 bcast_S128x8x1_S128x8x1024_0_1_2
      bcast_S1x1x1024_S128x8x1024_0_1_2 bcast_S1024_S1x1x1024_2 x g) w

def keys : FVec Ideal S128x8x768 .f32 := extractStridedSlice S128x8x768 ![0, 0, 768] (z x g w) slices_S128x8x2560_S128x8x768_0_0_768

def vals : FVec Ideal S128x8x768 .f32 := extractStridedSlice S128x8x768 ![0, 0, 1536] (z x g w) slices_S128x8x2560_S128x8x768_0_0_1536

def q : FVec Ideal S1024x768 .f32 :=
  shapeCast S1024x768 (Host.divf (Host.negf (mulf (extractStridedSlice S128x8x768 ![0, 0, 0] (z x g w) slices_S128x8x2560_S128x8x768_0_0_0)
      (broadcastInDim S128x8x768 ![] bcast_S_S128x8x768 (constant S_ .f32 0x3E000000#32))))
    (broadcastInDim S128x8x768 ![] bcast_S_S128x8x768 (id (Host.log (constant S_ .f32 0x40000000#32))))) shapeCasts_S128x8x768_S1024x768

def qm : FVec Ideal S1024x256 .f32 :=
  shapeCast S1024x256 (Host.divf (mulf (extractStridedSlice S128x8x256 ![0, 0, 2304] (z x g w) slices_S128x8x2560_S128x8x256_0_0_2304)
      (broadcastInDim S128x8x256 ![] bcast_S_S128x8x256 (constant S_ .f32 0x3E000000#32)))
    (broadcastInDim S128x8x256 ![] bcast_S_S128x8x256 (id (Host.log (constant S_ .f32 0x40000000#32))))) shapeCasts_S128x8x256_S1024x256

def k : FVec Ideal S1024x768 .f32 := shapeCast S1024x768 (keys x g w) shapeCasts_S128x8x768_S1024x768

def v : FVec Ideal S1024x768 .f32 := shapeCast S1024x768 (vals x g w) shapeCasts_S128x8x768_S1024x768

/-! ## Read at an entry -/

variable (b : Fin 128) (s : Fin 8)

theorem z_apply (n : Fin 2560) : z x g w (ix3 b s n) = Cert.Proj.dot (fun k => x (ix3 b s k)) (fun k => g (ix1 k)) (fun k => w (ix2 k n)) := by
  unfold z Cert.Proj.dot
  refine (Cert.Proj.hostRows_apply dot_S128x8x1024_S1024x2560_S128x8x2560_2_0_01_1_n_n_wf _ w b s n).trans (Finset.sum_congr rfl fun k _ => ?_)
  rw [Cert.Proj.hostRms_apply _ _ _ _ _ _ _ (by decide)]

theorem q_apply (R : Fin 1024) (hR : R.val = b.val * 8 + s.val) (j : Fin 768) (n : Fin 2560) (hn : n.val = j.val) :
    q x g w (ix2 R j) = z x g w (ix3 b s n) * ((-((8 * Real.log 2)⁻¹) : ℝ) : EReal) := by
  unfold q
  refine (Cert.Proj.flat (φ := .f32) (Host.divf _ _) shapeCasts_S128x8x768_S1024x768 b s j R hR).trans ?_
  show Ideal.div (-(extractStridedSlice S128x8x768 ![0, 0, 0] (z x g w) slices_S128x8x2560_S128x8x768_0_0_0 (ix3 b s j) * Ideal.ofBits .f32 0x3E000000#32))
    (Ideal.log (Ideal.ofBits .f32 0x40000000#32)) = _
  rw [Cert.Proj.scale_neg]
  exact congrArg (· * ((-((8 * Real.log 2)⁻¹) : ℝ) : EReal)) (Cert.Proj.cols_of _ _ b s j n (hn.trans (Nat.zero_add _).symm))

theorem qm_apply (R : Fin 1024) (hR : R.val = b.val * 8 + s.val) (j : Fin 256) (n : Fin 2560) (hn : n.val = 2304 + j.val) :
    qm x g w (ix2 R j) = z x g w (ix3 b s n) * (((8 * Real.log 2)⁻¹ : ℝ) : EReal) := by
  unfold qm
  refine (Cert.Proj.flat (φ := .f32) (Host.divf _ _) shapeCasts_S128x8x256_S1024x256 b s j R hR).trans ?_
  show Ideal.div (extractStridedSlice S128x8x256 ![0, 0, 2304] (z x g w) slices_S128x8x2560_S128x8x256_0_0_2304 (ix3 b s j) * Ideal.ofBits .f32 0x3E000000#32)
    (Ideal.log (Ideal.ofBits .f32 0x40000000#32)) = _
  rw [Cert.Proj.scale_pos]
  exact congrArg (· * (((8 * Real.log 2)⁻¹ : ℝ) : EReal)) (Cert.Proj.cols_of _ _ b s j n hn)

theorem k_apply (R : Fin 1024) (hR : R.val = b.val * 8 + s.val) (j : Fin 768) (n : Fin 2560) (hn : n.val = 768 + j.val) :
    k x g w (ix2 R j) = z x g w (ix3 b s n) :=
  (Cert.Proj.flat (φ := .f32) (keys x g w) shapeCasts_S128x8x768_S1024x768 b s j R hR).trans (Cert.Proj.cols_of _ _ b s j n hn)

theorem v_apply (R : Fin 1024) (hR : R.val = b.val * 8 + s.val) (j : Fin 768) (n : Fin 2560) (hn : n.val = 1536 + j.val) :
    v x g w (ix2 R j) = z x g w (ix3 b s n) :=
  (Cert.Proj.flat (φ := .f32) (vals x g w) shapeCasts_S128x8x768_S1024x768 b s j R hR).trans (Cert.Proj.cols_of _ _ b s j n hn)
end Terms

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = q (m ((c.tc : Thread nD τ).loc main_arg0)) (m ((c.tc : Thread nD τ).loc main_arg1)) (m ((c.tc : Thread nD τ).loc main_arg2))
      ∧ r.2.mem ((c.tc : Thread nD τ).loc main_v32) = qm (m ((c.tc : Thread nD τ).loc main_arg0)) (m ((c.tc : Thread nD τ).loc main_arg1)) (m ((c.tc : Thread nD τ).loc main_arg2))
      ∧ r.2.mem ((c.tc : Thread nD τ).loc main_v33) = k (m ((c.tc : Thread nD τ).loc main_arg0)) (m ((c.tc : Thread nD τ).loc main_arg1)) (m ((c.tc : Thread nD τ).loc main_arg2))
      ∧ r.2.mem ((c.tc : Thread nD τ).loc main_v34) = v (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference7Ideal.Inproj
-- ==== Proof.NsaRows.lean ====
module

public import proofs.«01_k».proof.Proof.Gen.Kernel8Ideal.Value
public import proofs.«01_k».proof.Proof.Proj
public import Idealize.ShloMosaic.Lib.StableHlo.Run

@[expose] public section

set_option maxRecDepth 16384

noncomputable section

namespace Cert.Kernel8Ideal.NsaRows

open Idealize.ShloMosaic Idealize.ShloMosaic.TcCoe Idealize.SL.Sem
open Cert.Kernel8Ideal Cert.Kernel8Ideal.Gen
open scoped BigOperators

/-! ## What the body leaves in its blocks -/

section Body
variable (x0 : Vec Ideal S512x1024 .f32) (x1 : Vec Ideal S1x1024 .f32) (x2 : Vec Ideal S1024x2816 .bf16) (x3 : Vec Ideal S1024x1024 .bf16)
  (x4 : Vec Ideal S512x128 .f32) (x5 : Vec Ideal S512x128 .f32)

/-- The block's normalized rows. -/
abbrev nB : FVec Ideal S512x1024 .bf16 :=
  truncf .bf16 (Cert.Proj.normed reduces_S512x1024_S512 shapeCasts_S512_S512x1 broadcasts_S512x1_S512x1024 broadcasts_S1x1024_S512x1024 x0 x1) bitsLt_bf16_f32

theorem nB_eq : k0_pay32 (F := Ideal) x0 x1 x2 x3 x4 x5 = nB x0 x1 := by
  have e0 : shapeCast S512x1024 (View.ld (Val := Elt Ideal) x0 r0_0) shapeCasts_S512x1024_S512x1024 = x0 :=
    (shapeCast_id (s := S512x1024) _ _).trans (View.ld_unit_zero (by decide) _ x0)
  have e1 : shapeCast S1x1024 (View.ld (Val := Elt Ideal) x1 r0_1) shapeCasts_S1x1024_S1x1024 = x1 :=
    (shapeCast_id (s := S1x1024) _ _).trans (View.ld_unit_zero (by decide) _ x1)
  show nB (shapeCast S512x1024 (View.ld (Val := Elt Ideal) x0 r0_0) shapeCasts_S512x1024_S512x1024)
    (shapeCast S1x1024 (View.ld (Val := Elt Ideal) x1 r0_1) shapeCasts_S1x1024_S1x1024) = _
  rw [e0, e1]

/-- A block's row against a column. -/
abbrev val (r : Fin 512) (w : Fin 1024 → EReal) : EReal := Cert.Proj.dot (fun k => x0 (ix2 r k)) (fun k => x1 (ix2 0 k)) w

theorem kc_val (r : Fin 512) (j : Fin 256) (J : Fin 2816) (hJ : J.val = 768 + j.val) :
    out0_14 x0 x1 x2 x3 x4 x5 (ix2 r j) = val x0 x1 r (fun k => x2 (ix2 k J)) := by
  have e : out0_14 x0 x1 x2 x3 x4 x5 = k0_pay30 (k0_pay32 x0 x1 x2 x3 x4 x5) (View.ld x2 r0_11) := View.canon_unit_zero (by decide) _ _
  rw [e]
  show matmul (φ₁ := .bf16) (φ₂ := .bf16) dot_S512x1024_S1024x256_S512x256_1_0_0_1_n_n none (k0_pay32 (F := Ideal) x0 x1 x2 x3 x4 x5)
    (shapeCast S1024x256 (View.ld (Val := Elt Ideal) x2 r0_11) shapeCasts_S1024x256_S1024x256) (constant S512x256 .f32 0x00000000#32) (ix2 r j) = _
  have e2 : shapeCast S1024x256 (View.ld (Val := Elt Ideal) x2 r0_11) shapeCasts_S1024x256_S1024x256 = View.ld (Val := Elt Ideal) x2 r0_11 :=
    shapeCast_id (s := S1024x256) _ _
  rw [nB_eq, e2]
  exact Cert.Proj.block_rows _ _ _ _ _ x0 x1 x2 _ r j J hJ

theorem vc_val (r : Fin 512) (j : Fin 256) (J : Fin 2816) (hJ : J.val = 1024 + j.val) :
    out0_15 x0 x1 x2 x3 x4 x5 (ix2 r j) = val x0 x1 r (fun k => x2 (ix2 k J)) := by
  have e : out0_15 x0 x1 x2 x3 x4 x5 = k0_pay31 (k0_pay32 x0 x1 x2 x3 x4 x5) (View.ld x2 r0_12) := View.canon_unit_zero (by decide) _ _
  rw [e]
  show matmul (φ₁ := .bf16) (φ₂ := .bf16) dot_S512x1024_S1024x256_S512x256_1_0_0_1_n_n none (k0_pay32 (F := Ideal) x0 x1 x2 x3 x4 x5)
    (shapeCast S1024x256 (View.ld (Val := Elt Ideal) x2 r0_12) shapeCasts_S1024x256_S1024x256) (constant S512x256 .f32 0x00000000#32) (ix2 r j) = _
  have e2 : shapeCast S1024x256 (View.ld (Val := Elt Ideal) x2 r0_12) shapeCasts_S1024x256_S1024x256 = View.ld (Val := Elt Ideal) x2 r0_12 :=
    shapeCast_id (s := S1024x256) _ _
  rw [nB_eq, e2]
  exact Cert.Proj.block_rows _ _ _ _ _ x0 x1 x2 _ r j J hJ

theorem vs_val (r : Fin 512) (j : Fin 256) (J : Fin 2816) (hJ : J.val = 1536 + j.val) :
    out0_17 x0 x1 x2 x3 x4 x5 (ix2 r j) = val x0 x1 r (fun k => x2 (ix2 k J)) := by
  have e : out0_17 x0 x1 x2 x3 x4 x5 = k0_pay1 (k0_pay32 x0 x1 x2 x3 x4 x5) (View.ld x2 r0_13) := View.canon_unit_zero (by decide) _ _
  rw [e]
  show matmul (φ₁ := .bf16) (φ₂ := .bf16) dot_S512x1024_S1024x256_S512x256_1_0_0_1_n_n none (k0_pay32 (F := Ideal) x0 x1 x2 x3 x4 x5)
    (shapeCast S1024x256 (View.ld (Val := Elt Ideal) x2 r0_13) shapeCasts_S1024x256_S1024x256) (constant S512x256 .f32 0x00000000#32) (ix2 r j) = _
  have e2 : shapeCast S1024x256 (View.ld (Val := Elt Ideal) x2 r0_13) shapeCasts_S1024x256_S1024x256 = View.ld (Val := Elt Ideal) x2 r0_13 :=
    shapeCast_id (s := S1024x256) _ _
  rw [nB_eq, e2]
  exact Cert.Proj.block_rows _ _ _ _ _ x0 x1 x2 _ r j J hJ

theorem vw_val (r : Fin 512) (j : Fin 256) (J : Fin 2816) (hJ : J.val = 2048 + j.val) :
    out0_19 x0 x1 x2 x3 x4 x5 (ix2 r j) = val x0 x1 r (fun k => x2 (ix2 k J)) := by
  have e : out0_19 x0 x1 x2 x3 x4 x5 = k0_pay2 (k0_pay32 x0 x1 x2 x3 x4 x5) (View.ld x2 r0_14) := View.canon_unit_zero (by decide) _ _
  rw [e]
  show matmul (φ₁ := .bf16) (φ₂ := .bf16) dot_S512x1024_S1024x256_S512x256_1_0_0_1_n_n none (k0_pay32 (F := Ideal) x0 x1 x2 x3 x4 x5)
    (shapeCast S1024x256 (View.ld (Val := Elt Ideal) x2 r0_14) shapeCasts_S1024x256_S1024x256) (constant S512x256 .f32 0x00000000#32) (ix2 r j) = _
  have e2 : shapeCast S1024x256 (View.ld (Val := Elt Ideal) x2 r0_14) shapeCasts_S1024x256_S1024x256 = View.ld (Val := Elt Ideal) x2 r0_14 :=
    shapeCast_id (s := S1024x256) _ _
  rw [nB_eq, e2]
  exact Cert.Proj.block_rows _ _ _ _ _ x0 x1 x2 _ r j J hJ
end Body

/-! ## What the host prepares -/

theorem tr0 : ∀ i : grid0.Coords, cc0_transform_0 i 0 = (i 0).val ∧ cc0_transform_0 i 1 = 0 := by decide +kernel
theorem tr1 : ∀ i : grid0.Coords, cc0_transform_1 i = ![0, 0] := by decide +kernel
theorem tr2 : ∀ i : grid0.Coords, cc0_transform_2 i = ![0, 0] := by decide +kernel
theorem tr14 : ∀ i : grid0.Coords, cc0_transform_14 i 0 = (i 0).val ∧ cc0_transform_14 i 1 = 0 := by decide +kernel
theorem tr15 : ∀ i : grid0.Coords, cc0_transform_15 i 0 = (i 0).val ∧ cc0_transform_15 i 1 = 0 := by decide +kernel
theorem tr17 : ∀ i : grid0.Coords, cc0_transform_17 i 0 = (i 0).val ∧ cc0_transform_17 i 1 = 0 := by decide +kernel
theorem tr19 : ∀ i : grid0.Coords, cc0_transform_19 i 0 = (i 0).val ∧ cc0_transform_19 i 1 = 0 := by decide +kernel

/-! ## The weight's columns, taken from a table -/

/-- The column each column of the grouped weight is taken from. -/
def table : IVec S2816x1 32 :=
  broadcastInDim S2816x1 ![0] bcast_S2816_S2816x1_0 (select (constantI S2816 1 0#1)
    (addi (fun i => lit0 (S2816.rowMajor i)) (broadcastInDim S2816 ![] bcast_S_S2816 (constantI S_ 32 2597#32))) (fun i => lit0 (S2816.rowMajor i)))

/-- The weight with a column of zeros after it. -/
def wide (w : FVec Ideal S1024x2596 .f32) : FVec Ideal S1024x2597 .f32 :=
  concatenate S1024x2597 1 [⟨S1024x2596, w⟩, ⟨S1024x1, broadcastInDim S1024x1 ![] bcast_S_S1024x1 (constant S_ .f32 0x00000000#32)⟩] concatenates_S1024x2596_S1024x1_S1024x2597_d1

def cols (w : FVec Ideal S1024x2596 .f32) : FVec Ideal S1024x2816 .bf16 :=
  truncf .bf16 (Host.gather gather_S1024x2597_S2816x1_S1024x2816_0_1_n_n_1_1_10241 (wide w) table) bitsLt_bf16_f32

theorem lit_kv : ∀ n : Fin 1536, min (lit0 ⟨768 + n.val, by omega⟩).toInt.toNat 2596 = 768 + n.val := by decide +kernel

theorem table_apply (n : Fin 2816) : table (ix2 n 0) = lit0 n := by
  refine (broadcastInDim_apply _ _ _ (ix2 n 0) (ix1 n) fun a => ?_).trans ?_
  · match a with
    | ⟨0, _⟩ => rfl
  show lit0 (S2816.rowMajor (ix1 n)) = _
  exact congrArg lit0 (Fin.ext (Shape.rowMajor_val_one (ix1 n)))

theorem wide_apply (w : FVec Ideal S1024x2596 .f32) (k : Fin 1024) (N : Fin 2597) (n : Fin 2596) (hN : N.val = n.val) : wide w (ix2 k N) = w (ix2 k n) := by
  unfold wide
  refine concatenate_pair_apply_left (s₁ := S1024x2596) (s₂ := S1024x1) 1 _ _ _ (ix2 k N) rfl (ix2 k n) fun b => ?_
  match b with
  | ⟨0, _⟩ => rfl
  | ⟨1, _⟩ => exact hN.symm

theorem cols_apply (w : FVec Ideal S1024x2596 .f32) (k : Fin 1024) (J : Fin 2816) (n : Fin 2596) (h : J.val = n.val) (h0 : 768 ≤ n.val) (h1 : n.val < 2304) :
    cols w (ix2 k J) = w (ix2 k n) := by
  obtain ⟨N, hN⟩ : ∃ N : Fin 2597, N.val = n.val := ⟨⟨n.val, by omega⟩, rfl⟩
  refine Eq.trans ?_ (wide_apply w k N n hN)
  show Host.gather gather_S1024x2597_S2816x1_S1024x2816_0_1_n_n_1_1_10241 (wide w) table (ix2 k J) = _
  unfold Host.gather
  refine congrArg (wide w) (funext fun a => Fin.ext ?_)
  show GatherDims.start gather_S1024x2597_S2816x1_S1024x2816_0_1_n_n_1_1_10241 (ix2 k J) table a
    + GatherDims.batchCoord gather_S1024x2597_S2816x1_S1024x2816_0_1_n_n_1_1_10241 (ix2 k J) a
    + GatherDims.offCoord gather_S1024x2597_S2816x1_S1024x2816_0_1_n_n_1_1_10241 (ix2 k J) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · unfold GatherDims.start
    rw [dif_neg (show ¬(0 : Fin 2) ∈ gather_S1024x2597_S2816x1_S1024x2816_0_1_n_n_1_1_10241.startIndexMap by decide)]
    show 0 + 0 + k.val = k.val
    omega
  · rw [GatherDims.offCoord_eq_zero _ _ _ (fun h => ((GatherDims.mem_sKept _ _).mp h).1 (List.mem_singleton.mpr rfl))]
    unfold GatherDims.start
    rw [dif_pos (show (1 : Fin 2) ∈ gather_S1024x2597_S2816x1_S1024x2816_0_1_n_n_1_1_10241.startIndexMap from List.mem_singleton.mpr rfl)]
    have hsi : gather_S1024x2597_S2816x1_S1024x2816_0_1_n_n_1_1_10241.siIdx (ix2 k J) ⟨List.idxOf (1 : Fin 2) gather_S1024x2597_S2816x1_S1024x2816_0_1_n_n_1_1_10241.startIndexMap,
        List.idxOf_lt_length_iff.2 (List.mem_singleton.mpr rfl)⟩ = (ix2 J 0 : S2816x1.Idx) := by
      funext b; refine Fin.ext ?_
      match b with
      | ⟨0, _⟩ => rfl
      | ⟨1, _⟩ => rfl
    rw [hsi, table_apply]
    obtain ⟨p, hp⟩ : ∃ p : Fin 1536, 768 + p.val = J.val := ⟨⟨J.val - 768, by omega⟩, by show 768 + (J.val - 768) = J.val; omega⟩
    have hJ : J = ⟨768 + p.val, by omega⟩ := Fin.ext hp.symm
    exact (congrArg (fun q => min (lit0 q).toInt.toNat 2596) hJ).trans ((lit_kv p).trans (hp.trans (h.trans hN.symm)))

section Host
variable (m : (ℓ : Loc nD τ sig) → Buf (Elt Ideal) ℓ) (c : Dev nD)

abbrev aX : FVec Ideal S128x8x1024 .f32 := m ((c : Thread nD τ).loc main_arg0)
abbrev aG : FVec Ideal S1024 .f32 := m ((c : Thread nD τ).loc main_arg1)
abbrev aW : FVec Ideal S1024x2596 .f32 := m ((c : Thread nD τ).loc main_arg2)

theorem V_x : @Eq (FVec Ideal S1024x1024 .f32) (V m c main_v31) (shapeCast S1024x1024 (aX m c) shapeCasts_S128x8x1024_S1024x1024) := by
  show StableHlo.after (List.flatten [hostOps0, hostOps0_1, hostOps0_2]) _ (Proc.devRef .tc main_v31) = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_g : @Eq (FVec Ideal S1x1024 .f32) (V m c main_v32) (broadcastInDim S1x1024 ![1] bcast_S1024_S1x1024_1 (aG m c)) := by
  show StableHlo.after (List.flatten [hostOps0, hostOps0_1, hostOps0_2]) _ (Proc.devRef .tc main_v32) = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_w : @Eq (FVec Ideal S1024x2816 .bf16) (V m c main_v40) (cols (aW m c)) := by
  show StableHlo.after (List.flatten [hostOps0, hostOps0_1, hostOps0_2]) _ (Proc.devRef .tc main_v40) = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

/-- A normalized row against a column of the weight. -/
def at' (b : Fin 128) (s : Fin 8) (n : Fin 2596) : EReal :=
  Cert.Proj.dot (fun k => aX m c (ix3 b s k)) (fun k => aG m c (ix1 k)) (fun k => aW m c (ix2 k n))

/-! ## What a grid point's blocks hold -/

theorem x_row (t : Fin cfg0.N) (r : Fin 512) (b : Fin 128) (s : Fin 8) (hR : b.val * 8 + s.val = (grid0.coords t 0).val * 512 + r.val) :
    (fun k : Fin 1024 => (iblk m c 0 t : Vec Ideal S512x1024 .f32) (ix2 r k)) = fun k => aX m c (ix3 b s k) := funext fun k => by
  have hb := b.isLt
  have hs := s.isLt
  obtain ⟨R, hR'⟩ : ∃ R : Fin 1024, R.val = b.val * 8 + s.val := ⟨⟨b.val * 8 + s.val, by omega⟩, rfl⟩
  have ht := tr0 (grid0.coords t)
  have ei : (win0_0.rect t).emb (ix2 r k) = (ix2 R k : S1024x1024.Idx) := Cert.Proj.emb_eq win0_0 t _ _ rfl fun a => by
    match a with
    | ⟨0, _⟩ => show cc0_transform_0 (grid0.coords t) 0 * 512 + r.val = R.val; rw [ht.1, hR', hR]
    | ⟨1, _⟩ => exact (congrArg (· * 1024 + k.val) (ht.2)).trans (Cert.Proj.zero_block 1024 k.val)
  show V m c main_v31 ((win0_0.rect t).emb (ix2 r k)) = _
  refine (congrArg _ ei).trans ((congrFun (V_x m c) _).trans (shapeCast_apply _ _ (ix2 R k) (ix3 b s k) ?_))
  rw [Shape.rowMajor_val_three, Shape.rowMajor_val_two]
  show (b.val * 8 + s.val) * 1024 + k.val = R.val * 1024 + k.val
  rw [hR']

theorem g_row (t : Fin cfg0.N) : (fun k : Fin 1024 => (iblk m c 1 t : Vec Ideal S1x1024 .f32) (ix2 0 k)) = fun k => aG m c (ix1 k) := funext fun k => by
  have ht := tr1 (grid0.coords t)
  have ei : (win0_1.rect t).emb (ix2 0 k) = (ix2 0 k : S1x1024.Idx) := Cert.Proj.emb_eq win0_1 t _ _ rfl fun a => by
    match a with
    | ⟨0, _⟩ => exact congrArg (· * 1 + 0) (congrFun ht 0)
    | ⟨1, _⟩ => exact (congrArg (· * 1024 + k.val) (congrFun ht 1)).trans (Cert.Proj.zero_block 1024 k.val)
  show V m c main_v32 ((win0_1.rect t).emb (ix2 0 k)) = _
  refine (congrArg _ ei).trans ((congrFun (V_g m c) _).trans (broadcastInDim_apply _ _ _ (ix2 0 k) (ix1 k) fun a => ?_))
  match a with
  | ⟨0, _⟩ => rfl

theorem w_col (t : Fin cfg0.N) (J : Fin 2816) (n : Fin 2596) (h : J.val = n.val) (h0 : 768 ≤ n.val) (h1 : n.val < 2304) :
    (fun k : Fin 1024 => (iblk m c 2 t : Vec Ideal S1024x2816 .bf16) (ix2 k J)) = fun k => aW m c (ix2 k n) := funext fun k => by
  have ht := tr2 (grid0.coords t)
  have ei : (win0_2.rect t).emb (ix2 k J) = (ix2 k J : S1024x2816.Idx) := Cert.Proj.emb_eq win0_2 t _ _ rfl fun a => by
    match a with
    | ⟨0, _⟩ => exact (congrArg (· * 1024 + k.val) (congrFun ht 0)).trans (Cert.Proj.zero_block 1024 k.val)
    | ⟨1, _⟩ => exact (congrArg (· * 2816 + J.val) (congrFun ht 1)).trans (Cert.Proj.zero_block 2816 J.val)
  show V m c main_v40 ((win0_2.rect t).emb (ix2 k J)) = _
  exact (congrArg _ ei).trans ((congrFun (V_w m c) _).trans (cols_apply _ k J n h h0 h1))

theorem point (R : ℕ) (hR : R < 1024) : ∃ (t : Fin cfg0.N) (r : Fin 512), R = (grid0.coords t 0).val * 512 + r.val := by
  obtain ⟨t, ht⟩ : ∃ t : Fin cfg0.N, t.val = R / 512 := ⟨⟨R / 512, by show _ < grid0.N; rw [N_0]; omega⟩, rfl⟩
  have c0 : (grid0.coords t 0).val = R / 512 := (Pipeline.Grid.coords_val (G := grid0) t 0 (S := 1) (B := 2) (by decide) rfl).trans (by omega)
  exact ⟨t, ⟨R % 512, Nat.mod_lt _ (by decide)⟩, by rw [c0]; show R = R / 512 * 512 + R % 512; omega⟩

/-! ## The kernel's results -/

theorem val_eq (t : Fin cfg0.N) (r : Fin 512) (b : Fin 128) (s : Fin 8) (hR : b.val * 8 + s.val = (grid0.coords t 0).val * 512 + r.val)
    (w : Fin 1024 → EReal) (n : Fin 2596) (hw : w = fun k => aW m c (ix2 k n)) :
    val (iblk m c 0 t : Vec Ideal S512x1024 .f32) (iblk m c 1 t : Vec Ideal S1x1024 .f32) r w = at' m c b s n := by
  subst hw
  unfold val at'
  rw [x_row m c t r b s hR, g_row]

theorem kc_arr (b : Fin 128) (s : Fin 8) (R : Fin 1024) (hR : R.val = b.val * 8 + s.val) (j : Fin 256) (n : Fin 2596) (hn : n.val = 768 + j.val) :
    ((dats m 0 c).arrAt 14 cfg0.N : FVec Ideal S1024x256 .f32) (ix2 R j) = at' m c b s n := by
  obtain ⟨t, r, hr⟩ := point R.val R.isLt
  obtain ⟨J, hJ⟩ : ∃ J : Fin 2816, J.val = 768 + j.val := ⟨⟨768 + j.val, by have := j.isLt; omega⟩, rfl⟩
  have h0 : 768 ≤ n.val := by omega
  have h1 : n.val < 2304 := by have := j.isLt; omega
  have ht := tr14 (grid0.coords t)
  have ei : (win0_14.rect t).emb (ix2 r j) = (ix2 R j : S1024x256.Idx) := Cert.Proj.emb_eq win0_14 t _ _ rfl fun a => by
    match a with
    | ⟨0, _⟩ => show cc0_transform_14 (grid0.coords t) 0 * 512 + r.val = R.val; rw [ht.1]; exact hr.symm
    | ⟨1, _⟩ => exact (congrArg (· * 256 + j.val) (ht.2)).trans (Cert.Proj.zero_block 256 j.val)
  refine (congrArg _ ei.symm).trans ((congrFun ((Value.blocks14 m c t (flush0_14 t)).trans (Value.flushed14 m c t)) (ix2 r j)).trans ?_)
  exact (kc_val _ _ _ _ _ _ r j J hJ).trans (val_eq m c t r b s (hR.symm.trans hr) _ n (w_col m c t J n (hJ.trans hn.symm) h0 h1))

theorem vc_arr (b : Fin 128) (s : Fin 8) (R : Fin 1024) (hR : R.val = b.val * 8 + s.val) (j : Fin 256) (n : Fin 2596) (hn : n.val = 1024 + j.val) :
    ((dats m 0 c).arrAt 15 cfg0.N : FVec Ideal S1024x256 .f32) (ix2 R j) = at' m c b s n := by
  obtain ⟨t, r, hr⟩ := point R.val R.isLt
  obtain ⟨J, hJ⟩ : ∃ J : Fin 2816, J.val = 1024 + j.val := ⟨⟨1024 + j.val, by have := j.isLt; omega⟩, rfl⟩
  have h0 : 768 ≤ n.val := by omega
  have h1 : n.val < 2304 := by have := j.isLt; omega
  have ht := tr15 (grid0.coords t)
  have ei : (win0_15.rect t).emb (ix2 r j) = (ix2 R j : S1024x256.Idx) := Cert.Proj.emb_eq win0_15 t _ _ rfl fun a => by
    match a with
    | ⟨0, _⟩ => show cc0_transform_15 (grid0.coords t) 0 * 512 + r.val = R.val; rw [ht.1]; exact hr.symm
    | ⟨1, _⟩ => exact (congrArg (· * 256 + j.val) (ht.2)).trans (Cert.Proj.zero_block 256 j.val)
  refine (congrArg _ ei.symm).trans ((congrFun ((Value.blocks15 m c t (flush0_15 t)).trans (Value.flushed15 m c t)) (ix2 r j)).trans ?_)
  exact (vc_val _ _ _ _ _ _ r j J hJ).trans (val_eq m c t r b s (hR.symm.trans hr) _ n (w_col m c t J n (hJ.trans hn.symm) h0 h1))

theorem vs_arr (b : Fin 128) (s : Fin 8) (R : Fin 1024) (hR : R.val = b.val * 8 + s.val) (j : Fin 256) (n : Fin 2596) (hn : n.val = 1536 + j.val) :
    ((dats m 0 c).arrAt 17 cfg0.N : FVec Ideal S1024x256 .f32) (ix2 R j) = at' m c b s n := by
  obtain ⟨t, r, hr⟩ := point R.val R.isLt
  obtain ⟨J, hJ⟩ : ∃ J : Fin 2816, J.val = 1536 + j.val := ⟨⟨1536 + j.val, by have := j.isLt; omega⟩, rfl⟩
  have h0 : 768 ≤ n.val := by omega
  have h1 : n.val < 2304 := by have := j.isLt; omega
  have ht := tr17 (grid0.coords t)
  have ei : (win0_17.rect t).emb (ix2 r j) = (ix2 R j : S1024x256.Idx) := Cert.Proj.emb_eq win0_17 t _ _ rfl fun a => by
    match a with
    | ⟨0, _⟩ => show cc0_transform_17 (grid0.coords t) 0 * 512 + r.val = R.val; rw [ht.1]; exact hr.symm
    | ⟨1, _⟩ => exact (congrArg (· * 256 + j.val) (ht.2)).trans (Cert.Proj.zero_block 256 j.val)
  refine (congrArg _ ei.symm).trans ((congrFun ((Value.blocks17 m c t (flush0_17 t)).trans (Value.flushed17 m c t)) (ix2 r j)).trans ?_)
  exact (vs_val _ _ _ _ _ _ r j J hJ).trans (val_eq m c t r b s (hR.symm.trans hr) _ n (w_col m c t J n (hJ.trans hn.symm) h0 h1))

theorem vw_arr (b : Fin 128) (s : Fin 8) (R : Fin 1024) (hR : R.val = b.val * 8 + s.val) (j : Fin 256) (n : Fin 2596) (hn : n.val = 2048 + j.val) :
    ((dats m 0 c).arrAt 19 cfg0.N : FVec Ideal S1024x256 .f32) (ix2 R j) = at' m c b s n := by
  obtain ⟨t, r, hr⟩ := point R.val R.isLt
  obtain ⟨J, hJ⟩ : ∃ J : Fin 2816, J.val = 2048 + j.val := ⟨⟨2048 + j.val, by have := j.isLt; omega⟩, rfl⟩
  have h0 : 768 ≤ n.val := by omega
  have h1 : n.val < 2304 := by have := j.isLt; omega
  have ht := tr19 (grid0.coords t)
  have ei : (win0_19.rect t).emb (ix2 r j) = (ix2 R j : S1024x256.Idx) := Cert.Proj.emb_eq win0_19 t _ _ rfl fun a => by
    match a with
    | ⟨0, _⟩ => show cc0_transform_19 (grid0.coords t) 0 * 512 + r.val = R.val; rw [ht.1]; exact hr.symm
    | ⟨1, _⟩ => exact (congrArg (· * 256 + j.val) (ht.2)).trans (Cert.Proj.zero_block 256 j.val)
  refine (congrArg _ ei.symm).trans ((congrFun ((Value.blocks19 m c t (flush0_19 t)).trans (Value.flushed19 m c t)) (ix2 r j)).trans ?_)
  exact (vw_val _ _ _ _ _ _ r j J hJ).trans (val_eq m c t r b s (hR.symm.trans hr) _ n (w_col m c t J n (hJ.trans hn.symm) h0 h1))
end Host

end Cert.Kernel8Ideal.NsaRows
-- ==== Proof.NsaRope.lean ====
module

public import proofs.«01_k».proof.Proof.NsaRows

@[expose] public section

set_option maxRecDepth 16384

noncomputable section

namespace Cert.Kernel8Ideal.NsaRows

open Idealize.ShloMosaic Idealize.ShloMosaic.TcCoe Idealize.SL.Sem
open Cert.Kernel8Ideal Cert.Kernel8Ideal.Gen
open scoped BigOperators

/-! ## Two heads rotated by the tables -/

def mask : IVec S512x128 1 :=
  cmpi .slt (andi (iota .tc S512x128 32 [1] iota_S512x128_d1_w32) (broadcast S512x128 63#32)) (broadcast S512x128 8#32)

def swap (X : FVec Ideal S512x128 .f32) : FVec Ideal S512x128 .f32 :=
  select mask (dynamicRotate 1 120#32 none X rotates_S512x128_d1) (dynamicRotate 1 8#32 none X rotates_S512x128_d1)

def rope2 (X C S : FVec Ideal S512x128 .f32) : FVec Ideal S512x128 .f32 := addf (mulf X C) (mulf (swap X) S)

/-- The four heads, two and two. -/
def rope4 (Y : FVec Ideal S512x256 .f32) (C S : FVec Ideal S512x128 .f32) : FVec Ideal S512x256 .f32 :=
  concatenate S512x256 1 [⟨S512x128, rope2 (extractStridedSlice S512x128 ![0, 0] Y slices_S512x256_o0_0_S512x128) C S⟩,
    ⟨S512x128, rope2 (extractStridedSlice S512x128 ![0, 128] Y slices_S512x256_o0_128_S512x128) C S⟩] concatenates_S512x128_S512x128_S512x256_d1

theorem lane_bit : ∀ l : Fin 128, IntOp.cmpi .slt (IntOp.andi (BitVec.ofNat 32 (0 * 128 + l.val)) 63#32) 8#32 = if l.val % 64 < 8 then 1#1 else 0#1 := by
  decide +kernel

theorem mask_apply (r : Fin 512) (l : Fin 128) : mask (ix2 r l) = if l.val % 64 < 8 then 1#1 else 0#1 := lane_bit l

theorem rot_apply (X : FVec Ideal S512x128 .f32) (n : BitVec 32) (r : Fin 512) (l l' : Fin 128) (h : l'.val = (l.val + 128 - n.toNat % 128) % 128) :
    dynamicRotate 1 n none X rotates_S512x128_d1 (ix2 r l) = X (ix2 r l') := by
  unfold dynamicRotate
  refine congrArg X (funext fun b => Fin.ext ?_)
  match b with
  | ⟨0, _⟩ => rfl
  | ⟨1, _⟩ => exact h.symm

theorem swap_up (X : FVec Ideal S512x128 .f32) (r : Fin 512) (l l' : Fin 128) (h : l.val % 64 < 8) (hl : l'.val = l.val + 8) :
    swap X (ix2 r l) = X (ix2 r l') := by
  have hl' := l'.isLt
  show Scalar.select (mask (ix2 r l)) (dynamicRotate 1 120#32 none X rotates_S512x128_d1 (ix2 r l)) _ = _
  rw [mask_apply, if_pos h]
  refine Eq.trans (show _ = _ from rfl) (rot_apply X 120#32 r l l' ?_)
  show l'.val = (l.val + 128 - 120 % 128) % 128
  omega

theorem swap_down (X : FVec Ideal S512x128 .f32) (r : Fin 512) (l l' : Fin 128) (h : ¬l.val % 64 < 8) (hl : l.val = l'.val + 8) :
    swap X (ix2 r l) = X (ix2 r l') := by
  have hl' := l'.isLt
  show Scalar.select (mask (ix2 r l)) _ (dynamicRotate 1 8#32 none X rotates_S512x128_d1 (ix2 r l)) = _
  rw [mask_apply, if_neg h]
  refine Eq.trans (show _ = _ from rfl) (rot_apply X 8#32 r l l' ?_)
  show l'.val = (l.val + 128 - 8 % 128) % 128
  have := l.isLt
  omega

/-- A lane of the rotated heads: the lane times its cosine, and the lane eight on or eight back times its sine. -/
theorem rope4_apply (Y : FVec Ideal S512x256 .f32) (C S : FVec Ideal S512x128 .f32) (r : Fin 512) (j : Fin 256) (l : Fin 128) (hl : l.val = j.val % 128) :
    ∃ q : EReal, rope4 Y C S (ix2 r j) = Y (ix2 r j) * C (ix2 r l) + q * S (ix2 r l)
      ∧ (∀ j' : Fin 256, j.val % 64 < 8 → j'.val = j.val + 8 → q = Y (ix2 r j'))
      ∧ (∀ j' : Fin 256, 8 ≤ j.val % 64 → j.val % 64 < 16 → j.val = j'.val + 8 → q = Y (ix2 r j')) := by
  have hj := j.isLt
  rcases Nat.lt_or_ge j.val 128 with h | h
  · have lo (J : Fin 256) (L : Fin 128) (e : J.val = L.val) : extractStridedSlice S512x128 ![0, 0] Y slices_S512x256_o0_0_S512x128 (ix2 r L) = Y (ix2 r J) :=
      extractStridedSlice_apply _ _ _ _ _ fun a => by
        match a with
        | ⟨0, _⟩ => exact (Nat.zero_add _).symm
        | ⟨1, _⟩ => exact e.trans (Nat.zero_add _).symm
    refine ⟨swap (extractStridedSlice S512x128 ![0, 0] Y slices_S512x256_o0_0_S512x128) (ix2 r l), ?_, ?_, ?_⟩
    · refine (concatenate_pair_apply_left (s₁ := S512x128) (s₂ := S512x128) 1 _ _ _ (ix2 r j) rfl (ix2 r l) fun b => ?_).trans ?_
      · match b with
        | ⟨0, _⟩ => rfl
        | ⟨1, _⟩ => show l.val = j.val; omega
      show extractStridedSlice S512x128 ![0, 0] Y slices_S512x256_o0_0_S512x128 (ix2 r l) * C (ix2 r l) + _ = _
      rw [lo j l (by omega)]
      rfl
    · intro j' h1 h2
      refine (swap_up _ r l ⟨l.val + 8, by omega⟩ (by omega) rfl).trans (lo j' _ ?_)
      show j'.val = l.val + 8
      omega
    · intro j' h1 h3 h2
      refine (swap_down _ r l ⟨l.val - 8, by omega⟩ (by omega) (show l.val = l.val - 8 + 8 by omega)).trans (lo j' _ ?_)
      show j'.val = l.val - 8
      omega
  · have hi (J : Fin 256) (L : Fin 128) (e : J.val = 128 + L.val) : extractStridedSlice S512x128 ![0, 128] Y slices_S512x256_o0_128_S512x128 (ix2 r L) = Y (ix2 r J) :=
      extractStridedSlice_apply _ _ _ _ _ fun a => by
        match a with
        | ⟨0, _⟩ => exact (Nat.zero_add _).symm
        | ⟨1, _⟩ => exact e
    refine ⟨swap (extractStridedSlice S512x128 ![0, 128] Y slices_S512x256_o0_128_S512x128) (ix2 r l), ?_, ?_, ?_⟩
    · refine (concatenate_pair_apply_right (s₁ := S512x128) (s₂ := S512x128) 1 _ _ _ (ix2 r j) rfl rfl (ix2 r l) (fun b hb => ?_) ?_).trans ?_
      · match b with
        | ⟨0, _⟩ => rfl
        | ⟨1, _⟩ => exact absurd rfl hb
      · show l.val + 128 = j.val
        omega
      show extractStridedSlice S512x128 ![0, 128] Y slices_S512x256_o0_128_S512x128 (ix2 r l) * C (ix2 r l) + _ = _
      rw [hi j l (by omega)]
      rfl
    · intro j' h1 h2
      refine (swap_up _ r l ⟨l.val + 8, by omega⟩ (by omega) rfl).trans (hi j' _ ?_)
      show j'.val = 128 + (l.val + 8)
      omega
    · intro j' h1 h3 h2
      refine (swap_down _ r l ⟨l.val - 8, by omega⟩ (by omega) (show l.val = l.val - 8 + 8 by omega)).trans (hi j' _ ?_)
      show j'.val = 128 + (l.val - 8)
      omega

section Body
variable (x0 : Vec Ideal S512x1024 .f32) (x1 : Vec Ideal S1x1024 .f32) (x2 : Vec Ideal S1024x2816 .bf16) (x3 : Vec Ideal S1024x1024 .bf16)
  (x4 : Vec Ideal S512x128 .f32) (x5 : Vec Ideal S512x128 .f32)

theorem cos_eq : k0_pay33 (F := Ideal) x0 x1 x2 x3 x4 x5 = x4 :=
  (shapeCast_id (s := S512x128) _ _).trans (View.ld_unit_zero (by decide) _ x4)

theorem sin_eq : k0_pay34 (F := Ideal) x0 x1 x2 x3 x4 x5 = x5 :=
  (shapeCast_id (s := S512x128) _ _).trans (View.ld_unit_zero (by decide) _ x5)

/-- A band of the weight against the block's rows. -/
def band (W : FVec Ideal S1024x256 .bf16) : FVec Ideal S512x256 .f32 :=
  matmul (φ₁ := .bf16) (φ₂ := .bf16) dot_S512x1024_S1024x256_S512x256_1_0_0_1_n_n none (nB x0 x1) W (constant S512x256 .f32 0x00000000#32)

theorem ks_eq : out0_16 x0 x1 x2 x3 x4 x5 = rope4 (band x0 x1 (View.ld x2 r0_9)) x4 x5 := by
  refine (View.canon_unit_zero (by decide) _ _).trans ?_
  rw [nB_eq, cos_eq, sin_eq]
  show rope4 (band x0 x1 (shapeCast S1024x256 (View.ld (Val := Elt Ideal) x2 r0_9) shapeCasts_S1024x256_S1024x256)) x4 x5 = _
  rw [shapeCast_id (s := S1024x256)]

theorem kw_eq : out0_18 x0 x1 x2 x3 x4 x5 = rope4 (band x0 x1 (View.ld x2 r0_10)) x4 x5 := by
  refine (View.canon_unit_zero (by decide) _ _).trans ?_
  rw [nB_eq, cos_eq, sin_eq]
  show rope4 (band x0 x1 (shapeCast S1024x256 (View.ld (Val := Elt Ideal) x2 r0_10) shapeCasts_S1024x256_S1024x256)) x4 x5 = _
  rw [shapeCast_id (s := S1024x256)]

theorem ks_band (r : Fin 512) (j : Fin 256) (J : Fin 2816) (hJ : J.val = 1280 + j.val) :
    band x0 x1 (View.ld x2 r0_9) (ix2 r j) = val x0 x1 r (fun k => x2 (ix2 k J)) :=
  Cert.Proj.block_rows _ _ _ _ _ x0 x1 x2 _ r j J hJ

theorem kw_band (r : Fin 512) (j : Fin 256) (J : Fin 2816) (hJ : J.val = 1792 + j.val) :
    band x0 x1 (View.ld x2 r0_10) (ix2 r j) = val x0 x1 r (fun k => x2 (ix2 k J)) :=
  Cert.Proj.block_rows _ _ _ _ _ x0 x1 x2 _ r j J hJ
end Body

/-! ## The host's tables -/

/-- Eight, as the remainder's divisor. -/
def eight : IVec S_ 32 := select (cmpi .eq (id (constantI S_ 32 8#32)) (constantI S_ 32 0#32)) (constantI S_ 32 1#32) (id (constantI S_ 32 8#32))

def rem0 : IVec S512 32 := Host.remsi (iotaInDim S512 32 0) (broadcastInDim S512 ![] bcast_S_S512 eight)

/-- The rows' numbers modulo eight. -/
def rem : IVec S512 32 :=
  select (andi (cmpi .ne (cmpi .slt rem0 (broadcastInDim S512 ![] bcast_S_S512 (constantI S_ 32 0#32)))
      (broadcastInDim S512 ![] bcast_S_S512 (cmpi .slt eight (constantI S_ 32 0#32))))
      (cmpi .ne rem0 (broadcastInDim S512 ![] bcast_S_S512 (constantI S_ 32 0#32))))
    (addi rem0 (broadcastInDim S512 ![] bcast_S_S512 eight)) rem0

/-- The rows' positions. -/
def pos : IVec S512 32 := addi (broadcastInDim S512 ![] bcast_S_S512 (constantI S_ 32 2048#32)) rem

theorem pos_apply : ∀ r : Fin 512, pos (ix1 r) = BitVec.ofNat 32 (2048 + r.val % 8) := by decide +kernel

/-- The eight frequencies. -/
def freq : FVec Ideal S8 .f32 :=
  Host.powf (broadcastInDim S8 ![] bcast_S_S8 (constant S_ .f32 0x48F42400#32))
    (Host.divf (mulf (Host.negf (sitofp .f32 (iotaInDim S8 32 0))) (broadcastInDim S8 ![] bcast_S_S8 (constant S_ .f32 0x40000000#32)))
      (broadcastInDim S8 ![] bcast_S_S8 (constant S_ .f32 0x41800000#32)))

def ang : FVec Ideal S512x8 .f32 :=
  mulf (broadcastInDim S512x8 ![0, 1] bcast_S512x1_S512x8_0_1 (broadcastInDim S512x1 ![0] bcast_S512_S512x1_0 (sitofp .f32 pos)))
    (broadcastInDim S512x8 ![0, 1] bcast_S1x8_S512x8_0_1 (broadcastInDim S1x8 ![1] bcast_S8_S1x8_1 freq))

def twice (T : FVec Ideal S512x64 .f32) : FVec Ideal S512x128 .f32 :=
  shapeCast S512x128 (broadcastInDim S1x512x2x64 ![0, 1, 2, 3] bcast_S1x512x1x64_S1x512x2x64_0_1_2_3 (shapeCast S1x512x1x64 T shapeCasts_S512x64_S1x512x1x64))
    shapeCasts_S1x512x2x64_S512x128

def row3 (a b : FVec Ideal S512x8 .f32) (z : FVec Ideal S512x48 .f32) : FVec Ideal S512x64 .f32 :=
  concatenate S512x64 1 [⟨S512x8, a⟩, ⟨S512x8, b⟩, ⟨S512x48, z⟩] concatenates_S512x8_S512x8_S512x48_S512x64_d1

def cosT : FVec Ideal S512x128 .f32 := twice (row3 (Host.cos ang) (Host.cos ang) (broadcastInDim S512x48 ![] bcast_S_S512x48 (constant S_ .f32 0x3F800000#32)))

def sinT : FVec Ideal S512x128 .f32 := twice (row3 (Host.negf (Host.sin ang)) (Host.sin ang) (broadcastInDim S512x48 ![] bcast_S_S512x48 (constant S_ .f32 0x00000000#32)))

theorem twice_apply (T : FVec Ideal S512x64 .f32) (r : Fin 512) (l : Fin 128) (d : Fin 64) (h : d.val = l.val % 64) : twice T (ix2 r l) = T (ix2 r d) := by
  have hl := l.isLt
  unfold twice
  refine (shapeCast_apply _ _ (ix2 r l) (ix4 (0 : Fin 1) r (⟨l.val / 64, by omega⟩ : Fin 2) d) ?_).trans
    ((broadcastInDim_apply _ _ _ _ (ix4 (0 : Fin 1) r (0 : Fin 1) d) fun a => ?_).trans (shapeCast_apply _ _ _ (ix2 r d) ?_))
  · rw [Shape.rowMajor_val_four, Shape.rowMajor_val_two]
    show ((0 * 512 + r.val) * 2 + l.val / 64) * 64 + d.val = r.val * 128 + l.val
    omega
  · match a with
    | ⟨0, _⟩ => rfl
    | ⟨1, _⟩ => rfl
    | ⟨2, _⟩ => rfl
    | ⟨3, _⟩ => rfl
  · rw [Shape.rowMajor_val_four, Shape.rowMajor_val_two]
    show r.val * 64 + d.val = ((0 * 512 + r.val) * 1 + 0) * 64 + d.val
    omega

theorem row3_fst (a b : FVec Ideal S512x8 .f32) (z : FVec Ideal S512x48 .f32) (r : Fin 512) (d : Fin 64) (e : Fin 8) (h : d.val = e.val) :
    row3 a b z (ix2 r d) = a (ix2 r e) :=
  concatenate_apply_piece (t := S512x64) 1 [⟨S512x8, a⟩, ⟨S512x8, b⟩, ⟨S512x48, z⟩] concatenates_S512x8_S512x8_S512x48_S512x64_d1 (ix2 r d) 0
    (show 0 < 3 by decide) S512x8 a rfl rfl 0 rfl (ix2 r e) (fun q hq => by
      match q with
      | ⟨0, _⟩ => rfl
      | ⟨1, _⟩ => exact absurd rfl hq) (show 0 + e.val = d.val by omega)

theorem row3_snd (a b : FVec Ideal S512x8 .f32) (z : FVec Ideal S512x48 .f32) (r : Fin 512) (d : Fin 64) (e : Fin 8) (h : d.val = 8 + e.val) :
    row3 a b z (ix2 r d) = b (ix2 r e) :=
  concatenate_apply_piece (t := S512x64) 1 [⟨S512x8, a⟩, ⟨S512x8, b⟩, ⟨S512x48, z⟩] concatenates_S512x8_S512x8_S512x48_S512x64_d1 (ix2 r d) 1
    (show 1 < 3 by decide) S512x8 b rfl rfl 8 rfl (ix2 r e) (fun q hq => by
      match q with
      | ⟨0, _⟩ => rfl
      | ⟨1, _⟩ => exact absurd rfl hq) (show 8 + e.val = d.val by omega)

theorem row3_trd (a b : FVec Ideal S512x8 .f32) (z : FVec Ideal S512x48 .f32) (r : Fin 512) (d : Fin 64) (e : Fin 48) (h : d.val = 16 + e.val) :
    row3 a b z (ix2 r d) = z (ix2 r e) :=
  concatenate_apply_piece (t := S512x64) 1 [⟨S512x8, a⟩, ⟨S512x8, b⟩, ⟨S512x48, z⟩] concatenates_S512x8_S512x8_S512x48_S512x64_d1 (ix2 r d) 2
    (show 2 < 3 by decide) S512x48 z rfl rfl 16 rfl (ix2 r e) (fun q hq => by
      match q with
      | ⟨0, _⟩ => rfl
      | ⟨1, _⟩ => exact absurd rfl hq) (show 16 + e.val = d.val by omega)

/-- The angle of a position's frequency. -/
def angle (s : Fin 8) (e : Fin 8) : EReal := (FloatOps.sitofp .f32 (BitVec.ofNat 32 (2048 + s.val)) : Ideal .f32) * freq (ix1 e)

theorem ang_apply (r : Fin 512) (s : Fin 8) (h : r.val % 8 = s.val) (e : Fin 8) : ang (ix2 r e) = angle s e := by
  refine congrArg₂ (· * ·) ?_ ?_
  · refine (broadcastInDim_apply _ _ _ (ix2 r e) (ix2 r (0 : Fin 1)) fun a => ?_).trans ((broadcastInDim_apply _ _ _ (ix2 r (0 : Fin 1)) (ix1 r) fun a => ?_).trans ?_)
    · match a with
      | ⟨0, _⟩ => rfl
      | ⟨1, _⟩ => rfl
    · match a with
      | ⟨0, _⟩ => rfl
    show (FloatOps.sitofp .f32 (pos (ix1 r)) : Ideal .f32) = _
    rw [pos_apply, h]
  · refine (broadcastInDim_apply _ _ _ (ix2 r e) (ix2 (0 : Fin 1) e) fun a => ?_).trans (broadcastInDim_apply _ _ _ (ix2 (0 : Fin 1) e) (ix1 e) fun a => ?_)
    · match a with
      | ⟨0, _⟩ => rfl
      | ⟨1, _⟩ => rfl
    · match a with
      | ⟨0, _⟩ => rfl

section Host
variable (m : (ℓ : Loc nD τ sig) → Buf (Elt Ideal) ℓ) (c : Dev nD)

theorem V_cos : @Eq (FVec Ideal S512x128 .f32) (V m c main_v27) cosT := by
  show StableHlo.after (List.flatten [hostOps0, hostOps0_1, hostOps0_2]) _ (Proc.devRef .tc main_v27) = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl

theorem V_sin : @Eq (FVec Ideal S512x128 .f32) (V m c main_v30) sinT := by
  show StableHlo.after (List.flatten [hostOps0, hostOps0_1, hostOps0_2]) _ (Proc.devRef .tc main_v30) = _
  simp only [hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  all_goals rfl
end Host

end Cert.Kernel8Ideal.NsaRows
-- ==== Proof.NsaKeys.lean ====
module

public import proofs.«01_k».proof.Proof.NsaRope
public import Idealize.ShloMosaic.Lib.IdealHost

@[expose] public section

set_option maxRecDepth 16384

noncomputable section

namespace Cert.Kernel8Ideal.NsaRows

open Idealize.ShloMosaic Idealize.ShloMosaic.TcCoe Idealize.SL.Sem
open Cert.Kernel8Ideal Cert.Kernel8Ideal.Gen
open scoped BigOperators

/-! ## The tables at a place -/

theorem cosT_rot (r : Fin 512) (s : Fin 8) (h : r.val % 8 = s.val) (l : Fin 128) (e : Fin 8) (hl : l.val % 64 = e.val ∨ l.val % 64 = 8 + e.val) :
    cosT (ix2 r l) = Ideal.cos (angle s e) := by
  rcases hl with hl | hl
  · refine (twice_apply _ r l ⟨e.val, by omega⟩ hl.symm).trans ((row3_fst _ _ _ r _ e rfl).trans ?_)
    exact congrArg Ideal.cos (ang_apply r s h e)
  · refine (twice_apply _ r l ⟨8 + e.val, by omega⟩ hl.symm).trans ((row3_snd _ _ _ r _ e rfl).trans ?_)
    exact congrArg Ideal.cos (ang_apply r s h e)

theorem cosT_rest (r : Fin 512) (l : Fin 128) (hl : 16 ≤ l.val % 64) : cosT (ix2 r l) = (1 : EReal) :=
  (twice_apply _ r l ⟨l.val % 64, Nat.mod_lt _ (by decide)⟩ rfl).trans ((row3_trd _ _ _ r _ ⟨l.val % 64 - 16, by omega⟩
    (show l.val % 64 = 16 + (l.val % 64 - 16) by omega)).trans Ideal.ofBits_one_f32)

theorem sinT_fst (r : Fin 512) (s : Fin 8) (h : r.val % 8 = s.val) (l : Fin 128) (e : Fin 8) (hl : l.val % 64 = e.val) :
    sinT (ix2 r l) = -Ideal.sin (angle s e) := by
  refine (twice_apply _ r l ⟨e.val, by omega⟩ hl.symm).trans ((row3_fst _ _ _ r _ e rfl).trans ?_)
  exact congrArg (fun x => -Ideal.sin x) (ang_apply r s h e)

theorem sinT_snd (r : Fin 512) (s : Fin 8) (h : r.val % 8 = s.val) (l : Fin 128) (e : Fin 8) (hl : l.val % 64 = 8 + e.val) :
    sinT (ix2 r l) = Ideal.sin (angle s e) := by
  refine (twice_apply _ r l ⟨8 + e.val, by omega⟩ hl.symm).trans ((row3_snd _ _ _ r _ e rfl).trans ?_)
  exact congrArg Ideal.sin (ang_apply r s h e)

theorem sinT_rest (r : Fin 512) (l : Fin 128) (hl : 16 ≤ l.val % 64) : sinT (ix2 r l) = (0 : EReal) :=
  (twice_apply _ r l ⟨l.val % 64, Nat.mod_lt _ (by decide)⟩ rfl).trans ((row3_trd _ _ _ r _ ⟨l.val % 64 - 16, by omega⟩
    (show l.val % 64 = 16 + (l.val % 64 - 16) by omega)).trans Ideal.ofBits_zero_f32)

/-- A lane of a rotated head, from the head's lanes. -/
def turned (s : Fin 8) (y : ℕ → EReal) (d : ℕ) : EReal :=
  if h : d < 8 then y d * Ideal.cos (angle s ⟨d, h⟩) + y (d + 8) * -Ideal.sin (angle s ⟨d, h⟩)
  else if h' : d < 16 then y d * Ideal.cos (angle s ⟨d - 8, by omega⟩) + y (d - 8) * Ideal.sin (angle s ⟨d - 8, by omega⟩)
  else y d

theorem rope4_turned (Y : FVec Ideal S512x256 .f32) (r : Fin 512) (s : Fin 8) (h : r.val % 8 = s.val) (j : Fin 256) (y : ℕ → EReal)
    (hy : ∀ (d : ℕ) (j' : Fin 256), d < 64 → j'.val = j.val / 64 * 64 + d → Y (ix2 r j') = y d) :
    rope4 Y cosT sinT (ix2 r j) = turned s y (j.val % 64) := by
  have hj := j.isLt
  obtain ⟨l, hl⟩ : ∃ l : Fin 128, l.val = j.val % 128 := ⟨⟨j.val % 128, Nat.mod_lt _ (by decide)⟩, rfl⟩
  have hlj : l.val % 64 = j.val % 64 := by omega
  obtain ⟨q, e, hu, hd⟩ := rope4_apply Y cosT sinT r j l hl
  have e0 := hy (j.val % 64) j (Nat.mod_lt _ (by decide)) (by omega)
  rw [e]
  unfold turned
  split_ifs with h8 h16
  · rw [cosT_rot r s h l ⟨j.val % 64, h8⟩ (Or.inl hlj), sinT_fst r s h l ⟨j.val % 64, h8⟩ hlj, e0, hu ⟨j.val + 8, by omega⟩ h8 rfl,
      hy (j.val % 64 + 8) ⟨j.val + 8, by omega⟩ (by omega) (show j.val + 8 = j.val / 64 * 64 + (j.val % 64 + 8) by omega)]
  · rw [cosT_rot r s h l ⟨j.val % 64 - 8, by omega⟩ (Or.inr (show l.val % 64 = 8 + (j.val % 64 - 8) by omega)),
      sinT_snd r s h l ⟨j.val % 64 - 8, by omega⟩ (show l.val % 64 = 8 + (j.val % 64 - 8) by omega), e0,
      hd ⟨j.val - 8, by omega⟩ (by omega) h16 (show j.val = j.val - 8 + 8 by omega),
      hy (j.val % 64 - 8) ⟨j.val - 8, by omega⟩ (by omega) (show j.val - 8 = j.val / 64 * 64 + (j.val % 64 - 8) by omega)]
  · rw [cosT_rest r l (by omega), sinT_rest r l (by omega), e0, mul_one, mul_zero, add_zero]

/-! ## The two arrays -/

theorem tr4 : ∀ i : grid0.Coords, cc0_transform_4 i = ![0, 0] := by decide +kernel
theorem tr5 : ∀ i : grid0.Coords, cc0_transform_5 i = ![0, 0] := by decide +kernel
theorem tr16 : ∀ i : grid0.Coords, cc0_transform_16 i 0 = (i 0).val ∧ cc0_transform_16 i 1 = 0 := by decide +kernel
theorem tr18 : ∀ i : grid0.Coords, cc0_transform_18 i 0 = (i 0).val ∧ cc0_transform_18 i 1 = 0 := by decide +kernel

section Host
variable (m : (ℓ : Loc nD τ sig) → Buf (Elt Ideal) ℓ) (c : Dev nD)

theorem cos_blk (t : Fin cfg0.N) : (iblk m c 4 t : Vec Ideal S512x128 .f32) = cosT := funext fun i => by
  have ht := tr4 (grid0.coords t)
  have ei : (win0_4.rect t).emb i = (i : S512x128.Idx) := Cert.Proj.emb_eq win0_4 t _ _ rfl fun a => by
    match a with
    | ⟨0, _⟩ => exact (congrArg (· * 512 + (i 0).val) (congrFun ht 0)).trans (Cert.Proj.zero_block 512 (i 0).val)
    | ⟨1, _⟩ => exact (congrArg (· * 128 + (i 1).val) (congrFun ht 1)).trans (Cert.Proj.zero_block 128 (i 1).val)
  show V m c main_v27 ((win0_4.rect t).emb i) = _
  exact (congrArg _ ei).trans (congrFun (V_cos m c) _)

theorem sin_blk (t : Fin cfg0.N) : (iblk m c 5 t : Vec Ideal S512x128 .f32) = sinT := funext fun i => by
  have ht := tr5 (grid0.coords t)
  have ei : (win0_5.rect t).emb i = (i : S512x128.Idx) := Cert.Proj.emb_eq win0_5 t _ _ rfl fun a => by
    match a with
    | ⟨0, _⟩ => exact (congrArg (· * 512 + (i 0).val) (congrFun ht 0)).trans (Cert.Proj.zero_block 512 (i 0).val)
    | ⟨1, _⟩ => exact (congrArg (· * 128 + (i 1).val) (congrFun ht 1)).trans (Cert.Proj.zero_block 128 (i 1).val)
  show V m c main_v30 ((win0_5.rect t).emb i) = _
  exact (congrArg _ ei).trans (congrFun (V_sin m c) _)

theorem ks_arr (b : Fin 128) (s : Fin 8) (R : Fin 1024) (hR : R.val = b.val * 8 + s.val) (j : Fin 256) (y : ℕ → EReal)
    (hy : ∀ (d : ℕ) (n : Fin 2596), d < 64 → n.val = 1280 + (j.val / 64 * 64 + d) → at' m c b s n = y d) :
    ((dats m 0 c).arrAt 16 cfg0.N : FVec Ideal S1024x256 .f32) (ix2 R j) = turned s y (j.val % 64) := by
  have hj := j.isLt
  have hs := s.isLt
  obtain ⟨t, r, hr⟩ := point R.val R.isLt
  have ht := tr16 (grid0.coords t)
  have ei : (win0_16.rect t).emb (ix2 r j) = (ix2 R j : S1024x256.Idx) := Cert.Proj.emb_eq win0_16 t _ _ rfl fun a => by
    match a with
    | ⟨0, _⟩ => show cc0_transform_16 (grid0.coords t) 0 * 512 + r.val = R.val; rw [ht.1]; exact hr.symm
    | ⟨1, _⟩ => exact (congrArg (· * 256 + j.val) (ht.2)).trans (Cert.Proj.zero_block 256 j.val)
  refine (congrArg _ ei.symm).trans ((congrFun ((Value.blocks16 m c t (flush0_16 t)).trans (Value.flushed16 m c t)) (ix2 r j)).trans ?_)
  refine (congrFun (ks_eq _ _ _ _ _ _) (ix2 r j)).trans ?_
  rw [cos_blk m c t, sin_blk m c t]
  refine rope4_turned _ r s (by omega) j y fun d j' hd hj' => ?_
  have hj2 := j'.isLt
  obtain ⟨J, hJ⟩ : ∃ J : Fin 2816, J.val = 1280 + j'.val := ⟨⟨1280 + j'.val, by omega⟩, rfl⟩
  obtain ⟨n, hn⟩ : ∃ n : Fin 2596, n.val = 1280 + j'.val := ⟨⟨1280 + j'.val, by omega⟩, rfl⟩
  refine (ks_band _ _ _ r j' J hJ).trans ((val_eq m c t r b s (hR.symm.trans hr) _ n (w_col m c t J n (hJ.trans hn.symm) (by omega) (by omega))).trans ?_)
  exact hy d n hd (by omega)

theorem kw_arr (b : Fin 128) (s : Fin 8) (R : Fin 1024) (hR : R.val = b.val * 8 + s.val) (j : Fin 256) (y : ℕ → EReal)
    (hy : ∀ (d : ℕ) (n : Fin 2596), d < 64 → n.val = 1792 + (j.val / 64 * 64 + d) → at' m c b s n = y d) :
    ((dats m 0 c).arrAt 18 cfg0.N : FVec Ideal S1024x256 .f32) (ix2 R j) = turned s y (j.val % 64) := by
  have hj := j.isLt
  have hs := s.isLt
  obtain ⟨t, r, hr⟩ := point R.val R.isLt
  have ht := tr18 (grid0.coords t)
  have ei : (win0_18.rect t).emb (ix2 r j) = (ix2 R j : S1024x256.Idx) := Cert.Proj.emb_eq win0_18 t _ _ rfl fun a => by
    match a with
    | ⟨0, _⟩ => show cc0_transform_18 (grid0.coords t) 0 * 512 + r.val = R.val; rw [ht.1]; exact hr.symm
    | ⟨1, _⟩ => exact (congrArg (· * 256 + j.val) (ht.2)).trans (Cert.Proj.zero_block 256 j.val)
  refine (congrArg _ ei.symm).trans ((congrFun ((Value.blocks18 m c t (flush0_18 t)).trans (Value.flushed18 m c t)) (ix2 r j)).trans ?_)
  refine (congrFun (kw_eq _ _ _ _ _ _) (ix2 r j)).trans ?_
  rw [cos_blk m c t, sin_blk m c t]
  refine rope4_turned _ r s (by omega) j y fun d j' hd hj' => ?_
  have hj2 := j'.isLt
  obtain ⟨J, hJ⟩ : ∃ J : Fin 2816, J.val = 1792 + j'.val := ⟨⟨1792 + j'.val, by omega⟩, rfl⟩
  obtain ⟨n, hn⟩ : ∃ n : Fin 2596, n.val = 1792 + j'.val := ⟨⟨1792 + j'.val, by omega⟩, rfl⟩
  refine (kw_band _ _ _ r j' J hJ).trans ((val_eq m c t r b s (hR.symm.trans hr) _ n (w_col m c t J n (hJ.trans hn.symm) (by omega) (by omega))).trans ?_)
  exact hy d n hd (by omega)
end Host

end Cert.Kernel8Ideal.NsaRows
-- ==== Proof.NsaRowsRef.lean ====
module

public import proofs.«01_k».proof.Proof.Gen.Reference8Ideal.Run
public import proofs.«01_k».proof.Proof.Proj

@[expose] public section

set_option maxRecDepth 8192

noncomputable section

namespace Cert.Reference8Ideal.NsaRows

open Idealize.ShloMosaic Idealize.ShloMosaic.TcCoe Idealize.SL.Sem
open Cert.Reference8Ideal Cert.Reference8Ideal.Gen

/-! ## The reference's terms -/

section Terms
variable (x : FVec Ideal S128x8x1024 .f32) (g : FVec Ideal S1024 .f32) (w : FVec Ideal S1024x2596 .f32)

/-- Every column of the projection. -/
def z : FVec Ideal S128x8x2596 .f32 :=
  Host.dotGeneral (F := Ideal) (φ₁ := .f32) (φ₂ := .f32) dot_S128x8x1024_S1024x2596_S128x8x2596_2_0_01_1_n_n none
    (Cert.Proj.hostRms reducesTo_S128x8x1024_S128x8_d2 h_S_ bcast_S128x8_S128x8x1_0_1 bcast_S_S128x8x1 bcast_S128x8x1_S128x8x1024_0_1_2
      bcast_S1x1x1024_S128x8x1024_0_1_2 bcast_S1024_S1x1x1024_2 x g) w

/-- 256 of its columns, read as heads and flattened again. -/
def heads {o : Fin 3 → ℕ} (h : S128x8x2596.Slices o S128x8x256) (y : FVec Ideal S128x8x2596 .f32) : FVec Ideal S1024x256 .f32 :=
  shapeCast S1024x256 (shapeCast S128x8x4x64 (extractStridedSlice S128x8x256 o y h) shapeCasts_S128x8x256_S128x8x4x64) shapeCasts_S128x8x4x64_S1024x256

def kc : FVec Ideal S1024x256 .f32 := heads slices_S128x8x2596_S128x8x256_0_0_768 (z x g w)

def vc : FVec Ideal S1024x256 .f32 := heads slices_S128x8x2596_S128x8x256_0_0_1024 (z x g w)

def vs : FVec Ideal S1024x256 .f32 := heads slices_S128x8x2596_S128x8x256_0_0_1536 (z x g w)

def vw : FVec Ideal S1024x256 .f32 := heads slices_S128x8x2596_S128x8x256_0_0_2048 (z x g w)

/-! ## The rotation of the keys -/

/-- The eight frequencies. -/
def freq : FVec Ideal S8 .f32 :=
  Host.powf (broadcastInDim S8 ![] bcast_S_S8 (constant S_ .f32 0x48F42400#32))
    (Host.divf (mulf (Host.negf (sitofp .f32 (iotaInDim S8 32 0))) (broadcastInDim S8 ![] bcast_S_S8 (constant S_ .f32 0x40000000#32)))
      (broadcastInDim S8 ![] bcast_S_S8 (constant S_ .f32 0x41800000#32)))

def pos : IVec S8 32 := addi (broadcastInDim S8 ![] bcast_S_S8 (constantI S_ 32 2048#32)) (iotaInDim S8 32 0)

def ang : FVec Ideal S8x8 .f32 :=
  mulf (broadcastInDim S8x8 ![0, 1] bcast_S8x1_S8x8_0_1 (broadcastInDim S8x1 ![0] bcast_S8_S8x1_0 (sitofp .f32 pos)))
    (broadcastInDim S8x8 ![0, 1] bcast_S1x8_S8x8_0_1 (broadcastInDim S1x8 ![1] bcast_S8_S1x8_1 freq))

/-- A table of positions and frequencies, for every head of every sequence. -/
def spread (T : FVec Ideal S8x8 .f32) : FVec Ideal S128x8x4x8 .f32 :=
  broadcastInDim S128x8x4x8 ![0, 1, 2, 3] bcast_S1x8x1x8_S128x8x4x8_0_1_2_3 (broadcastInDim S1x8x1x8 ![1, 3] bcast_S8x8_S1x8x1x8_1_3 T)

def lo (X : FVec Ideal S128x8x4x64 .f32) : FVec Ideal S128x8x4x8 .f32 := extractStridedSlice S128x8x4x8 ![0, 0, 0, 0] X slices_S128x8x4x64_S128x8x4x8_0_0_0_0

def hi (X : FVec Ideal S128x8x4x64 .f32) : FVec Ideal S128x8x4x8 .f32 := extractStridedSlice S128x8x4x8 ![0, 0, 0, 8] X slices_S128x8x4x64_S128x8x4x8_0_0_0_8

def rest (X : FVec Ideal S128x8x4x64 .f32) : FVec Ideal S128x8x4x48 .f32 := extractStridedSlice S128x8x4x48 ![0, 0, 0, 16] X slices_S128x8x4x64_S128x8x4x48_0_0_0_16

def join (a b : FVec Ideal S128x8x4x8 .f32) (z : FVec Ideal S128x8x4x48 .f32) : FVec Ideal S128x8x4x64 .f32 :=
  concatenate S128x8x4x64 3 [⟨S128x8x4x8, a⟩, ⟨S128x8x4x8, b⟩, ⟨S128x8x4x48, z⟩] concatenates_S128x8x4x8_S128x8x4x8_S128x8x4x48_S128x8x4x64_d3

def rope (X : FVec Ideal S128x8x4x64 .f32) : FVec Ideal S128x8x4x64 .f32 :=
  join (subf (mulf (lo X) (spread (Host.cos ang))) (mulf (hi X) (spread (Host.sin ang))))
    (addf (mulf (hi X) (spread (Host.cos ang))) (mulf (lo X) (spread (Host.sin ang)))) (rest X)

/-- 256 of the columns, read as heads, rotated and flattened again. -/
def rotated {o : Fin 3 → ℕ} (h : S128x8x2596.Slices o S128x8x256) (y : FVec Ideal S128x8x2596 .f32) : FVec Ideal S1024x256 .f32 :=
  shapeCast S1024x256 (rope (shapeCast S128x8x4x64 (extractStridedSlice S128x8x256 o y h) shapeCasts_S128x8x256_S128x8x4x64)) shapeCasts_S128x8x4x64_S1024x256

def ks : FVec Ideal S1024x256 .f32 := rotated slices_S128x8x2596_S128x8x256_0_0_1280 (z x g w)

def kw : FVec Ideal S1024x256 .f32 := rotated slices_S128x8x2596_S128x8x256_0_0_1792 (z x g w)

/-! ## Read at an entry -/

variable (b : Fin 128) (s : Fin 8)

theorem z_apply (n : Fin 2596) : z x g w (ix3 b s n) = Cert.Proj.dot (fun k => x (ix3 b s k)) (fun k => g (ix1 k)) (fun k => w (ix2 k n)) := by
  unfold z Cert.Proj.dot
  refine (Cert.Proj.hostRows_apply dot_S128x8x1024_S1024x2596_S128x8x2596_2_0_01_1_n_n_wf _ w b s n).trans (Finset.sum_congr rfl fun k _ => ?_)
  rw [Cert.Proj.hostRms_apply _ _ _ _ _ _ _ (by decide)]

/-- The heads' four axes flatten to the same place as the columns' three. -/
theorem flat_heads (y : FVec Ideal S128x8x256 .f32) (R : Fin 1024) (hR : R.val = b.val * 8 + s.val) (j : Fin 256) :
    shapeCast S1024x256 (shapeCast S128x8x4x64 y shapeCasts_S128x8x256_S128x8x4x64) shapeCasts_S128x8x4x64_S1024x256 (ix2 R j) = y (ix3 b s j) := by
  have hj := j.isLt
  refine (shapeCast_apply _ _ (ix2 R j) (ix4 b s ⟨j.val / 64, by omega⟩ ⟨j.val % 64, Nat.mod_lt _ (by decide)⟩) ?_).trans (shapeCast_apply _ _ _ (ix3 b s j) ?_)
  · rw [Shape.rowMajor_val_four, Shape.rowMajor_val_two]
    show ((b.val * 8 + s.val) * 4 + j.val / 64) * 64 + j.val % 64 = R.val * 256 + j.val
    omega
  · rw [Shape.rowMajor_val_four, Shape.rowMajor_val_three]
    show (b.val * 8 + s.val) * 256 + j.val = ((b.val * 8 + s.val) * 4 + j.val / 64) * 64 + j.val % 64
    omega

theorem heads_apply {o : ℕ} (y : FVec Ideal S128x8x2596 .f32) (h : S128x8x2596.Slices ![0, 0, o] S128x8x256) (R : Fin 1024) (hR : R.val = b.val * 8 + s.val)
    (j : Fin 256) (n : Fin 2596) (hn : n.val = o + j.val) : heads h y (ix2 R j) = y (ix3 b s n) := by
  unfold heads
  exact (flat_heads b s (extractStridedSlice S128x8x256 ![0, 0, o] y h) R hR j).trans (Cert.Proj.cols_of y h b s j n hn)

theorem kc_apply (R : Fin 1024) (hR : R.val = b.val * 8 + s.val) (j : Fin 256) (n : Fin 2596) (hn : n.val = 768 + j.val) :
    kc x g w (ix2 R j) = z x g w (ix3 b s n) := by
  unfold kc
  exact heads_apply b s (z x g w) slices_S128x8x2596_S128x8x256_0_0_768 R hR j n hn

theorem vc_apply (R : Fin 1024) (hR : R.val = b.val * 8 + s.val) (j : Fin 256) (n : Fin 2596) (hn : n.val = 1024 + j.val) :
    vc x g w (ix2 R j) = z x g w (ix3 b s n) := by
  unfold vc
  exact heads_apply b s (z x g w) slices_S128x8x2596_S128x8x256_0_0_1024 R hR j n hn

theorem vs_apply (R : Fin 1024) (hR : R.val = b.val * 8 + s.val) (j : Fin 256) (n : Fin 2596) (hn : n.val = 1536 + j.val) :
    vs x g w (ix2 R j) = z x g w (ix3 b s n) := by
  unfold vs
  exact heads_apply b s (z x g w) slices_S128x8x2596_S128x8x256_0_0_1536 R hR j n hn

theorem vw_apply (R : Fin 1024) (hR : R.val = b.val * 8 + s.val) (j : Fin 256) (n : Fin 2596) (hn : n.val = 2048 + j.val) :
    vw x g w (ix2 R j) = z x g w (ix3 b s n) := by
  unfold vw
  exact heads_apply b s (z x g w) slices_S128x8x2596_S128x8x256_0_0_2048 R hR j n hn
/-! ## The rotated keys at an entry -/

/-- The angle of a position's frequency. -/
def angle (s : Fin 8) (e : Fin 8) : EReal := (FloatOps.sitofp .f32 (BitVec.ofNat 32 (2048 + s.val)) : Ideal .f32) * freq (ix1 e)

/-- A lane of a rotated head, from the head's lanes. -/
def turned (s : Fin 8) (y : ℕ → EReal) (d : ℕ) : EReal :=
  if h : d < 8 then y d * Ideal.cos (angle s ⟨d, h⟩) + y (d + 8) * -Ideal.sin (angle s ⟨d, h⟩)
  else if h' : d < 16 then y d * Ideal.cos (angle s ⟨d - 8, by omega⟩) + y (d - 8) * Ideal.sin (angle s ⟨d - 8, by omega⟩)
  else y d

theorem pos_apply : ∀ s : Fin 8, pos (ix1 s) = BitVec.ofNat 32 (2048 + s.val) := by decide +kernel

theorem ang_apply (s e : Fin 8) : ang (ix2 s e) = angle s e := by
  refine congrArg₂ (· * ·) ?_ ?_
  · refine (broadcastInDim_apply _ _ _ (ix2 s e) (ix2 s (0 : Fin 1)) fun a => ?_).trans ((broadcastInDim_apply _ _ _ (ix2 s (0 : Fin 1)) (ix1 s) fun a => ?_).trans ?_)
    · match a with
      | ⟨0, _⟩ => rfl
      | ⟨1, _⟩ => rfl
    · match a with
      | ⟨0, _⟩ => rfl
    show (FloatOps.sitofp .f32 (pos (ix1 s)) : Ideal .f32) = _
    rw [pos_apply]
  · refine (broadcastInDim_apply _ _ _ (ix2 s e) (ix2 (0 : Fin 1) e) fun a => ?_).trans (broadcastInDim_apply _ _ _ (ix2 (0 : Fin 1) e) (ix1 e) fun a => ?_)
    · match a with
      | ⟨0, _⟩ => rfl
      | ⟨1, _⟩ => rfl
    · match a with
      | ⟨0, _⟩ => rfl

theorem spread_apply (T : FVec Ideal S8x8 .f32) (q : Fin 4) (e : Fin 8) : spread T (ix4 b s q e) = T (ix2 s e) := by
  unfold spread
  refine (broadcastInDim_apply _ _ _ (ix4 b s q e) (ix4 (0 : Fin 1) s (0 : Fin 1) e) fun a => ?_).trans
    (broadcastInDim_apply _ _ _ (ix4 (0 : Fin 1) s (0 : Fin 1) e) (ix2 s e) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl

theorem cos_apply (q : Fin 4) (e : Fin 8) : spread (Host.cos ang) (ix4 b s q e) = Ideal.cos (angle s e) :=
  (spread_apply b s _ q e).trans (congrArg Ideal.cos (ang_apply s e))

theorem sin_apply (q : Fin 4) (e : Fin 8) : spread (Host.sin ang) (ix4 b s q e) = Ideal.sin (angle s e) :=
  (spread_apply b s _ q e).trans (congrArg Ideal.sin (ang_apply s e))

theorem lo_apply (X : FVec Ideal S128x8x4x64 .f32) (q : Fin 4) (e : Fin 8) (d : Fin 64) (h : d.val = e.val) : lo X (ix4 b s q e) = X (ix4 b s q d) :=
  extractStridedSlice_apply _ _ _ _ _ fun a => by
    match a with
    | ⟨0, _⟩ => exact (Nat.zero_add _).symm
    | ⟨1, _⟩ => exact (Nat.zero_add _).symm
    | ⟨2, _⟩ => exact (Nat.zero_add _).symm
    | ⟨3, _⟩ => exact h.trans (Nat.zero_add _).symm

theorem hi_apply (X : FVec Ideal S128x8x4x64 .f32) (q : Fin 4) (e : Fin 8) (d : Fin 64) (h : d.val = 8 + e.val) : hi X (ix4 b s q e) = X (ix4 b s q d) :=
  extractStridedSlice_apply _ _ _ _ _ fun a => by
    match a with
    | ⟨0, _⟩ => exact (Nat.zero_add _).symm
    | ⟨1, _⟩ => exact (Nat.zero_add _).symm
    | ⟨2, _⟩ => exact (Nat.zero_add _).symm
    | ⟨3, _⟩ => exact h

theorem rest_apply (X : FVec Ideal S128x8x4x64 .f32) (q : Fin 4) (e : Fin 48) (d : Fin 64) (h : d.val = 16 + e.val) : rest X (ix4 b s q e) = X (ix4 b s q d) :=
  extractStridedSlice_apply _ _ _ _ _ fun a => by
    match a with
    | ⟨0, _⟩ => exact (Nat.zero_add _).symm
    | ⟨1, _⟩ => exact (Nat.zero_add _).symm
    | ⟨2, _⟩ => exact (Nat.zero_add _).symm
    | ⟨3, _⟩ => exact h

theorem join_fst (a b' : FVec Ideal S128x8x4x8 .f32) (z : FVec Ideal S128x8x4x48 .f32) (q : Fin 4) (d : Fin 64) (e : Fin 8) (h : d.val = 0 + e.val) :
    join a b' z (ix4 b s q d) = a (ix4 b s q e) :=
  concatenate_apply_piece (t := S128x8x4x64) 3 [⟨S128x8x4x8, a⟩, ⟨S128x8x4x8, b'⟩, ⟨S128x8x4x48, z⟩] concatenates_S128x8x4x8_S128x8x4x8_S128x8x4x48_S128x8x4x64_d3
    (ix4 b s q d) 0 (show 0 < 3 by decide) S128x8x4x8 a rfl rfl 0 rfl (ix4 b s q e) (fun i hi => by
      match i with
      | ⟨0, _⟩ => rfl
      | ⟨1, _⟩ => rfl
      | ⟨2, _⟩ => rfl
      | ⟨3, _⟩ => exact absurd rfl hi) h.symm

theorem join_snd (a b' : FVec Ideal S128x8x4x8 .f32) (z : FVec Ideal S128x8x4x48 .f32) (q : Fin 4) (d : Fin 64) (e : Fin 8) (h : d.val = 8 + e.val) :
    join a b' z (ix4 b s q d) = b' (ix4 b s q e) :=
  concatenate_apply_piece (t := S128x8x4x64) 3 [⟨S128x8x4x8, a⟩, ⟨S128x8x4x8, b'⟩, ⟨S128x8x4x48, z⟩] concatenates_S128x8x4x8_S128x8x4x8_S128x8x4x48_S128x8x4x64_d3
    (ix4 b s q d) 1 (show 1 < 3 by decide) S128x8x4x8 b' rfl rfl 8 rfl (ix4 b s q e) (fun i hi => by
      match i with
      | ⟨0, _⟩ => rfl
      | ⟨1, _⟩ => rfl
      | ⟨2, _⟩ => rfl
      | ⟨3, _⟩ => exact absurd rfl hi) h.symm

theorem join_trd (a b' : FVec Ideal S128x8x4x8 .f32) (z : FVec Ideal S128x8x4x48 .f32) (q : Fin 4) (d : Fin 64) (e : Fin 48) (h : d.val = 16 + e.val) :
    join a b' z (ix4 b s q d) = z (ix4 b s q e) :=
  concatenate_apply_piece (t := S128x8x4x64) 3 [⟨S128x8x4x8, a⟩, ⟨S128x8x4x8, b'⟩, ⟨S128x8x4x48, z⟩] concatenates_S128x8x4x8_S128x8x4x8_S128x8x4x48_S128x8x4x64_d3
    (ix4 b s q d) 2 (show 2 < 3 by decide) S128x8x4x48 z rfl rfl 16 rfl (ix4 b s q e) (fun i hi => by
      match i with
      | ⟨0, _⟩ => rfl
      | ⟨1, _⟩ => rfl
      | ⟨2, _⟩ => rfl
      | ⟨3, _⟩ => exact absurd rfl hi) h.symm

theorem rope_apply (X : FVec Ideal S128x8x4x64 .f32) (q : Fin 4) (d : Fin 64) (y : ℕ → EReal) (hy : ∀ d' : Fin 64, X (ix4 b s q d') = y d'.val) :
    rope X (ix4 b s q d) = turned s y d.val := by
  have hd := d.isLt
  unfold rope turned
  split_ifs with h8 h16
  · refine (join_fst b s _ _ _ q d ⟨d.val, h8⟩ (Nat.zero_add _).symm).trans ?_
    show lo X (ix4 b s q ⟨d.val, h8⟩) * spread (Host.cos ang) (ix4 b s q ⟨d.val, h8⟩) - hi X (ix4 b s q ⟨d.val, h8⟩) * spread (Host.sin ang) (ix4 b s q ⟨d.val, h8⟩) = _
    rw [cos_apply, sin_apply, lo_apply b s X q ⟨d.val, h8⟩ d rfl, hi_apply b s X q ⟨d.val, h8⟩ ⟨d.val + 8, by omega⟩ (Nat.add_comm _ _), hy, hy, mul_neg, sub_eq_add_neg]
  · have e8 : d.val = 8 + (d.val - 8) := by omega
    refine (join_snd b s _ _ _ q d ⟨d.val - 8, by omega⟩ e8).trans ?_
    show hi X (ix4 b s q ⟨d.val - 8, by omega⟩) * spread (Host.cos ang) (ix4 b s q ⟨d.val - 8, by omega⟩) + lo X (ix4 b s q ⟨d.val - 8, by omega⟩) * spread (Host.sin ang) (ix4 b s q ⟨d.val - 8, by omega⟩) = _
    rw [cos_apply, sin_apply, hi_apply b s X q ⟨d.val - 8, by omega⟩ d e8, lo_apply b s X q ⟨d.val - 8, by omega⟩ ⟨d.val - 8, by omega⟩ rfl, hy, hy]
  · have e16 : d.val = 16 + (d.val - 16) := by omega
    exact (join_trd b s _ _ _ q d ⟨d.val - 16, by omega⟩ e16).trans ((rest_apply b s X q ⟨d.val - 16, by omega⟩ d e16).trans (hy d))

theorem rotated_apply {o : ℕ} (v : FVec Ideal S128x8x2596 .f32) (h : S128x8x2596.Slices ![0, 0, o] S128x8x256) (ho : o + 256 ≤ 2596) (R : Fin 1024) (hR : R.val = b.val * 8 + s.val)
    (j : Fin 256) (y : ℕ → EReal) (hy : ∀ (d : ℕ) (n : Fin 2596), d < 64 → n.val = o + (j.val / 64 * 64 + d) → v (ix3 b s n) = y d) :
    rotated h v (ix2 R j) = turned s y (j.val % 64) := by
  have hj := j.isLt
  unfold rotated
  refine (shapeCast_apply _ _ (ix2 R j) (ix4 b s (⟨j.val / 64, by omega⟩ : Fin 4) (⟨j.val % 64, Nat.mod_lt _ (by decide)⟩ : Fin 64)) ?_).trans
    (rope_apply b s _ _ _ y fun d' => ?_)
  · rw [Shape.rowMajor_val_four, Shape.rowMajor_val_two]
    show ((b.val * 8 + s.val) * 4 + j.val / 64) * 64 + j.val % 64 = R.val * 256 + j.val
    omega
  · have hd := d'.isLt
    obtain ⟨J, hJ⟩ : ∃ J : Fin 256, J.val = j.val / 64 * 64 + d'.val := ⟨⟨j.val / 64 * 64 + d'.val, by omega⟩, rfl⟩
    obtain ⟨n, hn⟩ : ∃ n : Fin 2596, n.val = o + J.val := ⟨⟨o + J.val, by have := J.isLt; omega⟩, rfl⟩
    refine (shapeCast_apply _ _ _ (ix3 b s J) ?_).trans ((Cert.Proj.cols_of v h b s J n hn).trans (hy d'.val n hd (hn.trans (by rw [hJ]))))
    rw [Shape.rowMajor_val_four, Shape.rowMajor_val_three]
    show (b.val * 8 + s.val) * 256 + J.val = ((b.val * 8 + s.val) * 4 + j.val / 64) * 64 + d'.val
    omega

theorem ks_apply (R : Fin 1024) (hR : R.val = b.val * 8 + s.val) (j : Fin 256) (y : ℕ → EReal)
    (hy : ∀ (d : ℕ) (n : Fin 2596), d < 64 → n.val = 1280 + (j.val / 64 * 64 + d) → z x g w (ix3 b s n) = y d) :
    ks x g w (ix2 R j) = turned s y (j.val % 64) := by
  unfold ks
  exact rotated_apply b s (z x g w) slices_S128x8x2596_S128x8x256_0_0_1280 (by decide) R hR j y hy

theorem kw_apply (R : Fin 1024) (hR : R.val = b.val * 8 + s.val) (j : Fin 256) (y : ℕ → EReal)
    (hy : ∀ (d : ℕ) (n : Fin 2596), d < 64 → n.val = 1792 + (j.val / 64 * 64 + d) → z x g w (ix3 b s n) = y d) :
    kw x g w (ix2 R j) = turned s y (j.val % 64) := by
  unfold kw
  exact rotated_apply b s (z x g w) slices_S128x8x2596_S128x8x256_0_0_1792 (by decide) R hR j y hy

end Terms

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v96) = kc (m ((c.tc : Thread nD τ).loc main_arg0)) (m ((c.tc : Thread nD τ).loc main_arg1)) (m ((c.tc : Thread nD τ).loc main_arg2))
      ∧ r.2.mem ((c.tc : Thread nD τ).loc main_v97) = vc (m ((c.tc : Thread nD τ).loc main_arg0)) (m ((c.tc : Thread nD τ).loc main_arg1)) (m ((c.tc : Thread nD τ).loc main_arg2))
      ∧ r.2.mem ((c.tc : Thread nD τ).loc main_v98) = ks (m ((c.tc : Thread nD τ).loc main_arg0)) (m ((c.tc : Thread nD τ).loc main_arg1)) (m ((c.tc : Thread nD τ).loc main_arg2))
      ∧ r.2.mem ((c.tc : Thread nD τ).loc main_v99) = vs (m ((c.tc : Thread nD τ).loc main_arg0)) (m ((c.tc : Thread nD τ).loc main_arg1)) (m ((c.tc : Thread nD τ).loc main_arg2))
      ∧ r.2.mem ((c.tc : Thread nD τ).loc main_v100) = kw (m ((c.tc : Thread nD τ).loc main_arg0)) (m ((c.tc : Thread nD τ).loc main_arg1)) (m ((c.tc : Thread nD τ).loc main_arg2))
      ∧ r.2.mem ((c.tc : Thread nD τ).loc main_v101) = vw (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference8Ideal.NsaRows
-- ==== Proof.Blocks.lean ====
module

public import proofs.«01_k».proof.Proof.Gen.KernelIdeal.Value
public import Idealize.ShloMosaic.Lib.Pipeline.Value
public import Idealize.ShloMosaic.Lib.Pipeline.ReadBack

@[expose] public section

set_option maxRecDepth 16384

noncomputable section

namespace Cert.KernelIdeal.Sb

open Idealize.ShloMosaic Idealize.ShloMosaic.TcCoe
open Cert.KernelIdeal Cert.KernelIdeal.Gen

variable {F : FTy → Type} [FloatOps F] [Named F]

/-! ## One key block against one query block, as vectors -/

/-- The scores of a key block against a half-masked query block: keys down, queries across. -/
def scores (kb : Vec F S256x128 .bf16) (qm : FVec F S256x128 .bf16) : FVec F S256x256 .f32 :=
  matmul dot_S256x128_S256x128_S256x256_1_1_0_0_n_n none (shapeCast S256x128 kb shapeCasts_S256x128_S256x128) qm
    (constant S256x256 .f32 0x00000000#32)

/-- The base-two logarithm of the part of the stick that is kept at each score. -/
def keep (y : FVec F S256x256 .f32) : FVec F S256x256 .f32 :=
  subf (minimumf y (broadcast S256x256 (Scalar.ofBits .f32 0x00000000#32)))
    (mulf
      (log (addf (broadcast S256x256 (Scalar.ofBits .f32 0x3F800000#32))
        (exp2 (subf (broadcast S256x256 (Scalar.ofBits .f32 0x00000000#32)) (absf y)))))
      (broadcast S256x256 (Named.named κ "log2_e" 0x3FB8AA3B#32)))

/-- What the later keys of the block keep, by the strict triangle `u`. -/
def later (u : FVec F S256x256 .bf16) (lk : FVec F S256x256 .f32) : FVec F S256x256 .f32 :=
  matmul dot_S256x256_S256x256_S256x256_1_0_0_1_n_n none u (truncf .bf16 lk bitsLt_bf16_f32)
    (constant S256x256 .f32 0x00000000#32)

/-- The weights of the block's keys, from what later keys of this and of later blocks keep. -/
def weight (y lk af : FVec F S256x256 .f32) (c : FVec F S1x256 .f32) : FVec F S256x256 .f32 :=
  exp2 (addf (addf (subf lk y) af) (broadcastTo S256x256 c broadcasts_S1x256_S256x256))

/-- The carry with a whole block's kept parts added. -/
def nextc (c : FVec F S1x256 .f32) (af lk : FVec F S256x256 .f32) : FVec F S1x256 .f32 :=
  addf (addf c (extractStridedSlice S1x256 ![0, 0] af slices_S256x256_o0_0_S1x256))
    (extractStridedSlice S1x256 ![0, 0] lk slices_S256x256_o0_0_S1x256)

/-- The value block's rows of the pair's first head, the others zero. -/
def vlo (vt : Vec F S1x128x256 .bf16) : FVec F S128x256 .bf16 :=
  select (cmpi .slt (iota .tc S128x256 32 [0] iota_S128x256_d0_w32) (broadcast S128x256 64#32))
    (shapeCast S128x256 vt shapeCasts_S1x128x256_S128x256) (broadcast S128x256 (Scalar.ofBits .bf16 0x0000#16))

/-- The value block's rows of the pair's second head, the others zero. -/
def vhi (vt : Vec F S1x128x256 .bf16) : FVec F S128x256 .bf16 :=
  select (cmpi .sge (iota .tc S128x256 32 [0] iota_S128x256_d0_w32) (broadcast S128x256 64#32))
    (shapeCast S128x256 vt shapeCasts_S1x128x256_S128x256) (broadcast S128x256 (Scalar.ofBits .bf16 0x0000#16))

/-- A block of values under its weights. -/
def part (vh : FVec F S128x256 .bf16) (a : FVec F S256x256 .f32) : FVec F S128x256 .f32 :=
  matmul dot_S128x256_S256x256_S128x256_1_0_0_1_n_n none vh (truncf .bf16 a bitsLt_bf16_f32)
    (constant S128x256 .f32 0x00000000#32)

/-- The carry after a block. -/
def nc (u : FVec F S256x256 .bf16) (kb : Vec F S256x128 .bf16) (q : FVec F S256x128 .bf16) (c : FVec F S1x256 .f32) :
    FVec F S1x256 .f32 :=
  nextc c (later u (keep (scores kb q))) (keep (scores kb q))

/-- A block's contribution for one head of the pair. -/
def pt (u : FVec F S256x256 .bf16) (kb : Vec F S256x128 .bf16) (q : FVec F S256x128 .bf16) (vh : FVec F S128x256 .bf16)
    (c : FVec F S1x256 .f32) : FVec F S128x256 .f32 :=
  part vh (weight (scores kb q) (keep (scores kb q)) (later u (keep (scores kb q))) c)

/-- Four blocks' contributions, in the order the kernel adds them. -/
def sum4 (u : FVec F S256x256 .bf16) (qa qb : FVec F S256x128 .bf16) (k0 k1 k2 k3 : Vec F S256x128 .bf16)
    (v0 v1 v2 v3 : Vec F S1x128x256 .bf16) (c d : FVec F S1x256 .f32) : FVec F S128x256 .f32 :=
  addf (addf (addf (addf (addf (addf (addf
    (pt u k0 qa (vlo v0) c) (pt u k0 qb (vhi v0) d))
    (pt u k1 qa (vlo v1) (nc u k0 qa c))) (pt u k1 qb (vhi v1) (nc u k0 qb d)))
    (pt u k2 qa (vlo v2) (nc u k1 qa (nc u k0 qa c)))) (pt u k2 qb (vhi v2) (nc u k1 qb (nc u k0 qb d))))
    (pt u k3 qa (vlo v3) (nc u k2 qa (nc u k1 qa (nc u k0 qa c)))))
    (pt u k3 qb (vhi v3) (nc u k2 qb (nc u k1 qb (nc u k0 qb d))))

abbrev rAcc : Rect S128x256 := Rect.unit ![0, 0] ![128, 256] inb_S128x256_S128x256_0_0
abbrev rC0 : Rect S8x256 := Rect.unit ![0, 0] ![1, 256] inb_S8x256_S1x256_0_0
abbrev rC1 : Rect S8x256 := Rect.unit ![1, 0] ![1, 256] inb_S8x256_S1x256_1_0

/-- What the scratch buffers hold between blocks: the sums, and the carry of each head of the pair. -/
structure St (F : FTy → Type) where
  a : Vec F S128x256 .f32
  c : Vec F S1x256 .f32
  d : Vec F S1x256 .f32

/-- The state after one whole block. -/
def step1 (u : FVec F S256x256 .bf16) (qa qb : FVec F S256x128 .bf16) (k0 : Vec F S256x128 .bf16)
    (v0 : Vec F S1x128x256 .bf16) (s : St F) : St F where
  a := shapeCast S128x256 (addf s.a (addf (pt u k0 qa (vlo v0) s.c) (pt u k0 qb (vhi v0) s.d))) shapeCasts_S128x256_S128x256
  c := shapeCast S1x256 (nc u k0 qa s.c) shapeCasts_S1x256_S1x256
  d := shapeCast S1x256 (nc u k0 qb s.d) shapeCasts_S1x256_S1x256

/-- The state after two whole blocks. -/
def step2 (u : FVec F S256x256 .bf16) (qa qb : FVec F S256x128 .bf16) (k0 k1 : Vec F S256x128 .bf16)
    (v0 v1 : Vec F S1x128x256 .bf16) (s : St F) : St F where
  a := shapeCast S128x256 (addf s.a (addf (addf (addf
    (pt u k0 qa (vlo v0) s.c) (pt u k0 qb (vhi v0) s.d))
    (pt u k1 qa (vlo v1) (nc u k0 qa s.c))) (pt u k1 qb (vhi v1) (nc u k0 qb s.d)))) shapeCasts_S128x256_S128x256
  c := shapeCast S1x256 (nc u k1 qa (nc u k0 qa s.c)) shapeCasts_S1x256_S1x256
  d := shapeCast S1x256 (nc u k1 qb (nc u k0 qb s.d)) shapeCasts_S1x256_S1x256

/-- The state after four whole blocks. -/
def step4 (u : FVec F S256x256 .bf16) (qa qb : FVec F S256x128 .bf16) (k0 k1 k2 k3 : Vec F S256x128 .bf16)
    (v0 v1 v2 v3 : Vec F S1x128x256 .bf16) (s : St F) : St F where
  a := shapeCast S128x256 (addf s.a (sum4 u qa qb k0 k1 k2 k3 v0 v1 v2 v3 s.c s.d)) shapeCasts_S128x256_S128x256
  c := shapeCast S1x256 (nc u k3 qa (nc u k2 qa (nc u k1 qa (nc u k0 qa s.c)))) shapeCasts_S1x256_S1x256
  d := shapeCast S1x256 (nc u k3 qb (nc u k2 qb (nc u k1 qb (nc u k0 qb s.d)))) shapeCasts_S1x256_S1x256

/-- The keys of the diagonal block that come before their query. -/
def before : IVec S256x256 1 :=
  cmpi .slt (iota .tc S256x256 32 [0] iota_S256x256_d0_w32) (iota .tc S256x256 32 [1] iota_S256x256_d1_w32)

/-- The kept parts of the diagonal block, zero where the key does not come before the query. -/
def keepD (y : FVec F S256x256 .f32) : FVec F S256x256 .f32 :=
  select before (keep y) (broadcast S256x256 (Scalar.ofBits .f32 0x00000000#32))

/-- A contribution of the diagonal block for one head of the pair. -/
def ptD (u : FVec F S256x256 .bf16) (kb : Vec F S256x128 .bf16) (q : FVec F S256x128 .bf16) (vh : FVec F S128x256 .bf16)
    (c : FVec F S1x256 .f32) : FVec F S128x256 .f32 :=
  part vh (select before (weight (scores kb q) (keepD (scores kb q)) (later u (keepD (scores kb q))) c)
    (broadcast S256x256 (Scalar.ofBits .f32 0x00000000#32)))

/-- The state the scratch buffers start from. -/
def st0 : St F where
  a := shapeCast S128x256 (broadcast S128x256 (Scalar.ofBits .f32 0x00000000#32)) shapeCasts_S128x256_S128x256
  c := broadcast S1x256 (Scalar.ofBits .f32 0x00000000#32)
  d := broadcast S1x256 (Scalar.ofBits .f32 0x00000000#32)

/-- The state after the diagonal block. -/
def stepD (u : FVec F S256x256 .bf16) (qa qb : FVec F S256x128 .bf16) (k0 : Vec F S256x128 .bf16)
    (v0 : Vec F S1x128x256 .bf16) (s : St F) : St F where
  a := shapeCast S128x256 (addf s.a (addf (ptD u k0 qa (vlo v0) s.c) (ptD u k0 qb (vhi v0) s.d))) shapeCasts_S128x256_S128x256
  c := shapeCast S1x256 (nextc s.c (later u (keepD (scores k0 qa))) (keepD (scores k0 qa))) shapeCasts_S1x256_S1x256
  d := shapeCast S1x256 (nextc s.d (later u (keepD (scores k0 qb))) (keepD (scores k0 qb))) shapeCasts_S1x256_S1x256

/-- The query block under its scale. -/
def scaled (q : Vec F S256x128 .bf16) : FVec F S256x128 .bf16 :=
  truncf .bf16 (mulf (extf .f32 (shapeCast S256x128 q shapeCasts_S256x128_S256x128) bitsLt_bf16_f32)
    (broadcast S256x128 (Named.named κ "neg_q_scale" 0xBE38AA3B#32))) bitsLt_bf16_f32

/-- The query block's first head, the other lanes zero. -/
def qlo (q : Vec F S256x128 .bf16) : FVec F S256x128 .bf16 :=
  select (cmpi .slt (iota .tc S256x128 32 [1] iota_S256x128_d1_w32) (broadcast S256x128 64#32))
    (scaled q) (broadcast S256x128 (Scalar.ofBits .bf16 0x0000#16))

/-- The query block's second head, the other lanes zero. -/
def qhi (q : Vec F S256x128 .bf16) : FVec F S256x128 .bf16 :=
  select (cmpi .sge (iota .tc S256x128 32 [1] iota_S256x128_d1_w32) (broadcast S256x128 64#32))
    (scaled q) (broadcast S256x128 (Scalar.ofBits .bf16 0x0000#16))

/-- The pieces written into the scratch buffers leave this state. -/
def Holds (arg8 : Memref sig .tc .vmem S128x256 .f32) (arg9 : Memref sig .tc .vmem S8x256 .f32)
    (L8 : List (View.Piece (Elt F) S128x256 .f32)) (L9 : List (View.Piece (Elt F) S8x256 .f32)) (s : St F) : Prop :=
  arg8.view.readCov L8 rAcc.toLoadRect = s.a ∧ arg9.view.readCov L9 rC0.toLoadRect = s.c
    ∧ arg9.view.readCov L9 rC1.toLoadRect = s.d

theorem Holds.cons {arg8 : Memref sig .tc .vmem S128x256 .f32} {arg9 : Memref sig .tc .vmem S8x256 .f32}
    {L8 : List (View.Piece (Elt F) S128x256 .f32)} {L9 : List (View.Piece (Elt F) S8x256 .f32)}
    (w : rAcc.shape.Idx → Elt F .f32) (w0 : rC0.shape.Idx → Elt F .f32) (w1 : rC1.shape.Idx → Elt F .f32) (s : St F) (ha : w = s.a) (h0 : w0 = s.c) (h1 : w1 = s.d) :
    Holds arg8 arg9 (⟨rAcc, w⟩ :: L8) (⟨rC1, w1⟩ :: ⟨rC0, w0⟩ :: L9) s := by
  refine ⟨(View.readCov_cons_toLoadRect arg8.view rAcc w L8).trans ha, ?_, ?_⟩
  · refine (View.readCov_skip arg9.view rC1 w1 _ rC0.toLoadRect (by decide)).trans ?_
    exact (View.readCov_cons_toLoadRect arg9.view rC0 w0 L9).trans h0
  · exact (View.readCov_cons_toLoadRect arg9.view rC1 w1 _).trans h1

section Trip
variable (𝒱 : Variants) (c : Dev nD) (bd : Option 𝒱.V) (i : grid0.Coords) (arg3 : Memref sig .tc .vmem S256x128 .bf16) (harg3 : arg3.IsWhole) (arg4 : Memref sig .tc .vmem S4096x128 .bf16) (harg4 : arg4.IsWhole) (arg5 : Memref sig .tc .vmem S16x128x256 .bf16) (harg5 : arg5.IsWhole) (arg6 : Memref sig .tc .vmem S256x256 .bf16) (harg6 : arg6.IsWhole) (arg7 : Memref sig .tc .vmem S256x128 .bf16) (harg7 : arg7.IsWhole) (arg8 : Memref sig .tc .vmem S128x256 .f32) (harg8 : arg8.IsWhole) (arg9 : Memref sig .tc .vmem S8x256 .f32) (harg9 : arg9.IsWhole) (arg2 : BitVec 32) (v8 : FVec F S256x128 .bf16) (v9 : FVec F S256x128 .bf16) (v19 : FVec F S256x256 .bf16) (v113 : BitVec 32) (v114 : BitVec 32) (X4 : BufTy.Contents (Elt F) arg4.view.ty) (X5 : BufTy.Contents (Elt F) arg5.view.ty) (k : Fin (k0_t1_loop i).trips)

/-- The `r`-th key block a trip reads. -/
abbrev tkb (r : Fin 4) : Vec F S256x128 .bf16 :=
  arg4.view.readAt (Elt F) (Rect.unit (s := S4096x128) (k0_off7 i k (BitVec.ofNat 32 r.val)) S256x128.size (facts₀.k0_off7_inb i k r)).toLoadRect X4

/-- The `r`-th value block a trip reads. -/
abbrev tvb (r : Fin 4) : Vec F S1x128x256 .bf16 :=
  arg5.view.readAt (Elt F) (Rect.unit (s := S16x128x256) (k0_off8 i k (BitVec.ofNat 32 r.val)) S1x128x256.size (facts₀.k0_off8_inb i k r)).toLoadRect X5

set_option maxHeartbeats 4000000 in
theorem trip_acc (f8 : BufTy.Contents (Elt F) arg8.view.ty) (f9 : BufTy.Contents (Elt F) arg9.view.ty) :
    (trip_k0_t1 (F := F) 𝒱 c bd i arg3 harg3 arg4 harg4 arg5 harg5 arg6 harg6 arg7 harg7 arg8 harg8 arg9 harg9 arg2 v8 v9 v19 v113 v114 X4 X5 k).1 f8 f9
      = [⟨rAcc, (step4 v19 v8 v9 (tkb i arg4 X4 k 0) (tkb i arg4 X4 k 1) (tkb i arg4 X4 k 2) (tkb i arg4 X4 k 3)
            (tvb i arg5 X5 k 0) (tvb i arg5 X5 k 1) (tvb i arg5 X5 k 2) (tvb i arg5 X5 k 3)
            ⟨arg8.view.readAt (Elt F) rAcc.toLoadRect f8, arg9.view.readAt (Elt F) rC0.toLoadRect f9, arg9.view.readAt (Elt F) rC1.toLoadRect f9⟩).a⟩] := by
  unfold trip_k0_t1
  dsimp only
  sl_unfold_words
  rfl

set_option maxHeartbeats 4000000 in
theorem trip_carry (f8 : BufTy.Contents (Elt F) arg8.view.ty) (f9 : BufTy.Contents (Elt F) arg9.view.ty) :
    (trip_k0_t1 (F := F) 𝒱 c bd i arg3 harg3 arg4 harg4 arg5 harg5 arg6 harg6 arg7 harg7 arg8 harg8 arg9 harg9 arg2 v8 v9 v19 v113 v114 X4 X5 k).2.1 f8 f9
      = [⟨rC1, (step4 v19 v8 v9 (tkb i arg4 X4 k 0) (tkb i arg4 X4 k 1) (tkb i arg4 X4 k 2) (tkb i arg4 X4 k 3)
            (tvb i arg5 X5 k 0) (tvb i arg5 X5 k 1) (tvb i arg5 X5 k 2) (tvb i arg5 X5 k 3)
            ⟨arg8.view.readAt (Elt F) rAcc.toLoadRect f8, arg9.view.readAt (Elt F) rC0.toLoadRect f9, arg9.view.readAt (Elt F) rC1.toLoadRect f9⟩).d⟩,
         ⟨rC0, (step4 v19 v8 v9 (tkb i arg4 X4 k 0) (tkb i arg4 X4 k 1) (tkb i arg4 X4 k 2) (tkb i arg4 X4 k 3)
            (tvb i arg5 X5 k 0) (tvb i arg5 X5 k 1) (tvb i arg5 X5 k 2) (tvb i arg5 X5 k 3)
            ⟨arg8.view.readAt (Elt F) rAcc.toLoadRect f8, arg9.view.readAt (Elt F) rC0.toLoadRect f9, arg9.view.readAt (Elt F) rC1.toLoadRect f9⟩).c⟩] := by
  unfold trip_k0_t1
  dsimp only
  sl_unfold_words
  rfl

/-- The state before trip `k`. -/
def iter (s : St F) : ℕ → St F
  | 0 => s
  | k + 1 => if h : k < (k0_t1_loop i).trips then
      step4 v19 v8 v9 (tkb i arg4 X4 ⟨k, h⟩ 0) (tkb i arg4 X4 ⟨k, h⟩ 1) (tkb i arg4 X4 ⟨k, h⟩ 2) (tkb i arg4 X4 ⟨k, h⟩ 3)
            (tvb i arg5 X5 ⟨k, h⟩ 0) (tvb i arg5 X5 ⟨k, h⟩ 1) (tvb i arg5 X5 ⟨k, h⟩ 2) (tvb i arg5 X5 ⟨k, h⟩ 3) (iter s k)
    else iter s k

theorem holds_pb (L8 : List (View.Piece (Elt F) S128x256 .f32)) (L9 : List (View.Piece (Elt F) S8x256 .f32)) (s : St F)
    (hs : Holds arg8 arg9 L8 L9 s) : ∀ k : ℕ, k ≤ (k0_t1_loop i).trips →
    Holds arg8 arg9
      ((pb_k0_t1 (F := F) 𝒱 c bd i arg3 harg3 arg4 harg4 arg5 harg5 arg6 harg6 arg7 harg7 arg8 harg8 arg9 harg9 arg2 v8 v9 v19 v113 v114 X4 X5 (arg8.view.writes (Elt F) arg8.view.junk L8) (arg9.view.writes (Elt F) arg9.view.junk L9) k).1 ++ L8)
      ((pb_k0_t1 (F := F) 𝒱 c bd i arg3 harg3 arg4 harg4 arg5 harg5 arg6 harg6 arg7 harg7 arg8 harg8 arg9 harg9 arg2 v8 v9 v19 v113 v114 X4 X5 (arg8.view.writes (Elt F) arg8.view.junk L8) (arg9.view.writes (Elt F) arg9.view.junk L9) k).2 ++ L9)
      (iter i arg4 arg5 v8 v9 v19 X4 X5 s k)
  | 0, _ => by
    simpa only [pb_k0_t1.eq_1, List.nil_append, iter] using hs
  | k + 1, hk => by
    have hk' : k < (k0_t1_loop i).trips := hk
    have ih := holds_pb L8 L9 s hs k (Nat.le_of_lt hk')
    have e := pb_k0_t1_succ (F := F) 𝒱 c bd i arg3 harg3 arg4 harg4 arg5 harg5 arg6 harg6 arg7 harg7 arg8 harg8 arg9 harg9 arg2 v8 v9 v19 v113 v114 X4 X5 (arg8.view.writes (Elt F) arg8.view.junk L8) (arg9.view.writes (Elt F) arg9.view.junk L9) ⟨k, hk'⟩
    rw [e]
    simp only [tripL_k0_t1, trip_acc, trip_carry, ← View.writes_append, List.cons_append, List.nil_append, iter, dif_pos hk']
    obtain ⟨ha, h0, h1⟩ := ih
    refine Holds.cons _ _ _ _ ?_ ?_ ?_
    all_goals
      congr 1
      exact congrArg _ (congr (congr (congrArg St.mk ha) h0) h1)
end Trip
end Cert.KernelIdeal.Sb
-- ==== Proof.Cases.lean ====
module

public import proofs.«01_k».proof.Proof.Blocks

@[expose] public section

set_option maxRecDepth 16384

noncomputable section

namespace Cert.KernelIdeal.Sb

open Idealize.ShloMosaic Idealize.ShloMosaic.TcCoe
open Cert.KernelIdeal Cert.KernelIdeal.Gen

variable {F : FTy → Type} [FloatOps F] [Named F]

theorem Holds.next {arg8 : Memref sig .tc .vmem S128x256 .f32} {arg9 : Memref sig .tc .vmem S8x256 .f32}
    {L8 : List (View.Piece (Elt F) S128x256 .f32)} {L9 : List (View.Piece (Elt F) S8x256 .f32)} {s : St F}
    (hs : Holds arg8 arg9 L8 L9 s) (g : St F → St F)
    (w : rAcc.shape.Idx → Elt F .f32) (w0 : rC0.shape.Idx → Elt F .f32) (w1 : rC1.shape.Idx → Elt F .f32)
    (ha : w = (g ⟨arg8.view.readCov L8 rAcc.toLoadRect, arg9.view.readCov L9 rC0.toLoadRect, arg9.view.readCov L9 rC1.toLoadRect⟩).a)
    (h0 : w0 = (g ⟨arg8.view.readCov L8 rAcc.toLoadRect, arg9.view.readCov L9 rC0.toLoadRect, arg9.view.readCov L9 rC1.toLoadRect⟩).c)
    (h1 : w1 = (g ⟨arg8.view.readCov L8 rAcc.toLoadRect, arg9.view.readCov L9 rC0.toLoadRect, arg9.view.readCov L9 rC1.toLoadRect⟩).d) :
    Holds arg8 arg9 (⟨rAcc, w⟩ :: L8) (⟨rC1, w1⟩ :: ⟨rC0, w0⟩ :: L9) (g s) := by
  have e : (⟨arg8.view.readCov L8 rAcc.toLoadRect, arg9.view.readCov L9 rC0.toLoadRect, arg9.view.readCov L9 rC1.toLoadRect⟩ : St F) = s := by
    obtain ⟨ha, h0, h1⟩ := hs
    exact congr (congr (congrArg St.mk ha) h0) h1
  rw [e] at ha h0 h1
  exact Holds.cons w w0 w1 _ ha h0 h1

section Cases
variable (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S16x128x256 .bf16) (harg5 : arg5.IsWhole) (arg6 : Memref sig .tc .vmem S256x256 .bf16) (harg6 : arg6.IsWhole) (arg7 : Memref sig .tc .vmem S256x128 .bf16) (harg7 : arg7.IsWhole) (arg8 : Memref sig .tc .vmem S128x256 .f32) (harg8 : arg8.IsWhole) (arg9 : Memref sig .tc .vmem S8x256 .f32) (harg9 : arg9.IsWhole)
    (x0 : Vec F S256x128 .bf16) (x1 : Vec F S4096x128 .bf16) (x2 : Vec F S16x128x256 .bf16) (x3 : Vec F S256x256 .bf16)

/-- The query block as loaded. -/
abbrev qAt : Vec F S256x128 .bf16 :=
  arg3.view.readAt (Elt F) (Rect.unit (s := S256x128) ![0, 0] S256x128.size inb_S256x128_S256x128_0_0).toLoadRect (harg3.unread x0)

/-- The triangle as loaded. -/
abbrev uAt : FVec F S256x256 .bf16 :=
  shapeCast S256x256 (arg6.view.readAt (Elt F) (Rect.unit (s := S256x256) ![0, 0] S256x256.size inb_S256x256_S256x256_0_0).toLoadRect (harg6.unread x3)) shapeCasts_S256x256_S256x256

/-- A key block as loaded. -/
abbrev kAt (off : Fin 2 → ℕ) (inb : ∀ a, off a + S256x128.size a ≤ S4096x128.size a) : Vec F S256x128 .bf16 :=
  arg4.view.readAt (Elt F) (Rect.unit (s := S4096x128) off S256x128.size inb).toLoadRect (harg4.unread x1)

/-- A value block as loaded. -/
abbrev vAt (off : Fin 3 → ℕ) (inb : ∀ a, off a + S1x128x256.size a ≤ S16x128x256.size a) : Vec F S1x128x256 .bf16 :=
  arg5.view.readAt (Elt F) (Rect.unit (s := S16x128x256) off S1x128x256.size inb).toLoadRect (harg5.unread x2)

/-- The state after the diagonal block. -/
abbrev sD : St F :=
  stepD (uAt arg6 harg6 x3) (qlo (qAt arg3 harg3 x0)) (qhi (qAt arg3 harg3 x0))
    (kAt arg4 harg4 x1 (k0_off1 i) (facts₀.k0_off1_inb i)) (vAt arg5 harg5 x2 (k0_off2 i) (facts₀.k0_off2_inb i)) st0

/-- The state after the one block below the diagonal. -/
abbrev sB (h : cond0_0 i) (s : St F) : St F :=
  step1 (uAt arg6 harg6 x3) (qlo (qAt arg3 harg3 x0)) (qhi (qAt arg3 harg3 x0))
    (kAt arg4 harg4 x1 (k0_off3 i) (facts₀.k0_off3_inb i h)) (vAt arg5 harg5 x2 (k0_off4 i) (facts₀.k0_off4_inb i h)) s

/-- The state after the two further blocks. -/
abbrev sC (h : cond0_1 i) (s : St F) : St F :=
  step2 (uAt arg6 harg6 x3) (qlo (qAt arg3 harg3 x0)) (qhi (qAt arg3 harg3 x0))
    (kAt arg4 harg4 x1 (k0_off5 i 1#32) (facts₀.k0_off5_inb i h 0)) (kAt arg4 harg4 x1 (k0_off5 i 2#32) (facts₀.k0_off5_inb i h 1))
    (vAt arg5 harg5 x2 (k0_off6 i 1#32) (facts₀.k0_off6_inb i h 0)) (vAt arg5 harg5 x2 (k0_off6 i 2#32) (facts₀.k0_off6_inb i h 1)) s

/-- The pieces in the two scratch buffers after the loop over groups of four blocks. -/
abbrev loop8 (L8 : List (View.Piece (Elt F) S128x256 .f32)) (L9 : List (View.Piece (Elt F) S8x256 .f32)) : List (View.Piece (Elt F) S128x256 .f32) :=
  (pb_k0_t1 (F := F) Variants.none c none i arg3 harg3 arg4 harg4 arg5 harg5 arg6 harg6 arg7 harg7 arg8 harg8 arg9 harg9 (BitVec.ofNat 32 (i 2).val) (qlo (qAt arg3 harg3 x0)) (qhi (qAt arg3 harg3 x0)) (uAt arg6 harg6 x3) (Scalar.andi (BitVec.ofNat 32 (i 2).val) 1#32) (Scalar.andi (BitVec.ofNat 32 (i 2).val) 2#32) (harg4.unread x1) (harg5.unread x2) (arg8.view.writes (Elt F) arg8.view.junk L8) (arg9.view.writes (Elt F) arg9.view.junk L9) (k0_t1_loop i).trips).1 ++ L8

abbrev loop9 (L8 : List (View.Piece (Elt F) S128x256 .f32)) (L9 : List (View.Piece (Elt F) S8x256 .f32)) : List (View.Piece (Elt F) S8x256 .f32) :=
  (pb_k0_t1 (F := F) Variants.none c none i arg3 harg3 arg4 harg4 arg5 harg5 arg6 harg6 arg7 harg7 arg8 harg8 arg9 harg9 (BitVec.ofNat 32 (i 2).val) (qlo (qAt arg3 harg3 x0)) (qhi (qAt arg3 harg3 x0)) (uAt arg6 harg6 x3) (Scalar.andi (BitVec.ofNat 32 (i 2).val) 1#32) (Scalar.andi (BitVec.ofNat 32 (i 2).val) 2#32) (harg4.unread x1) (harg5.unread x2) (arg8.view.writes (Elt F) arg8.view.junk L8) (arg9.view.writes (Elt F) arg9.view.junk L9) (k0_t1_loop i).trips).2 ++ L9

/-- What is written out, from the pieces before the loop. -/
abbrev fin (L8 : List (View.Piece (Elt F) S128x256 .f32)) (L9 : List (View.Piece (Elt F) S8x256 .f32)) : FVec F S256x128 .bf16 :=
  k0_pay10 (arg8.view.readCov
    ((pb_k0_t2 (F := F) Variants.none c none i arg3 harg3 arg4 harg4 arg5 harg5 arg6 harg6 arg7 harg7 arg8 harg8 arg9 harg9 (BitVec.ofNat 32 (i 2).val) (qlo (qAt arg3 harg3 x0)) (qhi (qAt arg3 harg3 x0)) (uAt arg6 harg6 x3) (Scalar.andi (BitVec.ofNat 32 (i 2).val) 1#32) (Scalar.andi (BitVec.ofNat 32 (i 2).val) 2#32)
      (Scalar.addi (0#32) (Scalar.muli (Scalar.divsi (Scalar.subi (Scalar.shrsi (BitVec.ofNat 32 (i 2).val) 2#32) 0#32) 1#32) 1#32))
      (harg4.unread x1) (harg5.unread x2)
      (arg8.view.writes (Elt F) arg8.view.junk (loop8 c i arg3 harg3 arg4 harg4 arg5 harg5 arg6 harg6 arg7 harg7 arg8 harg8 arg9 harg9 x0 x1 x2 x3 L8 L9))
      (arg9.view.writes (Elt F) arg9.view.junk (loop9 c i arg3 harg3 arg4 harg4 arg5 harg5 arg6 harg6 arg7 harg7 arg8 harg8 arg9 harg9 x0 x1 x2 x3 L8 L9)) (k0_t2_loop i).trips).1
      ++ loop8 c i arg3 harg3 arg4 harg4 arg5 harg5 arg6 harg6 arg7 harg7 arg8 harg8 arg9 harg9 x0 x1 x2 x3 L8 L9)
    rAcc.toLoadRect)

theorem holds0_A : Holds (F := F) arg8 arg9 (kernelRun0_A.sl.HS0_1) (kernelRun0_A.sl.HS1_1) st0 := by
  unfold kernelRun0_A.sl.HS0_1 kernelRun0_A.sl.HS1_1
  refine ⟨?_, ?_, ?_⟩
  · exact View.readCov_cons_toLoadRect arg8.view rAcc _ _
  · exact (View.readCov_fill arg9.view inb_S8x256_S8x256_0_0 _ _ rC0 (by decide)).trans (by unfold k0_pay181; rfl)
  · exact (View.readCov_fill arg9.view inb_S8x256_S8x256_0_0 _ _ rC1 (by decide)).trans (by unfold k0_pay181; rfl)

set_option maxHeartbeats 4000000 in
theorem holds1_A  : Holds arg8 arg9 (kernelRun0_A.sl.HS0_2 c i arg3 harg3 arg4 harg4 arg5 harg5 arg6 harg6 arg8 arg9 x0 x1 x2 x3) (kernelRun0_A.sl.HS1_3 c i arg3 harg3 arg4 harg4 arg6 harg6 arg9 x0 x1 x3) (sD i arg3 harg3 arg4 harg4 arg5 harg5 arg6 harg6 x0 x1 x2 x3) := by
  have hs := holds0_A (F := F) arg8 arg9
  unfold kernelRun0_A.sl.HS0_2 kernelRun0_A.sl.HS1_3
  refine Holds.next hs (stepD (uAt arg6 harg6 x3) (qlo (qAt arg3 harg3 x0)) (qhi (qAt arg3 harg3 x0)) (kAt arg4 harg4 x1 (k0_off1 i) (facts₀.k0_off1_inb i)) (vAt arg5 harg5 x2 (k0_off2 i) (facts₀.k0_off2_inb i))) _ _ _ ?_ ?_ ?_ <;> (sl_unfold_words; rfl)

set_option maxHeartbeats 4000000 in
theorem run_A (hc0 : ¬cond0_0 i) (hc1 : ¬cond0_1 i) :
    (kernelRun0_A c i arg3 harg3 arg4 harg4 arg5 harg5 arg6 harg6 arg7 harg7 arg8 harg8 arg9 harg9 hc0 hc1 x0 x1 x2 x3).1
      = [⟨Rect.unit ![0, 0] ![256, 128] inb_S256x128_S256x128_0_0, fin c i arg3 harg3 arg4 harg4 arg5 harg5 arg6 harg6 arg7 harg7 arg8 harg8 arg9 harg9 x0 x1 x2 x3
          (kernelRun0_A.sl.HS0_2 c i arg3 harg3 arg4 harg4 arg5 harg5 arg6 harg6 arg8 arg9 x0 x1 x2 x3) (kernelRun0_A.sl.HS1_3 c i arg3 harg3 arg4 harg4 arg6 harg6 arg9 x0 x1 x3)⟩] := by
  unfold kernelRun0_A
  dsimp only
  unfold kernelRun0_A.sl.v131
  rfl

theorem holds0_B : Holds (F := F) arg8 arg9 (kernelRun0_B.sl.HS0_1) (kernelRun0_B.sl.HS1_1) st0 := by
  unfold kernelRun0_B.sl.HS0_1 kernelRun0_B.sl.HS1_1
  refine ⟨?_, ?_, ?_⟩
  · exact View.readCov_cons_toLoadRect arg8.view rAcc _ _
  · exact (View.readCov_fill arg9.view inb_S8x256_S8x256_0_0 _ _ rC0 (by decide)).trans (by unfold k0_pay181; rfl)
  · exact (View.readCov_fill arg9.view inb_S8x256_S8x256_0_0 _ _ rC1 (by decide)).trans (by unfold k0_pay181; rfl)

set_option maxHeartbeats 4000000 in
theorem holds1_B  : Holds arg8 arg9 (kernelRun0_B.sl.HS0_2 c i arg3 harg3 arg4 harg4 arg5 harg5 arg6 harg6 arg8 arg9 x0 x1 x2 x3) (kernelRun0_B.sl.HS1_3 c i arg3 harg3 arg4 harg4 arg6 harg6 arg9 x0 x1 x3) (sD i arg3 harg3 arg4 harg4 arg5 harg5 arg6 harg6 x0 x1 x2 x3) := by
  have hs := holds0_B (F := F) arg8 arg9
  unfold kernelRun0_B.sl.HS0_2 kernelRun0_B.sl.HS1_3
  refine Holds.next hs (stepD (uAt arg6 harg6 x3) (qlo (qAt arg3 harg3 x0)) (qhi (qAt arg3 harg3 x0)) (kAt arg4 harg4 x1 (k0_off1 i) (facts₀.k0_off1_inb i)) (vAt arg5 harg5 x2 (k0_off2 i) (facts₀.k0_off2_inb i))) _ _ _ ?_ ?_ ?_ <;> (sl_unfold_words; rfl)

set_option maxHeartbeats 4000000 in
theorem holds2_B (hc0 : cond0_0 i) : Holds arg8 arg9 (kernelRun0_B.sl.HS0_3 c i arg3 harg3 arg4 harg4 arg5 harg5 arg6 harg6 arg8 arg9 hc0 x0 x1 x2 x3) (kernelRun0_B.sl.HS1_5 c i arg3 harg3 arg4 harg4 arg6 harg6 arg9 hc0 x0 x1 x3) (sB i arg3 harg3 arg4 harg4 arg5 harg5 arg6 harg6 x0 x1 x2 x3 hc0 (sD i arg3 harg3 arg4 harg4 arg5 harg5 arg6 harg6 x0 x1 x2 x3)) := by
  have hs := holds1_B c i arg3 harg3 arg4 harg4 arg5 harg5 arg6 harg6 arg8 arg9 x0 x1 x2 x3
  unfold kernelRun0_B.sl.HS0_3 kernelRun0_B.sl.HS1_5
  refine Holds.next hs (sB i arg3 harg3 arg4 harg4 arg5 harg5 arg6 harg6 x0 x1 x2 x3 hc0) _ _ _ ?_ ?_ ?_ <;> (sl_unfold_words; rfl)

set_option maxHeartbeats 4000000 in
theorem run_B (hc0 : cond0_0 i) (hc1 : ¬cond0_1 i) :
    (kernelRun0_B c i arg3 harg3 arg4 harg4 arg5 harg5 arg6 harg6 arg7 harg7 arg8 harg8 arg9 harg9 hc0 hc1 x0 x1 x2 x3).1
      = [⟨Rect.unit ![0, 0] ![256, 128] inb_S256x128_S256x128_0_0, fin c i arg3 harg3 arg4 harg4 arg5 harg5 arg6 harg6 arg7 harg7 arg8 harg8 arg9 harg9 x0 x1 x2 x3
          (kernelRun0_B.sl.HS0_3 c i arg3 harg3 arg4 harg4 arg5 harg5 arg6 harg6 arg8 arg9 hc0 x0 x1 x2 x3) (kernelRun0_B.sl.HS1_5 c i arg3 harg3 arg4 harg4 arg6 harg6 arg9 hc0 x0 x1 x3)⟩] := by
  unfold kernelRun0_B
  dsimp only
  unfold kernelRun0_B.sl.v131
  rfl

theorem holds0_C : Holds (F := F) arg8 arg9 (kernelRun0_C.sl.HS0_1) (kernelRun0_C.sl.HS1_1) st0 := by
  unfold kernelRun0_C.sl.HS0_1 kernelRun0_C.sl.HS1_1
  refine ⟨?_, ?_, ?_⟩
  · exact View.readCov_cons_toLoadRect arg8.view rAcc _ _
  · exact (View.readCov_fill arg9.view inb_S8x256_S8x256_0_0 _ _ rC0 (by decide)).trans (by unfold k0_pay181; rfl)
  · exact (View.readCov_fill arg9.view inb_S8x256_S8x256_0_0 _ _ rC1 (by decide)).trans (by unfold k0_pay181; rfl)

set_option maxHeartbeats 4000000 in
theorem holds1_C  : Holds arg8 arg9 (kernelRun0_C.sl.HS0_2 c i arg3 harg3 arg4 harg4 arg5 harg5 arg6 harg6 arg8 arg9 x0 x1 x2 x3) (kernelRun0_C.sl.HS1_3 c i arg3 harg3 arg4 harg4 arg6 harg6 arg9 x0 x1 x3) (sD i arg3 harg3 arg4 harg4 arg5 harg5 arg6 harg6 x0 x1 x2 x3) := by
  have hs := holds0_C (F := F) arg8 arg9
  unfold kernelRun0_C.sl.HS0_2 kernelRun0_C.sl.HS1_3
  refine Holds.next hs (stepD (uAt arg6 harg6 x3) (qlo (qAt arg3 harg3 x0)) (qhi (qAt arg3 harg3 x0)) (kAt arg4 harg4 x1 (k0_off1 i) (facts₀.k0_off1_inb i)) (vAt arg5 harg5 x2 (k0_off2 i) (facts₀.k0_off2_inb i))) _ _ _ ?_ ?_ ?_ <;> (sl_unfold_words; rfl)

set_option maxHeartbeats 4000000 in
theorem holds2_C (hc1 : cond0_1 i) : Holds arg8 arg9 (kernelRun0_C.sl.HS0_3 c i arg3 harg3 arg4 harg4 arg5 harg5 arg6 harg6 arg8 arg9 hc1 x0 x1 x2 x3) (kernelRun0_C.sl.HS1_5 c i arg3 harg3 arg4 harg4 arg6 harg6 arg9 hc1 x0 x1 x3) (sC i arg3 harg3 arg4 harg4 arg5 harg5 arg6 harg6 x0 x1 x2 x3 hc1 (sD i arg3 harg3 arg4 harg4 arg5 harg5 arg6 harg6 x0 x1 x2 x3)) := by
  have hs := holds1_C c i arg3 harg3 arg4 harg4 arg5 harg5 arg6 harg6 arg8 arg9 x0 x1 x2 x3
  unfold kernelRun0_C.sl.HS0_3 kernelRun0_C.sl.HS1_5
  refine Holds.next hs (sC i arg3 harg3 arg4 harg4 arg5 harg5 arg6 harg6 x0 x1 x2 x3 hc1) _ _ _ ?_ ?_ ?_ <;> (sl_unfold_words; rfl)

set_option maxHeartbeats 4000000 in
theorem run_C (hc0 : ¬cond0_0 i) (hc1 : cond0_1 i) :
    (kernelRun0_C c i arg3 harg3 arg4 harg4 arg5 harg5 arg6 harg6 arg7 harg7 arg8 harg8 arg9 harg9 hc0 hc1 x0 x1 x2 x3).1
      = [⟨Rect.unit ![0, 0] ![256, 128] inb_S256x128_S256x128_0_0, fin c i arg3 harg3 arg4 harg4 arg5 harg5 arg6 harg6 arg7 harg7 arg8 harg8 arg9 harg9 x0 x1 x2 x3
          (kernelRun0_C.sl.HS0_3 c i arg3 harg3 arg4 harg4 arg5 harg5 arg6 harg6 arg8 arg9 hc1 x0 x1 x2 x3) (kernelRun0_C.sl.HS1_5 c i arg3 harg3 arg4 harg4 arg6 harg6 arg9 hc1 x0 x1 x3)⟩] := by
  unfold kernelRun0_C
  dsimp only
  unfold kernelRun0_C.sl.v131
  rfl

theorem holds0_D : Holds (F := F) arg8 arg9 (kernelRun0_D.sl.HS0_1) (kernelRun0_D.sl.HS1_1) st0 := by
  unfold kernelRun0_D.sl.HS0_1 kernelRun0_D.sl.HS1_1
  refine ⟨?_, ?_, ?_⟩
  · exact View.readCov_cons_toLoadRect arg8.view rAcc _ _
  · exact (View.readCov_fill arg9.view inb_S8x256_S8x256_0_0 _ _ rC0 (by decide)).trans (by unfold k0_pay181; rfl)
  · exact (View.readCov_fill arg9.view inb_S8x256_S8x256_0_0 _ _ rC1 (by decide)).trans (by unfold k0_pay181; rfl)

set_option maxHeartbeats 4000000 in
theorem holds1_D  : Holds arg8 arg9 (kernelRun0_D.sl.HS0_2 c i arg3 harg3 arg4 harg4 arg5 harg5 arg6 harg6 arg8 arg9 x0 x1 x2 x3) (kernelRun0_D.sl.HS1_3 c i arg3 harg3 arg4 harg4 arg6 harg6 arg9 x0 x1 x3) (sD i arg3 harg3 arg4 harg4 arg5 harg5 arg6 harg6 x0 x1 x2 x3) := by
  have hs := holds0_D (F := F) arg8 arg9
  unfold kernelRun0_D.sl.HS0_2 kernelRun0_D.sl.HS1_3
  refine Holds.next hs (stepD (uAt arg6 harg6 x3) (qlo (qAt arg3 harg3 x0)) (qhi (qAt arg3 harg3 x0)) (kAt arg4 harg4 x1 (k0_off1 i) (facts₀.k0_off1_inb i)) (vAt arg5 harg5 x2 (k0_off2 i) (facts₀.k0_off2_inb i))) _ _ _ ?_ ?_ ?_ <;> (sl_unfold_words; rfl)

set_option maxHeartbeats 4000000 in
theorem holds2_D (hc0 : cond0_0 i) : Holds arg8 arg9 (kernelRun0_D.sl.HS0_3 c i arg3 harg3 arg4 harg4 arg5 harg5 arg6 harg6 arg8 arg9 hc0 x0 x1 x2 x3) (kernelRun0_D.sl.HS1_5 c i arg3 harg3 arg4 harg4 arg6 harg6 arg9 hc0 x0 x1 x3) (sB i arg3 harg3 arg4 harg4 arg5 harg5 arg6 harg6 x0 x1 x2 x3 hc0 (sD i arg3 harg3 arg4 harg4 arg5 harg5 arg6 harg6 x0 x1 x2 x3)) := by
  have hs := holds1_D c i arg3 harg3 arg4 harg4 arg5 harg5 arg6 harg6 arg8 arg9 x0 x1 x2 x3
  unfold kernelRun0_D.sl.HS0_3 kernelRun0_D.sl.HS1_5
  refine Holds.next hs (sB i arg3 harg3 arg4 harg4 arg5 harg5 arg6 harg6 x0 x1 x2 x3 hc0) _ _ _ ?_ ?_ ?_ <;> (sl_unfold_words; rfl)

set_option maxHeartbeats 4000000 in
theorem holds3_D (hc0 : cond0_0 i) (hc1 : cond0_1 i) : Holds arg8 arg9 (kernelRun0_D.sl.HS0_4 c i arg3 harg3 arg4 harg4 arg5 harg5 arg6 harg6 arg8 arg9 hc0 hc1 x0 x1 x2 x3) (kernelRun0_D.sl.HS1_7 c i arg3 harg3 arg4 harg4 arg6 harg6 arg9 hc0 hc1 x0 x1 x3) (sC i arg3 harg3 arg4 harg4 arg5 harg5 arg6 harg6 x0 x1 x2 x3 hc1 (sB i arg3 harg3 arg4 harg4 arg5 harg5 arg6 harg6 x0 x1 x2 x3 hc0 (sD i arg3 harg3 arg4 harg4 arg5 harg5 arg6 harg6 x0 x1 x2 x3))) := by
  have hs := holds2_D c i arg3 harg3 arg4 harg4 arg5 harg5 arg6 harg6 arg8 arg9 x0 x1 x2 x3 hc0
  unfold kernelRun0_D.sl.HS0_4 kernelRun0_D.sl.HS1_7
  refine Holds.next hs (sC i arg3 harg3 arg4 harg4 arg5 harg5 arg6 harg6 x0 x1 x2 x3 hc1) _ _ _ ?_ ?_ ?_ <;> (sl_unfold_words; rfl)

set_option maxHeartbeats 4000000 in
theorem run_D (hc0 : cond0_0 i) (hc1 : cond0_1 i) :
    (kernelRun0_D c i arg3 harg3 arg4 harg4 arg5 harg5 arg6 harg6 arg7 harg7 arg8 harg8 arg9 harg9 hc0 hc1 x0 x1 x2 x3).1
      = [⟨Rect.unit ![0, 0] ![256, 128] inb_S256x128_S256x128_0_0, fin c i arg3 harg3 arg4 harg4 arg5 harg5 arg6 harg6 arg7 harg7 arg8 harg8 arg9 harg9 x0 x1 x2 x3
          (kernelRun0_D.sl.HS0_4 c i arg3 harg3 arg4 harg4 arg5 harg5 arg6 harg6 arg8 arg9 hc0 hc1 x0 x1 x2 x3) (kernelRun0_D.sl.HS1_7 c i arg3 harg3 arg4 harg4 arg6 harg6 arg9 hc0 hc1 x0 x1 x3)⟩] := by
  unfold kernelRun0_D
  dsimp only
  unfold kernelRun0_D.sl.v131
  rfl

end Cases
end Cert.KernelIdeal.Sb
-- ==== Proof.Weights.lean ====
module

public import proofs.«01_k».proof.Proof.Blocks
public import Idealize.ShloMosaic.Lib.MatmulPlain
public import Idealize.ShloMosaic.Lib.IdealHost
public import Idealize.ShloMosaic.Lib.Pointwise
public import Mathlib.Algebra.BigOperators.Intervals

@[expose] public section

set_option maxRecDepth 16384

noncomputable section

namespace Cert.KernelIdeal.Sb

open Idealize.ShloMosaic Idealize.ShloMosaic.TcCoe
open Idealize.ShloMosaic.ValueIdx (constant_apply)
open Cert.KernelIdeal Cert.KernelIdeal.Gen
open scoped BigOperators

/-! ## The pieces of a block, entry by entry -/

theorem scores_apply (kb : Vec Ideal S256x128 .bf16) (q : FVec Ideal S256x128 .bf16) (K Q : Fin 256) :
    scores kb q (ix2 K Q) = ∑ l : Fin 128, kb (ix2 K l) * q (ix2 Q l) := by
  unfold scores
  rw [shapeCast_id]
  refine (Ideal.matmul_transposedRhs_apply (M := 256) (K := 128) (N := 256) none kb q _ K Q).trans ?_
  rw [constant_apply, Ideal.ofBits_zero_f32, zero_add]
  rfl

theorem later_apply (u : FVec Ideal S256x256 .bf16) (lk : FVec Ideal S256x256 .f32) (K Q : Fin 256) :
    later u lk (ix2 K Q) = ∑ K' : Fin 256, u (ix2 K K') * lk (ix2 K' Q) := by
  unfold later
  refine (Ideal.matmul_plain_apply (M := 256) (K := 256) (N := 256) none u _ _ K Q).trans ?_
  rw [constant_apply, Ideal.ofBits_zero_f32, zero_add]
  rfl

theorem part_apply (v : FVec Ideal S128x256 .bf16) (a : FVec Ideal S256x256 .f32) (d : Fin 128) (Q : Fin 256) :
    part v a (ix2 d Q) = ∑ K : Fin 256, v (ix2 d K) * a (ix2 K Q) := by
  unfold part
  refine (Ideal.matmul_plain_apply (M := 128) (K := 256) (N := 256) none v _ _ d Q).trans ?_
  rw [constant_apply, Ideal.ofBits_zero_f32, zero_add]
  rfl

/-- The base-two logarithm of what a real score keeps. -/
def lkR (y : ℝ) : ℝ := min y 0 - Real.log (1 + Real.rpow 2 (-|y|)) * (Real.log 2)⁻¹

theorem keep_apply (y : FVec Ideal S256x256 .f32) (j : S256x256.Idx) (r : ℝ) (h : y j = (r : EReal)) :
    keep y j = (lkR r : EReal) := by
  have e : keep y j = min (y j) (Ideal.ofBits .f32 0x00000000#32)
      - Ideal.log (Ideal.ofBits .f32 0x3F800000#32 + Ideal.exp2 (Ideal.ofBits .f32 0x00000000#32 - max (y j) (-(y j))))
        * (((Real.log 2)⁻¹ : ℝ) : EReal) := rfl
  rw [e, h, Ideal.ofBits_zero_f32, Ideal.ofBits_one_f32, ← EReal.coe_neg, ← EReal.coe_strictMono.monotone.map_max, zero_sub, ← EReal.coe_neg,
    Ideal.exp2_coe, ← EReal.coe_one, ← EReal.coe_add, Ideal.log_coe, if_neg, ← EReal.coe_mul, ← EReal.coe_zero, ← EReal.coe_strictMono.monotone.map_min,
    ← EReal.coe_sub]
  · rfl
  · have : (0 : ℝ) < Real.rpow 2 (-max r (-r)) := Real.rpow_pos_of_pos two_pos _
    linarith

theorem weight_apply (y lk af : FVec Ideal S256x256 .f32) (c : FVec Ideal S1x256 .f32) (K Q : Fin 256) (ry rl ra rc : ℝ)
    (hy : y (ix2 K Q) = (ry : EReal)) (hl : lk (ix2 K Q) = (rl : EReal)) (ha : af (ix2 K Q) = (ra : EReal)) (hc : c (ix2 0 Q) = (rc : EReal)) :
    weight y lk af c (ix2 K Q) = (Real.rpow 2 (rl - ry + ra + rc) : EReal) := by
  have e : weight y lk af c (ix2 K Q) = Ideal.exp2 (lk (ix2 K Q) - y (ix2 K Q) + af (ix2 K Q)
      + broadcastTo S256x256 c broadcasts_S1x256_S256x256 (ix2 K Q)) := rfl
  have eb : broadcastTo S256x256 c broadcasts_S1x256_S256x256 (ix2 K Q) = c (ix2 0 Q) := by
    rw [Pointwise.broadcastTo_apply]
    refine congrArg c ?_
    funext a; apply Fin.ext
    match a with
    | ⟨0, _⟩ => rfl
    | ⟨1, _⟩ => rfl
  rw [e, eb, hy, hl, ha, hc, ← EReal.coe_sub, ← EReal.coe_add, ← EReal.coe_add, Ideal.exp2_coe]

theorem nextc_apply (c : FVec Ideal S1x256 .f32) (af lk : FVec Ideal S256x256 .f32) (Q : Fin 256) :
    nextc c af lk (ix2 0 Q) = c (ix2 0 Q) + af (ix2 0 Q) + lk (ix2 0 Q) := by
  have e (x : FVec Ideal S256x256 .f32) : extractStridedSlice S1x256 ![0, 0] x slices_S256x256_o0_0_S1x256 (ix2 0 Q) = x (ix2 0 Q) := by
    rw [Pointwise.extractStridedSlice_apply]
    refine congrArg x ?_
    funext a; apply Fin.ext
    match a with
    | ⟨0, _⟩ => rfl
    | ⟨1, _⟩ => exact Nat.zero_add _
  have e' : nextc c af lk (ix2 0 Q) = c (ix2 0 Q) + extractStridedSlice S1x256 ![0, 0] af slices_S256x256_o0_0_S1x256 (ix2 0 Q)
      + extractStridedSlice S1x256 ![0, 0] lk slices_S256x256_o0_0_S1x256 (ix2 0 Q) := rfl
  rw [e', e, e]

theorem lane_slt (d : Fin 128) : (BitVec.ofNat 32 d.val).slt 64#32 = decide (d.val < 64) := by
  revert d; decide +kernel

theorem lane_sge (d : Fin 128) : (64#32).sle (BitVec.ofNat 32 d.val) = decide (¬ d.val < 64) := by
  revert d; decide +kernel

theorem vt_apply (vt : Vec Ideal S1x128x256 .bf16) (d : Fin 128) (K : Fin 256) :
    shapeCast S128x256 vt shapeCasts_S1x128x256_S128x256 (ix2 d K) = vt (ix3 0 d K) := by
  pointwise

theorem vlo_apply (vt : Vec Ideal S1x128x256 .bf16) (d : Fin 128) (K : Fin 256) :
    vlo vt (ix2 d K) = if d.val < 64 then vt (ix3 0 d K) else 0 := by
  have e : vlo vt (ix2 d K) = if BitVec.ofBool ((BitVec.ofNat 32 d.val).slt 64#32) = 1#1 then
      shapeCast S128x256 vt shapeCasts_S1x128x256_S128x256 (ix2 d K) else Ideal.ofBits .bf16 0x0000#16 := by
    unfold vlo
    pointwise
    rfl
  rw [e, lane_slt, vt_apply, Ideal.ofBits_zero_bf16]
  by_cases h : d.val < 64 <;> simp [h]

theorem vhi_apply (vt : Vec Ideal S1x128x256 .bf16) (d : Fin 128) (K : Fin 256) :
    vhi vt (ix2 d K) = if d.val < 64 then 0 else vt (ix3 0 d K) := by
  have e : vhi vt (ix2 d K) = if BitVec.ofBool ((64#32).sle (BitVec.ofNat 32 d.val)) = 1#1 then
      shapeCast S128x256 vt shapeCasts_S1x128x256_S128x256 (ix2 d K) else Ideal.ofBits .bf16 0x0000#16 := by
    unfold vhi
    pointwise
    rfl
  rw [e, lane_sge, vt_apply, Ideal.ofBits_zero_bf16]
  by_cases h : d.val < 64 <;> simp [h]

theorem scaled_apply (q : Vec Ideal S256x128 .bf16) (j : S256x128.Idx) :
    scaled q j = q j * ((-((8 * (Real.log 2))⁻¹) : ℝ) : EReal) := by
  unfold scaled
  rw [shapeCast_id]
  rfl

theorem qlo_apply (q : Vec Ideal S256x128 .bf16) (Q : Fin 256) (l : Fin 128) :
    qlo q (ix2 Q l) = if l.val < 64 then q (ix2 Q l) * ((-((8 * (Real.log 2))⁻¹) : ℝ) : EReal) else 0 := by
  have e : qlo q (ix2 Q l) = if BitVec.ofBool ((BitVec.ofNat 32 l.val).slt 64#32) = 1#1 then
      scaled q (ix2 Q l) else Ideal.ofBits .bf16 0x0000#16 := by
    unfold qlo
    generalize scaled q = z
    pointwise
    rfl
  rw [e, lane_slt, scaled_apply, Ideal.ofBits_zero_bf16]
  by_cases h : l.val < 64 <;> simp [h]

theorem qhi_apply (q : Vec Ideal S256x128 .bf16) (Q : Fin 256) (l : Fin 128) :
    qhi q (ix2 Q l) = if l.val < 64 then 0 else q (ix2 Q l) * ((-((8 * (Real.log 2))⁻¹) : ℝ) : EReal) := by
  have e : qhi q (ix2 Q l) = if BitVec.ofBool ((64#32).sle (BitVec.ofNat 32 l.val)) = 1#1 then
      scaled q (ix2 Q l) else Ideal.ofBits .bf16 0x0000#16 := by
    unfold qhi
    generalize scaled q = z
    pointwise
    rfl
  rw [e, lane_sge, scaled_apply, Ideal.ofBits_zero_bf16]
  by_cases h : l.val < 64 <;> simp [h]

theorem slt_small (a b : ℕ) (ha : a < 256) (hb : b < 256) :
    (BitVec.ofNat 32 a).slt (BitVec.ofNat 32 b) = decide (a < b) := by
  have e (n : ℕ) (h : n < 256) : (BitVec.ofNat 32 n).toInt = n := by
    rw [BitVec.toInt_eq_toNat_of_lt, BitVec.toNat_ofNat, Nat.mod_eq_of_lt (by omega)]
    rw [BitVec.toNat_ofNat, Nat.mod_eq_of_lt (by omega)]; omega
  rw [BitVec.slt, e a ha, e b hb]
  simp

theorem before_apply (K Q : Fin 256) : (before (ix2 K Q) = 1#1) ↔ K.val < Q.val := by
  have e : before (ix2 K Q) = BitVec.ofBool ((BitVec.ofNat 32 K.val).slt (BitVec.ofNat 32 Q.val)) := by
    unfold before
    pointwise
    rfl
  rw [e, slt_small _ _ K.isLt Q.isLt]
  by_cases h : K.val < Q.val <;> simp [h]

end Cert.KernelIdeal.Sb
-- ==== Proof.Steps.lean ====
module

public import proofs.«01_k».proof.Proof.Weights

@[expose] public section

set_option maxRecDepth 16384

noncomputable section

namespace Cert.KernelIdeal.Sb

open Idealize.ShloMosaic Idealize.ShloMosaic.TcCoe
open Cert.KernelIdeal Cert.KernelIdeal.Gen
open scoped BigOperators

/-! ## Sums over the keys of a block -/

/-- A sum over a block's keys is a sum over their positions. -/
theorem sum_block {M : Type} [AddCommMonoid M] (f : ℕ → M) (n : ℕ) :
    ∑ K : Fin 256, f (256 * n + K.val) = ∑ K ∈ Finset.Ico (256 * n) (256 * (n + 1)), f K := by
  rw [Finset.sum_Ico_eq_sum_range, Nat.mul_succ, Nat.add_sub_cancel_left, Finset.sum_range]

theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- The strict triangle picks the later keys of the block. -/
def Tri (u : FVec Ideal S256x256 .bf16) : Prop := ∀ K K' : Fin 256, u (ix2 K K') = if K.val < K'.val then 1 else 0

theorem later_val {u : FVec Ideal S256x256 .bf16} (hu : Tri u) {lk : FVec Ideal S256x256 .f32} {n : ℕ} {L : ℕ → Fin 256 → ℝ}
    (hl : ∀ K Q : Fin 256, lk (ix2 K Q) = (L (256 * n + K.val) Q : EReal)) (K Q : Fin 256) :
    later u lk (ix2 K Q) = ((∑ K' ∈ Finset.Ico (256 * n + K.val + 1) (256 * (n + 1)), L K' Q : ℝ) : EReal) := by
  have hK := K.isLt
  rw [later_apply]
  have e : ∀ K' : Fin 256, u (ix2 K K') * lk (ix2 K' Q)
      = (fun p : ℕ => ((if 256 * n + K.val < p then L p Q else 0 : ℝ) : EReal)) (256 * n + K'.val) := by
    intro K'
    rw [hu, hl]
    by_cases h : K.val < K'.val
    · simp [h]
    · simp [h]
  rw [Finset.sum_congr rfl (fun K' _ => e K'), sum_block (fun p : ℕ => ((if 256 * n + K.val < p then L p Q else 0 : ℝ) : EReal)),
    ← coe_sum, ← Finset.sum_Ico_consecutive _ (show 256 * n ≤ 256 * n + K.val + 1 by omega) (show 256 * n + K.val + 1 ≤ 256 * (n + 1) by omega)]
  congr 1
  rw [Finset.sum_eq_zero, zero_add]
  · exact Finset.sum_congr rfl fun p hp => if_pos (by have := (Finset.mem_Ico.mp hp).1; omega)
  · exact fun p hp => if_neg (by have := (Finset.mem_Ico.mp hp).2; omega)

/-! ## What the state means -/

section Meaning
variable (i : ℕ) (Y Y' : ℕ → Fin 256 → ℝ) (V : ℕ → Fin 128 → EReal)

/-- The base-two logarithm a key keeps for a query of block `i`. -/
def ell (K : ℕ) (Q : Fin 256) : ℝ := if K < 256 * i + Q.val then lkR (Y K Q) else 0

/-- What the keys from `n` on keep together. -/
def kept (n : ℕ) (Q : Fin 256) : ℝ := ∑ K ∈ Finset.Ico n (256 * (i + 1)), ell i Y K Q

/-- A key's weight. -/
def wt (K : ℕ) (Q : Fin 256) : ℝ :=
  if K < 256 * i + Q.val then Real.rpow 2 (lkR (Y K Q) - Y K Q + kept i Y (K + 1) Q) else 0

/-- The weighted values of the keys from `n` on. -/
def acc (n : ℕ) (d : Fin 128) (Q : Fin 256) : EReal :=
  ∑ K ∈ Finset.Ico n (256 * (i + 1)), V K d * (wt i (if d.val < 64 then Y else Y') K Q : EReal)

/-- The state after the blocks from `n` on. -/
structure Inv (n : ℕ) (s : St Ideal) : Prop where
  a : ∀ d Q, s.a (ix2 d Q) = acc i Y Y' V (256 * n) d Q
  c : ∀ Q, s.c (ix2 0 Q) = (kept i Y (256 * n) Q : EReal)
  d : ∀ Q, s.d (ix2 0 Q) = (kept i Y' (256 * n) Q : EReal)

variable {i Y Y' V}

theorem kept_split {a b : ℕ} (h : a ≤ b) (hb : b ≤ 256 * (i + 1)) (Q : Fin 256) :
    kept i Y a Q = (∑ K ∈ Finset.Ico a b, ell i Y K Q) + kept i Y b Q :=
  (Finset.sum_Ico_consecutive _ h hb).symm

/-- The carry after a block whose kept parts are `lk`. -/
theorem nextc_val {u : FVec Ideal S256x256 .bf16} (hu : Tri u) {lk : FVec Ideal S256x256 .f32} {n : ℕ} (hn : n ≤ i)
    (hl : ∀ K Q : Fin 256, lk (ix2 K Q) = (ell i Y (256 * n + K.val) Q : EReal)) {c : FVec Ideal S1x256 .f32}
    (hc : ∀ Q, c (ix2 0 Q) = (kept i Y (256 * (n + 1)) Q : EReal)) (Q : Fin 256) :
    nextc c (later u lk) lk (ix2 0 Q) = (kept i Y (256 * n) Q : EReal) := by
  rw [nextc_apply, later_val hu hl, hl, hc, ← EReal.coe_add, ← EReal.coe_add,
    kept_split (show 256 * n ≤ 256 * (n + 1) by omega) (by omega) Q,
    ← Finset.sum_Ico_consecutive _ (show 256 * n ≤ 256 * n + 1 by omega) (show 256 * n + 1 ≤ 256 * (n + 1) by omega)]
  congr 1
  simp only [Fin.val_zero, add_zero, Finset.sum_Ico_succ_top (le_refl _), Finset.Ico_self, Finset.sum_empty]
  ring

/-- The weights of a block before masking. -/
theorem weight_val {u : FVec Ideal S256x256 .bf16} (hu : Tri u) {y lk : FVec Ideal S256x256 .f32} {n : ℕ} (hn : n ≤ i)
    (hy : ∀ K Q : Fin 256, y (ix2 K Q) = (Y (256 * n + K.val) Q : EReal))
    (hl : ∀ K Q : Fin 256, lk (ix2 K Q) = (ell i Y (256 * n + K.val) Q : EReal)) {c : FVec Ideal S1x256 .f32}
    (hc : ∀ Q, c (ix2 0 Q) = (kept i Y (256 * (n + 1)) Q : EReal)) (K Q : Fin 256) (hK : 256 * n + K.val < 256 * i + Q.val) :
    weight y lk (later u lk) c (ix2 K Q) = (wt i Y (256 * n + K.val) Q : EReal) := by
  have := K.isLt
  rw [weight_apply _ _ _ _ K Q _ _ _ _ (hy K Q) (hl K Q) (later_val hu hl K Q) (hc Q), wt, if_pos hK,
    kept_split (show 256 * n + K.val + 1 ≤ 256 * (n + 1) by omega) (by omega) Q, ell, if_pos hK, add_assoc]

/-- Both heads' contributions of a block, added. -/
theorem part_val {vt : Vec Ideal S1x128x256 .bf16} {w w' : FVec Ideal S256x256 .f32} {n : ℕ}
    (hv : ∀ (d : Fin 128) (K : Fin 256), vt (ix3 0 d K) = V (256 * n + K.val) d)
    (hw : ∀ K Q : Fin 256, w (ix2 K Q) = (wt i Y (256 * n + K.val) Q : EReal))
    (hw' : ∀ K Q : Fin 256, w' (ix2 K Q) = (wt i Y' (256 * n + K.val) Q : EReal)) (d : Fin 128) (Q : Fin 256) :
    part (vlo vt) w (ix2 d Q) + part (vhi vt) w' (ix2 d Q)
      = ∑ K ∈ Finset.Ico (256 * n) (256 * (n + 1)), V K d * (wt i (if d.val < 64 then Y else Y') K Q : EReal) := by
  rw [part_apply, part_apply, ← sum_block (fun K => V K d * (wt i (if d.val < 64 then Y else Y') K Q : EReal)) n]
  by_cases h : d.val < 64
  · simp only [vlo_apply, vhi_apply, h, if_true, zero_mul, Finset.sum_const_zero, add_zero, hv, hw]
  · simp only [vlo_apply, vhi_apply, h, if_false, zero_mul, Finset.sum_const_zero, zero_add, hv, hw']

theorem acc_split {n : ℕ} (hn : n ≤ i) (d : Fin 128) (Q : Fin 256) :
    acc i Y Y' V (256 * n) d Q = acc i Y Y' V (256 * (n + 1)) d Q
      + ∑ K ∈ Finset.Ico (256 * n) (256 * (n + 1)), V K d * (wt i (if d.val < 64 then Y else Y') K Q : EReal) := by
  have h1 : 256 * n ≤ 256 * (n + 1) := by omega
  have h2 : 256 * (n + 1) ≤ 256 * (i + 1) := by omega
  rw [add_comm]
  exact (Finset.sum_Ico_consecutive (fun K => V K d * (wt i (if d.val < 64 then Y else Y') K Q : EReal)) h1 h2).symm

/-- What a step needs of its block: its scores for both heads of the pair and its values. -/
structure Blk (Y Y' : ℕ → Fin 256 → ℝ) (V : ℕ → Fin 128 → EReal) (qa qb : FVec Ideal S256x128 .bf16) (kb : Vec Ideal S256x128 .bf16)
    (vt : Vec Ideal S1x128x256 .bf16) (n : ℕ) : Prop where
  ya : ∀ K Q : Fin 256, scores kb qa (ix2 K Q) = (Y (256 * n + K.val) Q : EReal)
  yb : ∀ K Q : Fin 256, scores kb qb (ix2 K Q) = (Y' (256 * n + K.val) Q : EReal)
  v : ∀ (d : Fin 128) (K : Fin 256), vt (ix3 0 d K) = V (256 * n + K.val) d

theorem keep_val {kb : Vec Ideal S256x128 .bf16} {q : FVec Ideal S256x128 .bf16} {n : ℕ} (hn : n < i)
    (hy : ∀ K Q : Fin 256, scores kb q (ix2 K Q) = (Y (256 * n + K.val) Q : EReal)) (K Q : Fin 256) :
    keep (scores kb q) (ix2 K Q) = (ell i Y (256 * n + K.val) Q : EReal) := by
  have := K.isLt
  rw [keep_apply _ _ _ (hy K Q), ell, if_pos (by omega)]

theorem keepD_val {kb : Vec Ideal S256x128 .bf16} {q : FVec Ideal S256x128 .bf16}
    (hy : ∀ K Q : Fin 256, scores kb q (ix2 K Q) = (Y (256 * i + K.val) Q : EReal)) (K Q : Fin 256) :
    keepD (scores kb q) (ix2 K Q) = (ell i Y (256 * i + K.val) Q : EReal) := by
  have e : keepD (scores kb q) (ix2 K Q) = if before (ix2 K Q) = 1#1 then keep (scores kb q) (ix2 K Q)
      else Ideal.ofBits .f32 0x00000000#32 := rfl
  rw [e, ell, Ideal.ofBits_zero_f32]
  by_cases h : K.val < Q.val
  · rw [if_pos ((before_apply K Q).mpr h), if_pos (by omega), keep_apply _ _ _ (hy K Q)]
  · rw [if_neg (fun h' => h ((before_apply K Q).mp h')), if_neg (by omega), EReal.coe_zero]

/-- The state the sums start from: no keys yet. -/
theorem st0_inv : Inv i Y Y' V (i + 1) st0 where
  a d Q := by
    have e : (st0 (F := Ideal)).a (ix2 d Q) = Ideal.ofBits .f32 0x00000000#32 := by
      unfold st0
      rw [shapeCast_id]
      rfl
    rw [e, Ideal.ofBits_zero_f32, acc, Finset.Ico_self, Finset.sum_empty]
  c Q := by
    have e : (st0 (F := Ideal)).c (ix2 0 Q) = Ideal.ofBits .f32 0x00000000#32 := rfl
    rw [e, Ideal.ofBits_zero_f32, kept, Finset.Ico_self, Finset.sum_empty, EReal.coe_zero]
  d Q := by
    have e : (st0 (F := Ideal)).d (ix2 0 Q) = Ideal.ofBits .f32 0x00000000#32 := rfl
    rw [e, Ideal.ofBits_zero_f32, kept, Finset.Ico_self, Finset.sum_empty, EReal.coe_zero]

/-- The diagonal block. -/
theorem stepD_inv {u : FVec Ideal S256x256 .bf16} (hu : Tri u) {qa qb : FVec Ideal S256x128 .bf16} {kb : Vec Ideal S256x128 .bf16}
    {vt : Vec Ideal S1x128x256 .bf16} {s : St Ideal} (hB : Blk Y Y' V qa qb kb vt i) (hs : Inv i Y Y' V (i + 1) s) :
    Inv i Y Y' V i (stepD u qa qb kb vt s) where
  a d Q := by
    have hw {Y : ℕ → Fin 256 → ℝ} {q : FVec Ideal S256x128 .bf16} {c : FVec Ideal S1x256 .f32}
        (hy : ∀ K Q : Fin 256, scores kb q (ix2 K Q) = (Y (256 * i + K.val) Q : EReal))
        (hc : ∀ Q, c (ix2 0 Q) = (kept i Y (256 * (i + 1)) Q : EReal)) (K Q : Fin 256) :
        (select before (weight (scores kb q) (keepD (scores kb q)) (later u (keepD (scores kb q))) c)
          (broadcast S256x256 (Scalar.ofBits .f32 0x00000000#32)) : FVec Ideal S256x256 .f32) (ix2 K Q)
          = (wt i Y (256 * i + K.val) Q : EReal) := by
      have e : (select before (weight (scores kb q) (keepD (scores kb q)) (later u (keepD (scores kb q))) c)
          (broadcast S256x256 (Scalar.ofBits .f32 0x00000000#32)) : FVec Ideal S256x256 .f32) (ix2 K Q)
          = if before (ix2 K Q) = 1#1 then weight (scores kb q) (keepD (scores kb q)) (later u (keepD (scores kb q))) c (ix2 K Q)
            else Ideal.ofBits .f32 0x00000000#32 := rfl
      rw [e, Ideal.ofBits_zero_f32]
      by_cases h : K.val < Q.val
      · rw [if_pos ((before_apply K Q).mpr h)]
        exact weight_val hu le_rfl hy (keepD_val hy) hc K Q (by omega)
      · rw [if_neg (fun h' => h ((before_apply K Q).mp h')), wt, if_neg (by omega), EReal.coe_zero]
    have e : (stepD u qa qb kb vt s).a (ix2 d Q) = s.a (ix2 d Q) + (ptD u kb qa (vlo vt) s.c (ix2 d Q) + ptD u kb qb (vhi vt) s.d (ix2 d Q)) := by
      unfold stepD
      rw [shapeCast_id]
      rfl
    rw [e, hs.a, acc_split le_rfl]
    unfold ptD
    rw [part_val hB.v (hw hB.ya hs.c) (hw hB.yb hs.d)]
  c Q := by
    have e : (stepD u qa qb kb vt s).c = nextc s.c (later u (keepD (scores kb qa))) (keepD (scores kb qa)) := by simp only [stepD, shapeCast_id]
    rw [e]
    exact nextc_val hu le_rfl (keepD_val hB.ya) hs.c Q
  d Q := by
    have e : (stepD u qa qb kb vt s).d = nextc s.d (later u (keepD (scores kb qb))) (keepD (scores kb qb)) := by simp only [stepD, shapeCast_id]
    rw [e]
    exact nextc_val hu le_rfl (keepD_val hB.yb) hs.d Q

/-- A whole block below the diagonal. -/
theorem step1_inv {u : FVec Ideal S256x256 .bf16} (hu : Tri u) {qa qb : FVec Ideal S256x128 .bf16} {kb : Vec Ideal S256x128 .bf16}
    {vt : Vec Ideal S1x128x256 .bf16} {s : St Ideal} {n : ℕ} (hn : n < i) (hB : Blk Y Y' V qa qb kb vt n) (hs : Inv i Y Y' V (n + 1) s) :
    Inv i Y Y' V n (step1 u qa qb kb vt s) where
  a d Q := by
    have hw {Y : ℕ → Fin 256 → ℝ} {q : FVec Ideal S256x128 .bf16} {c : FVec Ideal S1x256 .f32}
        (hy : ∀ K Q : Fin 256, scores kb q (ix2 K Q) = (Y (256 * n + K.val) Q : EReal))
        (hc : ∀ Q, c (ix2 0 Q) = (kept i Y (256 * (n + 1)) Q : EReal)) (K Q : Fin 256) :
        weight (scores kb q) (keep (scores kb q)) (later u (keep (scores kb q))) c (ix2 K Q)
          = (wt i Y (256 * n + K.val) Q : EReal) :=
      weight_val hu (Nat.le_of_lt hn) hy (keep_val hn hy) hc K Q (by have := K.isLt; omega)
    have e : (step1 u qa qb kb vt s).a (ix2 d Q) = s.a (ix2 d Q) + (pt u kb qa (vlo vt) s.c (ix2 d Q) + pt u kb qb (vhi vt) s.d (ix2 d Q)) := by
      unfold step1
      rw [shapeCast_id]
      rfl
    rw [e, hs.a, acc_split (Nat.le_of_lt hn)]
    unfold pt
    rw [part_val hB.v (hw hB.ya hs.c) (hw hB.yb hs.d)]
  c Q := by
    have e : (step1 u qa qb kb vt s).c = nc u kb qa s.c := by simp only [step1, shapeCast_id]
    rw [e]
    exact nextc_val hu (Nat.le_of_lt hn) (keep_val hn hB.ya) hs.c Q
  d Q := by
    have e : (step1 u qa qb kb vt s).d = nc u kb qb s.d := by simp only [step1, shapeCast_id]
    rw [e]
    exact nextc_val hu (Nat.le_of_lt hn) (keep_val hn hB.yb) hs.d Q

end Meaning

/-! ## Several blocks at once -/

theorem St.ext' {s t : St Ideal} (ha : s.a = t.a) (hc : s.c = t.c) (hd : s.d = t.d) : s = t := by
  cases s; cases t; cases ha; cases hc; cases hd; rfl

theorem addf_assoc' {s : Shape} (x y z : FVec Ideal s .f32) : addf (addf x y) z = addf x (addf y z) := by
  funext j
  exact add_assoc (x j) (y j) (z j)

theorem step2_eq (u : FVec Ideal S256x256 .bf16) (qa qb : FVec Ideal S256x128 .bf16) (k0 k1 : Vec Ideal S256x128 .bf16)
    (v0 v1 : Vec Ideal S1x128x256 .bf16) (s : St Ideal) :
    step2 u qa qb k0 k1 v0 v1 s = step1 u qa qb k1 v1 (step1 u qa qb k0 v0 s) := by
  refine St.ext' ?_ ?_ ?_
  · simp only [step2, step1, shapeCast_id, addf_assoc']
  · simp only [step2, step1, shapeCast_id]
  · simp only [step2, step1, shapeCast_id]

theorem step4_eq (u : FVec Ideal S256x256 .bf16) (qa qb : FVec Ideal S256x128 .bf16) (k0 k1 k2 k3 : Vec Ideal S256x128 .bf16)
    (v0 v1 v2 v3 : Vec Ideal S1x128x256 .bf16) (s : St Ideal) :
    step4 u qa qb k0 k1 k2 k3 v0 v1 v2 v3 s
      = step1 u qa qb k3 v3 (step1 u qa qb k2 v2 (step1 u qa qb k1 v1 (step1 u qa qb k0 v0 s))) := by
  refine St.ext' ?_ ?_ ?_
  · simp only [step4, sum4, step1, shapeCast_id, addf_assoc']
  · simp only [step4, step1, shapeCast_id]
  · simp only [step4, step1, shapeCast_id]

end Cert.KernelIdeal.Sb
-- ==== Proof.Point.lean ====
module

public import proofs.«01_k».proof.Proof.Cases
public import proofs.«01_k».proof.Proof.Steps

@[expose] public section

set_option maxRecDepth 16384

noncomputable section

namespace Cert.KernelIdeal.Sb

open Idealize.ShloMosaic Idealize.ShloMosaic.TcCoe
open Cert.KernelIdeal Cert.KernelIdeal.Gen
open scoped BigOperators

/-! ## Which blocks a grid point reads -/

theorem off1_eq : ∀ i : grid0.Coords, k0_off1 i = ![256 * (i 2).val, 0] := by decide +kernel
theorem off2_eq : ∀ i : grid0.Coords, k0_off2 i = ![(i 2).val, 0, 0] := by decide +kernel
theorem odd_of : ∀ i : grid0.Coords, cond0_0 i → (i 2).val % 2 = 1 := by decide +kernel
theorem even_of : ∀ i : grid0.Coords, ¬cond0_0 i → (i 2).val % 2 = 0 := by decide +kernel
theorem two_of : ∀ i : grid0.Coords, cond0_1 i → (i 2).val / 2 % 2 = 1 := by decide +kernel
theorem notwo_of : ∀ i : grid0.Coords, ¬cond0_1 i → (i 2).val / 2 % 2 = 0 := by decide +kernel
theorem off3_eq : ∀ i : grid0.Coords, cond0_0 i → k0_off3 i = ![256 * ((i 2).val - 1), 0] := by decide +kernel
theorem off4_eq : ∀ i : grid0.Coords, cond0_0 i → k0_off4 i = ![(i 2).val - 1, 0, 0] := by decide +kernel
theorem off5_eq : ∀ i : grid0.Coords, cond0_1 i → ∀ r : Fin 2,
    k0_off5 i (BitVec.ofNat 32 (1 + r.val)) = ![256 * ((i 2).val - (i 2).val % 2 - (r.val + 1)), 0] := by decide +kernel
theorem off6_eq : ∀ i : grid0.Coords, cond0_1 i → ∀ r : Fin 2,
    k0_off6 i (BitVec.ofNat 32 (1 + r.val)) = ![(i 2).val - (i 2).val % 2 - (r.val + 1), 0, 0] := by decide +kernel
theorem trips1_eq : ∀ i : grid0.Coords, (k0_t1_loop i).trips = (i 2).val / 4 := by decide +kernel
theorem trips2_eq : ∀ i : grid0.Coords, (k0_t2_loop i).trips = 0 := by decide +kernel
theorem off7_eq : ∀ (i : grid0.Coords) (k : Fin (k0_t1_loop i).trips) (r : Fin 4),
    k0_off7 i k (BitVec.ofNat 32 r.val) = ![256 * (4 * ((i 2).val / 4 - k.val) - 1 - r.val), 0] := by decide +kernel
theorem off8_eq : ∀ (i : grid0.Coords) (k : Fin (k0_t1_loop i).trips) (r : Fin 4),
    k0_off8 i k (BitVec.ofNat 32 r.val) = ![4 * ((i 2).val / 4 - k.val) - 1 - r.val, 0, 0] := by decide +kernel

section Point
variable (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S16x128x256 .bf16) (harg5 : arg5.IsWhole) (arg6 : Memref sig .tc .vmem S256x256 .bf16) (harg6 : arg6.IsWhole) (arg7 : Memref sig .tc .vmem S256x128 .bf16) (harg7 : arg7.IsWhole) (arg8 : Memref sig .tc .vmem S128x256 .f32) (harg8 : arg8.IsWhole) (arg9 : Memref sig .tc .vmem S8x256 .f32) (harg9 : arg9.IsWhole)
    (x0 : Vec Ideal S256x128 .bf16) (x1 : Vec Ideal S4096x128 .bf16) (x2 : Vec Ideal S16x128x256 .bf16) (x3 : Vec Ideal S256x256 .bf16)

theorem qAt_eq : qAt arg3 harg3 x0 = x0 := by
  unfold qAt
  rw [View.readAt_eq_ld, harg3.read_unread]
  exact View.ld_unit_zero (by decide) _ x0

theorem uAt_eq : uAt arg6 harg6 x3 = x3 := by
  unfold uAt
  refine (shapeCast_id (s := S256x256) _ _).trans ?_
  rw [View.readAt_eq_ld, harg6.read_unread]
  exact View.ld_unit_zero (by decide) _ x3

theorem kload {off : Fin 2 → ℕ} {n : ℕ} (ho : off = ![256 * n, 0]) (inb : ∀ a, off a + S256x128.size a ≤ S4096x128.size a)
    (K : Fin 256) (l : Fin 128) (hn : 256 * n + K.val < 4096) :
    arg4.view.readAt (Elt Ideal) (Rect.unit (s := S4096x128) off S256x128.size inb).toLoadRect (harg4.unread x1) (ix2 K l)
      = x1 (ix2 ⟨256 * n + K.val, hn⟩ l) := by
  subst ho
  rw [View.readAt_eq_ld, harg4.read_unread]
  refine congrArg x1 ?_
  funext a; apply Fin.ext
  match a with
  | ⟨0, _⟩ => exact congrArg (256 * n + ·) (Nat.one_mul _)
  | ⟨1, _⟩ => exact (Nat.zero_add _).trans (Nat.one_mul _)

theorem vload {off : Fin 3 → ℕ} {n : ℕ} (ho : off = ![n, 0, 0]) (inb : ∀ a, off a + S1x128x256.size a ≤ S16x128x256.size a)
    (d : Fin 128) (K : Fin 256) (hn : n < 16) :
    arg5.view.readAt (Elt Ideal) (Rect.unit (s := S16x128x256) off S1x128x256.size inb).toLoadRect (harg5.unread x2) (ix3 0 d K)
      = x2 (ix3 ⟨n, hn⟩ d K) := by
  subst ho
  rw [View.readAt_eq_ld, harg5.read_unread]
  refine congrArg x2 ?_
  funext a; apply Fin.ext
  match a with
  | ⟨0, _⟩ => exact Nat.add_zero _
  | ⟨1, _⟩ => exact (Nat.zero_add _).trans (Nat.one_mul _)
  | ⟨2, _⟩ => exact (Nat.zero_add _).trans (Nat.one_mul _)

/-- The first head's score of a key, under the kernel's scale. -/
def yA (qr : Fin 256 → Fin 128 → ℝ) (kr : ℕ → Fin 128 → ℝ) (K : ℕ) (Q : Fin 256) : ℝ :=
  ∑ l : Fin 128, kr K l * (if l.val < 64 then qr Q l * -((8 * Real.log 2)⁻¹) else 0)

/-- The second head's score of a key, under the kernel's scale. -/
def yB (qr : Fin 256 → Fin 128 → ℝ) (kr : ℕ → Fin 128 → ℝ) (K : ℕ) (Q : Fin 256) : ℝ :=
  ∑ l : Fin 128, kr K l * (if l.val < 64 then 0 else qr Q l * -((8 * Real.log 2)⁻¹))

variable {x0 x1 x2 x3} {qr : Fin 256 → Fin 128 → ℝ} {kr : ℕ → Fin 128 → ℝ} {V : ℕ → Fin 128 → EReal}

/-- What the input blocks of a grid point hold. -/
structure Ins (x0 : Vec Ideal S256x128 .bf16) (x1 : Vec Ideal S4096x128 .bf16) (x2 : Vec Ideal S16x128x256 .bf16) (x3 : Vec Ideal S256x256 .bf16)
    (qr : Fin 256 → Fin 128 → ℝ) (kr : ℕ → Fin 128 → ℝ) (V : ℕ → Fin 128 → EReal) : Prop where
  q : ∀ Q l, x0 (ix2 Q l) = (qr Q l : EReal)
  k : ∀ K l, x1 (ix2 K l) = (kr K.val l : EReal)
  v : ∀ j d K, x2 (ix3 j d K) = V (256 * j.val + K.val) d
  u : Tri x3

variable (hI : Ins x0 x1 x2 x3 qr kr V)

include hI

theorem blk {offk : Fin 2 → ℕ} {offv : Fin 3 → ℕ} {n : ℕ} (hn : n < 16) (hok : offk = ![256 * n, 0]) (hov : offv = ![n, 0, 0])
    (inbk : ∀ a, offk a + S256x128.size a ≤ S4096x128.size a) (inbv : ∀ a, offv a + S1x128x256.size a ≤ S16x128x256.size a) :
    Blk (yA qr kr) (yB qr kr) V (qlo (qAt arg3 harg3 x0)) (qhi (qAt arg3 harg3 x0))
      (arg4.view.readAt (Elt Ideal) (Rect.unit (s := S4096x128) offk S256x128.size inbk).toLoadRect (harg4.unread x1))
      (arg5.view.readAt (Elt Ideal) (Rect.unit (s := S16x128x256) offv S1x128x256.size inbv).toLoadRect (harg5.unread x2)) n where
  ya K Q := by
    have hK := K.isLt
    rw [qAt_eq, scores_apply, yA, coe_sum]
    refine Finset.sum_congr rfl fun l _ => ?_
    rw [kload arg4 harg4 x1 hok inbk K l (by omega), hI.k, qlo_apply, hI.q, EReal.coe_mul]
    by_cases h : l.val < 64
    · simp only [h, if_true, EReal.coe_mul]
    · simp only [h, if_false, EReal.coe_zero]
  yb K Q := by
    have hK := K.isLt
    rw [qAt_eq, scores_apply, yB, coe_sum]
    refine Finset.sum_congr rfl fun l _ => ?_
    rw [kload arg4 harg4 x1 hok inbk K l (by omega), hI.k, qhi_apply, hI.q, EReal.coe_mul]
    by_cases h : l.val < 64
    · simp only [h, if_true, EReal.coe_zero]
    · simp only [h, if_false, EReal.coe_mul]
  v d K := by
    rw [vload arg5 harg5 x2 hov inbv d K hn, hI.v]

theorem tri : Tri (uAt arg6 harg6 x3) := by
  rw [uAt_eq]; exact hI.u

theorem sD_inv : Inv (i 2).val (yA qr kr) (yB qr kr) V (i 2).val (sD i arg3 harg3 arg4 harg4 arg5 harg5 arg6 harg6 x0 x1 x2 x3) :=
  stepD_inv (tri arg6 harg6 hI) (blk arg3 harg3 arg4 harg4 arg5 harg5 hI (i 2).isLt (off1_eq i) (off2_eq i) _ _) st0_inv

theorem sB_inv (h : cond0_0 i) {s : St Ideal} (hs : Inv (i 2).val (yA qr kr) (yB qr kr) V (i 2).val s) :
    Inv (i 2).val (yA qr kr) (yB qr kr) V ((i 2).val - 1) (sB i arg3 harg3 arg4 harg4 arg5 harg5 arg6 harg6 x0 x1 x2 x3 h s) := by
  have := odd_of i h
  have hi : (i 2).val < 16 := (i 2).isLt
  refine step1_inv (tri arg6 harg6 hI) (by omega) (blk arg3 harg3 arg4 harg4 arg5 harg5 hI (by omega) (off3_eq i h) (off4_eq i h) _ _) ?_
  rwa [Nat.sub_add_cancel (by omega)]

theorem sC_inv (h : cond0_1 i) {s : St Ideal} (hs : Inv (i 2).val (yA qr kr) (yB qr kr) V ((i 2).val - (i 2).val % 2) s) :
    Inv (i 2).val (yA qr kr) (yB qr kr) V (4 * ((i 2).val / 4)) (sC i arg3 harg3 arg4 harg4 arg5 harg5 arg6 harg6 x0 x1 x2 x3 h s) := by
  have := two_of i h
  have hi : (i 2).val < 16 := (i 2).isLt
  have hB (r : Fin 2) := blk (qr := qr) (kr := kr) (V := V) arg3 harg3 arg4 harg4 arg5 harg5 hI (n := (i 2).val - (i 2).val % 2 - (r.val + 1)) (by omega)
    (off5_eq i h r) (off6_eq i h r) (facts₀.k0_off5_inb i h r) (facts₀.k0_off6_inb i h r)
  unfold sC
  rw [step2_eq]
  have e : 4 * ((i 2).val / 4) = (i 2).val - (i 2).val % 2 - 2 := by omega
  rw [e]
  refine step1_inv (tri arg6 harg6 hI) (by omega) (hB 1) ?_
  have e2 : (i 2).val - (i 2).val % 2 - 2 + 1 = (i 2).val - (i 2).val % 2 - 1 := by omega
  rw [e2]
  refine step1_inv (tri arg6 harg6 hI) (by omega) (hB 0) ?_
  rwa [Nat.sub_add_cancel (by omega)]

theorem iter_inv {s : St Ideal} (hs : Inv (i 2).val (yA qr kr) (yB qr kr) V (4 * ((i 2).val / 4)) s) :
    ∀ k : ℕ, k ≤ (i 2).val / 4 → Inv (i 2).val (yA qr kr) (yB qr kr) V (4 * ((i 2).val / 4 - k))
      (iter i arg4 arg5 (qlo (qAt arg3 harg3 x0)) (qhi (qAt arg3 harg3 x0)) (uAt arg6 harg6 x3) (harg4.unread x1) (harg5.unread x2) s k)
  | 0, _ => hs
  | k + 1, hk => by
    have ih := iter_inv hs k (by omega)
    have hi : (i 2).val < 16 := (i 2).isLt
    have hk' : k < (k0_t1_loop i).trips := by rw [trips1_eq]; omega
    rw [iter, dif_pos hk', step4_eq]
    have hB (r : Fin 4) := blk (qr := qr) (kr := kr) (V := V) arg3 harg3 arg4 harg4 arg5 harg5 hI (n := 4 * ((i 2).val / 4 - k) - 1 - r.val) (by omega)
      (off7_eq i ⟨k, hk'⟩ r) (off8_eq i ⟨k, hk'⟩ r) (facts₀.k0_off7_inb i ⟨k, hk'⟩ r) (facts₀.k0_off8_inb i ⟨k, hk'⟩ r)
    have e : 4 * ((i 2).val / 4 - (k + 1)) = 4 * ((i 2).val / 4 - k) - 1 - 3 := by omega
    rw [e]
    refine step1_inv (tri arg6 harg6 hI) (by omega) (hB 3) ?_
    have e2 : 4 * ((i 2).val / 4 - k) - 1 - 3 + 1 = 4 * ((i 2).val / 4 - k) - 1 - 2 := by omega
    rw [e2]
    refine step1_inv (tri arg6 harg6 hI) (by omega) (hB 2) ?_
    have e3 : 4 * ((i 2).val / 4 - k) - 1 - 2 + 1 = 4 * ((i 2).val / 4 - k) - 1 - 1 := by omega
    rw [e3]
    refine step1_inv (tri arg6 harg6 hI) (by omega) (hB 1) ?_
    have e4 : 4 * ((i 2).val / 4 - k) - 1 - 1 + 1 = 4 * ((i 2).val / 4 - k) - 1 - 0 := by omega
    rw [e4]
    refine step1_inv (tri arg6 harg6 hI) (by omega) (hB 0) ?_
    have e5 : 4 * ((i 2).val / 4 - k) - 1 - 0 + 1 = 4 * ((i 2).val / 4 - k) := by
      omega
    rw [e5]
    exact ih

theorem fin_val {L8 : List (View.Piece (Elt Ideal) S128x256 .f32)} {L9 : List (View.Piece (Elt Ideal) S8x256 .f32)} {s : St Ideal}
    (hL : Holds arg8 arg9 L8 L9 s) (hs : Inv (i 2).val (yA qr kr) (yB qr kr) V (4 * ((i 2).val / 4)) s) (Q : Fin 256) (l : Fin 128) :
    fin c i arg3 harg3 arg4 harg4 arg5 harg5 arg6 harg6 arg7 harg7 arg8 harg8 arg9 harg9 x0 x1 x2 x3 L8 L9 (ix2 Q l) = acc (i 2).val (yA qr kr) (yB qr kr) V 0 l Q := by
  have hp := (holds_pb (F := Ideal) Variants.none c none i arg3 harg3 arg4 harg4 arg5 harg5 arg6 harg6 arg7 harg7 arg8 harg8 arg9 harg9 (BitVec.ofNat 32 (i 2).val)
    (qlo (qAt arg3 harg3 x0)) (qhi (qAt arg3 harg3 x0)) (uAt arg6 harg6 x3) (Scalar.andi (BitVec.ofNat 32 (i 2).val) 1#32) (Scalar.andi (BitVec.ofNat 32 (i 2).val) 2#32)
    (harg4.unread x1) (harg5.unread x2) L8 L9 s hL (k0_t1_loop i).trips le_rfl).1
  have hv := iter_inv i arg3 harg3 arg4 harg4 arg5 harg5 arg6 harg6 hI hs ((i 2).val / 4) le_rfl
  have e0 : 4 * ((i 2).val / 4 - (i 2).val / 4) = 0 := by omega
  rw [e0] at hv
  have e (w : Vec Ideal S128x256 .f32) : k0_pay10 w (ix2 Q l) = w (ix2 l Q) := by
    unfold k0_pay10
    pointwise
  unfold fin
  rw [e, trips2_eq, pb_k0_t2.eq_1, List.nil_append]
  unfold loop8
  rw [hp, trips1_eq]
  exact hv.a l Q

theorem out_A (hc0 : ¬cond0_0 i) (hc1 : ¬cond0_1 i) (Q : Fin 256) (l : Fin 128) :
    out0_A_4 c i arg3 harg3 arg4 harg4 arg5 harg5 arg6 harg6 arg7 harg7 arg8 harg8 arg9 harg9 hc0 hc1 x0 x1 x2 x3 (ix2 Q l)
      = acc (i 2).val (yA qr kr) (yB qr kr) V 0 l Q := by
  have h0 := even_of i hc0
  have h1 := notwo_of i hc1
  have hs := sD_inv (qr := qr) (kr := kr) (V := V) i arg3 harg3 arg4 harg4 arg5 harg5 arg6 harg6 hI
  have e4 : 4 * ((i 2).val / 4) = (i 2).val := by omega
  have hL := holds1_A c i arg3 harg3 arg4 harg4 arg5 harg5 arg6 harg6 arg8 arg9 x0 x1 x2 x3
  unfold out0_A_4
  rw [View.read_writes_eq_canon _ _ _ (cover0_A_4 c i arg3 harg3 arg4 harg4 arg5 harg5 arg6 harg6 arg7 harg7 arg8 harg8 arg9 harg9 hc0 hc1 x0 x1 x2 x3), run_A, View.canon_unit_zero (by decide)]
  exact fin_val c i arg3 harg3 arg4 harg4 arg5 harg5 arg6 harg6 arg7 harg7 arg8 harg8 arg9 harg9 hI hL (by rw [e4]; exact hs) Q l

theorem out_B (hc0 : cond0_0 i) (hc1 : ¬cond0_1 i) (Q : Fin 256) (l : Fin 128) :
    out0_B_4 c i arg3 harg3 arg4 harg4 arg5 harg5 arg6 harg6 arg7 harg7 arg8 harg8 arg9 harg9 hc0 hc1 x0 x1 x2 x3 (ix2 Q l)
      = acc (i 2).val (yA qr kr) (yB qr kr) V 0 l Q := by
  have h0 := odd_of i hc0
  have h1 := notwo_of i hc1
  have hs := sB_inv i arg3 harg3 arg4 harg4 arg5 harg5 arg6 harg6 hI hc0 (sD_inv (qr := qr) (kr := kr) (V := V) i arg3 harg3 arg4 harg4 arg5 harg5 arg6 harg6 hI)
  have e4 : 4 * ((i 2).val / 4) = (i 2).val - 1 := by omega
  have hL := holds2_B c i arg3 harg3 arg4 harg4 arg5 harg5 arg6 harg6 arg8 arg9 x0 x1 x2 x3 hc0
  unfold out0_B_4
  rw [View.read_writes_eq_canon _ _ _ (cover0_B_4 c i arg3 harg3 arg4 harg4 arg5 harg5 arg6 harg6 arg7 harg7 arg8 harg8 arg9 harg9 hc0 hc1 x0 x1 x2 x3), run_B, View.canon_unit_zero (by decide)]
  exact fin_val c i arg3 harg3 arg4 harg4 arg5 harg5 arg6 harg6 arg7 harg7 arg8 harg8 arg9 harg9 hI hL (by rw [e4]; exact hs) Q l

theorem out_C (hc0 : ¬cond0_0 i) (hc1 : cond0_1 i) (Q : Fin 256) (l : Fin 128) :
    out0_C_4 c i arg3 harg3 arg4 harg4 arg5 harg5 arg6 harg6 arg7 harg7 arg8 harg8 arg9 harg9 hc0 hc1 x0 x1 x2 x3 (ix2 Q l)
      = acc (i 2).val (yA qr kr) (yB qr kr) V 0 l Q := by
  have h0 := even_of i hc0
  have hs := sC_inv (qr := qr) (kr := kr) (V := V) i arg3 harg3 arg4 harg4 arg5 harg5 arg6 harg6 hI hc1 (by rw [h0, Nat.sub_zero]; exact sD_inv i arg3 harg3 arg4 harg4 arg5 harg5 arg6 harg6 hI)
  have e4 : 4 * ((i 2).val / 4) = 4 * ((i 2).val / 4) := rfl
  have hL := holds2_C c i arg3 harg3 arg4 harg4 arg5 harg5 arg6 harg6 arg8 arg9 x0 x1 x2 x3 hc1
  unfold out0_C_4
  rw [View.read_writes_eq_canon _ _ _ (cover0_C_4 c i arg3 harg3 arg4 harg4 arg5 harg5 arg6 harg6 arg7 harg7 arg8 harg8 arg9 harg9 hc0 hc1 x0 x1 x2 x3), run_C, View.canon_unit_zero (by decide)]
  exact fin_val c i arg3 harg3 arg4 harg4 arg5 harg5 arg6 harg6 arg7 harg7 arg8 harg8 arg9 harg9 hI hL (by rw [e4]; exact hs) Q l

theorem out_D (hc0 : cond0_0 i) (hc1 : cond0_1 i) (Q : Fin 256) (l : Fin 128) :
    out0_D_4 c i arg3 harg3 arg4 harg4 arg5 harg5 arg6 harg6 arg7 harg7 arg8 harg8 arg9 harg9 hc0 hc1 x0 x1 x2 x3 (ix2 Q l)
      = acc (i 2).val (yA qr kr) (yB qr kr) V 0 l Q := by
  have h0 := odd_of i hc0
  have hs := sC_inv (qr := qr) (kr := kr) (V := V) i arg3 harg3 arg4 harg4 arg5 harg5 arg6 harg6 hI hc1 (by rw [h0]; exact sB_inv i arg3 harg3 arg4 harg4 arg5 harg5 arg6 harg6 hI hc0 (sD_inv i arg3 harg3 arg4 harg4 arg5 harg5 arg6 harg6 hI))
  have e4 : 4 * ((i 2).val / 4) = 4 * ((i 2).val / 4) := rfl
  have hL := holds3_D c i arg3 harg3 arg4 harg4 arg5 harg5 arg6 harg6 arg8 arg9 x0 x1 x2 x3 hc0 hc1
  unfold out0_D_4
  rw [View.read_writes_eq_canon _ _ _ (cover0_D_4 c i arg3 harg3 arg4 harg4 arg5 harg5 arg6 harg6 arg7 harg7 arg8 harg8 arg9 harg9 hc0 hc1 x0 x1 x2 x3), run_D, View.canon_unit_zero (by decide)]
  exact fin_val c i arg3 harg3 arg4 harg4 arg5 harg5 arg6 harg6 arg7 harg7 arg8 harg8 arg9 harg9 hI hL (by rw [e4]; exact hs) Q l

end Point
end Cert.KernelIdeal.Sb
-- ==== Proof.Sigmoid.lean ====
module

public import proofs.«01_k».proof.Proof.Steps

@[expose] public section

noncomputable section

namespace Cert.KernelIdeal.Sb

open scoped BigOperators

/-- The logarithm of the logistic function, as the softplus of the opposite. -/
def lsR (x : ℝ) : ℝ := -(max (-x) 0 + Real.log (1 + Real.exp (-|(-x)|)))

/-- The logarithm of what key `K` leaves to the keys before it: nothing is taken at or after the query's own place. -/
def lkz (z : ℕ → ℝ) (s K : ℕ) : ℝ := if K < s then lsR (-z K) else 0

/-- The stick-breaking weight of key `K` for the query at place `s` with scores `z`. -/
def wz (z : ℕ → ℝ) (s K : ℕ) : ℝ :=
  if K < s then Real.exp (lsR (z K) + ∑ j ∈ Finset.Ico (K + 1) 4096, lkz z s j) else 0

theorem log2_pos : 0 < Real.log 2 := Real.log_pos one_lt_two

theorem rpow_two (x : ℝ) : Real.rpow 2 x = Real.exp (Real.log 2 * x) :=
  Real.rpow_def_of_pos two_pos x

/-- The kernel's logarithm of what a key leaves, base two, at a score under the kernel's scale. -/
theorem lkR_eq (z : ℝ) : Real.log 2 * lkR (-(z * (Real.log 2)⁻¹)) = lsR (-z) := by
  have h := log2_pos
  have e : |(-(z * (Real.log 2)⁻¹))| = |z| * (Real.log 2)⁻¹ := by
    rw [abs_neg, abs_mul, abs_of_pos (inv_pos.mpr h)]
  have e2 : Real.log 2 * -(|z| * (Real.log 2)⁻¹) = -|z| := by field_simp
  have e3 : Real.log 2 * min (-(z * (Real.log 2)⁻¹)) 0 = -max z 0 := by
    rw [← min_neg_neg, neg_zero, mul_min_of_nonneg _ _ h.le, mul_zero]
    congr 1; field_simp
  unfold lkR lsR
  rw [e, rpow_two, e2, neg_neg, mul_sub, e3, neg_add]
  field_simp
  ring

theorem lsR_add (z : ℝ) : lsR (-z) + z = lsR z := by
  unfold lsR
  rw [neg_neg, abs_neg]
  rcases le_total z 0 with h | h
  · rw [max_eq_right h, max_eq_left (by linarith)]; ring
  · rw [max_eq_left h, max_eq_right (by linarith)]; ring

/-- The kernel's weight over its own block of queries is the stick-breaking weight. -/
theorem wt_eq {i : ℕ} (hi : i < 16) {Y : ℕ → Fin 256 → ℝ} {z : ℕ → ℝ} (Q : Fin 256)
    (hY : ∀ K, Y K Q = -(z K * (Real.log 2)⁻¹)) (K : ℕ) : wt i Y K Q = wz z (256 * i + Q.val) K := by
  have hQ := Q.isLt
  unfold wt wz
  split
  · rw [rpow_two, mul_add, mul_sub, hY, lkR_eq]
    congr 2
    · rw [← lsR_add]
      have := log2_pos.ne'
      field_simp
      ring
    · unfold kept
      rw [Finset.mul_sum]
      have hs : ∀ j, Real.log 2 * ell i Y j Q = lkz z (256 * i + Q.val) j := fun j => by
        unfold ell lkz
        split
        · rw [hY, lkR_eq]
        · rw [mul_zero]
      simp only [hs]
      rcases Nat.lt_or_ge (256 * (i + 1)) (K + 1) with h | h
      · omega
      rw [← Finset.sum_Ico_consecutive _ h (show 256 * (i + 1) ≤ 4096 by omega)]
      rw [Finset.sum_eq_zero (s := Finset.Ico (256 * (i + 1)) 4096), add_zero]
      intro j hj
      have := (Finset.mem_Ico.mp hj).1
      exact if_neg (by omega)
  · rfl

/-- The kernel's weighted sum, over all the keys. -/
theorem acc_eq {i : ℕ} (hi : i < 16) {Y Y' : ℕ → Fin 256 → ℝ} {V : ℕ → Fin 128 → EReal} {z : ℕ → ℝ} (Q : Fin 256) (l : Fin 128)
    (hY : ∀ K, (if l.val < 64 then Y else Y') K Q = -(z K * (Real.log 2)⁻¹)) :
    acc i Y Y' V 0 l Q = ∑ K : Fin 4096, V K.val l * (wz z (256 * i + Q.val) K.val : EReal) := by
  have hQ := Q.isLt
  unfold acc
  rw [Fin.sum_univ_eq_sum_range (fun K => V K l * (wz z (256 * i + Q.val) K : EReal)) 4096, ← Nat.Ico_zero_eq_range,
    ← Finset.sum_Ico_consecutive (fun K => V K l * (wz z (256 * i + Q.val) K : EReal)) (Nat.zero_le _) (show 256 * (i + 1) ≤ 4096 by omega),
    Finset.sum_eq_zero (s := Finset.Ico (256 * (i + 1)) 4096), add_zero]
  · refine Finset.sum_congr rfl fun K _ => ?_
    rw [wt_eq hi Q hY]
  · intro K hK
    have := (Finset.mem_Ico.mp hK).1
    rw [wz, if_neg (by omega), EReal.coe_zero, mul_zero]

end Cert.KernelIdeal.Sb
-- ==== Proof.Arr.lean ====
module

public import proofs.«01_k».proof.Proof.Gen.KernelIdeal.Value
public import proofs.«01_k».proof.Proof.Point
public import proofs.«01_k».proof.Proof.Sigmoid
public import Idealize.ShloMosaic.Lib.StableHlo.Run

@[expose] public section

set_option maxRecDepth 16384

noncomputable section

namespace Cert.KernelIdeal.Sb

open Idealize.ShloMosaic Idealize.ShloMosaic.TcCoe Idealize.SL.Sem
open Cert.KernelIdeal Cert.KernelIdeal.Gen
open scoped BigOperators

/-! ## Which block each window stages -/

theorem tr0 : ∀ i : grid0.Coords, cc0_transform_0 i = ![16 * (i 0).val + (i 2).val, (i 1).val] := by decide +kernel
theorem tr1 : ∀ i : grid0.Coords, cc0_transform_1 i = ![(i 0).val, (i 1).val] := by decide +kernel
theorem tr2 : ∀ i : grid0.Coords, cc0_transform_2 i = ![(i 0).val, (i 1).val, 0] := by decide +kernel
theorem tr3 : ∀ i : grid0.Coords, cc0_transform_3 i = ![0, 0] := by decide +kernel
theorem tr4 : ∀ i : grid0.Coords, cc0_transform_4 i = ![16 * (i 0).val + (i 2).val, (i 1).val] := by decide +kernel

variable (m : (ℓ : Loc nD τ sig) → Buf (Elt Ideal) ℓ) (c : Dev nD)

/-! ## What the host prepares -/

theorem V_q : @Eq (FVec Ideal S16384x768 .bf16) (V m c main_v3) (truncf .bf16 (shapeCast S16384x768 (m ((c : Thread nD τ).loc main_arg0) : FVec Ideal S4x4096x12x64 .f32) shapeCasts_S4x4096x12x64_S16384x768) bitsLt_bf16_f32) := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  all_goals rfl

theorem V_k : @Eq (FVec Ideal S16384x768 .bf16) (V m c main_v5) (truncf .bf16 (shapeCast S16384x768 (m ((c : Thread nD τ).loc main_arg1) : FVec Ideal S4x4096x12x64 .f32) shapeCasts_S4x4096x12x64_S16384x768) bitsLt_bf16_f32) := by
  show StableHlo.after (List.flatten [hostOps0, hostOps0_1, hostOps0_2]) _ (Proc.devRef .tc main_v5) = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  all_goals rfl

theorem V_v : @Eq (FVec Ideal S64x768x256 .bf16) (V m c main_v8) (truncf .bf16 (transpose S64x768x256 [0, 2, 1] (shapeCast S64x256x768 (m ((c : Thread nD τ).loc main_arg2) : FVec Ideal S4x4096x12x64 .f32) shapeCasts_S4x4096x12x64_S64x256x768)
    transposes_S64x256x768_S64x768x256_0_2_1) bitsLt_bf16_f32) := by
  show StableHlo.after (List.flatten [hostOps0, hostOps0_1, hostOps0_2]) _ (Proc.devRef .tc main_v8) = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  all_goals rfl

theorem V_u : @Eq (FVec Ideal S256x256 .bf16) (V m c main_v1) (select (cmpi .sge (addi (iotaInDim S256x256 32 0) (broadcastInDim S256x256 ![] bcast_S_S256x256 (constantI S_ 32 0#32))) (iotaInDim S256x256 32 1))
    (broadcastInDim S256x256 ![] bcast_S_S256x256 (constant S_ .bf16 0x0000#16)) (broadcastInDim S256x256 ![] bcast_S_S256x256 (constant S_ .bf16 0x3F80#16))) := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  all_goals rfl

/-- A row of the flattened queries or keys is a place of a batch, its columns the heads' lanes. -/
theorem flat_apply (x : FVec Ideal S4x4096x12x64 .f32) (b : Fin 4) (s : Fin 4096) (h : Fin 12) (d : Fin 64) (R : Fin 16384) (C : Fin 768)
    (hR : R.val = b.val * 4096 + s.val) (hC : C.val = h.val * 64 + d.val) :
    shapeCast S16384x768 x shapeCasts_S4x4096x12x64_S16384x768 (ix2 R C) = x (ix4 b s h d) :=
  shapeCast_apply _ _ (ix2 R C) (ix4 b s h d) (by
    rw [Shape.rowMajor_val_four, Shape.rowMajor_val_two]
    show ((b.val * 4096 + s.val) * 12 + h.val) * 64 + d.val = R.val * 768 + C.val
    omega)

theorem vt_flat (x : FVec Ideal S4x4096x12x64 .f32) (b : Fin 4) (s : Fin 4096) (h : Fin 12) (d : Fin 64) (j : Fin 64) (C : Fin 768) (r : Fin 256)
    (hj : 256 * j.val + r.val = b.val * 4096 + s.val) (hC : C.val = h.val * 64 + d.val) :
    transpose S64x768x256 [0, 2, 1] (shapeCast S64x256x768 x shapeCasts_S4x4096x12x64_S64x256x768) transposes_S64x256x768_S64x768x256_0_2_1 (ix3 j C r) = x (ix4 b s h d) := by
  refine (transpose_apply _ _ _ (ix3 j C r) (ix3 j r C) fun a => match a with
    | ⟨0, _⟩ => rfl
    | ⟨1, _⟩ => rfl
    | ⟨2, _⟩ => rfl).trans ?_
  refine shapeCast_apply _ _ (ix3 j r C) (ix4 b s h d) ?_
  rw [Shape.rowMajor_val_four, Shape.rowMajor_val_three]
  show ((b.val * 4096 + s.val) * 12 + h.val) * 64 + d.val = (j.val * 256 + r.val) * 768 + C.val
  omega

theorem V_tri : Tri (V m c main_v1) := by
  intro K K'
  have hK := K.isLt
  have hK' := K'.isLt
  rw [V_u]
  have e : ∀ (A B : EReal), (if BitVec.ofBool ((BitVec.ofNat 32 K'.val).sle (BitVec.ofNat 32 K.val + 0#32)) = 1#1 then A else B) = if K.val < K'.val then B else A := fun A B => by
    have e1 : (BitVec.ofNat 32 K'.val).sle (BitVec.ofNat 32 K.val + 0#32) = !decide (K.val < K'.val) := by
      have e2 := slt_small _ _ hK hK'
      rw [BitVec.slt] at e2
      rw [← e2, BitVec.add_zero, BitVec.sle, ← decide_not]
      exact decide_eq_decide.2 not_lt.symm
    rw [e1]
    by_cases h : K.val < K'.val <;> simp [h]
  refine Eq.trans ?_ ((e (Ideal.ofBits .bf16 0x0000#16) (Ideal.ofBits .bf16 0x3F80#16)).trans ?_)
  · rfl
  · rw [Ideal.ofBits_zero_bf16, Ideal.ofBits_one_bf16]

theorem iblk0 (t : Fin cfg0.N) (Q : Fin 256) (l : Fin 128) (R : Fin 16384) (C : Fin 768)
    (hR : R.val = (16 * (grid0.coords t 0).val + (grid0.coords t 2).val) * 256 + Q.val) (hC : C.val = (grid0.coords t 1).val * 128 + l.val) :
    iblk m c 0 t (ix2 Q l) = V m c main_v3 (ix2 R C) := by
  show V m c main_v3 ((win0_0.rect t).emb (ix2 Q l)) = _
  refine congrArg _ (funext fun a => Fin.ext ?_)
  refine (Pipeline.Window.rect_emb_val win0_0 t _ a).trans ?_
  have ht := tr0 (grid0.coords t)
  match a with
  | ⟨0, _⟩ => exact (congrArg (· * 256 + Q.val) (congrFun ht 0)).trans hR.symm
  | ⟨1, _⟩ => exact (congrArg (· * 128 + l.val) (congrFun ht 1)).trans hC.symm

theorem iblk1 (t : Fin cfg0.N) (K : Fin 4096) (l : Fin 128) (R : Fin 16384) (C : Fin 768)
    (hR : R.val = (grid0.coords t 0).val * 4096 + K.val) (hC : C.val = (grid0.coords t 1).val * 128 + l.val) :
    iblk m c 1 t (ix2 K l) = V m c main_v5 (ix2 R C) := by
  show V m c main_v5 ((win0_1.rect t).emb (ix2 K l)) = _
  refine congrArg _ (funext fun a => Fin.ext ?_)
  refine (Pipeline.Window.rect_emb_val win0_1 t _ a).trans ?_
  have ht := tr1 (grid0.coords t)
  match a with
  | ⟨0, _⟩ => exact (congrArg (· * 4096 + K.val) (congrFun ht 0)).trans hR.symm
  | ⟨1, _⟩ => exact (congrArg (· * 128 + l.val) (congrFun ht 1)).trans hC.symm

theorem iblk2 (t : Fin cfg0.N) (j : Fin 16) (l : Fin 128) (r : Fin 256) (J : Fin 64) (C : Fin 768)
    (hJ : J.val = (grid0.coords t 0).val * 16 + j.val) (hC : C.val = (grid0.coords t 1).val * 128 + l.val) :
    iblk m c 2 t (ix3 j l r) = V m c main_v8 (ix3 J C r) := by
  show V m c main_v8 ((win0_2.rect t).emb (ix3 j l r)) = _
  refine congrArg _ (funext fun a => Fin.ext ?_)
  refine (Pipeline.Window.rect_emb_val win0_2 t _ a).trans ?_
  have ht := tr2 (grid0.coords t)
  match a with
  | ⟨0, _⟩ => exact (congrArg (· * 16 + j.val) (congrFun ht 0)).trans hJ.symm
  | ⟨1, _⟩ => exact (congrArg (· * 128 + l.val) (congrFun ht 1)).trans hC.symm
  | ⟨2, _⟩ => exact (congrArg (· * 256 + r.val) (congrFun ht 2)).trans (by show 0 * 256 + r.val = r.val; omega)

theorem iblk3 (t : Fin cfg0.N) (K K' : Fin 256) : iblk m c 3 t (ix2 K K') = V m c main_v1 (ix2 K K') := by
  show V m c main_v1 ((win0_3.rect t).emb (ix2 K K')) = _
  refine congrArg _ (funext fun a => Fin.ext ?_)
  refine (Pipeline.Window.rect_emb_val win0_3 t _ a).trans ?_
  have ht := tr3 (grid0.coords t)
  match a with
  | ⟨0, _⟩ => exact (congrArg (· * 256 + K.val) (congrFun ht 0)).trans (by show 0 * 256 + K.val = K.val; omega)
  | ⟨1, _⟩ => exact (congrArg (· * 256 + K'.val) (congrFun ht 1)).trans (by show 0 * 256 + K'.val = K'.val; omega)

/-! ## What a grid point's blocks hold -/

/-- The head a lane of a pair of heads belongs to. -/
abbrev hd (p : Fin 6) (l : Fin 128) : Fin 12 := ⟨2 * p.val + l.val / 64, by omega⟩

/-- The lane within its head. -/
abbrev ln (l : Fin 128) : Fin 64 := ⟨l.val % 64, by omega⟩

/-- The query's place in its batch. -/
abbrev at' (i : Fin 16) (Q : Fin 256) : Fin 4096 := ⟨256 * i.val + Q.val, by omega⟩

/-- The values as the kernel's host function takes them. -/
abbrev vArg : FVec Ideal S4x4096x12x64 .f32 := m ((c : Thread nD τ).loc main_arg2)

variable (qf kf : Fin 4 → Fin 4096 → Fin 12 → Fin 64 → ℝ)

/-- The score of a query with the keys of its batch and head. -/
def zAt (b : Fin 4) (s : Fin 4096) (h : Fin 12) (n : ℕ) : ℝ :=
  if hn : n < 4096 then (∑ d : Fin 64, qf b s h d * kf b ⟨n, hn⟩ h d) * (1 / 8) else 0

/-- A batch's keys of a pair of heads. -/
def krAt (b : Fin 4) (p : Fin 6) (n : ℕ) (l : Fin 128) : ℝ := if hn : n < 4096 then kf b ⟨n, hn⟩ (hd p l) (ln l) else 0

/-- A batch's values of a pair of heads. -/
def vHost (v : FVec Ideal S4x4096x12x64 .f32) (b : Fin 4) (p : Fin 6) (n : ℕ) (l : Fin 128) : EReal :=
  if hn : n < 4096 then v (ix4 b ⟨n, hn⟩ (hd p l) (ln l)) else 0

theorem ins_val (hq : ∀ b s h d, (m ((c : Thread nD τ).loc main_arg0) : FVec Ideal S4x4096x12x64 .f32) (ix4 b s h d) = (qf b s h d : EReal))
    (hk : ∀ b s h d, (m ((c : Thread nD τ).loc main_arg1) : FVec Ideal S4x4096x12x64 .f32) (ix4 b s h d) = (kf b s h d : EReal))
    (t : Fin cfg0.N) (b : Fin 4) (p : Fin 6) (i : Fin 16) (hb : (grid0.coords t 0).val = b.val) (hp : (grid0.coords t 1).val = p.val) (hi : (grid0.coords t 2).val = i.val) :
    Ins (iblk m c 0 t) (iblk m c 1 t) (iblk m c 2 t) (iblk m c 3 t) (fun Q l => qf b (at' i Q) (hd p l) (ln l)) (krAt kf b p)
      (vHost (vArg m c) b p) where
  q Q l := by
    have hQ := Q.isLt
    have hl := l.isLt
    refine (iblk0 m c t Q l ⟨(16 * b.val + i.val) * 256 + Q.val, by omega⟩ ⟨p.val * 128 + l.val, by omega⟩ (by rw [hb, hi]) (by rw [hp])).trans ?_
    refine (congrFun (V_q m c) _).trans ?_
    exact (flat_apply _ b (at' i Q) (hd p l) (ln l) _ _ (by show (16 * b.val + i.val) * 256 + Q.val = b.val * 4096 + (256 * i.val + Q.val); omega)
      (by show p.val * 128 + l.val = (2 * p.val + l.val / 64) * 64 + l.val % 64; omega)).trans (hq _ _ _ _)
  k K l := by
    have hK := K.isLt
    have hl := l.isLt
    refine (iblk1 m c t K l ⟨b.val * 4096 + K.val, by omega⟩ ⟨p.val * 128 + l.val, by omega⟩ (by rw [hb]) (by rw [hp])).trans ?_
    refine (congrFun (V_k m c) _).trans ?_
    rw [krAt, dif_pos hK]
    exact (flat_apply _ b K (hd p l) (ln l) _ _ rfl
      (by show p.val * 128 + l.val = (2 * p.val + l.val / 64) * 64 + l.val % 64; omega)).trans (hk _ _ _ _)
  v j l r := by
    have hj := j.isLt
    have hr := r.isLt
    have hl := l.isLt
    refine (iblk2 m c t j l r ⟨b.val * 16 + j.val, by omega⟩ ⟨p.val * 128 + l.val, by omega⟩ (by rw [hb]) (by rw [hp])).trans ?_
    refine (congrFun (V_v m c) _).trans ?_
    rw [vHost, dif_pos (by omega)]
    exact vt_flat _ b ⟨256 * j.val + r.val, by omega⟩ (hd p l) (ln l) _ _ _ (by show 256 * (b.val * 16 + j.val) + r.val = b.val * 4096 + (256 * j.val + r.val); omega)
      (by show p.val * 128 + l.val = (2 * p.val + l.val / 64) * 64 + l.val % 64; omega)
  u K K' := (iblk3 m c t K K').trans (V_tri m c K K')

theorem scale_split (a l2 : ℝ) : a * -((8 * l2)⁻¹) = -(a * (1 / 8) * l2⁻¹) := by
  rw [mul_inv]; ring

theorem score_val (b : Fin 4) (p : Fin 6) (i : Fin 16) (Q : Fin 256) (l : Fin 128) (K : ℕ) :
    (if l.val < 64 then yA (fun Q l => qf b (at' i Q) (hd p l) (ln l)) (krAt kf b p) else yB (fun Q l => qf b (at' i Q) (hd p l) (ln l)) (krAt kf b p)) K Q
      = -(zAt qf kf b (at' i Q) (hd p l) K * (Real.log 2)⁻¹) := by
  have key : ∀ h : Fin 12, (∑ d : Fin 64, (if hn : K < 4096 then kf b ⟨K, hn⟩ h d else 0) * (qf b (at' i Q) h d * -((8 * Real.log 2)⁻¹)))
      = -(zAt qf kf b (at' i Q) h K * (Real.log 2)⁻¹) := fun h => by
    unfold zAt
    by_cases hn : K < 4096
    · simp only [dif_pos hn]
      rw [← scale_split, Finset.sum_mul]
      exact Finset.sum_congr rfl fun d _ => by ring
    · simp only [dif_neg hn, zero_mul, Finset.sum_const_zero, neg_zero]
  have hl := l.isLt
  by_cases h : l.val < 64
  · rw [if_pos h, yA, Fin.sum_univ_add (a := 64) (b := 64), ← key]
    have e2 : ∀ d : Fin 64, ¬(Fin.natAdd 64 d).val < 64 := fun d => by simp
    have e1 : ∀ d : Fin 64, (Fin.castAdd 64 d).val < 64 := fun d => d.isLt
    rw [Finset.sum_eq_zero (s := Finset.univ) (f := fun d : Fin 64 => krAt kf b p K (Fin.natAdd 64 d) * _) fun d _ => by rw [if_neg (e2 d), mul_zero], add_zero]
    refine Finset.sum_congr rfl fun d _ => ?_
    have eh : hd p (Fin.castAdd 64 d) = hd p l := Fin.ext (by show 2 * p.val + d.val / 64 = 2 * p.val + l.val / 64; have := d.isLt; omega)
    have el : ln (Fin.castAdd 64 d) = d := Fin.ext (by show d.val % 64 = d.val; have := d.isLt; omega)
    rw [if_pos (e1 d), krAt]
    rw [eh, el]
  · rw [if_neg h, yB, Fin.sum_univ_add (a := 64) (b := 64), ← key]
    have e2 : ∀ d : Fin 64, ¬(Fin.natAdd 64 d).val < 64 := fun d => by simp
    have e1 : ∀ d : Fin 64, (Fin.castAdd 64 d).val < 64 := fun d => d.isLt
    rw [Finset.sum_eq_zero (s := Finset.univ) (f := fun d : Fin 64 => krAt kf b p K (Fin.castAdd 64 d) * _) fun d _ => by rw [if_pos (e1 d), mul_zero], zero_add]
    refine Finset.sum_congr rfl fun d _ => ?_
    have eh : hd p (Fin.natAdd 64 d) = hd p l := Fin.ext (by show 2 * p.val + (64 + d.val) / 64 = 2 * p.val + l.val / 64; have := d.isLt; omega)
    have el : ln (Fin.natAdd 64 d) = d := Fin.ext (by show (64 + d.val) % 64 = d.val; have := d.isLt; omega)
    rw [if_neg (e2 d), krAt]
    rw [eh, el]

/-! ## The kernel's result -/

theorem cover4 (R : Fin 16384) (C : Fin 768) : ∃ t : Fin cfg0.N, (cfg0.win 4).flush t = true ∧ (ix2 R C : S16384x768.Idx) ∈ ((cfg0.win 4).blk t).view.set := by
  have hR := R.isLt
  have hC := C.isLt
  obtain ⟨t, ht⟩ : ∃ t : Fin cfg0.N, t.val = (R.val / 256 / 16 * 6 + C.val / 128) * 16 + R.val / 256 % 16 :=
    ⟨⟨(R.val / 256 / 16 * 6 + C.val / 128) * 16 + R.val / 256 % 16, by show _ < grid0.N; rw [N_0]; omega⟩, rfl⟩
  refine ⟨t, flush0_4 t, ?_⟩
  have h4 := tr4 (grid0.coords t)
  have c0 : (grid0.coords t 0).val = R.val / 4096 := (Pipeline.Grid.coords_val (G := grid0) t 0 (S := 96) (B := 4) (by decide) rfl).trans (by omega)
  have c1 : (grid0.coords t 1).val = C.val / 128 := (Pipeline.Grid.coords_val (G := grid0) t 1 (S := 16) (B := 6) (by decide) rfl).trans (by omega)
  have c2 : (grid0.coords t 2).val = R.val / 256 % 16 := (Pipeline.Grid.coords_val (G := grid0) t 2 (S := 1) (B := 16) (by decide) rfl).trans (by omega)
  have key := View.emb_mem_set ((cfg0.win 4).blk t).view (ix2 (⟨R.val % 256, by omega⟩ : Fin 256) (⟨C.val % 128, by omega⟩ : Fin 128) : S256x128.Idx)
  have e : ((cfg0.win 4).blk t).view.emb (ix2 (⟨R.val % 256, by omega⟩ : Fin 256) (⟨C.val % 128, by omega⟩ : Fin 128) : S256x128.Idx) = (ix2 R C : S16384x768.Idx) := by
    refine funext fun a => Fin.ext ?_
    refine (Pipeline.Window.rect_emb_val win0_4 t _ a).trans ?_
    match a with
    | ⟨0, _⟩ =>
      have h0 : cc0_transform_4 (grid0.coords t) 0 = 16 * (grid0.coords t 0).val + (grid0.coords t 2).val := congrFun h4 0
      show cc0_transform_4 (grid0.coords t) 0 * 256 + R.val % 256 = R.val
      rw [h0, c0, c2]
      omega
    | ⟨1, _⟩ =>
      have h0 : cc0_transform_4 (grid0.coords t) 1 = (grid0.coords t 1).val := congrFun h4 1
      show cc0_transform_4 (grid0.coords t) 1 * 128 + C.val % 128 = C.val
      rw [h0, c1]
      omega
  rw [e] at key
  exact key

theorem arr_val (hq : ∀ b s h d, (m ((c : Thread nD τ).loc main_arg0) : FVec Ideal S4x4096x12x64 .f32) (ix4 b s h d) = (qf b s h d : EReal))
    (hk : ∀ b s h d, (m ((c : Thread nD τ).loc main_arg1) : FVec Ideal S4x4096x12x64 .f32) (ix4 b s h d) = (kf b s h d : EReal))
    (G : FVec Ideal S16384x768 .f32)
    (hG : ∀ (b : Fin 4) (s : Fin 4096) (h : Fin 12) (d : Fin 64) (R : Fin 16384) (C : Fin 768), R.val = b.val * 4096 + s.val → C.val = h.val * 64 + d.val →
      G (ix2 R C) = ∑ K : Fin 4096, vArg m c (ix4 b K h d) * (wz (zAt qf kf b s h) s.val K.val : EReal)) :
    @Eq (FVec Ideal S16384x768 .f32) ((dats m 0 c).arrAt 4 cfg0.N) G := by
  funext (x : S16384x768.Idx)
  have hx : x = ix2 (x 0) (x 1) := funext fun a => by
    match a with
    | ⟨0, _⟩ => rfl
    | ⟨1, _⟩ => rfl
  rw [hx]
  refine Pipeline.Dat.arrAt_forall_of_cover (dats m 0 c) 4 (fun i v => v = G i) (fun t _ y => ?_) (fun i => ?_) (ix2 (x 0) (x 1))
  · have hb : (grid0.coords t 0).val < 4 := (grid0.coords t 0).isLt
    have hp : (grid0.coords t 1).val < 6 := (grid0.coords t 1).isLt
    have hi : (grid0.coords t 2).val < 16 := (grid0.coords t 2).isLt
    have hI := ins_val m c qf kf hq hk t ⟨_, hb⟩ ⟨_, hp⟩ ⟨_, hi⟩ rfl rfl rfl
    obtain ⟨Q, l, hy⟩ : ∃ (Q : Fin 256) (l : Fin 128), y = (ix2 Q l : S256x128.Idx) := ⟨y 0, y 1, funext fun a => by
      match a with
      | ⟨0, _⟩ => rfl
      | ⟨1, _⟩ => rfl⟩
    subst hy
    have hQ := Q.isLt
    have hl := l.isLt
    have hacc := acc_eq (V := vHost (vArg m c) ⟨_, hb⟩ ⟨_, hp⟩) hi Q l (fun K => score_val qf kf ⟨_, hb⟩ ⟨_, hp⟩ ⟨_, hi⟩ Q l K)
    have hg : G (((cfg0.win 4).blk t).view.emb (ix2 Q l : S256x128.Idx)) = ∑ K : Fin 4096, vArg m c (ix4 ⟨_, hb⟩ K (hd ⟨_, hp⟩ l) (ln l)) * (wz (zAt qf kf ⟨_, hb⟩ (at' ⟨_, hi⟩ Q) (hd ⟨_, hp⟩ l)) (at' ⟨_, hi⟩ Q).val K.val : EReal) := by
      refine Eq.trans ?_ (hG ⟨_, hb⟩ (at' ⟨_, hi⟩ Q) (hd ⟨_, hp⟩ l) (ln l) ⟨(16 * (grid0.coords t 0).val + (grid0.coords t 2).val) * 256 + Q.val, by omega⟩
        ⟨(grid0.coords t 1).val * 128 + l.val, by omega⟩ (by
          show (16 * (grid0.coords t 0).val + (grid0.coords t 2).val) * 256 + Q.val = (grid0.coords t 0).val * 4096 + (256 * (grid0.coords t 2).val + Q.val); omega) (by
          show (grid0.coords t 1).val * 128 + l.val = (2 * (grid0.coords t 1).val + l.val / 64) * 64 + l.val % 64; omega))
      refine congrArg G (funext fun a => Fin.ext ?_)
      refine (Pipeline.Window.rect_emb_val win0_4 t _ a).trans ?_
      have ht := tr4 (grid0.coords t)
      match a with
      | ⟨0, _⟩ => exact congrArg (· * 256 + Q.val) (congrFun ht 0)
      | ⟨1, _⟩ => exact congrArg (· * 128 + l.val) (congrFun ht 1)
    refine Eq.trans ?_ hg.symm
    show (dats m 0 c).flushed 4 t (ix2 Q l : S256x128.Idx) = _
    have hacc := hacc.trans (Finset.sum_congr rfl fun K _ => by rw [vHost, dif_pos K.isLt])
    by_cases h0 : t.val % 2 = 1 <;> by_cases h1 : (t.val % 4 = 2 ∨ t.val % 4 = 3)
    · rw [Value.flushed4_D m c t h0 h1]
      exact (out_D c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hI ((hcond0_0 t).mpr h0) ((hcond0_1 t).mpr h1) Q l).trans hacc
    · rw [Value.flushed4_B m c t h0 h1]
      exact (out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hI ((hcond0_0 t).mpr h0) (fun h => h1 ((hcond0_1 t).mp h)) Q l).trans hacc
    · rw [Value.flushed4_C m c t h0 h1]
      exact (out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hI (fun h => h0 ((hcond0_0 t).mp h)) ((hcond0_1 t).mpr h1) Q l).trans hacc
    · rw [Value.flushed4_A m c t h0 h1]
      exact (out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hI (fun h => h0 ((hcond0_0 t).mp h)) (fun h => h1 ((hcond0_1 t).mp h)) Q l).trans hacc
  · obtain ⟨R, C, rfl⟩ : ∃ (R : Fin 16384) (C : Fin 768), i = (ix2 R C : S16384x768.Idx) := ⟨i 0, i 1, funext fun a => by
      match a with
      | ⟨0, _⟩ => rfl
      | ⟨1, _⟩ => rfl⟩
    exact cover4 R C

end Cert.KernelIdeal.Sb
-- ==== Proof.Ref.lean ====
module

public import proofs.«01_k».proof.Proof.Gen.ReferenceIdeal.Run
public import proofs.«01_k».proof.Proof.Sigmoid
public import Idealize.ShloMosaic.Lib.IdealHost
public import Idealize.ShloMosaic.Lib.Pointwise
public import Idealize.ShloMosaic.Lib.ValueIdx

@[expose] public section

set_option maxRecDepth 8192

noncomputable section

namespace Cert.ReferenceIdeal.Sb

open Idealize.ShloMosaic Idealize.ShloMosaic.TcCoe
open Cert.ReferenceIdeal Cert.ReferenceIdeal.Gen
open Cert.KernelIdeal.Sb (lsR lkz wz)
open scoped BigOperators

local notation "Sc" => FVec Ideal S4x12x4096x4096 FTy.f32
local notation "Hd" => FVec Ideal S4x4096x12x64 FTy.f32

/-! ## The reference's terms -/

def zero : Sc := broadcastInDim S4x12x4096x4096 ![] bcast_S_S4x12x4096x4096 (constant S_ .f32 0x00000000#32)

def sc (q k : Hd) : Sc :=
  mulf (Host.dotGeneral dot_S4x4096x12x64_S4x4096x12x64_S4x12x4096x4096_3_3_1_1_02_02 none q k)
    (broadcastInDim S4x12x4096x4096 ![] bcast_S_S4x12x4096x4096 (constant S_ .f32 0x3E000000#32))

def ls (x : Sc) : Sc :=
  Host.negf (select (cmpf .une (subf (Host.negf x) zero) (subf (Host.negf x) zero)) (addf (Host.negf x) zero)
    (addf (maximumf (Host.negf x) zero) (Host.log1p (Host.exp (Host.negf (Host.absf (subf (Host.negf x) zero)))))))

def mask : IVec S4x12x4096x4096 1 :=
  broadcastInDim S4x12x4096x4096 ![2, 3] bcast_S4096x4096_S4x12x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

def lk (q k : Hd) : Sc := select mask (ls (Host.negf (sc q k))) zero

def cum (x : Sc) : Sc :=
  Host.reduceWindowAdd ![1, 1, 1, 4096] ![1, 1, 1, 1] ![0, 0, 0, 0] ![0, 0, 0, 4095] x
    (broadcastInDim S_ ![] bcast_S_S_ (constant S_ .f32 0x00000000#32))
    reduceWindows_S4x12x4096x4096_S4x12x4096x4096_w1s1p0_0_w1s1p0_0_w1s1p0_0_w4096s1p0_4095 h_S_

def w (q k : Hd) : Sc := select mask (Host.exp (addf (ls (sc q k)) (subf (cum (lk q k)) (lk q k)))) zero

def out (q k v : Hd) : FVec Ideal S16384x768 .bf16 :=
  truncf .bf16 (shapeCast S16384x768 (transpose S4x4096x12x64 [0, 3, 1, 2]
    (Host.dotGeneral dot_S4x4096x12x64_S4x12x4096x4096_S4x12x64x4096_1_3_3_2_02_01 none v (w q k))
    transposes_S4x12x64x4096_S4x4096x12x64_0_3_1_2) shapeCasts_S4x4096x12x64_S16384x768) bitsLt_bf16_f32

theorem res_eq (m : (ℓ : Loc nD τ sig) → Buf (Elt Ideal) ℓ) (c : Dev nD) :
    Value.res_main_v22 m c = out (m ((c.tc : Thread nD τ).loc main_arg0)) (m ((c.tc : Thread nD τ).loc main_arg1)) (m ((c.tc : Thread nD τ).loc main_arg2)) := by
  unfold Value.res_main_v22
  rfl

/-! ## Read at an index -/

theorem zero_apply (j : S4x12x4096x4096.Idx) : zero j = 0 := Ideal.ofBits_zero_f32

theorem eighth : Ideal.ofBits .f32 0x3E000000#32 = ((1 / 8 : ℝ) : EReal) := by
  simp [Ideal.ofBits, Ideal.ieee, -EReal.coe_mul]; norm_num

theorem ls_apply {x : Sc} {j : S4x12x4096x4096.Idx} {r : ℝ} (h : x j = (r : EReal)) : ls x j = (lsR r : EReal) := by
  have e : ls x j = -(if Ideal.cmp .une (-(x j) - zero j) (-(x j) - zero j) = 1#1 then -(x j) + zero j
      else max (-(x j)) (zero j) + Ideal.log1p (Ideal.exp (-(max (-(x j) - zero j) (-(-(x j) - zero j)))))) := rfl
  have hp : 0 < 1 + Real.exp (-|(-r)|) := by positivity
  rw [e, zero_apply, h]
  have hc : ∀ y : EReal, ¬(Ideal.cmp .une y y = 1#1) := fun y => by simp [Ideal.cmp]
  rw [if_neg (hc _), sub_zero, ← EReal.coe_neg, ← EReal.coe_neg, ← EReal.coe_zero, ← EReal.coe_strictMono.monotone.map_max,
    ← EReal.coe_strictMono.monotone.map_max, ← EReal.coe_neg, Ideal.exp_coe, Ideal.log1p, ← EReal.coe_one, ← EReal.coe_add, Ideal.log_coe, if_neg (not_le.mpr ?_),
    ← EReal.coe_add, ← EReal.coe_neg]
  · rfl
  · exact hp

theorem slt_nat (a b : ℕ) (ha : a < 4096) (hb : b < 4096) :
    (BitVec.ofNat 32 a).slt (BitVec.ofNat 32 b) = decide (a < b) := by
  have e (n : ℕ) (h : n < 4096) : (BitVec.ofNat 32 n).toInt = n := by
    rw [BitVec.toInt_eq_toNat_of_lt, BitVec.toNat_ofNat, Nat.mod_eq_of_lt (by omega)]
    rw [BitVec.toNat_ofNat, Nat.mod_eq_of_lt (by omega)]; omega
  rw [BitVec.slt_eq_decide, e a ha, e b hb]
  simp

theorem mask_apply (b : Fin 4) (h : Fin 12) (Q K : Fin 4096) : (mask (ix4 b h Q K) = 1#1) ↔ K.val < Q.val := by
  have e : mask (ix4 b h Q K) = BitVec.ofBool ((BitVec.ofNat 32 K.val).slt (BitVec.ofNat 32 Q.val)) := rfl
  have hK := K.isLt
  have hQ := Q.isLt
  rw [e, slt_nat _ _ hK hQ]
  by_cases hh : K.val < Q.val <;> simp [hh]

theorem dot1 (q k : Hd) (b : Fin 4) (h : Fin 12) (Q K : Fin 4096) :
    Host.dotGeneral dot_S4x4096x12x64_S4x4096x12x64_S4x12x4096x4096_3_3_1_1_02_02 none q k (ix4 b h Q K)
      = ∑ d : Fin 64, q (ix4 b Q h d) * k (ix4 b K h d) := by
  show FloatOps.dotGeneral _ none _ q k (ix4 b h Q K) = _
  rw [Ideal.dotGeneral_apply, ← Equiv.sum_comp (ValueIdx.contrEquiv1 dot_S4x4096x12x64_S4x4096x12x64_S4x12x4096x4096_3_3_1_1_02_02 64 rfl rfl).symm]
  refine Finset.sum_congr rfl fun d _ => ?_
  have c := ValueIdx.contrEquiv1_symm_val dot_S4x4096x12x64_S4x4096x12x64_S4x12x4096x4096_3_3_1_1_02_02 64 rfl rfl d
  congr 2
  · funext a; apply Fin.ext
    match a with
    | ⟨0, _⟩ => rfl
    | ⟨1, _⟩ => rfl
    | ⟨2, _⟩ => rfl
    | ⟨3, _⟩ => exact c
  · funext a; apply Fin.ext
    match a with
    | ⟨0, _⟩ => rfl
    | ⟨1, _⟩ => rfl
    | ⟨2, _⟩ => rfl
    | ⟨3, _⟩ => exact c

theorem dot2 (v : Hd) (x : Sc) (b : Fin 4) (h : Fin 12) (d : Fin 64) (Q : Fin 4096) :
    Host.dotGeneral dot_S4x4096x12x64_S4x12x4096x4096_S4x12x64x4096_1_3_3_2_02_01 none v x (ix4 b h d Q)
      = ∑ K : Fin 4096, v (ix4 b K h d) * x (ix4 b h Q K) := by
  show FloatOps.dotGeneral _ none _ v x (ix4 b h d Q) = _
  rw [Ideal.dotGeneral_apply, ← Equiv.sum_comp (ValueIdx.contrEquiv1 dot_S4x4096x12x64_S4x12x4096x4096_S4x12x64x4096_1_3_3_2_02_01 4096 rfl rfl).symm]
  refine Finset.sum_congr rfl fun K _ => ?_
  have c := ValueIdx.contrEquiv1_symm_val dot_S4x4096x12x64_S4x12x4096x4096_S4x12x64x4096_1_3_3_2_02_01 4096 rfl rfl K
  congr 2
  · funext a; apply Fin.ext
    match a with
    | ⟨0, _⟩ => rfl
    | ⟨1, _⟩ => exact c
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact c

theorem sc_apply {q k : Hd} {qf kf : Fin 4 → Fin 4096 → Fin 12 → Fin 64 → ℝ} (hq : ∀ b s h d, q (ix4 b s h d) = (qf b s h d : EReal))
    (hk : ∀ b s h d, k (ix4 b s h d) = (kf b s h d : EReal)) (b : Fin 4) (h : Fin 12) (Q K : Fin 4096) :
    sc q k (ix4 b h Q K) = (((∑ d, qf b Q h d * kf b K h d) * (1 / 8) : ℝ) : EReal) := by
  show Host.dotGeneral dot_S4x4096x12x64_S4x4096x12x64_S4x12x4096x4096_3_3_1_1_02_02 none q k (ix4 b h Q K) * Ideal.ofBits .f32 0x3E000000#32 = _
  rw [dot1, eighth, EReal.coe_mul, Cert.KernelIdeal.Sb.coe_sum]
  simp only [hq, hk, EReal.coe_mul]

theorem foldl_add {n : ℕ} (g : Fin n → EReal) (v : EReal) : ∀ l : List (Fin n), l.foldl (fun r i => r + g i) v = v + (l.map g).sum
  | [] => by simp
  | i :: l => by
    rw [List.foldl_cons, List.map_cons, List.sum_cons]
    rw [show (l.foldl (fun r i => r + g i) (v + g i)) = v + g i + (l.map g).sum from foldl_add g (v + g i) l, add_assoc]

/-- A windowed sum at an index is the initial value plus the sum over the window's places. -/
theorem windowSum_apply {s t : Shape} (window strides lo hi : Fin s.rank → ℕ) (h : s.ReduceWindows window strides lo hi t) (x : s.Idx → EReal)
    (v : EReal) (j : t.Idx) :
    Ideal.hostReduceWindowAdd window strides lo hi h x v j = v + ∑ n : (⟨s.rank, window⟩ : Shape).Idx,
      if hin : ∀ a, lo a ≤ (j (a.cast h.1.symm)).val * strides a + (n a).val ∧ (j (a.cast h.1.symm)).val * strides a + (n a).val - lo a < s.size a
        then x (fun a => ⟨(j (a.cast h.1.symm)).val * strides a + (n a).val - lo a, (hin a).2⟩) else v := by
  unfold Ideal.hostReduceWindowAdd Host.reduceWindow
  rw [← Equiv.sum_comp (⟨s.rank, window⟩ : Shape).rowMajor.symm, Fin.sum_univ_def]
  convert foldl_add (fun i => if hin : ∀ a, lo a ≤ (j (a.cast h.1.symm)).val * strides a + ((⟨s.rank, window⟩ : Shape).rowMajor.symm i a).val
      ∧ (j (a.cast h.1.symm)).val * strides a + ((⟨s.rank, window⟩ : Shape).rowMajor.symm i a).val - lo a < s.size a
    then x (fun a => ⟨(j (a.cast h.1.symm)).val * strides a + ((⟨s.rank, window⟩ : Shape).rowMajor.symm i a).val - lo a, (hin a).2⟩) else v) v _

/-- The window's indices by their last coordinate. -/
def winEquiv : Fin 4096 ≃ (⟨4, ![1, 1, 1, 4096]⟩ : Shape).Idx where
  toFun t := ix4 0 0 0 t
  invFun i := i 3
  left_inv _ := rfl
  right_inv i := by
    funext a; apply Fin.ext
    match a with
    | ⟨0, _⟩ => exact (Nat.lt_one_iff.mp (i 0).isLt).symm
    | ⟨1, _⟩ => exact (Nat.lt_one_iff.mp (i 1).isLt).symm
    | ⟨2, _⟩ => exact (Nat.lt_one_iff.mp (i 2).isLt).symm
    | ⟨3, _⟩ => rfl

/-- The reversed running sum, along the keys. -/
theorem cum_apply {x : Sc} {b : Fin 4} {h : Fin 12} {Q : Fin 4096} {f : ℕ → ℝ} (hx : ∀ K : Fin 4096, x (ix4 b h Q K) = (f K.val : EReal)) (K : Fin 4096) :
    cum x (ix4 b h Q K) = ((∑ j ∈ Finset.Ico K.val 4096, f j : ℝ) : EReal) := by
  have hK := K.isLt
  have ei : (broadcastInDim S_ ![] bcast_S_S_ (constant S_ .f32 0x00000000#32) : FVec Ideal S_ .f32) (Shape.Idx.first h_S_) = (0 : EReal) := Ideal.ofBits_zero_f32
  unfold cum Host.reduceWindowAdd
  rw [ei, Ideal.hostReduceWindowAdd_def, windowSum_apply, zero_add]
  refine (Equiv.sum_comp winEquiv _).symm.trans ?_
  refine (Finset.sum_congr rfl fun t _ => (?_ : _ = if t.val < 4096 - K.val then (f (K.val + t.val) : EReal) else 0)).trans ?_
  · have hb := b.isLt
    have hh := h.isLt
    have hQ := Q.isLt
    by_cases ht : t.val < 4096 - K.val
    · have hin : ∀ a : Fin 4, (![0, 0, 0, 0] : Fin 4 → ℕ) a ≤ (ix4 b h Q K a).val * (![1, 1, 1, 1] : Fin 4 → ℕ) a + (winEquiv t a).val
        ∧ (ix4 b h Q K a).val * (![1, 1, 1, 1] : Fin 4 → ℕ) a + (winEquiv t a).val - (![0, 0, 0, 0] : Fin 4 → ℕ) a < S4x12x4096x4096.size a := fun a =>
        match a with
        | ⟨0, _⟩ => ⟨Nat.zero_le _, by show b.val * 1 + 0 - 0 < 4; omega⟩
        | ⟨1, _⟩ => ⟨Nat.zero_le _, by show h.val * 1 + 0 - 0 < 12; omega⟩
        | ⟨2, _⟩ => ⟨Nat.zero_le _, by show Q.val * 1 + 0 - 0 < 4096; omega⟩
        | ⟨3, _⟩ => ⟨Nat.zero_le _, by show K.val * 1 + t.val - 0 < 4096; omega⟩
      simp only [if_pos ht]
      refine (dif_pos hin).trans ?_
      rw [← hx ⟨K.val + t.val, by omega⟩]
      refine congrArg x ?_
      funext a; apply Fin.ext
      match a with
      | ⟨0, _⟩ => show b.val * 1 + 0 - 0 = b.val; omega
      | ⟨1, _⟩ => show h.val * 1 + 0 - 0 = h.val; omega
      | ⟨2, _⟩ => show Q.val * 1 + 0 - 0 = Q.val; omega
      | ⟨3, _⟩ => show K.val * 1 + t.val - 0 = K.val + t.val; omega
    · simp only [if_neg ht]
      refine dif_neg fun hin => ht ?_
      have h3 : K.val * 1 + t.val - 0 < 4096 := (hin 3).2
      omega
  rw [Fin.sum_univ_eq_sum_range (fun t => if t < 4096 - K.val then (f (K.val + t) : EReal) else 0) 4096, ← Nat.Ico_zero_eq_range,
    ← Finset.sum_Ico_consecutive (fun t => if t < 4096 - K.val then (f (K.val + t) : EReal) else 0) (Nat.zero_le (4096 - K.val)) (show 4096 - K.val ≤ 4096 by omega),
    Finset.sum_eq_zero (s := Finset.Ico (4096 - K.val) 4096), add_zero, Nat.Ico_zero_eq_range, Cert.KernelIdeal.Sb.coe_sum, Finset.sum_Ico_eq_sum_range]
  · refine Finset.sum_congr rfl fun t ht => ?_
    rw [if_pos (Finset.mem_range.mp ht)]
  · intro t ht
    exact if_neg (not_lt.mpr (Finset.mem_Ico.mp ht).1)

theorem lk_apply {q k : Hd} {b : Fin 4} {h : Fin 12} {Q : Fin 4096} {z : ℕ → ℝ} (hz : ∀ K : Fin 4096, sc q k (ix4 b h Q K) = (z K.val : EReal)) (K : Fin 4096) :
    lk q k (ix4 b h Q K) = (lkz z Q.val K.val : EReal) := by
  have e : lk q k (ix4 b h Q K) = if mask (ix4 b h Q K) = 1#1 then ls (Host.negf (sc q k)) (ix4 b h Q K) else zero (ix4 b h Q K) := rfl
  have hn : Host.negf (sc q k) (ix4 b h Q K) = ((-z K.val : ℝ) : EReal) := by
    rw [EReal.coe_neg, ← hz]; rfl
  rw [e, ls_apply hn, zero_apply, lkz]
  simp only [mask_apply]
  split <;> rfl

theorem w_apply {q k : Hd} {b : Fin 4} {h : Fin 12} {Q : Fin 4096} {z : ℕ → ℝ} (hz : ∀ K : Fin 4096, sc q k (ix4 b h Q K) = (z K.val : EReal)) (K : Fin 4096) :
    w q k (ix4 b h Q K) = (wz z Q.val K.val : EReal) := by
  have e : w q k (ix4 b h Q K) = if mask (ix4 b h Q K) = 1#1 then
      Ideal.exp (ls (sc q k) (ix4 b h Q K) + (cum (lk q k) (ix4 b h Q K) - lk q k (ix4 b h Q K))) else zero (ix4 b h Q K) := rfl
  rw [e, ls_apply (hz K), zero_apply, cum_apply (lk_apply hz) K, lk_apply hz, wz, ← EReal.coe_sub, ← EReal.coe_add, Ideal.exp_coe,
    Finset.sum_eq_sum_Ico_succ_bot K.isLt, add_sub_cancel_left]
  simp only [mask_apply]
  split <;> rfl

theorem out_apply (q k v : Hd) (b : Fin 4) (s : Fin 4096) (h : Fin 12) (d : Fin 64) (R : Fin 16384) (C : Fin 768)
    (hR : R.val = b.val * 4096 + s.val) (hC : C.val = h.val * 64 + d.val) :
    out q k v (ix2 R C) = ∑ K : Fin 4096, v (ix4 b K h d) * w q k (ix4 b h s K) := by
  rw [← dot2]
  have e : out q k v = shapeCast S16384x768 (transpose S4x4096x12x64 [0, 3, 1, 2]
    (Host.dotGeneral dot_S4x4096x12x64_S4x12x4096x4096_S4x12x64x4096_1_3_3_2_02_01 none v (w q k))
    transposes_S4x12x64x4096_S4x4096x12x64_0_3_1_2) shapeCasts_S4x4096x12x64_S16384x768 := rfl
  rw [e, shapeCast_apply _ _ (ix2 R C) (ix4 b s h d) (by
    rw [Shape.rowMajor_val_four, Shape.rowMajor_val_two]
    show ((b.val * 4096 + s.val) * 12 + h.val) * 64 + d.val = R.val * 768 + C.val
    omega)]
  exact transpose_apply _ _ _ _ _ fun a => match a with
    | ⟨0, _⟩ => rfl
    | ⟨1, _⟩ => rfl
    | ⟨2, _⟩ => rfl
    | ⟨3, _⟩ => rfl

end Cert.ReferenceIdeal.Sb
-- ==== Proof.TailBlock.lean ====
module

public import proofs.«01_k».proof.Proof.Gen.Kernel2Ideal.Frame
public import proofs.«01_k».proof.Proof.TailRow
public import Idealize.ShloMosaic.Lib.MatmulPlain
public import Idealize.ShloMosaic.Lib.IdealHost
public import Idealize.ShloMosaic.Lib.Pointwise

@[expose] public section

set_option maxRecDepth 16384

noncomputable section

namespace Cert.Kernel2Ideal.Tail

open Idealize.ShloMosaic Idealize.ShloMosaic.TcCoe
open Cert.Kernel2Ideal Cert.Kernel2Ideal.Gen
open scoped BigOperators

section Terms
variable {F : FTy → Type} [FloatOps F]

/-! ## The pieces of a block -/

/-- A block's rows normalized to unit mean square, times the gain. -/
def normed (x : FVec F S512x1024 .f32) (g : FVec F S1x1024 .f32) : FVec F S512x1024 .f32 :=
  mulf (mulf x (broadcastTo S512x1024 (rsqrt (addf (divf
      (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32))))
    broadcasts_S512x1_S512x1024)) (broadcastTo S512x1024 g broadcasts_S1x1024_S512x1024)

/-- A projection of a block's rows onto 256 hidden units. -/
def proj (x : FVec F S512x1024 .bf16) (w : Vec F S1024x256 .bf16) : FVec F S512x256 .f32 :=
  matmul dot_S512x1024_S1024x256_S512x256_1_0_0_1_n_n none x (shapeCast S1024x256 w shapeCasts_S1024x256_S1024x256)
    (constant S512x256 .f32 0x00000000#32)

/-- The gate through its sigmoid, times the other projection. -/
def gated (g u : FVec F S512x256 .f32) : FVec F S512x256 .bf16 :=
  truncf .bf16 (mulf (mulf g (divf (broadcast S512x256 (Scalar.ofBits .f32 0x3F800000#32))
    (addf (broadcast S512x256 (Scalar.ofBits .f32 0x3F800000#32)) (exp (subf (broadcast S512x256 (Scalar.ofBits .f32 0x00000000#32)) g))))) u)
    bitsLt_bf16_f32

/-- What 256 rows of a weight contribute to a block's output. -/
def back (a : FVec F S512x256 .bf16) (w : Vec F S256x1024 .bf16) : FVec F S512x1024 .f32 :=
  matmul dot_S512x256_S256x1024_S512x1024_1_0_0_1_n_n none a (shapeCast S256x1024 w shapeCasts_S256x1024_S256x1024)
    (constant S512x1024 .f32 0x00000000#32)

/-- What 256 hidden units contribute to a block's output. -/
def part (x : FVec F S512x1024 .bf16) (wg wu : Vec F S1024x256 .bf16) (wd : Vec F S256x1024 .bf16) : FVec F S512x1024 .f32 :=
  back (gated (proj x wg) (proj x wu)) wd

theorem pay2_eq (v0 : Vec F S512x256 .bf16) (v2 : Vec F S256x1024 .bf16) (v5 : Vec F S512x256 .bf16) (v7 : Vec F S256x1024 .bf16) (v11 : Vec F S512x256 .bf16) (v13 : Vec F S256x1024 .bf16) (v17 : Vec F S512x256 .bf16) (v19 : Vec F S256x1024 .bf16) :
    k0_pay2 v0 v2 v5 v7 v11 v13 v17 v19 = addf (addf (addf (back (shapeCast S512x256 v0 shapeCasts_S512x256_S512x256) v2)
      (back (shapeCast S512x256 v5 shapeCasts_S512x256_S512x256) v7)) (back (shapeCast S512x256 v11 shapeCasts_S512x256_S512x256) v13))
      (back (shapeCast S512x256 v17 shapeCasts_S512x256_S512x256) v19) := rfl

section Block
variable (x0 : Vec F S512x1024 .f32) (x1 x2 x3 x4 : Vec F S512x256 .bf16) (x5 : Vec F S1024x1024 .bf16)
  (x6 x7 x8 : Vec F S1x1024 .f32) (x9 : Vec F S1024x5632 .bf16) (x10 : Vec F S2816x1024 .bf16)

/-- The mixer's output projected. -/
abbrev yB : FVec F S512x1024 .f32 := k0_pay26 x0 x1 x2 x3 x4 x5 x6 x7 x8 x9 x10

/-- The residual stream after the mixer. -/
abbrev hB : FVec F S512x1024 .f32 :=
  k0_pay6 (k0_pay26 x0 x1 x2 x3 x4 x5 x6 x7 x8 x9 x10) (k0_pay27 x0 x1 x2 x3 x4 x5 x6 x7 x8 x9 x10) (k0_pay28 x0 x1 x2 x3 x4 x5 x6 x7 x8 x9 x10) (k0_pay29 x0 x1 x2 x3 x4 x5 x6 x7 x8 x9 x10) (Scalar.ofBits .f32 0x358637BD#32)

/-- It normalized. -/
abbrev nB : FVec F S512x1024 .bf16 := k0_pay30 x0 x1 x2 x3 x4 x5 x6 x7 x8 x9 x10

theorem hB_eq : hB x0 x1 x2 x3 x4 x5 x6 x7 x8 x9 x10
    = addf (shapeCast S512x1024 (View.ld x0 r0_5) shapeCasts_S512x1024_S512x1024)
      (normed (yB x0 x1 x2 x3 x4 x5 x6 x7 x8 x9 x10) (shapeCast S1x1024 (View.ld x6 r0_6) shapeCasts_S1x1024_S1x1024)) := rfl

theorem nB_eq : nB x0 x1 x2 x3 x4 x5 x6 x7 x8 x9 x10
    = truncf .bf16 (normed (hB x0 x1 x2 x3 x4 x5 x6 x7 x8 x9 x10) (shapeCast S1x1024 (View.ld x7 r0_6) shapeCasts_S1x1024_S1x1024)) bitsLt_bf16_f32 := rfl
end Block

theorem pay8_eq (v22 : FVec F S512x1024 .f32) (v24 : FVec F S512x1024 .f32) (v26 : FVec F S1x1024 .f32) (v31 : FVec F S512x1 .f32) (cst_21 : F .f32) (v40 : Vec F S1x1024 .f32) (v55 v58 : Vec F S1024x256 .bf16) (v71 : Vec F S256x1024 .bf16) :
    k0_pay8 v22 v24 v26 v31 cst_21 v40 v55 v58 v71 = part (k0_pay7 v22 v24 v26 v31 cst_21 v40) v55 v58 v71 := rfl

theorem pay9_eq (n : FVec F S512x1024 .bf16) (a : FVec F S512x1024 .f32) (v74 v77 : Vec F S1024x256 .bf16) (v90 : Vec F S256x1024 .bf16) :
    k0_pay9 n a v74 v77 v90 = addf a (part n v74 v77 v90) := rfl

theorem pay12_eq (n : FVec F S512x1024 .bf16) (a : FVec F S512x1024 .f32) (b0 b1 c0 c1 : Vec F S1024x256 .bf16) (b2 c2 : Vec F S256x1024 .bf16) :
    k0_pay12 n a (k0_pay10 n b0 b1) (k0_pay11 b2) c0 c1 c2 = addf (addf a (part n b0 b1 b2)) (part n c0 c1 c2) := rfl

theorem pay14_eq (n : FVec F S512x1024 .bf16) (a : FVec F S512x1024 .f32) (b0 b1 c0 c1 : Vec F S1024x256 .bf16) (b2 c2 : Vec F S256x1024 .bf16) :
    k0_pay14 n a (k0_pay13 n b0 b1) b2 c0 c1 c2 = addf (addf a (part n b0 b1 b2)) (part n c0 c1 c2) := rfl

theorem pay19_eq (n : FVec F S512x1024 .bf16) (a : FVec F S512x1024 .f32) (b0 b1 c0 c1 : Vec F S1024x256 .bf16) (b2 c2 : Vec F S256x1024 .bf16) :
    k0_pay19 n a (k0_pay15 n b0) (k0_pay16 n b1) (k0_pay17 n b0) (k0_pay18 (F := F)) b2 c0 c1 c2 = addf (addf a (part n b0 b1 b2)) (part n c0 c1 c2) := rfl

theorem pay23_eq (n : FVec F S512x1024 .bf16) (a : FVec F S512x1024 .f32) (b0 b1 c0 c1 : Vec F S1024x256 .bf16) (b2 c2 : Vec F S256x1024 .bf16) :
    k0_pay23 n a (k0_pay20 n b0) (k0_pay21 n b1) (k0_pay22 n b0) (Scalar.ofBits .f32 0x3F800000#32) b2 c0 c1 c2 = addf (addf a (part n b0 b1 b2)) (part n c0 c1 c2) := rfl

theorem pay1_eq (n : FVec F S512x1024 .bf16) (h a : FVec F S512x1024 .f32) (b0 b1 : Vec F S1024x256 .bf16) (b2 : Vec F S256x1024 .bf16) (g : Vec F S1x1024 .f32) :
    k0_pay1 h a (k0_pay24 n b0) (k0_pay25 n b1) (Scalar.ofBits .f32 0x00000000#32) b2 g
      = addf h (normed (addf a (part n b0 b1 b2)) (shapeCast S1x1024 g shapeCasts_S1x1024_S1x1024)) := rfl
end Terms

/-! ## Read at an entry -/

theorem normed_apply (x : FVec Ideal S512x1024 .f32) (g : FVec Ideal S1x1024 .f32) (r : Fin 512) (j : Fin 1024) :
    normed x g (ix2 r j) = Cert.Tail.rms (fun k => x (ix2 r k)) (fun k => g (ix2 0 k)) j := by
  have es : ∀ z : FVec Ideal S512x1 .f32, broadcastTo S512x1024 z broadcasts_S512x1_S512x1024 (ix2 r j) = z (ix2 r 0) := fun z => by
    rw [Pointwise.broadcastTo_apply]
    refine congrArg z (funext fun a => Fin.ext ?_)
    match a with
    | ⟨0, _⟩ => rfl
    | ⟨1, _⟩ => rfl
  have eg : broadcastTo S512x1024 g broadcasts_S1x1024_S512x1024 (ix2 r j) = g (ix2 0 j) := by
    rw [Pointwise.broadcastTo_apply]
    refine congrArg g (funext fun a => Fin.ext ?_)
    match a with
    | ⟨0, _⟩ => rfl
    | ⟨1, _⟩ => rfl
  have ec : ∀ z : FVec Ideal S512 .f32, shapeCast S512x1 z shapeCasts_S512_S512x1 (ix2 r 0) = z (ix1 r) := fun z => by
    refine shapeCast_apply _ _ (ix2 r 0) (ix1 r) ?_
    rw [Shape.rowMajor_val_one, Shape.rowMajor_val_two]
    show r.val = r.val * 1 + 0
    omega
  have er : multiReduction .add [1] S512 (mulf x x) 0x00000000#32 reduces_S512x1024_S512 (.inl rfl) rfl (ix1 r) = ∑ k, x (ix2 r k) * x (ix2 r k) := by
    refine (Ideal.multiReduction_add_single _ _ reduces_S512x1024_S512 _ _ (ix1 r)).trans ?_
    refine Finset.sum_congr rfl fun k _ => ?_
    have el : (reduces_S512x1024_S512.lift (ix1 r) k) = (ix2 r k : S512x1024.Idx) := funext fun a => Fin.ext (by
      match a with
      | ⟨0, _⟩ => rfl
      | ⟨1, _⟩ => rfl)
    rw [el]; rfl
  unfold normed
  show x (ix2 r j) * broadcastTo S512x1024 _ broadcasts_S512x1_S512x1024 (ix2 r j) * broadcastTo S512x1024 g broadcasts_S1x1024_S512x1024 (ix2 r j) = _
  rw [es, eg]
  show x (ix2 r j) * Ideal.rsqrt (Ideal.div (shapeCast S512x1 _ shapeCasts_S512_S512x1 (ix2 r 0)) (Ideal.ofBits .f32 0x44800000#32) + Ideal.ofBits .f32 0x358637BD#32) * g (ix2 0 j) = _
  rw [ec, er]
  rfl

theorem proj_apply (x : FVec Ideal S512x1024 .bf16) (w : Vec Ideal S1024x256 .bf16) (r : Fin 512) (l : Fin 256) :
    proj x w (ix2 r l) = ∑ d : Fin 1024, x (ix2 r d) * w (ix2 d l) := by
  unfold proj
  rw [shapeCast_id]
  refine (Ideal.matmul_plain_apply (M := 512) (K := 1024) (N := 256) none x w _ r l).trans ?_
  rw [ValueIdx.constant_apply, Ideal.ofBits_zero_f32, zero_add]
  rfl

theorem back_apply (a : FVec Ideal S512x256 .bf16) (w : Vec Ideal S256x1024 .bf16) (r : Fin 512) (j : Fin 1024) :
    back a w (ix2 r j) = ∑ l : Fin 256, a (ix2 r l) * w (ix2 l j) := by
  unfold back
  rw [shapeCast_id]
  refine (Ideal.matmul_plain_apply (M := 512) (K := 256) (N := 1024) none a w _ r j).trans ?_
  rw [ValueIdx.constant_apply, Ideal.ofBits_zero_f32, zero_add]
  rfl

theorem gated_apply (g u : FVec Ideal S512x256 .f32) (i : S512x256.Idx) : gated g u i = Cert.Tail.act (g i) (u i) := by
  have e : gated g u i = g i * Ideal.div (Ideal.ofBits .f32 0x3F800000#32) (Ideal.ofBits .f32 0x3F800000#32 + Ideal.exp (Ideal.ofBits .f32 0x00000000#32 - g i)) * u i := rfl
  rw [e, Ideal.ofBits_one_f32, Ideal.ofBits_zero_f32, zero_sub]
  rfl

theorem part_apply (x : FVec Ideal S512x1024 .bf16) (wg wu : Vec Ideal S1024x256 .bf16) (wd : Vec Ideal S256x1024 .bf16) (r : Fin 512) (j : Fin 1024) :
    part x wg wu wd (ix2 r j) = ∑ l : Fin 256, Cert.Tail.act (∑ d : Fin 1024, x (ix2 r d) * wg (ix2 d l)) (∑ d : Fin 1024, x (ix2 r d) * wu (ix2 d l)) * wd (ix2 l j) := by
  unfold part
  rw [back_apply]
  refine Finset.sum_congr rfl fun l _ => ?_
  rw [gated_apply, proj_apply, proj_apply]

end Cert.Kernel2Ideal.Tail
-- ==== Proof.TailPoint.lean ====
module

public import proofs.«01_k».proof.Proof.TailBlock

@[expose] public section

set_option maxRecDepth 16384

noncomputable section

namespace Cert.Kernel2Ideal.Tail

open Idealize.ShloMosaic Idealize.ShloMosaic.TcCoe
open Cert.Kernel2Ideal Cert.Kernel2Ideal.Gen
open Cert.Tail (unit sum_units sum_eleven)
open scoped BigOperators

section Terms
variable {F : FTy → Type} [FloatOps F]

/-- The eleven blocks of hidden units, added up. -/
def total (n : FVec F S512x1024 .bf16) (x9 : Vec F S1024x5632 .bf16) (x10 : Vec F S2816x1024 .bf16) : FVec F S512x1024 .f32 :=
  (addf (addf (addf (addf (addf (addf (addf (addf (addf (addf (part n (View.ld x9 r0_7) (View.ld x9 r0_8) (View.ld x10 r0_9))
    (part n (View.ld x9 r0_10) (View.ld x9 r0_11) (View.ld x10 r0_12)))
    (part n (View.ld x9 r0_13) (View.ld x9 r0_14) (View.ld x10 r0_15)))
    (part n (View.ld x9 r0_16) (View.ld x9 r0_17) (View.ld x10 r0_18)))
    (part n (View.ld x9 r0_19) (View.ld x9 r0_20) (View.ld x10 r0_21)))
    (part n (View.ld x9 r0_22) (View.ld x9 r0_23) (View.ld x10 r0_24)))
    (part n (View.ld x9 r0_25) (View.ld x9 r0_26) (View.ld x10 r0_27)))
    (part n (View.ld x9 r0_28) (View.ld x9 r0_29) (View.ld x10 r0_30)))
    (part n (View.ld x9 r0_31) (View.ld x9 r0_32) (View.ld x10 r0_33)))
    (part n (View.ld x9 r0_34) (View.ld x9 r0_35) (View.ld x10 r0_36)))
    (part n (View.ld x9 r0_37) (View.ld x9 r0_38) (View.ld x10 r0_39)))

variable (x0 : Vec F S512x1024 .f32) (x1 x2 x3 x4 : Vec F S512x256 .bf16) (x5 : Vec F S1024x1024 .bf16)
  (x6 x7 x8 : Vec F S1x1024 .f32) (x9 : Vec F S1024x5632 .bf16) (x10 : Vec F S2816x1024 .bf16)

theorem out_eq : out0_11 x0 x1 x2 x3 x4 x5 x6 x7 x8 x9 x10 = addf (hB x0 x1 x2 x3 x4 x5 x6 x7 x8 x9 x10)
    (normed (total (nB x0 x1 x2 x3 x4 x5 x6 x7 x8 x9 x10) x9 x10) (shapeCast S1x1024 (View.ld x8 r0_6) shapeCasts_S1x1024_S1x1024)) := by
  unfold out0_11
  rw [View.canon_unit_zero (by decide), pay1_eq, pay23_eq, pay19_eq, pay14_eq, pay12_eq, pay9_eq, pay8_eq]
  rfl
end Terms

/-! ## Loads of a weight's part -/

theorem ld_down (w : Vec Ideal S2816x1024 .bf16) (o : ℕ) (inb : ∀ a, (![o, 0] : Fin 2 → ℕ) a + S256x1024.size a ≤ S2816x1024.size a)
    (l : Fin 256) (j : Fin 1024) (n : Fin 2816) (hn : n.val = o + l.val) :
    View.ld (Val := Elt Ideal) w (Rect.unit (s := S2816x1024) ![o, 0] S256x1024.size inb) (ix2 l j) = w (ix2 n j) := by
  refine congrArg w (funext fun a => Fin.ext ?_)
  match a with
  | ⟨0, _⟩ => exact (congrArg (o + ·) (Nat.one_mul _)).trans hn.symm
  | ⟨1, _⟩ => exact (Nat.zero_add _).trans (Nat.one_mul _)

theorem ld_up (w : Vec Ideal S1024x5632 .bf16) (o : ℕ) (inb : ∀ a, (![0, o] : Fin 2 → ℕ) a + S1024x256.size a ≤ S1024x5632.size a)
    (d : Fin 1024) (l : Fin 256) (n : Fin 5632) (hn : n.val = o + l.val) :
    View.ld (Val := Elt Ideal) w (Rect.unit (s := S1024x5632) ![0, o] S1024x256.size inb) (ix2 d l) = w (ix2 d n) := by
  refine congrArg w (funext fun a => Fin.ext ?_)
  match a with
  | ⟨0, _⟩ => exact (Nat.zero_add _).trans (Nat.one_mul _)
  | ⟨1, _⟩ => exact (congrArg (o + ·) (Nat.one_mul _)).trans hn.symm

theorem ld_mix (w : Vec Ideal S1024x1024 .bf16) (o : ℕ) (inb : ∀ a, (![o, 0] : Fin 2 → ℕ) a + S256x1024.size a ≤ S1024x1024.size a)
    (l : Fin 256) (j : Fin 1024) (n : Fin 1024) (hn : n.val = o + l.val) :
    View.ld (Val := Elt Ideal) w (Rect.unit (s := S1024x1024) ![o, 0] S256x1024.size inb) (ix2 l j) = w (ix2 n j) := by
  refine congrArg w (funext fun a => Fin.ext ?_)
  match a with
  | ⟨0, _⟩ => exact (congrArg (o + ·) (Nat.one_mul _)).trans hn.symm
  | ⟨1, _⟩ => exact (Nat.zero_add _).trans (Nat.one_mul _)

/-- A hidden unit's column of the gate's half, and of the other half. -/
abbrev lo (n : Fin 2816) : Fin 5632 := ⟨n.val, by omega⟩
abbrev hi (n : Fin 2816) : Fin 5632 := ⟨2816 + n.val, by omega⟩

/-- One hidden unit's contribution at an entry. -/
abbrev term (n : FVec Ideal S512x1024 .bf16) (x9 : Vec Ideal S1024x5632 .bf16) (x10 : Vec Ideal S2816x1024 .bf16) (r : Fin 512) (j : Fin 1024) (k : Fin 2816) : EReal :=
  Cert.Tail.act (∑ d : Fin 1024, n (ix2 r d) * x9 (ix2 d (lo k))) (∑ d : Fin 1024, n (ix2 r d) * x9 (ix2 d (hi k))) * x10 (ix2 k j)

theorem part_unit (n : FVec Ideal S512x1024 .bf16) (x9 : Vec Ideal S1024x5632 .bf16) (x10 : Vec Ideal S2816x1024 .bf16) (c : Fin 11) {og ou od : ℕ}
    (hg : og = 256 * c.val) (hu : ou = 2816 + 256 * c.val) (hd : od = 256 * c.val)
    (ig : ∀ a, (![0, og] : Fin 2 → ℕ) a + S1024x256.size a ≤ S1024x5632.size a)
    (iu : ∀ a, (![0, ou] : Fin 2 → ℕ) a + S1024x256.size a ≤ S1024x5632.size a)
    (id : ∀ a, (![od, 0] : Fin 2 → ℕ) a + S256x1024.size a ≤ S2816x1024.size a) (r : Fin 512) (j : Fin 1024) :
    part n (View.ld x9 (Rect.unit (s := S1024x5632) ![0, og] S1024x256.size ig)) (View.ld x9 (Rect.unit (s := S1024x5632) ![0, ou] S1024x256.size iu))
      (View.ld x10 (Rect.unit (s := S2816x1024) ![od, 0] S256x1024.size id)) (ix2 r j) = ∑ l : Fin 256, term n x9 x10 r j (unit c l) := by
  refine (part_apply _ _ _ _ r j).trans (Finset.sum_congr rfl fun l _ => ?_)
  have e1 : ∀ d, View.ld x9 (Rect.unit (s := S1024x5632) ![0, og] S1024x256.size ig) (ix2 d l) = x9 (ix2 d (lo (unit c l))) := fun d =>
    ld_up x9 og ig d l _ (by rw [hg])
  have e2 : ∀ d, View.ld x9 (Rect.unit (s := S1024x5632) ![0, ou] S1024x256.size iu) (ix2 d l) = x9 (ix2 d (hi (unit c l))) := fun d =>
    ld_up x9 ou iu d l _ (by rw [hu]; exact (Nat.add_assoc _ _ _).symm)
  have e3 := ld_down x10 od id l j (unit c l) (by rw [hd])
  rw [e3, Finset.sum_congr rfl fun d _ => congrArg (n (ix2 r d) * ·) (e1 d), Finset.sum_congr rfl fun d _ => congrArg (n (ix2 r d) * ·) (e2 d)]

theorem total_apply (n : FVec Ideal S512x1024 .bf16) (x9 : Vec Ideal S1024x5632 .bf16) (x10 : Vec Ideal S2816x1024 .bf16) (r : Fin 512) (j : Fin 1024) :
    total n x9 x10 (ix2 r j) = Cert.Tail.ffn (fun d => n (ix2 r d)) (fun d k => x9 (ix2 d (lo k))) (fun d k => x9 (ix2 d (hi k))) (fun k j => x10 (ix2 k j)) j := by
  refine Eq.trans ?_ ((sum_units (term n x9 x10 r j)).trans (sum_eleven fun c => ∑ l : Fin 256, term n x9 x10 r j (unit c l))).symm
  unfold total
  show (part n (View.ld x9 r0_7) (View.ld x9 r0_8) (View.ld x10 r0_9) (ix2 r j) + part n (View.ld x9 r0_10) (View.ld x9 r0_11) (View.ld x10 r0_12) (ix2 r j) + part n (View.ld x9 r0_13) (View.ld x9 r0_14) (View.ld x10 r0_15) (ix2 r j) + part n (View.ld x9 r0_16) (View.ld x9 r0_17) (View.ld x10 r0_18) (ix2 r j) + part n (View.ld x9 r0_19) (View.ld x9 r0_20) (View.ld x10 r0_21) (ix2 r j) + part n (View.ld x9 r0_22) (View.ld x9 r0_23) (View.ld x10 r0_24) (ix2 r j) + part n (View.ld x9 r0_25) (View.ld x9 r0_26) (View.ld x10 r0_27) (ix2 r j) + part n (View.ld x9 r0_28) (View.ld x9 r0_29) (View.ld x10 r0_30) (ix2 r j) + part n (View.ld x9 r0_31) (View.ld x9 r0_32) (View.ld x10 r0_33) (ix2 r j) + part n (View.ld x9 r0_34) (View.ld x9 r0_35) (View.ld x10 r0_36) (ix2 r j) + part n (View.ld x9 r0_37) (View.ld x9 r0_38) (View.ld x10 r0_39) (ix2 r j) : EReal) = _
  rw [part_unit n x9 x10 0 (og := 0) (ou := 2816) (od := 0) rfl rfl rfl]
  rw [part_unit n x9 x10 1 (og := 256) (ou := 3072) (od := 256) rfl rfl rfl]
  rw [part_unit n x9 x10 2 (og := 512) (ou := 3328) (od := 512) rfl rfl rfl]
  rw [part_unit n x9 x10 3 (og := 768) (ou := 3584) (od := 768) rfl rfl rfl]
  rw [part_unit n x9 x10 4 (og := 1024) (ou := 3840) (od := 1024) rfl rfl rfl]
  rw [part_unit n x9 x10 5 (og := 1280) (ou := 4096) (od := 1280) rfl rfl rfl]
  rw [part_unit n x9 x10 6 (og := 1536) (ou := 4352) (od := 1536) rfl rfl rfl]
  rw [part_unit n x9 x10 7 (og := 1792) (ou := 4608) (od := 1792) rfl rfl rfl]
  rw [part_unit n x9 x10 8 (og := 2048) (ou := 4864) (od := 2048) rfl rfl rfl]
  rw [part_unit n x9 x10 9 (og := 2304) (ou := 5120) (od := 2304) rfl rfl rfl]
  rw [part_unit n x9 x10 10 (og := 2560) (ou := 5376) (od := 2560) rfl rfl rfl]

section Row
variable (x0 : Vec Ideal S512x1024 .f32) (x1 x2 x3 x4 : Vec Ideal S512x256 .bf16) (x5 : Vec Ideal S1024x1024 .bf16)
  (x6 x7 x8 : Vec Ideal S1x1024 .f32) (x9 : Vec Ideal S1024x5632 .bf16) (x10 : Vec Ideal S2816x1024 .bf16)

/-- The mixes of a row, projected. -/
def yrow (r : Fin 512) (j : Fin 1024) : EReal :=
  (∑ l : Fin 256, x1 (ix2 r l) * x5 (ix2 (Cert.Tail.lane 0 l) j)) + (∑ l : Fin 256, x2 (ix2 r l) * x5 (ix2 (Cert.Tail.lane 1 l) j))
    + (∑ l : Fin 256, x3 (ix2 r l) * x5 (ix2 (Cert.Tail.lane 2 l) j)) + (∑ l : Fin 256, x4 (ix2 r l) * x5 (ix2 (Cert.Tail.lane 3 l) j))

theorem back_mix (x : Vec Ideal S512x256 .bf16) (q : Fin 4) {o : ℕ} (ho : o = 256 * q.val)
    (inb : ∀ a, (![o, 0] : Fin 2 → ℕ) a + S256x1024.size a ≤ S1024x1024.size a) (r : Fin 512) (j : Fin 1024) :
    back (shapeCast S512x256 (View.ld x r0_0) shapeCasts_S512x256_S512x256) (View.ld x5 (Rect.unit (s := S1024x1024) ![o, 0] S256x1024.size inb)) (ix2 r j)
      = ∑ l : Fin 256, x (ix2 r l) * x5 (ix2 (Cert.Tail.lane q l) j) := by
  have ex : shapeCast S512x256 (View.ld x r0_0) shapeCasts_S512x256_S512x256 = x :=
    (shapeCast_id (s := S512x256) _ _).trans (View.ld_unit_zero (by decide) _ x)
  rw [ex, back_apply]
  refine Finset.sum_congr rfl fun l _ => ?_
  rw [ld_mix x5 o inb l j (Cert.Tail.lane q l) (by rw [ho])]

theorem yB_apply (r : Fin 512) (j : Fin 1024) : yB x0 x1 x2 x3 x4 x5 x6 x7 x8 x9 x10 (ix2 r j) = yrow x1 x2 x3 x4 x5 r j := by
  show (back (F := Ideal) (shapeCast S512x256 (View.ld x1 r0_0) shapeCasts_S512x256_S512x256) (View.ld x5 r0_1) (ix2 r j) + back (F := Ideal) (shapeCast S512x256 (View.ld x2 r0_0) shapeCasts_S512x256_S512x256) (View.ld x5 r0_2) (ix2 r j) + back (F := Ideal) (shapeCast S512x256 (View.ld x3 r0_0) shapeCasts_S512x256_S512x256) (View.ld x5 r0_3) (ix2 r j) + back (F := Ideal) (shapeCast S512x256 (View.ld x4 r0_0) shapeCasts_S512x256_S512x256) (View.ld x5 r0_4) (ix2 r j) : EReal) = _
  rw [back_mix x5 x1 0 (o := 0) rfl, back_mix x5 x2 1 (o := 256) rfl, back_mix x5 x3 2 (o := 512) rfl, back_mix x5 x4 3 (o := 768) rfl]
  rfl

theorem gain (x : Vec Ideal S1x1024 .f32) : shapeCast S1x1024 (View.ld x r0_6) shapeCasts_S1x1024_S1x1024 = x :=
  (shapeCast_id (s := S1x1024) _ _).trans (View.ld_unit_zero (by decide) _ x)

theorem hB_row (r : Fin 512) : (fun j => hB x0 x1 x2 x3 x4 x5 x6 x7 x8 x9 x10 (ix2 r j))
    = Cert.Tail.mid (fun k => x0 (ix2 r k)) (yrow x1 x2 x3 x4 x5 r) (fun k => x6 (ix2 0 k)) := funext fun j => by
  have e0 : shapeCast S512x1024 (View.ld x0 r0_5) shapeCasts_S512x1024_S512x1024 = x0 :=
    (shapeCast_id (s := S512x1024) _ _).trans (View.ld_unit_zero (by decide) _ x0)
  rw [hB_eq, gain, e0]
  show x0 (ix2 r j) + normed (F := Ideal) _ x6 (ix2 r j) = _
  rw [normed_apply]
  simp only [yB_apply]
  rfl

theorem nB_row (r : Fin 512) : (fun j => nB x0 x1 x2 x3 x4 x5 x6 x7 x8 x9 x10 (ix2 r j))
    = Cert.Tail.rms (Cert.Tail.mid (fun k => x0 (ix2 r k)) (yrow x1 x2 x3 x4 x5 r) (fun k => x6 (ix2 0 k))) (fun k => x7 (ix2 0 k)) := funext fun j => by
  rw [nB_eq, gain]
  show normed (F := Ideal) _ x7 (ix2 r j) = _
  rw [normed_apply, hB_row]

theorem out_row (r : Fin 512) (j : Fin 1024) : out0_11 x0 x1 x2 x3 x4 x5 x6 x7 x8 x9 x10 (ix2 r j)
    = Cert.Tail.row (fun k => x0 (ix2 r k)) (yrow x1 x2 x3 x4 x5 r) (fun k => x6 (ix2 0 k)) (fun k => x7 (ix2 0 k)) (fun k => x8 (ix2 0 k))
      (fun d k => x9 (ix2 d (lo k))) (fun d k => x9 (ix2 d (hi k))) (fun k j => x10 (ix2 k j)) j := by
  rw [out_eq, gain]
  show hB x0 x1 x2 x3 x4 x5 x6 x7 x8 x9 x10 (ix2 r j) + normed (F := Ideal) _ x8 (ix2 r j) = _
  rw [normed_apply, congrFun (hB_row x0 x1 x2 x3 x4 x5 x6 x7 x8 x9 x10 r) j]
  simp only [total_apply]
  rw [nB_row]
  rfl
end Row

end Cert.Kernel2Ideal.Tail
-- ==== Proof.TailArr.lean ====
module

public import proofs.«01_k».proof.Proof.Gen.Kernel2Ideal.Value
public import proofs.«01_k».proof.Proof.TailPoint
public import Idealize.ShloMosaic.Lib.StableHlo.Run

@[expose] public section

set_option maxRecDepth 16384

noncomputable section

namespace Cert.Kernel2Ideal.Tail

open Idealize.ShloMosaic Idealize.ShloMosaic.TcCoe Idealize.SL.Sem
open Cert.Kernel2Ideal Cert.Kernel2Ideal.Gen
open Cert.Tail (lane place)
open scoped BigOperators

/-! ## Which block each window stages -/

theorem tr0 : ∀ i : grid0.Coords, cc0_transform_0 i = ![(i 0).val, 0] := by decide +kernel
theorem tr1 : ∀ i : grid0.Coords, cc0_transform_1 i = ![(i 0).val, 0] := by decide +kernel
theorem tr2 : ∀ i : grid0.Coords, cc0_transform_2 i = ![(i 0).val, 0] := by decide +kernel
theorem tr3 : ∀ i : grid0.Coords, cc0_transform_3 i = ![(i 0).val, 0] := by decide +kernel
theorem tr4 : ∀ i : grid0.Coords, cc0_transform_4 i = ![(i 0).val, 0] := by decide +kernel
theorem tr5 : ∀ i : grid0.Coords, cc0_transform_5 i = ![0, 0] := by decide +kernel
theorem tr6 : ∀ i : grid0.Coords, cc0_transform_6 i = ![0, 0] := by decide +kernel
theorem tr7 : ∀ i : grid0.Coords, cc0_transform_7 i = ![0, 0] := by decide +kernel
theorem tr8 : ∀ i : grid0.Coords, cc0_transform_8 i = ![0, 0] := by decide +kernel
theorem tr9 : ∀ i : grid0.Coords, cc0_transform_9 i = ![0, 0] := by decide +kernel
theorem tr10 : ∀ i : grid0.Coords, cc0_transform_10 i = ![0, 0] := by decide +kernel
theorem tr11 : ∀ i : grid0.Coords, cc0_transform_11 i = ![(i 0).val, 0] := by decide +kernel

/-! ## What the host prepares -/

section Host
variable (m : (ℓ : Loc nD τ sig) → Buf (Elt Ideal) ℓ) (c : Dev nD)

abbrev aH : FVec Ideal S4x4096x1024 .f32 := m ((c : Thread nD τ).loc main_arg0)
abbrev aY : FVec Ideal S4x4096x1024 .f32 := m ((c : Thread nD τ).loc main_arg1)
abbrev aW : FVec Ideal S1024x1024 .f32 := m ((c : Thread nD τ).loc main_arg2)
abbrev aG1 : FVec Ideal S1024 .f32 := m ((c : Thread nD τ).loc main_arg3)
abbrev aG2 : FVec Ideal S1024 .f32 := m ((c : Thread nD τ).loc main_arg4)
abbrev aG3 : FVec Ideal S1024 .f32 := m ((c : Thread nD τ).loc main_arg5)
abbrev aU : FVec Ideal S1024x5632 .f32 := m ((c : Thread nD τ).loc main_arg6)
abbrev aD : FVec Ideal S2816x1024 .f32 := m ((c : Thread nD τ).loc main_arg7)

/-- The heads of one place in every group, side by side. -/
def heads (y : FVec Ideal S4x4096x1024 .f32) (o : Fin 4 → ℕ) (ho : S16384x4x3x64.Slices o S16384x4x1x64) : FVec Ideal S16384x256 .bf16 :=
  truncf .bf16 (shapeCast S16384x256 (shapeCast S16384x4x64 (extractStridedSlice S16384x4x1x64 o
    (shapeCast S16384x4x3x64 (extractStridedSlice S4x4096x768 ![0, 0, 0] y slices_S4x4096x1024_S4x4096x768_0_0_0) shapeCasts_S4x4096x768_S16384x4x3x64) ho)
    shapeCasts_S16384x4x1x64_S16384x4x64) shapeCasts_S16384x4x64_S16384x256) bitsLt_bf16_f32

/-- The columns after the heads'. -/
def rest (y : FVec Ideal S4x4096x1024 .f32) : FVec Ideal S16384x256 .bf16 :=
  truncf .bf16 (shapeCast S16384x256 (extractStridedSlice S4x4096x256 ![0, 0, 768] y slices_S4x4096x1024_S4x4096x256_0_0_768) shapeCasts_S4x4096x256_S16384x256) bitsLt_bf16_f32

/-- The row each row of the grouped weight is taken from. -/
def table : IVec S1024x1 32 :=
  broadcastInDim S1024x1 ![0] bcast_S1024_S1024x1_0 (select (constantI S1024 1 0#1)
    (addi (fun i => lit0 (S1024.rowMajor i)) (broadcastInDim S1024 ![] bcast_S_S1024 (constantI S_ 32 1024#32))) (fun i => lit0 (S1024.rowMajor i)))

def rows (w : FVec Ideal S1024x1024 .f32) : FVec Ideal S1024x1024 .bf16 :=
  truncf .bf16 (Host.gather gather_S1024x1024_S1024x1_S1024x1024_1_0_n_n_0_1_11024 w table) bitsLt_bf16_f32

theorem V_h : @Eq (FVec Ideal S16384x1024 .f32) (V m c main_v0) (shapeCast S16384x1024 (aH m c) shapeCasts_S4x4096x1024_S16384x1024) := by
  show StableHlo.after hostOps0 _ (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m0 : @Eq (FVec Ideal S16384x256 .bf16) (V m c main_v6) (heads (aY m c) ![0, 0, 0, 0] slices_S16384x4x3x64_S16384x4x1x64_0_0_0_0) := by
  show StableHlo.after hostOps0 _ (Proc.devRef .tc main_v6) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m1 : @Eq (FVec Ideal S16384x256 .bf16) (V m c main_v10) (heads (aY m c) ![0, 0, 1, 0] slices_S16384x4x3x64_S16384x4x1x64_0_0_1_0) := by
  show StableHlo.after hostOps0 _ (Proc.devRef .tc main_v10) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m2 : @Eq (FVec Ideal S16384x256 .bf16) (V m c main_v14) (heads (aY m c) ![0, 0, 2, 0] slices_S16384x4x3x64_S16384x4x1x64_0_0_2_0) := by
  show StableHlo.after hostOps0 _ (Proc.devRef .tc main_v14) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m3 : @Eq (FVec Ideal S16384x256 .bf16) (V m c main_v17) (rest (aY m c)) := by
  show StableHlo.after hostOps0 _ (Proc.devRef .tc main_v17) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_w : @Eq (FVec Ideal S1024x1024 .bf16) (V m c main_v23) (rows (aW m c)) := by
  show StableHlo.after hostOps0 _ (Proc.devRef .tc main_v23) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g1 : @Eq (FVec Ideal S1x1024 .f32) (V m c main_v24) (broadcastInDim S1x1024 ![1] bcast_S1024_S1x1024_1 (aG1 m c)) := by
  show StableHlo.after hostOps0 _ (Proc.devRef .tc main_v24) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g2 : @Eq (FVec Ideal S1x1024 .f32) (V m c main_v25) (broadcastInDim S1x1024 ![1] bcast_S1024_S1x1024_1 (aG2 m c)) := by
  show StableHlo.after hostOps0 _ (Proc.devRef .tc main_v25) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g3 : @Eq (FVec Ideal S1x1024 .f32) (V m c main_v26) (broadcastInDim S1x1024 ![1] bcast_S1024_S1x1024_1 (aG3 m c)) := by
  show StableHlo.after hostOps0 _ (Proc.devRef .tc main_v26) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_u : @Eq (FVec Ideal S1024x5632 .bf16) (V m c main_v27) (truncf .bf16 (aU m c) bitsLt_bf16_f32) := by
  show StableHlo.after hostOps0 _ (Proc.devRef .tc main_v27) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_d : @Eq (FVec Ideal S2816x1024 .bf16) (V m c main_v28) (truncf .bf16 (aD m c) bitsLt_bf16_f32) := by
  show StableHlo.after hostOps0 _ (Proc.devRef .tc main_v28) = _
  simp only [hostOps0, StableHlo.TRef.binary, StableHlo.TRef.nullary, StableHlo.TRef.ternary, StableHlo.TRef.unary, StableHlo.TRef.toBuf, StableHlo.TRef.ofBuf, cast_eq]
  after_results_simp
  all_goals rfl

end Host

/-! ## What it prepares, read at an entry -/

theorem heads_apply (y : FVec Ideal S4x4096x1024 .f32) (q : Fin 4) (hq : q.val < 3) {o : Fin 4 → ℕ} (ho : S16384x4x3x64.Slices o S16384x4x1x64)
    (e : o = ![0, 0, q.val, 0]) (b : Fin 4) (s : Fin 4096) (R : Fin 16384) (l : Fin 256) (hR : R.val = b.val * 4096 + s.val) :
    heads y o ho (ix2 R l) = y (ix3 b s (place (lane q l))) := by
  subst e
  have hl := l.isLt
  have hp : (place (lane q l)).val = ((l.val / 64) * 3 + q.val) * 64 + l.val % 64 := by
    unfold place
    rw [dif_pos (show (lane q l).val < 768 from show 256 * q.val + l.val < 768 by omega)]
    show (3 * ((256 * q.val + l.val) % 256 / 64) + (256 * q.val + l.val) / 256) * 64 + (256 * q.val + l.val) % 64 = _
    omega
  show shapeCast S16384x256 (shapeCast S16384x4x64 (extractStridedSlice S16384x4x1x64 _
    (shapeCast S16384x4x3x64 (extractStridedSlice S4x4096x768 ![0, 0, 0] y slices_S4x4096x1024_S4x4096x768_0_0_0) shapeCasts_S4x4096x768_S16384x4x3x64) ho)
    shapeCasts_S16384x4x1x64_S16384x4x64) shapeCasts_S16384x4x64_S16384x256 (ix2 R l) = _
  refine (shapeCast_apply _ _ (ix2 R l) (ix3 R (⟨l.val / 64, by omega⟩ : Fin 4) (⟨l.val % 64, by omega⟩ : Fin 64)) ?_).trans ?_
  · rw [Shape.rowMajor_val_three, Shape.rowMajor_val_two]
    show (R.val * 4 + l.val / 64) * 64 + l.val % 64 = R.val * 256 + l.val
    omega
  refine (shapeCast_apply _ _ _ (ix4 R (⟨l.val / 64, by omega⟩ : Fin 4) (0 : Fin 1) (⟨l.val % 64, by omega⟩ : Fin 64)) ?_).trans ?_
  · rw [Shape.rowMajor_val_three, Shape.rowMajor_val_four]
    show ((R.val * 4 + l.val / 64) * 1 + 0) * 64 + l.val % 64 = (R.val * 4 + l.val / 64) * 64 + l.val % 64
    omega
  refine (extractStridedSlice_apply _ _ _ _ (ix4 R (⟨l.val / 64, by omega⟩ : Fin 4) (⟨q.val, hq⟩ : Fin 3) (⟨l.val % 64, by omega⟩ : Fin 64)) fun a => ?_).trans ?_
  · match a with
    | ⟨0, _⟩ => exact (Nat.zero_add _).symm
    | ⟨1, _⟩ => exact (Nat.zero_add _).symm
    | ⟨2, _⟩ => rfl
    | ⟨3, _⟩ => exact (Nat.zero_add _).symm
  refine (shapeCast_apply _ _ _ (ix3 b s (⟨((l.val / 64) * 3 + q.val) * 64 + l.val % 64, by omega⟩ : Fin 768)) ?_).trans ?_
  · rw [Shape.rowMajor_val_three, Shape.rowMajor_val_four]
    show (b.val * 4096 + s.val) * 768 + (((l.val / 64) * 3 + q.val) * 64 + l.val % 64) = ((R.val * 4 + l.val / 64) * 3 + q.val) * 64 + l.val % 64
    omega
  refine extractStridedSlice_apply _ _ _ _ _ fun a => ?_
  match a with
  | ⟨0, _⟩ => exact (Nat.zero_add _).symm
  | ⟨1, _⟩ => exact (Nat.zero_add _).symm
  | ⟨2, _⟩ => exact hp.trans (Nat.zero_add _).symm

theorem rest_apply (y : FVec Ideal S4x4096x1024 .f32) (b : Fin 4) (s : Fin 4096) (R : Fin 16384) (l : Fin 256) (hR : R.val = b.val * 4096 + s.val) :
    rest y (ix2 R l) = y (ix3 b s (place (lane 3 l))) := by
  have hp : (place (lane 3 l)).val = 768 + l.val := by
    unfold place
    rw [dif_neg (show ¬((lane 3 l).val < 768) from show ¬(256 * 3 + l.val < 768) by omega)]
    rfl
  show shapeCast S16384x256 (extractStridedSlice S4x4096x256 ![0, 0, 768] y slices_S4x4096x1024_S4x4096x256_0_0_768) shapeCasts_S4x4096x256_S16384x256 (ix2 R l) = _
  refine (shapeCast_apply _ _ (ix2 R l) (ix3 b s l) ?_).trans ?_
  · rw [Shape.rowMajor_val_three, Shape.rowMajor_val_two]
    show (b.val * 4096 + s.val) * 256 + l.val = R.val * 256 + l.val
    omega
  refine extractStridedSlice_apply _ _ _ _ _ fun a => ?_
  match a with
  | ⟨0, _⟩ => exact (Nat.zero_add _).symm
  | ⟨1, _⟩ => exact (Nat.zero_add _).symm
  | ⟨2, _⟩ => exact hp

theorem lit_place : ∀ n : Fin 1024, min (lit0 n).toInt.toNat 1023 = (place n).val := by decide +kernel

theorem table_apply (n : Fin 1024) : table (ix2 n 0) = lit0 n := by
  refine (broadcastInDim_apply _ _ _ (ix2 n 0) (ix1 n) fun a => ?_).trans ?_
  · match a with
    | ⟨0, _⟩ => rfl
  show lit0 (S1024.rowMajor (ix1 n)) = _
  exact congrArg lit0 (Fin.ext (Shape.rowMajor_val_one (ix1 n)))

theorem rows_apply (w : FVec Ideal S1024x1024 .f32) (n j : Fin 1024) : rows w (ix2 n j) = w (ix2 (place n) j) := by
  show Host.gather gather_S1024x1024_S1024x1_S1024x1024_1_0_n_n_0_1_11024 w table (ix2 n j) = _
  unfold Host.gather
  refine congrArg w (funext fun a => Fin.ext ?_)
  show GatherDims.start gather_S1024x1024_S1024x1_S1024x1024_1_0_n_n_0_1_11024 (ix2 n j) table a
    + GatherDims.batchCoord gather_S1024x1024_S1024x1_S1024x1024_1_0_n_n_0_1_11024 (ix2 n j) a
    + GatherDims.offCoord gather_S1024x1024_S1024x1_S1024x1024_1_0_n_n_0_1_11024 (ix2 n j) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S1024x1024_S1024x1_S1024x1024_1_0_n_n_0_1_11024.startIndexMap from List.mem_singleton.mpr rfl)]
    have hsi : gather_S1024x1024_S1024x1_S1024x1024_1_0_n_n_0_1_11024.siIdx (ix2 n j) ⟨List.idxOf (0 : Fin 2) gather_S1024x1024_S1024x1_S1024x1024_1_0_n_n_0_1_11024.startIndexMap,
        List.idxOf_lt_length_iff.2 (List.mem_singleton.mpr rfl)⟩ = (ix2 n 0 : S1024x1.Idx) := by
      funext b; refine Fin.ext ?_
      match b with
      | ⟨0, _⟩ => rfl
      | ⟨1, _⟩ => rfl
    rw [hsi, table_apply]
    exact lit_place n
  · unfold GatherDims.start
    rw [dif_neg (show ¬(1 : Fin 2) ∈ gather_S1024x1024_S1024x1_S1024x1024_1_0_n_n_0_1_11024.startIndexMap by decide)]
    show 0 + 0 + j.val = j.val
    omega

section Blocks
variable (m : (ℓ : Loc nD τ sig) → Buf (Elt Ideal) ℓ) (c : Dev nD)

/-! ## What a grid point's blocks hold -/

theorem iblk0 (t : Fin cfg0.N) (r : Fin 512) (k : Fin 1024) (R : Fin 16384) (hR : R.val = (grid0.coords t 0).val * 512 + r.val) :
    iblk m c 0 t (ix2 r k) = V m c main_v0 (ix2 R k) := by
  show V m c main_v0 ((win0_0.rect t).emb (ix2 r k)) = _
  refine congrArg _ (funext fun a => Fin.ext ?_)
  refine (Pipeline.Window.rect_emb_val win0_0 t _ a).trans ?_
  have ht := tr0 (grid0.coords t)
  match a with
  | ⟨0, _⟩ => exact (congrArg (· * 512 + r.val) (congrFun ht 0)).trans hR.symm
  | ⟨1, _⟩ => exact (congrArg (· * 1024 + k.val) (congrFun ht 1)).trans (by show 0 * 1024 + k.val = k.val; omega)

theorem iblk1 (t : Fin cfg0.N) (r : Fin 512) (k : Fin 256) (R : Fin 16384) (hR : R.val = (grid0.coords t 0).val * 512 + r.val) :
    iblk m c 1 t (ix2 r k) = V m c main_v6 (ix2 R k) := by
  show V m c main_v6 ((win0_1.rect t).emb (ix2 r k)) = _
  refine congrArg _ (funext fun a => Fin.ext ?_)
  refine (Pipeline.Window.rect_emb_val win0_1 t _ a).trans ?_
  have ht := tr1 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk2 (t : Fin cfg0.N) (r : Fin 512) (k : Fin 256) (R : Fin 16384) (hR : R.val = (grid0.coords t 0).val * 512 + r.val) :
    iblk m c 2 t (ix2 r k) = V m c main_v10 (ix2 R k) := by
  show V m c main_v10 ((win0_2.rect t).emb (ix2 r k)) = _
  refine congrArg _ (funext fun a => Fin.ext ?_)
  refine (Pipeline.Window.rect_emb_val win0_2 t _ a).trans ?_
  have ht := tr2 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk3 (t : Fin cfg0.N) (r : Fin 512) (k : Fin 256) (R : Fin 16384) (hR : R.val = (grid0.coords t 0).val * 512 + r.val) :
    iblk m c 3 t (ix2 r k) = V m c main_v14 (ix2 R k) := by
  show V m c main_v14 ((win0_3.rect t).emb (ix2 r k)) = _
  refine congrArg _ (funext fun a => Fin.ext ?_)
  refine (Pipeline.Window.rect_emb_val win0_3 t _ a).trans ?_
  have ht := tr3 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk4 (t : Fin cfg0.N) (r : Fin 512) (k : Fin 256) (R : Fin 16384) (hR : R.val = (grid0.coords t 0).val * 512 + r.val) :
    iblk m c 4 t (ix2 r k) = V m c main_v17 (ix2 R k) := by
  show V m c main_v17 ((win0_4.rect t).emb (ix2 r k)) = _
  refine congrArg _ (funext fun a => Fin.ext ?_)
  refine (Pipeline.Window.rect_emb_val win0_4 t _ a).trans ?_
  have ht := tr4 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk5 (t : Fin cfg0.N) (r : Fin 1024) (k : Fin 1024) : iblk m c 5 t (ix2 r k) = V m c main_v23 (ix2 r k) := by
  show V m c main_v23 ((win0_5.rect t).emb (ix2 r k)) = _
  refine congrArg _ (funext fun a => Fin.ext ?_)
  refine (Pipeline.Window.rect_emb_val win0_5 t _ a).trans ?_
  have ht := tr5 (grid0.coords t)
  match a with
  | ⟨0, _⟩ => exact (congrArg (· * 1024 + r.val) (congrFun ht 0)).trans (by show 0 * 1024 + r.val = r.val; omega)
  | ⟨1, _⟩ => exact (congrArg (· * 1024 + k.val) (congrFun ht 1)).trans (by show 0 * 1024 + k.val = k.val; omega)

theorem iblk6 (t : Fin cfg0.N) (r : Fin 1) (k : Fin 1024) : iblk m c 6 t (ix2 r k) = V m c main_v24 (ix2 r k) := by
  show V m c main_v24 ((win0_6.rect t).emb (ix2 r k)) = _
  refine congrArg _ (funext fun a => Fin.ext ?_)
  refine (Pipeline.Window.rect_emb_val win0_6 t _ a).trans ?_
  have ht := tr6 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk7 (t : Fin cfg0.N) (r : Fin 1) (k : Fin 1024) : iblk m c 7 t (ix2 r k) = V m c main_v25 (ix2 r k) := by
  show V m c main_v25 ((win0_7.rect t).emb (ix2 r k)) = _
  refine congrArg _ (funext fun a => Fin.ext ?_)
  refine (Pipeline.Window.rect_emb_val win0_7 t _ a).trans ?_
  have ht := tr7 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk8 (t : Fin cfg0.N) (r : Fin 1) (k : Fin 1024) : iblk m c 8 t (ix2 r k) = V m c main_v26 (ix2 r k) := by
  show V m c main_v26 ((win0_8.rect t).emb (ix2 r k)) = _
  refine congrArg _ (funext fun a => Fin.ext ?_)
  refine (Pipeline.Window.rect_emb_val win0_8 t _ a).trans ?_
  have ht := tr8 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk9 (t : Fin cfg0.N) (r : Fin 1024) (k : Fin 5632) : iblk m c 9 t (ix2 r k) = V m c main_v27 (ix2 r k) := by
  show V m c main_v27 ((win0_9.rect t).emb (ix2 r k)) = _
  refine congrArg _ (funext fun a => Fin.ext ?_)
  refine (Pipeline.Window.rect_emb_val win0_9 t _ a).trans ?_
  have ht := tr9 (grid0.coords t)
  match a with
  | ⟨0, _⟩ => exact (congrArg (· * 1024 + r.val) (congrFun ht 0)).trans (by show 0 * 1024 + r.val = r.val; omega)
  | ⟨1, _⟩ => exact (congrArg (· * 5632 + k.val) (congrFun ht 1)).trans (by show 0 * 5632 + k.val = k.val; omega)

theorem iblk10 (t : Fin cfg0.N) (r : Fin 2816) (k : Fin 1024) : iblk m c 10 t (ix2 r k) = V m c main_v28 (ix2 r k) := by
  show V m c main_v28 ((win0_10.rect t).emb (ix2 r k)) = _
  refine congrArg _ (funext fun a => Fin.ext ?_)
  refine (Pipeline.Window.rect_emb_val win0_10 t _ a).trans ?_
  have ht := tr10 (grid0.coords t)
  match a with
  | ⟨0, _⟩ => exact (congrArg (· * 2816 + r.val) (congrFun ht 0)).trans (by show 0 * 2816 + r.val = r.val; omega)
  | ⟨1, _⟩ => exact (congrArg (· * 1024 + k.val) (congrFun ht 1)).trans (by show 0 * 1024 + k.val = k.val; omega)

/-- The layer's row of the arguments. -/
abbrev rowAt (b : Fin 4) (s : Fin 4096) (j : Fin 1024) : EReal :=
  Cert.Tail.row (fun k => aH m c (ix3 b s k)) (fun k => ∑ i, aY m c (ix3 b s i) * aW m c (ix2 i k)) (fun k => aG1 m c (ix1 k)) (fun k => aG2 m c (ix1 k)) (fun k => aG3 m c (ix1 k))
    (fun d n => aU m c (ix2 d (lo n))) (fun d n => aU m c (ix2 d (hi n))) (fun n k => aD m c (ix2 n k)) j

theorem gain_apply (g : FVec Ideal S1024 .f32) (k : Fin 1024) : broadcastInDim S1x1024 ![1] bcast_S1024_S1x1024_1 g (ix2 0 k) = g (ix1 k) := by
  refine broadcastInDim_apply _ _ g (ix2 0 k) (ix1 k) fun a => ?_
  match a with
  | ⟨0, _⟩ => rfl

theorem block_val (t : Fin cfg0.N) (r : Fin 512) (j : Fin 1024) (b : Fin 4) (s : Fin 4096) (hR : (grid0.coords t 0).val * 512 + r.val = b.val * 4096 + s.val) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = rowAt m c b s j := by
  have hb := b.isLt
  have hs := s.isLt
  obtain ⟨R, hR'⟩ : ∃ R : Fin 16384, R.val = b.val * 4096 + s.val := ⟨⟨b.val * 4096 + s.val, by omega⟩, rfl⟩
  have hRt : R.val = (grid0.coords t 0).val * 512 + r.val := hR'.trans hR.symm
  refine (out_row (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  have e0 : (fun k : Fin 1024 => (iblk m c 0 t : Vec Ideal S512x1024 .f32) (ix2 r k)) = fun k => aH m c (ix3 b s k) := funext fun k => by
    refine (iblk0 m c t r k R hRt).trans ((congrFun (V_h m c) _).trans (shapeCast_apply _ _ (ix2 R k) (ix3 b s k) ?_))
    rw [Shape.rowMajor_val_three, Shape.rowMajor_val_two]
    show (b.val * 4096 + s.val) * 1024 + k.val = R.val * 1024 + k.val
    rw [hR']
  have w : ∀ (q : Fin 4) (l : Fin 256) (k : Fin 1024), (iblk m c 5 t : Vec Ideal S1024x1024 .bf16) (ix2 (lane q l) k) = aW m c (ix2 (place (lane q l)) k) := fun q l k =>
    (iblk5 m c t (lane q l) k).trans ((congrFun (V_w m c) _).trans (rows_apply _ _ _))
  have m0 : ∀ l : Fin 256, (iblk m c 1 t : Vec Ideal S512x256 .bf16) (ix2 r l) = aY m c (ix3 b s (place (lane 0 l))) := fun l =>
    (iblk1 m c t r l R hRt).trans ((congrFun (V_m0 m c) _).trans (heads_apply _ 0 (by decide) _ rfl b s R l hR'))
  have m1 : ∀ l : Fin 256, (iblk m c 2 t : Vec Ideal S512x256 .bf16) (ix2 r l) = aY m c (ix3 b s (place (lane 1 l))) := fun l =>
    (iblk2 m c t r l R hRt).trans ((congrFun (V_m1 m c) _).trans (heads_apply _ 1 (by decide) _ rfl b s R l hR'))
  have m2 : ∀ l : Fin 256, (iblk m c 3 t : Vec Ideal S512x256 .bf16) (ix2 r l) = aY m c (ix3 b s (place (lane 2 l))) := fun l =>
    (iblk3 m c t r l R hRt).trans ((congrFun (V_m2 m c) _).trans (heads_apply _ 2 (by decide) _ rfl b s R l hR'))
  have m3 : ∀ l : Fin 256, (iblk m c 4 t : Vec Ideal S512x256 .bf16) (ix2 r l) = aY m c (ix3 b s (place (lane 3 l))) := fun l =>
    (iblk4 m c t r l R hRt).trans ((congrFun (V_m3 m c) _).trans (rest_apply _ b s R l hR'))
  have ey : yrow (iblk m c 1 t) (iblk m c 2 t) (iblk m c 3 t) (iblk m c 4 t) (iblk m c 5 t) r = fun k => ∑ i, aY m c (ix3 b s i) * aW m c (ix2 i k) := funext fun k => by
    rw [← Cert.Tail.sum_place (fun i => aY m c (ix3 b s i) * aW m c (ix2 i k)), Cert.Tail.sum_lanes, Cert.Tail.sum_four]
    unfold yrow
    simp only [m0, m1, m2, m3, w]
  have g1 : (fun k : Fin 1024 => (iblk m c 6 t : Vec Ideal S1x1024 .f32) (ix2 0 k)) = fun k => aG1 m c (ix1 k) := funext fun k =>
    (iblk6 m c t 0 k).trans ((congrFun (V_g1 m c) _).trans (gain_apply _ k))
  have g2 : (fun k : Fin 1024 => (iblk m c 7 t : Vec Ideal S1x1024 .f32) (ix2 0 k)) = fun k => aG2 m c (ix1 k) := funext fun k =>
    (iblk7 m c t 0 k).trans ((congrFun (V_g2 m c) _).trans (gain_apply _ k))
  have g3 : (fun k : Fin 1024 => (iblk m c 8 t : Vec Ideal S1x1024 .f32) (ix2 0 k)) = fun k => aG3 m c (ix1 k) := funext fun k =>
    (iblk8 m c t 0 k).trans ((congrFun (V_g3 m c) _).trans (gain_apply _ k))
  have u : ∀ (d : Fin 1024) (n : Fin 5632), (iblk m c 9 t : Vec Ideal S1024x5632 .bf16) (ix2 d n) = aU m c (ix2 d n) := fun d n =>
    (iblk9 m c t d n).trans (congrFun (V_u m c) _)
  have e : ∀ (n : Fin 2816) (k : Fin 1024), (iblk m c 10 t : Vec Ideal S2816x1024 .bf16) (ix2 n k) = aD m c (ix2 n k) := fun n k =>
    (iblk10 m c t n k).trans (congrFun (V_d m c) _)
  rw [e0, ey, g1, g2, g3]
  simp only [u, e]

/-! ## The kernel's result -/

theorem cover11 (R : Fin 16384) (C : Fin 1024) : ∃ t : Fin cfg0.N, (cfg0.win 11).flush t = true ∧ (ix2 R C : S16384x1024.Idx) ∈ ((cfg0.win 11).blk t).view.set := by
  have hR := R.isLt
  obtain ⟨t, ht⟩ : ∃ t : Fin cfg0.N, t.val = R.val / 512 := ⟨⟨R.val / 512, by show _ < grid0.N; rw [N_0]; omega⟩, rfl⟩
  refine ⟨t, flush0_11 t, ?_⟩
  have h11 := tr11 (grid0.coords t)
  have c0 : (grid0.coords t 0).val = R.val / 512 := (Pipeline.Grid.coords_val (G := grid0) t 0 (S := 1) (B := 32) (by decide) rfl).trans (by omega)
  have key := View.emb_mem_set ((cfg0.win 11).blk t).view (ix2 (⟨R.val % 512, by omega⟩ : Fin 512) C : S512x1024.Idx)
  have e : ((cfg0.win 11).blk t).view.emb (ix2 (⟨R.val % 512, by omega⟩ : Fin 512) C : S512x1024.Idx) = (ix2 R C : S16384x1024.Idx) := by
    refine funext fun a => Fin.ext ?_
    refine (Pipeline.Window.rect_emb_val win0_11 t _ a).trans ?_
    match a with
    | ⟨0, _⟩ =>
      have h0 : cc0_transform_11 (grid0.coords t) 0 = (grid0.coords t 0).val := congrFun h11 0
      show cc0_transform_11 (grid0.coords t) 0 * 512 + R.val % 512 = R.val
      rw [h0, c0]
      omega
    | ⟨1, _⟩ =>
      have h0 : cc0_transform_11 (grid0.coords t) 1 = 0 := congrFun h11 1
      show cc0_transform_11 (grid0.coords t) 1 * 1024 + C.val = C.val
      rw [h0]
      omega
  rw [e] at key
  exact key

theorem arr_val (G : FVec Ideal S16384x1024 .f32)
    (hG : ∀ (b : Fin 4) (s : Fin 4096) (R : Fin 16384) (j : Fin 1024), R.val = b.val * 4096 + s.val → G (ix2 R j) = rowAt m c b s j) :
    @Eq (FVec Ideal S16384x1024 .f32) ((dats m 0 c).arrAt 11 cfg0.N) G := by
  funext (x : S16384x1024.Idx)
  have hx : x = ix2 (x 0) (x 1) := funext fun a => by
    match a with
    | ⟨0, _⟩ => rfl
    | ⟨1, _⟩ => rfl
  rw [hx]
  refine Pipeline.Dat.arrAt_forall_of_cover (dats m 0 c) 11 (fun i v => v = G i) (fun t _ y => ?_) (fun i => ?_) (ix2 (x 0) (x 1))
  · have hb : (grid0.coords t 0).val < 32 := (grid0.coords t 0).isLt
    obtain ⟨r, j, hy⟩ : ∃ (r : Fin 512) (j : Fin 1024), y = (ix2 r j : S512x1024.Idx) := ⟨y 0, y 1, funext fun a => by
      match a with
      | ⟨0, _⟩ => rfl
      | ⟨1, _⟩ => rfl⟩
    subst hy
    have hr := r.isLt
    obtain ⟨b, eb⟩ : ∃ b : Fin 4, b.val = ((grid0.coords t 0).val * 512 + r.val) / 4096 := ⟨⟨_, by omega⟩, rfl⟩
    obtain ⟨s, es⟩ : ∃ s : Fin 4096, s.val = ((grid0.coords t 0).val * 512 + r.val) % 4096 := ⟨⟨_, Nat.mod_lt _ (by decide)⟩, rfl⟩
    have hR : (grid0.coords t 0).val * 512 + r.val = b.val * 4096 + s.val := by omega
    have hg : G (((cfg0.win 11).blk t).view.emb (ix2 r j : S512x1024.Idx)) = rowAt m c b s j := by
      refine Eq.trans ?_ (hG b s ⟨(grid0.coords t 0).val * 512 + r.val, by omega⟩ j hR)
      refine congrArg G (funext fun a => Fin.ext ?_)
      refine (Pipeline.Window.rect_emb_val win0_11 t _ a).trans ?_
      have ht := tr11 (grid0.coords t)
      match a with
      | ⟨0, _⟩ => exact congrArg (· * 512 + r.val) (congrFun ht 0)
      | ⟨1, _⟩ =>
        have h0 : cc0_transform_11 (grid0.coords t) 1 = 0 := congrFun ht 1
        show cc0_transform_11 (grid0.coords t) 1 * 1024 + j.val = j.val
        rw [h0, Nat.zero_mul, Nat.zero_add]
    refine Eq.trans ?_ hg.symm
    show (dats m 0 c).flushed 11 t (ix2 r j : S512x1024.Idx) = _
    rw [Value.flushed11 m c t]
    exact block_val m c t r j b s hR
  · obtain ⟨R, C, rfl⟩ : ∃ (R : Fin 16384) (C : Fin 1024), i = (ix2 R C : S16384x1024.Idx) := ⟨i 0, i 1, funext fun a => by
      match a with
      | ⟨0, _⟩ => rfl
      | ⟨1, _⟩ => rfl⟩
    exact cover11 R C
end Blocks

end Cert.Kernel2Ideal.Tail
-- ==== Proof.TailRef.lean ====
module

public import proofs.«01_k».proof.Proof.Gen.Reference2Ideal.Run
public import proofs.«01_k».proof.Proof.TailRow
public import Idealize.ShloMosaic.Lib.IdealHost
public import Idealize.ShloMosaic.Lib.Pointwise
public import Idealize.ShloMosaic.Lib.ValueIdx

@[expose] public section

set_option maxRecDepth 8192

noncomputable section

namespace Cert.Reference2Ideal.Tail

open Idealize.ShloMosaic Idealize.ShloMosaic.TcCoe
open Cert.Reference2Ideal Cert.Reference2Ideal.Gen
open scoped BigOperators

abbrev Rs := FVec Ideal S4x4096x1024 FTy.f32
abbrev Gn := FVec Ideal S1024 FTy.f32

/-! ## The reference's terms -/

def scale (x : Rs) : FVec Ideal S4x4096x1 .f32 :=
  Host.rsqrt (addf (Host.divf
      (broadcastInDim S4x4096x1 ![0, 1] bcast_S4x4096_S4x4096x1_0_1 (Host.reduceAdd (mulf x x) (constant S_ .f32 0x00000000#32) reducesTo_S4x4096x1024_S4x4096_d2 h_S_))
      (broadcastInDim S4x4096x1 ![] bcast_S_S4x4096x1 (constant S_ .f32 0x44800000#32))) (broadcastInDim S4x4096x1 ![] bcast_S_S4x4096x1 (constant S_ .f32 0x358637BD#32)))

def rms (x : Rs) (g : Gn) : Rs :=
  mulf (mulf x (broadcastInDim S4x4096x1024 ![0, 1, 2] bcast_S4x4096x1_S4x4096x1024_0_1_2 (scale x)))
    (broadcastInDim S4x4096x1024 ![0, 1, 2] bcast_S1x1x1024_S4x4096x1024_0_1_2 (broadcastInDim S1x1x1024 ![2] bcast_S1024_S1x1x1024_2 g))

def mixed (y : Rs) (w : FVec Ideal S1024x1024 .f32) : Rs :=
  Host.dotGeneral (F := Ideal) (φ₁ := .f32) (φ₂ := .f32) dot_S4x4096x1024_S1024x1024_S4x4096x1024_2_0_01_1_n_n none y w

def mid (h y : Rs) (w : FVec Ideal S1024x1024 .f32) (g : Gn) : Rs := addf h (rms (mixed y w) g)

def units (x : Rs) (w : FVec Ideal S1024x5632 .f32) : FVec Ideal S4x4096x5632 .f32 :=
  Host.dotGeneral (F := Ideal) (φ₁ := .f32) (φ₂ := .f32) dot_S4x4096x1024_S1024x5632_S4x4096x5632_2_0_01_1_n_n none x w

def gated (z : FVec Ideal S4x4096x5632 .f32) : FVec Ideal S4x4096x2816 .f32 :=
  mulf (mulf (extractStridedSlice S4x4096x2816 ![0, 0, 0] z slices_S4x4096x5632_S4x4096x2816_0_0_0)
      (Host.divf (broadcastInDim S4x4096x2816 ![] bcast_S_S4x4096x2816 (constant S_ .f32 0x3F800000#32))
        (addf (broadcastInDim S4x4096x2816 ![] bcast_S_S4x4096x2816 (constant S_ .f32 0x3F800000#32))
          (Host.exp (Host.negf (extractStridedSlice S4x4096x2816 ![0, 0, 0] z slices_S4x4096x5632_S4x4096x2816_0_0_0))))))
    (extractStridedSlice S4x4096x2816 ![0, 0, 2816] z slices_S4x4096x5632_S4x4096x2816_0_0_2816)

def back (a : FVec Ideal S4x4096x2816 .f32) (w : FVec Ideal S2816x1024 .f32) : Rs :=
  Host.dotGeneral (F := Ideal) (φ₁ := .f32) (φ₂ := .f32) dot_S4x4096x2816_S2816x1024_S4x4096x1024_2_0_01_1_n_n none a w

def layer (h y : Rs) (w : FVec Ideal S1024x1024 .f32) (g1 g2 g3 : Gn) (wgu : FVec Ideal S1024x5632 .f32) (wd : FVec Ideal S2816x1024 .f32) : Rs :=
  addf (mid h y w g1) (rms (back (gated (units (rms (mid h y w g1) g2) wgu)) wd) g3)

def out (h y : Rs) (w : FVec Ideal S1024x1024 .f32) (g1 g2 g3 : Gn) (wgu : FVec Ideal S1024x5632 .f32) (wd : FVec Ideal S2816x1024 .f32) :
    FVec Ideal S16384x1024 .f32 :=
  shapeCast S16384x1024 (layer h y w g1 g2 g3 wgu wd) shapeCasts_S4x4096x1024_S16384x1024

theorem res_eq (m : (ℓ : Loc nD τ sig) → Buf (Elt Ideal) ℓ) (c : Dev nD) :
    Value.res_main_v48 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v48
  rfl

/-! ## Read at an entry -/

theorem rms_apply (x : Rs) (g : Gn) (b : Fin 4) (s : Fin 4096) (j : Fin 1024) :
    rms x g (ix3 b s j) = Cert.Tail.rms (fun k => x (ix3 b s k)) (fun k => g (ix1 k)) j := by
  have es : ∀ z : FVec Ideal S4x4096x1 .f32, broadcastInDim S4x4096x1024 ![0, 1, 2] bcast_S4x4096x1_S4x4096x1024_0_1_2 z (ix3 b s j) = z (ix3 b s 0) := fun z => by
    refine broadcastInDim_apply _ _ z (ix3 b s j) (ix3 b s 0) fun a => ?_
    match a with
    | ⟨0, _⟩ => rfl
    | ⟨1, _⟩ => rfl
    | ⟨2, _⟩ => rfl
  have eg : broadcastInDim S4x4096x1024 ![0, 1, 2] bcast_S1x1x1024_S4x4096x1024_0_1_2 (broadcastInDim S1x1x1024 ![2] bcast_S1024_S1x1x1024_2 g) (ix3 b s j) = g (ix1 j) := by
    refine (broadcastInDim_apply _ _ _ (ix3 b s j) (ix3 0 0 j) fun a => ?_).trans ?_
    · match a with
      | ⟨0, _⟩ => rfl
      | ⟨1, _⟩ => rfl
      | ⟨2, _⟩ => rfl
    · refine broadcastInDim_apply _ _ g (ix3 0 0 j) (ix1 j) fun a => ?_
      match a with
      | ⟨0, _⟩ => rfl
  have ec : ∀ z : FVec Ideal S4x4096 .f32, broadcastInDim S4x4096x1 ![0, 1] bcast_S4x4096_S4x4096x1_0_1 z (ix3 b s 0) = z (ix2 b s) := fun z => by
    refine broadcastInDim_apply _ _ z (ix3 b s 0) (ix2 b s) fun a => ?_
    match a with
    | ⟨0, _⟩ => rfl
    | ⟨1, _⟩ => rfl
  have red : S4x4096x1024.Reduces [2] S4x4096 := by decide
  have er : Host.reduceAdd (mulf x x) (constant S_ .f32 0x00000000#32) reducesTo_S4x4096x1024_S4x4096_d2 h_S_ (ix2 b s) = ∑ k, x (ix3 b s k) * x (ix3 b s k) := by
    rw [ValueIdx.hostReduceAdd_apply]
    have e0 : Ideal.hostReduceAdd reducesTo_S4x4096x1024_S4x4096_d2 (mulf x x) (Ideal.ofBits .f32 0x00000000#32) (ix2 b s)
        = Ideal.ofBits .f32 0x00000000#32 + Ideal.reduceAdd red (mulf x x) (ix2 b s) := rfl
    refine e0.trans ?_
    rw [Ideal.ofBits_zero_f32, zero_add]
    refine (Ideal.reduceAdd_single red _ (ix2 b s)).trans ?_
    refine Finset.sum_congr rfl fun k _ => ?_
    have el : (red.lift (ix2 b s) k) = (ix3 b s k : S4x4096x1024.Idx) := funext fun a => Fin.ext (by
      match a with
      | ⟨0, _⟩ => rfl
      | ⟨1, _⟩ => rfl
      | ⟨2, _⟩ => rfl)
    rw [el]; rfl
  unfold rms
  show x (ix3 b s j) * broadcastInDim S4x4096x1024 ![0, 1, 2] bcast_S4x4096x1_S4x4096x1024_0_1_2 (scale x) (ix3 b s j)
    * broadcastInDim S4x4096x1024 ![0, 1, 2] bcast_S1x1x1024_S4x4096x1024_0_1_2 (broadcastInDim S1x1x1024 ![2] bcast_S1024_S1x1x1024_2 g) (ix3 b s j) = _
  rw [es, eg]
  have e0 : scale x (ix3 b s 0) = Ideal.rsqrt (Ideal.div (broadcastInDim S4x4096x1 ![0, 1] bcast_S4x4096_S4x4096x1_0_1
      (Host.reduceAdd (mulf x x) (constant S_ .f32 0x00000000#32) reducesTo_S4x4096x1024_S4x4096_d2 h_S_) (ix3 b s 0)) (Ideal.ofBits .f32 0x44800000#32) + Ideal.ofBits .f32 0x358637BD#32) := rfl
  rw [e0, ec, er]
  rfl

theorem mixed_apply (y : Rs) (w : FVec Ideal S1024x1024 .f32) (b : Fin 4) (s : Fin 4096) (j : Fin 1024) :
    mixed y w (ix3 b s j) = ∑ k : Fin 1024, y (ix3 b s k) * w (ix2 k j) := by
  show FloatOps.dotGeneral _ none _ y w (ix3 b s j) = _
  rw [Ideal.dotGeneral_apply, ← Equiv.sum_comp (ValueIdx.contrEquiv1 dot_S4x4096x1024_S1024x1024_S4x4096x1024_2_0_01_1_n_n 1024 rfl rfl).symm]
  refine Finset.sum_congr rfl fun d _ => ?_
  have c := ValueIdx.contrEquiv1_symm_val dot_S4x4096x1024_S1024x1024_S4x4096x1024_2_0_01_1_n_n 1024 rfl rfl d
  congr 2
  · funext a; apply Fin.ext
    match a with
    | ⟨0, _⟩ => rfl
    | ⟨1, _⟩ => rfl
    | ⟨2, _⟩ => exact c
  · funext a; apply Fin.ext
    match a with
    | ⟨0, _⟩ => exact c
    | ⟨1, _⟩ => rfl

theorem units_apply (x : Rs) (w : FVec Ideal S1024x5632 .f32) (b : Fin 4) (s : Fin 4096) (n : Fin 5632) :
    units x w (ix3 b s n) = ∑ k : Fin 1024, x (ix3 b s k) * w (ix2 k n) := by
  show FloatOps.dotGeneral _ none _ x w (ix3 b s n) = _
  rw [Ideal.dotGeneral_apply, ← Equiv.sum_comp (ValueIdx.contrEquiv1 dot_S4x4096x1024_S1024x5632_S4x4096x5632_2_0_01_1_n_n 1024 rfl rfl).symm]
  refine Finset.sum_congr rfl fun d _ => ?_
  have c := ValueIdx.contrEquiv1_symm_val dot_S4x4096x1024_S1024x5632_S4x4096x5632_2_0_01_1_n_n 1024 rfl rfl d
  congr 2
  · funext a; apply Fin.ext
    match a with
    | ⟨0, _⟩ => rfl
    | ⟨1, _⟩ => rfl
    | ⟨2, _⟩ => exact c
  · funext a; apply Fin.ext
    match a with
    | ⟨0, _⟩ => exact c
    | ⟨1, _⟩ => rfl

theorem back_apply (x : FVec Ideal S4x4096x2816 .f32) (w : FVec Ideal S2816x1024 .f32) (b : Fin 4) (s : Fin 4096) (j : Fin 1024) :
    back x w (ix3 b s j) = ∑ n : Fin 2816, x (ix3 b s n) * w (ix2 n j) := by
  show FloatOps.dotGeneral _ none _ x w (ix3 b s j) = _
  rw [Ideal.dotGeneral_apply, ← Equiv.sum_comp (ValueIdx.contrEquiv1 dot_S4x4096x2816_S2816x1024_S4x4096x1024_2_0_01_1_n_n 2816 rfl rfl).symm]
  refine Finset.sum_congr rfl fun d _ => ?_
  have c := ValueIdx.contrEquiv1_symm_val dot_S4x4096x2816_S2816x1024_S4x4096x1024_2_0_01_1_n_n 2816 rfl rfl d
  congr 2
  · funext a; apply Fin.ext
    match a with
    | ⟨0, _⟩ => rfl
    | ⟨1, _⟩ => rfl
    | ⟨2, _⟩ => exact c
  · funext a; apply Fin.ext
    match a with
    | ⟨0, _⟩ => exact c
    | ⟨1, _⟩ => rfl

/-- A hidden unit's column of the gate's half, and of the other half. -/
abbrev lo (n : Fin 2816) : Fin 5632 := ⟨n.val, by omega⟩
abbrev hi (n : Fin 2816) : Fin 5632 := ⟨2816 + n.val, by omega⟩

theorem gated_apply (z : FVec Ideal S4x4096x5632 .f32) (b : Fin 4) (s : Fin 4096) (n : Fin 2816) :
    gated z (ix3 b s n) = Cert.Tail.act (z (ix3 b s (lo n))) (z (ix3 b s (hi n))) := by
  have e1 : extractStridedSlice S4x4096x2816 ![0, 0, 0] z slices_S4x4096x5632_S4x4096x2816_0_0_0 (ix3 b s n) = z (ix3 b s (lo n)) :=
    extractStridedSlice_apply _ _ _ (ix3 b s n) (ix3 b s (lo n)) fun a => by
      match a with
      | ⟨0, _⟩ => exact (Nat.zero_add _).symm
      | ⟨1, _⟩ => exact (Nat.zero_add _).symm
      | ⟨2, _⟩ => exact (Nat.zero_add _).symm
  have e2 : extractStridedSlice S4x4096x2816 ![0, 0, 2816] z slices_S4x4096x5632_S4x4096x2816_0_0_2816 (ix3 b s n) = z (ix3 b s (hi n)) :=
    extractStridedSlice_apply _ _ _ (ix3 b s n) (ix3 b s (hi n)) fun a => by
      match a with
      | ⟨0, _⟩ => exact (Nat.zero_add _).symm
      | ⟨1, _⟩ => exact (Nat.zero_add _).symm
      | ⟨2, _⟩ => rfl
  unfold gated
  show extractStridedSlice S4x4096x2816 ![0, 0, 0] z slices_S4x4096x5632_S4x4096x2816_0_0_0 (ix3 b s n)
    * Ideal.div (Ideal.ofBits .f32 0x3F800000#32) (Ideal.ofBits .f32 0x3F800000#32 + Ideal.exp (-(extractStridedSlice S4x4096x2816 ![0, 0, 0] z slices_S4x4096x5632_S4x4096x2816_0_0_0 (ix3 b s n))))
    * extractStridedSlice S4x4096x2816 ![0, 0, 2816] z slices_S4x4096x5632_S4x4096x2816_0_0_2816 (ix3 b s n) = _
  rw [e1, e2, Ideal.ofBits_one_f32]
  rfl

theorem layer_apply (h y : Rs) (w : FVec Ideal S1024x1024 .f32) (g1 g2 g3 : Gn) (wgu : FVec Ideal S1024x5632 .f32) (wd : FVec Ideal S2816x1024 .f32)
    (b : Fin 4) (s : Fin 4096) (j : Fin 1024) :
    layer h y w g1 g2 g3 wgu wd (ix3 b s j)
      = Cert.Tail.row (fun k => h (ix3 b s k)) (fun k => ∑ i, y (ix3 b s i) * w (ix2 i k)) (fun k => g1 (ix1 k)) (fun k => g2 (ix1 k)) (fun k => g3 (ix1 k))
        (fun d n => wgu (ix2 d (lo n))) (fun d n => wgu (ix2 d (hi n))) (fun n k => wd (ix2 n k)) j := by
  have em : (fun k => mid h y w g1 (ix3 b s k)) = Cert.Tail.mid (fun k => h (ix3 b s k)) (fun k => ∑ i, y (ix3 b s i) * w (ix2 i k)) (fun k => g1 (ix1 k)) := funext fun k => by
    show h (ix3 b s k) + rms (mixed y w) g1 (ix3 b s k) = _
    rw [rms_apply]
    simp only [mixed_apply]
    rfl
  have en : (fun k => rms (mid h y w g1) g2 (ix3 b s k)) = Cert.Tail.rms (Cert.Tail.mid (fun k => h (ix3 b s k)) (fun k => ∑ i, y (ix3 b s i) * w (ix2 i k)) (fun k => g1 (ix1 k))) (fun k => g2 (ix1 k)) := funext fun k => by
    rw [rms_apply, em]
  have ef : (fun k => back (gated (units (rms (mid h y w g1) g2) wgu)) wd (ix3 b s k))
      = Cert.Tail.ffn (fun k => rms (mid h y w g1) g2 (ix3 b s k)) (fun d n => wgu (ix2 d (lo n))) (fun d n => wgu (ix2 d (hi n))) (fun n k => wd (ix2 n k)) := funext fun k => by
    rw [back_apply]
    simp only [gated_apply, units_apply]
    rfl
  show mid h y w g1 (ix3 b s j) + rms _ g3 (ix3 b s j) = _
  rw [rms_apply, ef, en, congrFun em j]
  rfl

theorem out_apply (h y : Rs) (w : FVec Ideal S1024x1024 .f32) (g1 g2 g3 : Gn) (wgu : FVec Ideal S1024x5632 .f32) (wd : FVec Ideal S2816x1024 .f32)
    (b : Fin 4) (s : Fin 4096) (R : Fin 16384) (j : Fin 1024) (hR : R.val = b.val * 4096 + s.val) :
    out h y w g1 g2 g3 wgu wd (ix2 R j)
      = Cert.Tail.row (fun k => h (ix3 b s k)) (fun k => ∑ i, y (ix3 b s i) * w (ix2 i k)) (fun k => g1 (ix1 k)) (fun k => g2 (ix1 k)) (fun k => g3 (ix1 k))
        (fun d n => wgu (ix2 d (lo n))) (fun d n => wgu (ix2 d (hi n))) (fun n k => wd (ix2 n k)) j := by
  refine (shapeCast_apply _ _ (ix2 R j) (ix3 b s j) ?_).trans (layer_apply h y w g1 g2 g3 wgu wd b s j)
  rw [Shape.rowMajor_val_three, Shape.rowMajor_val_two]
  show (b.val * 4096 + s.val) * 1024 + j.val = R.val * 1024 + j.val
  rw [hR]

end Cert.Reference2Ideal.Tail
-- ==== Proof.TailTwo.lean ====
module

public import proofs.«01_k».proof.Proof.Gen.Kernel3Ideal.Frame
public import proofs.«01_k».proof.Proof.TailPoint

@[expose] public section

set_option maxRecDepth 16384

noncomputable section

namespace Cert.Kernel3Ideal.Tail

open Idealize.ShloMosaic Idealize.ShloMosaic.TcCoe
open Cert.Kernel3Ideal Cert.Kernel3Ideal.Gen
open Cert.Kernel2Ideal.Tail (normed part total back lo hi normed_apply total_apply back_apply ld_mix)
open scoped BigOperators

/-! ## A block of the tail whose mixer gives two groups of columns, in the same pieces -/

section Terms
variable {F : FTy → Type} [FloatOps F]

theorem pay6_eq (h : FVec F S512x1024 .f32) (g : FVec F S1x1024 .f32) (s : FVec F S512x1 .f32) (a0 a1 : Vec F S1024x256 .bf16) (a2 : Vec F S256x1024 .bf16) :
    k0_pay6 h g s a0 a1 a2 = part (k0_pay5 h g s) a0 a1 a2 := rfl

theorem pay9_eq (h : FVec F S512x1024 .f32) (g : FVec F S1x1024 .f32) (s : FVec F S512x1 .f32) (a : FVec F S512x1024 .f32) (b0 b1 c0 c1 : Vec F S1024x256 .bf16) (b2 c2 : Vec F S256x1024 .bf16) :
    k0_pay9 (k0_pay5 h g s) a (k0_pay7 h g s b1) (k0_pay8 h g s b0) b2 c0 c1 c2 = addf (addf a (part (k0_pay5 h g s) b0 b1 b2)) (part (k0_pay5 h g s) c0 c1 c2) := rfl

theorem pay13_eq (n : FVec F S512x1024 .bf16) (a : FVec F S512x1024 .f32) (b0 b1 c0 c1 : Vec F S1024x256 .bf16) (b2 c2 : Vec F S256x1024 .bf16) :
    k0_pay13 n a (k0_pay10 n b0) (k0_pay11 n b1) (k0_pay12 n b0) b2 c0 c1 c2 = addf (addf a (part n b0 b1 b2)) (part n c0 c1 c2) := rfl

theorem pay17_eq (n : FVec F S512x1024 .bf16) (a : FVec F S512x1024 .f32) (b0 b1 c0 c1 : Vec F S1024x256 .bf16) (b2 c2 : Vec F S256x1024 .bf16) :
    k0_pay17 n a (k0_pay14 n b0) (k0_pay15 n b1) (k0_pay16 n b0) b2 c0 c1 c2 = addf (addf a (part n b0 b1 b2)) (part n c0 c1 c2) := rfl

theorem pay20_eq (n : FVec F S512x1024 .bf16) (a : FVec F S512x1024 .f32) (b0 b1 c0 c1 : Vec F S1024x256 .bf16) (b2 c2 : Vec F S256x1024 .bf16) :
    k0_pay20 n a (k0_pay18 n b0) (k0_pay19 b1) (constant S512x256 .f32 0x00000000#32) b2 c0 c1 c2 = addf (addf a (part n b0 b1 b2)) (part n c0 c1 c2) := rfl

theorem pay22_eq (n : FVec F S512x1024 .bf16) (a : FVec F S512x1024 .f32) (b0 b1 c0 c1 : Vec F S1024x256 .bf16) (b2 c2 : Vec F S256x1024 .bf16) :
    k0_pay22 n a (k0_pay21 n b0) b1 b2 c0 c1 c2 = addf (addf a (part n b0 b1 b2)) (part n c0 c1 c2) := rfl

theorem pay1_eq (h a : FVec F S512x1024 .f32) (g : Vec F S1x1024 .f32) :
    k0_pay1 h a g = addf h (normed a (shapeCast S1x1024 g shapeCasts_S1x1024_S1x1024)) := rfl

/-- What the first 768 columns of the mixer contribute. -/
def wide (a : FVec F S512x768 .bf16) (w : Vec F S768x1024 .bf16) : FVec F S512x1024 .f32 :=
  matmul dot_S512x768_S768x1024_S512x1024_1_0_0_1_n_n none a (shapeCast S768x1024 w shapeCasts_S768x1024_S768x1024) (constant S512x1024 .f32 0x00000000#32)

variable (x0 : Vec F S512x1024 .f32) (x1 : Vec F S512x768 .bf16) (x2 : Vec F S512x256 .bf16) (x3 : Vec F S1024x1024 .bf16)
  (x4 x5 x6 : Vec F S1x1024 .f32) (x7 : Vec F S1024x5632 .bf16) (x8 : Vec F S2816x1024 .bf16)

/-- The mixer's output projected. -/
def yB : FVec F S512x1024 .f32 :=
  addf (wide (shapeCast S512x768 (View.ld x1 r0_0) shapeCasts_S512x768_S512x768) (View.ld x3 r0_1))
    (back (shapeCast S512x256 (View.ld x2 r0_2) shapeCasts_S512x256_S512x256) (View.ld x3 r0_3))

/-- The residual stream after the mixer. -/
abbrev hB : FVec F S512x1024 .f32 := k0_pay23 x0 x1 x2 x3 x4 x5 x6 x7 x8

/-- It normalized. -/
abbrev nB : FVec F S512x1024 .bf16 := k0_pay26 x0 x1 x2 x3 x4 x5 x6 x7 x8

theorem hB_eq : hB x0 x1 x2 x3 x4 x5 x6 x7 x8 = addf (shapeCast S512x1024 (View.ld x0 r0_4) shapeCasts_S512x1024_S512x1024)
    (normed (yB x1 x2 x3) (shapeCast S1x1024 (View.ld x4 r0_5) shapeCasts_S1x1024_S1x1024)) := rfl

theorem nB_eq : nB x0 x1 x2 x3 x4 x5 x6 x7 x8
    = truncf .bf16 (normed (hB x0 x1 x2 x3 x4 x5 x6 x7 x8) (shapeCast S1x1024 (View.ld x5 r0_5) shapeCasts_S1x1024_S1x1024)) bitsLt_bf16_f32 := rfl

theorem out_eq : out0_9 x0 x1 x2 x3 x4 x5 x6 x7 x8 = addf (hB x0 x1 x2 x3 x4 x5 x6 x7 x8)
    (normed (total (nB x0 x1 x2 x3 x4 x5 x6 x7 x8) x7 x8) (shapeCast S1x1024 (View.ld x6 r0_5) shapeCasts_S1x1024_S1x1024)) := by
  unfold out0_9
  rw [View.canon_unit_zero (by decide), pay1_eq, pay22_eq, pay20_eq, pay17_eq, pay13_eq]
  rw [show k0_pay26 x0 x1 x2 x3 x4 x5 x6 x7 x8 = k0_pay5 (k0_pay23 x0 x1 x2 x3 x4 x5 x6 x7 x8) (k0_pay24 x0 x1 x2 x3 x4 x5 x6 x7 x8) (k0_pay25 x0 x1 x2 x3 x4 x5 x6 x7 x8) from rfl, pay9_eq, pay6_eq]
  rfl
end Terms

/-! ## Read at an entry -/

section Row
variable (x0 : Vec Ideal S512x1024 .f32) (x1 : Vec Ideal S512x768 .bf16) (x2 : Vec Ideal S512x256 .bf16) (x3 : Vec Ideal S1024x1024 .bf16)
  (x4 x5 x6 : Vec Ideal S1x1024 .f32) (x7 : Vec Ideal S1024x5632 .bf16) (x8 : Vec Ideal S2816x1024 .bf16)

/-- A column of the first 768, and of the last 256. -/
abbrev fst (n : Fin 768) : Fin 1024 := ⟨n.val, by omega⟩
abbrev snd (n : Fin 256) : Fin 1024 := ⟨768 + n.val, by omega⟩

theorem sum_two (f : Fin 1024 → EReal) : ∑ n, f n = (∑ n : Fin 768, f (fst n)) + ∑ n : Fin 256, f (snd n) :=
  Fin.sum_univ_add (a := 768) (b := 256) f

/-- The mixes of a row, projected. -/
def yrow (r : Fin 512) (j : Fin 1024) : EReal :=
  (∑ n : Fin 768, x1 (ix2 r n) * x3 (ix2 (fst n) j)) + ∑ n : Fin 256, x2 (ix2 r n) * x3 (ix2 (snd n) j)

theorem ld_wide (inb : ∀ a, (![0, 0] : Fin 2 → ℕ) a + S768x1024.size a ≤ S1024x1024.size a) (n : Fin 768) (j : Fin 1024) :
    View.ld (Val := Elt Ideal) x3 (Rect.unit (s := S1024x1024) ![0, 0] S768x1024.size inb) (ix2 n j) = x3 (ix2 (fst n) j) := by
  refine congrArg x3 (funext fun a => Fin.ext ?_)
  match a with
  | ⟨0, _⟩ => exact (Nat.zero_add _).trans (Nat.one_mul _)
  | ⟨1, _⟩ => exact (Nat.zero_add _).trans (Nat.one_mul _)

theorem wide_apply (a : FVec Ideal S512x768 .bf16) (w : Vec Ideal S768x1024 .bf16) (r : Fin 512) (j : Fin 1024) :
    wide a w (ix2 r j) = ∑ l : Fin 768, a (ix2 r l) * w (ix2 l j) := by
  unfold wide
  rw [shapeCast_id]
  refine (Ideal.matmul_plain_apply (M := 512) (K := 768) (N := 1024) none a w _ r j).trans ?_
  rw [ValueIdx.constant_apply, Ideal.ofBits_zero_f32, zero_add]
  rfl

theorem yB_apply (r : Fin 512) (j : Fin 1024) : yB x1 x2 x3 (ix2 r j) = yrow x1 x2 x3 r j := by
  have e1 : shapeCast S512x768 (View.ld x1 r0_0) shapeCasts_S512x768_S512x768 = x1 :=
    (shapeCast_id (s := S512x768) _ _).trans (View.ld_unit_zero (by decide) _ x1)
  have e2 : shapeCast S512x256 (View.ld x2 r0_2) shapeCasts_S512x256_S512x256 = x2 :=
    (shapeCast_id (s := S512x256) _ _).trans (View.ld_unit_zero (by decide) _ x2)
  unfold yB yrow
  rw [e1, e2]
  show wide (F := Ideal) x1 (View.ld x3 r0_1) (ix2 r j) + back (F := Ideal) x2 (View.ld x3 r0_3) (ix2 r j) = _
  rw [wide_apply, back_apply]
  refine congrArg₂ (· + ·) (Finset.sum_congr rfl fun l _ => ?_) (Finset.sum_congr rfl fun l _ => ?_)
  · rw [ld_wide]
  · rw [ld_mix x3 768 _ l j (snd l) rfl]

theorem gain (x : Vec Ideal S1x1024 .f32) : shapeCast S1x1024 (View.ld x r0_5) shapeCasts_S1x1024_S1x1024 = x :=
  (shapeCast_id (s := S1x1024) _ _).trans (View.ld_unit_zero (by decide) _ x)

theorem hB_row (r : Fin 512) : (fun j => hB x0 x1 x2 x3 x4 x5 x6 x7 x8 (ix2 r j))
    = Cert.Tail.mid (fun k => x0 (ix2 r k)) (yrow x1 x2 x3 r) (fun k => x4 (ix2 0 k)) := funext fun j => by
  have e0 : shapeCast S512x1024 (View.ld x0 r0_4) shapeCasts_S512x1024_S512x1024 = x0 :=
    (shapeCast_id (s := S512x1024) _ _).trans (View.ld_unit_zero (by decide) _ x0)
  rw [hB_eq, gain, e0]
  show x0 (ix2 r j) + normed (F := Ideal) _ x4 (ix2 r j) = _
  rw [normed_apply]
  simp only [yB_apply]
  rfl

theorem nB_row (r : Fin 512) : (fun j => nB x0 x1 x2 x3 x4 x5 x6 x7 x8 (ix2 r j))
    = Cert.Tail.rms (Cert.Tail.mid (fun k => x0 (ix2 r k)) (yrow x1 x2 x3 r) (fun k => x4 (ix2 0 k))) (fun k => x5 (ix2 0 k)) := funext fun j => by
  rw [nB_eq, gain]
  show normed (F := Ideal) _ x5 (ix2 r j) = _
  rw [normed_apply, hB_row]

theorem out_row (r : Fin 512) (j : Fin 1024) : out0_9 x0 x1 x2 x3 x4 x5 x6 x7 x8 (ix2 r j)
    = Cert.Tail.row (fun k => x0 (ix2 r k)) (yrow x1 x2 x3 r) (fun k => x4 (ix2 0 k)) (fun k => x5 (ix2 0 k)) (fun k => x6 (ix2 0 k))
      (fun d k => x7 (ix2 d (lo k))) (fun d k => x7 (ix2 d (hi k))) (fun k j => x8 (ix2 k j)) j := by
  rw [out_eq, gain]
  show hB x0 x1 x2 x3 x4 x5 x6 x7 x8 (ix2 r j) + normed (F := Ideal) _ x6 (ix2 r j) = _
  rw [normed_apply, congrFun (hB_row x0 x1 x2 x3 x4 x5 x6 x7 x8 r) j]
  simp only [total_apply]
  rw [nB_row]
  rfl
end Row

end Cert.Kernel3Ideal.Tail
-- ==== Proof.TailTwoArr.lean ====
module

public import proofs.«01_k».proof.Proof.Gen.Kernel3Ideal.Value
public import proofs.«01_k».proof.Proof.TailTwo
public import Idealize.ShloMosaic.Lib.StableHlo.Run

@[expose] public section

set_option maxRecDepth 16384

noncomputable section

namespace Cert.Kernel3Ideal.Tail

open Idealize.ShloMosaic Idealize.ShloMosaic.TcCoe Idealize.SL.Sem
open Cert.Kernel3Ideal Cert.Kernel3Ideal.Gen
open Cert.Kernel2Ideal.Tail (lo hi)
open scoped BigOperators

/-! ## Which block each window stages -/

theorem tr0 : ∀ i : grid0.Coords, cc0_transform_0 i = ![(i 0).val, 0] := by decide +kernel
theorem tr1 : ∀ i : grid0.Coords, cc0_transform_1 i = ![(i 0).val, 0] := by decide +kernel
theorem tr2 : ∀ i : grid0.Coords, cc0_transform_2 i = ![(i 0).val, 0] := by decide +kernel
theorem tr3 : ∀ i : grid0.Coords, cc0_transform_3 i = ![0, 0] := by decide +kernel
theorem tr4 : ∀ i : grid0.Coords, cc0_transform_4 i = ![0, 0] := by decide +kernel
theorem tr5 : ∀ i : grid0.Coords, cc0_transform_5 i = ![0, 0] := by decide +kernel
theorem tr6 : ∀ i : grid0.Coords, cc0_transform_6 i = ![0, 0] := by decide +kernel
theorem tr7 : ∀ i : grid0.Coords, cc0_transform_7 i = ![0, 0] := by decide +kernel
theorem tr8 : ∀ i : grid0.Coords, cc0_transform_8 i = ![0, 0] := by decide +kernel
theorem tr9 : ∀ i : grid0.Coords, cc0_transform_9 i = ![(i 0).val, 0] := by decide +kernel

/-! ## What the host prepares -/

section Host
variable (m : (ℓ : Loc nD τ sig) → Buf (Elt Ideal) ℓ) (c : Dev nD)

abbrev aH : FVec Ideal S4x4096x1024 .f32 := m ((c : Thread nD τ).loc main_arg0)
abbrev aY : FVec Ideal S4x4096x1024 .f32 := m ((c : Thread nD τ).loc main_arg1)
abbrev aW : FVec Ideal S1024x1024 .f32 := m ((c : Thread nD τ).loc main_arg2)
abbrev aG1 : FVec Ideal S1024 .f32 := m ((c : Thread nD τ).loc main_arg3)
abbrev aG2 : FVec Ideal S1024 .f32 := m ((c : Thread nD τ).loc main_arg4)
abbrev aG3 : FVec Ideal S1024 .f32 := m ((c : Thread nD τ).loc main_arg5)
abbrev aU : FVec Ideal S1024x5632 .f32 := m ((c : Thread nD τ).loc main_arg6)
abbrev aD : FVec Ideal S2816x1024 .f32 := m ((c : Thread nD τ).loc main_arg7)

/-- The first 768 columns of the mixer's output, in rows. -/
def first (y : FVec Ideal S4x4096x1024 .f32) : FVec Ideal S16384x768 .bf16 :=
  truncf .bf16 (shapeCast S16384x768 (extractStridedSlice S4x4096x768 ![0, 0, 0] y slices_S4x4096x1024_S4x4096x768_0_0_0) shapeCasts_S4x4096x768_S16384x768) bitsLt_bf16_f32

/-- The last 256. -/
def last (y : FVec Ideal S4x4096x1024 .f32) : FVec Ideal S16384x256 .bf16 :=
  truncf .bf16 (shapeCast S16384x256 (extractStridedSlice S4x4096x256 ![0, 0, 768] y slices_S4x4096x1024_S4x4096x256_0_0_768) shapeCasts_S4x4096x256_S16384x256) bitsLt_bf16_f32

theorem V_h : @Eq (FVec Ideal S16384x1024 .f32) (V m c main_v0) (shapeCast S16384x1024 (aH m c) shapeCasts_S4x4096x1024_S16384x1024) := by
  show StableHlo.after hostOps0 _ (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m0 : @Eq (FVec Ideal S16384x768 .bf16) (V m c main_v3) (first (aY m c)) := by
  show StableHlo.after hostOps0 _ (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m1 : @Eq (FVec Ideal S16384x256 .bf16) (V m c main_v6) (last (aY m c)) := by
  show StableHlo.after hostOps0 _ (Proc.devRef .tc main_v6) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_w : @Eq (FVec Ideal S1024x1024 .bf16) (V m c main_v7) (truncf .bf16 (aW m c) bitsLt_bf16_f32) := by
  show StableHlo.after hostOps0 _ (Proc.devRef .tc main_v7) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g1 : @Eq (FVec Ideal S1x1024 .f32) (V m c main_v8) (broadcastInDim S1x1024 ![1] bcast_S1024_S1x1024_1 (aG1 m c)) := by
  show StableHlo.after hostOps0 _ (Proc.devRef .tc main_v8) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g2 : @Eq (FVec Ideal S1x1024 .f32) (V m c main_v9) (broadcastInDim S1x1024 ![1] bcast_S1024_S1x1024_1 (aG2 m c)) := by
  show StableHlo.after hostOps0 _ (Proc.devRef .tc main_v9) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g3 : @Eq (FVec Ideal S1x1024 .f32) (V m c main_v10) (broadcastInDim S1x1024 ![1] bcast_S1024_S1x1024_1 (aG3 m c)) := by
  show StableHlo.after hostOps0 _ (Proc.devRef .tc main_v10) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_u : @Eq (FVec Ideal S1024x5632 .bf16) (V m c main_v11) (truncf .bf16 (aU m c) bitsLt_bf16_f32) := by
  show StableHlo.after hostOps0 _ (Proc.devRef .tc main_v11) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_d : @Eq (FVec Ideal S2816x1024 .bf16) (V m c main_v12) (truncf .bf16 (aD m c) bitsLt_bf16_f32) := by
  show StableHlo.after hostOps0 _ (Proc.devRef .tc main_v12) = _
  simp only [hostOps0, StableHlo.TRef.binary, StableHlo.TRef.nullary, StableHlo.TRef.ternary, StableHlo.TRef.unary, StableHlo.TRef.toBuf, StableHlo.TRef.ofBuf, cast_eq]
  after_results_simp
  all_goals rfl

end Host

/-! ## What it prepares, read at an entry -/

theorem first_apply (y : FVec Ideal S4x4096x1024 .f32) (b : Fin 4) (s : Fin 4096) (R : Fin 16384) (l : Fin 768) (hR : R.val = b.val * 4096 + s.val) :
    first y (ix2 R l) = y (ix3 b s (fst l)) := by
  show shapeCast S16384x768 (extractStridedSlice S4x4096x768 ![0, 0, 0] y slices_S4x4096x1024_S4x4096x768_0_0_0) shapeCasts_S4x4096x768_S16384x768 (ix2 R l) = _
  refine (shapeCast_apply _ _ (ix2 R l) (ix3 b s l) ?_).trans ?_
  · rw [Shape.rowMajor_val_three, Shape.rowMajor_val_two]
    show (b.val * 4096 + s.val) * 768 + l.val = R.val * 768 + l.val
    omega
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

theorem last_apply (y : FVec Ideal S4x4096x1024 .f32) (b : Fin 4) (s : Fin 4096) (R : Fin 16384) (l : Fin 256) (hR : R.val = b.val * 4096 + s.val) :
    last y (ix2 R l) = y (ix3 b s (snd l)) := by
  show shapeCast S16384x256 (extractStridedSlice S4x4096x256 ![0, 0, 768] y slices_S4x4096x1024_S4x4096x256_0_0_768) shapeCasts_S4x4096x256_S16384x256 (ix2 R l) = _
  refine (shapeCast_apply _ _ (ix2 R l) (ix3 b s l) ?_).trans ?_
  · rw [Shape.rowMajor_val_three, Shape.rowMajor_val_two]
    show (b.val * 4096 + s.val) * 256 + l.val = R.val * 256 + l.val
    omega
  refine extractStridedSlice_apply _ _ _ _ _ fun a => ?_
  match a with
  | ⟨0, _⟩ => exact (Nat.zero_add _).symm
  | ⟨1, _⟩ => exact (Nat.zero_add _).symm
  | ⟨2, _⟩ => rfl

section Blocks
variable (m : (ℓ : Loc nD τ sig) → Buf (Elt Ideal) ℓ) (c : Dev nD)

/-! ## What a grid point's blocks hold -/

theorem iblk0 (t : Fin cfg0.N) (r : Fin 512) (k : Fin 1024) (R : Fin 16384) (hR : R.val = (grid0.coords t 0).val * 512 + r.val) :
    iblk m c 0 t (ix2 r k) = V m c main_v0 (ix2 R k) := by
  show V m c main_v0 ((win0_0.rect t).emb (ix2 r k)) = _
  refine congrArg _ (funext fun a => Fin.ext ?_)
  refine (Pipeline.Window.rect_emb_val win0_0 t _ a).trans ?_
  have ht := tr0 (grid0.coords t)
  match a with
  | ⟨0, _⟩ => exact (congrArg (· * 512 + r.val) (congrFun ht 0)).trans hR.symm
  | ⟨1, _⟩ => exact (congrArg (· * 1024 + k.val) (congrFun ht 1)).trans (by show 0 * 1024 + k.val = k.val; omega)

theorem iblk1 (t : Fin cfg0.N) (r : Fin 512) (k : Fin 768) (R : Fin 16384) (hR : R.val = (grid0.coords t 0).val * 512 + r.val) :
    iblk m c 1 t (ix2 r k) = V m c main_v3 (ix2 R k) := by
  show V m c main_v3 ((win0_1.rect t).emb (ix2 r k)) = _
  refine congrArg _ (funext fun a => Fin.ext ?_)
  refine (Pipeline.Window.rect_emb_val win0_1 t _ a).trans ?_
  have ht := tr1 (grid0.coords t)
  match a with
  | ⟨0, _⟩ => exact (congrArg (· * 512 + r.val) (congrFun ht 0)).trans hR.symm
  | ⟨1, _⟩ => exact (congrArg (· * 768 + k.val) (congrFun ht 1)).trans (by show 0 * 768 + k.val = k.val; omega)

theorem iblk2 (t : Fin cfg0.N) (r : Fin 512) (k : Fin 256) (R : Fin 16384) (hR : R.val = (grid0.coords t 0).val * 512 + r.val) :
    iblk m c 2 t (ix2 r k) = V m c main_v6 (ix2 R k) := by
  show V m c main_v6 ((win0_2.rect t).emb (ix2 r k)) = _
  refine congrArg _ (funext fun a => Fin.ext ?_)
  refine (Pipeline.Window.rect_emb_val win0_2 t _ a).trans ?_
  have ht := tr2 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk3 (t : Fin cfg0.N) (r : Fin 1024) (k : Fin 1024) : iblk m c 3 t (ix2 r k) = V m c main_v7 (ix2 r k) := by
  show V m c main_v7 ((win0_3.rect t).emb (ix2 r k)) = _
  refine congrArg _ (funext fun a => Fin.ext ?_)
  refine (Pipeline.Window.rect_emb_val win0_3 t _ a).trans ?_
  have ht := tr3 (grid0.coords t)
  match a with
  | ⟨0, _⟩ => exact (congrArg (· * 1024 + r.val) (congrFun ht 0)).trans (by show 0 * 1024 + r.val = r.val; omega)
  | ⟨1, _⟩ => exact (congrArg (· * 1024 + k.val) (congrFun ht 1)).trans (by show 0 * 1024 + k.val = k.val; omega)

theorem iblk4 (t : Fin cfg0.N) (r : Fin 1) (k : Fin 1024) : iblk m c 4 t (ix2 r k) = V m c main_v8 (ix2 r k) := by
  show V m c main_v8 ((win0_4.rect t).emb (ix2 r k)) = _
  refine congrArg _ (funext fun a => Fin.ext ?_)
  refine (Pipeline.Window.rect_emb_val win0_4 t _ a).trans ?_
  have ht := tr4 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk5 (t : Fin cfg0.N) (r : Fin 1) (k : Fin 1024) : iblk m c 5 t (ix2 r k) = V m c main_v9 (ix2 r k) := by
  show V m c main_v9 ((win0_5.rect t).emb (ix2 r k)) = _
  refine congrArg _ (funext fun a => Fin.ext ?_)
  refine (Pipeline.Window.rect_emb_val win0_5 t _ a).trans ?_
  have ht := tr5 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk6 (t : Fin cfg0.N) (r : Fin 1) (k : Fin 1024) : iblk m c 6 t (ix2 r k) = V m c main_v10 (ix2 r k) := by
  show V m c main_v10 ((win0_6.rect t).emb (ix2 r k)) = _
  refine congrArg _ (funext fun a => Fin.ext ?_)
  refine (Pipeline.Window.rect_emb_val win0_6 t _ a).trans ?_
  have ht := tr6 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk7 (t : Fin cfg0.N) (r : Fin 1024) (k : Fin 5632) : iblk m c 7 t (ix2 r k) = V m c main_v11 (ix2 r k) := by
  show V m c main_v11 ((win0_7.rect t).emb (ix2 r k)) = _
  refine congrArg _ (funext fun a => Fin.ext ?_)
  refine (Pipeline.Window.rect_emb_val win0_7 t _ a).trans ?_
  have ht := tr7 (grid0.coords t)
  match a with
  | ⟨0, _⟩ => exact (congrArg (· * 1024 + r.val) (congrFun ht 0)).trans (by show 0 * 1024 + r.val = r.val; omega)
  | ⟨1, _⟩ => exact (congrArg (· * 5632 + k.val) (congrFun ht 1)).trans (by show 0 * 5632 + k.val = k.val; omega)

theorem iblk8 (t : Fin cfg0.N) (r : Fin 2816) (k : Fin 1024) : iblk m c 8 t (ix2 r k) = V m c main_v12 (ix2 r k) := by
  show V m c main_v12 ((win0_8.rect t).emb (ix2 r k)) = _
  refine congrArg _ (funext fun a => Fin.ext ?_)
  refine (Pipeline.Window.rect_emb_val win0_8 t _ a).trans ?_
  have ht := tr8 (grid0.coords t)
  match a with
  | ⟨0, _⟩ => exact (congrArg (· * 2816 + r.val) (congrFun ht 0)).trans (by show 0 * 2816 + r.val = r.val; omega)
  | ⟨1, _⟩ => exact (congrArg (· * 1024 + k.val) (congrFun ht 1)).trans (by show 0 * 1024 + k.val = k.val; omega)

/-- The layer's row of the arguments. -/
abbrev rowAt (b : Fin 4) (s : Fin 4096) (j : Fin 1024) : EReal :=
  Cert.Tail.row (fun k => aH m c (ix3 b s k)) (fun k => ∑ i, aY m c (ix3 b s i) * aW m c (ix2 i k)) (fun k => aG1 m c (ix1 k)) (fun k => aG2 m c (ix1 k)) (fun k => aG3 m c (ix1 k))
    (fun d n => aU m c (ix2 d (lo n))) (fun d n => aU m c (ix2 d (hi n))) (fun n k => aD m c (ix2 n k)) j

theorem gain_apply (g : FVec Ideal S1024 .f32) (k : Fin 1024) : broadcastInDim S1x1024 ![1] bcast_S1024_S1x1024_1 g (ix2 0 k) = g (ix1 k) := by
  refine broadcastInDim_apply _ _ g (ix2 0 k) (ix1 k) fun a => ?_
  match a with
  | ⟨0, _⟩ => rfl

theorem block_val (t : Fin cfg0.N) (r : Fin 512) (j : Fin 1024) (b : Fin 4) (s : Fin 4096) (hR : (grid0.coords t 0).val * 512 + r.val = b.val * 4096 + s.val) :
    out0_9 (F := Ideal) (iblk m c 0 t) (iblk m c 1 t) (iblk m c 2 t) (iblk m c 3 t) (iblk m c 4 t) (iblk m c 5 t) (iblk m c 6 t) (iblk m c 7 t) (iblk m c 8 t) (ix2 r j)
      = rowAt m c b s j := by
  have hb := b.isLt
  have hs := s.isLt
  obtain ⟨R, hR'⟩ : ∃ R : Fin 16384, R.val = b.val * 4096 + s.val := ⟨⟨b.val * 4096 + s.val, by omega⟩, rfl⟩
  have hRt : R.val = (grid0.coords t 0).val * 512 + r.val := hR'.trans hR.symm
  refine (out_row (iblk m c 0 t) (iblk m c 1 t) (iblk m c 2 t) (iblk m c 3 t) (iblk m c 4 t) (iblk m c 5 t) (iblk m c 6 t) (iblk m c 7 t) (iblk m c 8 t) r j).trans ?_
  have e0 : (fun k : Fin 1024 => (iblk m c 0 t : Vec Ideal S512x1024 .f32) (ix2 r k)) = fun k => aH m c (ix3 b s k) := funext fun k => by
    refine (iblk0 m c t r k R hRt).trans ((congrFun (V_h m c) _).trans (shapeCast_apply _ _ (ix2 R k) (ix3 b s k) ?_))
    rw [Shape.rowMajor_val_three, Shape.rowMajor_val_two]
    show (b.val * 4096 + s.val) * 1024 + k.val = R.val * 1024 + k.val
    rw [hR']
  have w : ∀ i k : Fin 1024, (iblk m c 3 t : Vec Ideal S1024x1024 .bf16) (ix2 i k) = aW m c (ix2 i k) := fun i k =>
    (iblk3 m c t i k).trans (congrFun (V_w m c) _)
  have m0 : ∀ l : Fin 768, (iblk m c 1 t : Vec Ideal S512x768 .bf16) (ix2 r l) = aY m c (ix3 b s (fst l)) := fun l =>
    (iblk1 m c t r l R hRt).trans ((congrFun (V_m0 m c) _).trans (first_apply _ b s R l hR'))
  have m1 : ∀ l : Fin 256, (iblk m c 2 t : Vec Ideal S512x256 .bf16) (ix2 r l) = aY m c (ix3 b s (snd l)) := fun l =>
    (iblk2 m c t r l R hRt).trans ((congrFun (V_m1 m c) _).trans (last_apply _ b s R l hR'))
  have ey : yrow (iblk m c 1 t) (iblk m c 2 t) (iblk m c 3 t) r = fun k => ∑ i, aY m c (ix3 b s i) * aW m c (ix2 i k) := funext fun k => by
    rw [sum_two (fun i => aY m c (ix3 b s i) * aW m c (ix2 i k))]
    unfold yrow
    simp only [m0, m1, w]
  have g1 : (fun k : Fin 1024 => (iblk m c 4 t : Vec Ideal S1x1024 .f32) (ix2 0 k)) = fun k => aG1 m c (ix1 k) := funext fun k =>
    (iblk4 m c t 0 k).trans ((congrFun (V_g1 m c) _).trans (gain_apply _ k))
  have g2 : (fun k : Fin 1024 => (iblk m c 5 t : Vec Ideal S1x1024 .f32) (ix2 0 k)) = fun k => aG2 m c (ix1 k) := funext fun k =>
    (iblk5 m c t 0 k).trans ((congrFun (V_g2 m c) _).trans (gain_apply _ k))
  have g3 : (fun k : Fin 1024 => (iblk m c 6 t : Vec Ideal S1x1024 .f32) (ix2 0 k)) = fun k => aG3 m c (ix1 k) := funext fun k =>
    (iblk6 m c t 0 k).trans ((congrFun (V_g3 m c) _).trans (gain_apply _ k))
  have u : ∀ (d : Fin 1024) (n : Fin 5632), (iblk m c 7 t : Vec Ideal S1024x5632 .bf16) (ix2 d n) = aU m c (ix2 d n) := fun d n =>
    (iblk7 m c t d n).trans (congrFun (V_u m c) _)
  have e : ∀ (n : Fin 2816) (k : Fin 1024), (iblk m c 8 t : Vec Ideal S2816x1024 .bf16) (ix2 n k) = aD m c (ix2 n k) := fun n k =>
    (iblk8 m c t n k).trans (congrFun (V_d m c) _)
  rw [e0, ey, g1, g2, g3]
  simp only [u, e]

/-! ## The kernel's result -/

theorem cover9 (R : Fin 16384) (C : Fin 1024) : ∃ t : Fin cfg0.N, (cfg0.win 9).flush t = true ∧ (ix2 R C : S16384x1024.Idx) ∈ ((cfg0.win 9).blk t).view.set := by
  have hR := R.isLt
  obtain ⟨t, ht⟩ : ∃ t : Fin cfg0.N, t.val = R.val / 512 := ⟨⟨R.val / 512, by show _ < grid0.N; rw [N_0]; omega⟩, rfl⟩
  refine ⟨t, flush0_9 t, ?_⟩
  have h9 := tr9 (grid0.coords t)
  have c0 : (grid0.coords t 0).val = R.val / 512 := (Pipeline.Grid.coords_val (G := grid0) t 0 (S := 1) (B := 32) (by decide) rfl).trans (by omega)
  have key := View.emb_mem_set ((cfg0.win 9).blk t).view (ix2 (⟨R.val % 512, by omega⟩ : Fin 512) C : S512x1024.Idx)
  have e : ((cfg0.win 9).blk t).view.emb (ix2 (⟨R.val % 512, by omega⟩ : Fin 512) C : S512x1024.Idx) = (ix2 R C : S16384x1024.Idx) := by
    refine funext fun a => Fin.ext ?_
    refine (Pipeline.Window.rect_emb_val win0_9 t _ a).trans ?_
    match a with
    | ⟨0, _⟩ =>
      have h0 : cc0_transform_9 (grid0.coords t) 0 = (grid0.coords t 0).val := congrFun h9 0
      show cc0_transform_9 (grid0.coords t) 0 * 512 + R.val % 512 = R.val
      rw [h0, c0]
      omega
    | ⟨1, _⟩ =>
      have h0 : cc0_transform_9 (grid0.coords t) 1 = 0 := congrFun h9 1
      show cc0_transform_9 (grid0.coords t) 1 * 1024 + C.val = C.val
      rw [h0]
      omega
  rw [e] at key
  exact key

theorem arr_val (G : FVec Ideal S16384x1024 .f32)
    (hG : ∀ (b : Fin 4) (s : Fin 4096) (R : Fin 16384) (j : Fin 1024), R.val = b.val * 4096 + s.val → G (ix2 R j) = rowAt m c b s j) :
    @Eq (FVec Ideal S16384x1024 .f32) ((dats m 0 c).arrAt 9 cfg0.N) G := by
  funext (x : S16384x1024.Idx)
  have hx : x = ix2 (x 0) (x 1) := funext fun a => by
    match a with
    | ⟨0, _⟩ => rfl
    | ⟨1, _⟩ => rfl
  rw [hx]
  refine Pipeline.Dat.arrAt_forall_of_cover (dats m 0 c) 9 (fun i v => v = G i) (fun t _ y => ?_) (fun i => ?_) (ix2 (x 0) (x 1))
  · have hb : (grid0.coords t 0).val < 32 := (grid0.coords t 0).isLt
    obtain ⟨r, j, hy⟩ : ∃ (r : Fin 512) (j : Fin 1024), y = (ix2 r j : S512x1024.Idx) := ⟨y 0, y 1, funext fun a => by
      match a with
      | ⟨0, _⟩ => rfl
      | ⟨1, _⟩ => rfl⟩
    subst hy
    have hr := r.isLt
    obtain ⟨b, eb⟩ : ∃ b : Fin 4, b.val = ((grid0.coords t 0).val * 512 + r.val) / 4096 := ⟨⟨_, by omega⟩, rfl⟩
    obtain ⟨s, es⟩ : ∃ s : Fin 4096, s.val = ((grid0.coords t 0).val * 512 + r.val) % 4096 := ⟨⟨_, Nat.mod_lt _ (by decide)⟩, rfl⟩
    have hR : (grid0.coords t 0).val * 512 + r.val = b.val * 4096 + s.val := by omega
    have hg : G (((cfg0.win 9).blk t).view.emb (ix2 r j : S512x1024.Idx)) = rowAt m c b s j := by
      refine Eq.trans ?_ (hG b s ⟨(grid0.coords t 0).val * 512 + r.val, by omega⟩ j hR)
      refine congrArg G (funext fun a => Fin.ext ?_)
      refine (Pipeline.Window.rect_emb_val win0_9 t _ a).trans ?_
      have ht := tr9 (grid0.coords t)
      match a with
      | ⟨0, _⟩ => exact congrArg (· * 512 + r.val) (congrFun ht 0)
      | ⟨1, _⟩ =>
        have h0 : cc0_transform_9 (grid0.coords t) 1 = 0 := congrFun ht 1
        show cc0_transform_9 (grid0.coords t) 1 * 1024 + j.val = j.val
        rw [h0, Nat.zero_mul, Nat.zero_add]
    refine Eq.trans ?_ hg.symm
    show (dats m 0 c).flushed 9 t (ix2 r j : S512x1024.Idx) = _
    rw [Value.flushed9 m c t]
    exact block_val m c t r j b s hR
  · obtain ⟨R, C, rfl⟩ : ∃ (R : Fin 16384) (C : Fin 1024), i = (ix2 R C : S16384x1024.Idx) := ⟨i 0, i 1, funext fun a => by
      match a with
      | ⟨0, _⟩ => rfl
      | ⟨1, _⟩ => rfl⟩
    exact cover9 R C
end Blocks

end Cert.Kernel3Ideal.Tail
-- ==== Proof.TailSample.lean ====
module

public import proofs.«01_k».proof.Proof.Gen.Kernel4Ideal.Value
public import proofs.«01_k».proof.Proof.TailArr
public import Idealize.ShloMosaic.Lib.StableHlo.Run

@[expose] public section

set_option maxRecDepth 16384

noncomputable section

namespace Cert.Kernel4Ideal.Tail

open Idealize.ShloMosaic Idealize.ShloMosaic.TcCoe Idealize.SL.Sem
open Cert.Kernel4Ideal Cert.Kernel4Ideal.Gen
open Cert.Tail (lane place)
open Cert.Kernel2Ideal.Tail (lo hi yrow out_row rows rows_apply gain_apply)
open scoped BigOperators

/-! ## Which block each window stages -/

theorem tr0 : ∀ i : grid0.Coords, cc0_transform_0 i = ![(i 0).val, 0] := by decide +kernel
theorem tr1 : ∀ i : grid0.Coords, cc0_transform_1 i = ![(i 0).val, 0] := by decide +kernel
theorem tr2 : ∀ i : grid0.Coords, cc0_transform_2 i = ![(i 0).val, 0] := by decide +kernel
theorem tr3 : ∀ i : grid0.Coords, cc0_transform_3 i = ![(i 0).val, 0] := by decide +kernel
theorem tr4 : ∀ i : grid0.Coords, cc0_transform_4 i = ![(i 0).val, 0] := by decide +kernel
theorem tr5 : ∀ i : grid0.Coords, cc0_transform_5 i = ![0, 0] := by decide +kernel
theorem tr6 : ∀ i : grid0.Coords, cc0_transform_6 i = ![0, 0] := by decide +kernel
theorem tr7 : ∀ i : grid0.Coords, cc0_transform_7 i = ![0, 0] := by decide +kernel
theorem tr8 : ∀ i : grid0.Coords, cc0_transform_8 i = ![0, 0] := by decide +kernel
theorem tr9 : ∀ i : grid0.Coords, cc0_transform_9 i = ![0, 0] := by decide +kernel
theorem tr10 : ∀ i : grid0.Coords, cc0_transform_10 i = ![0, 0] := by decide +kernel
theorem tr11 : ∀ i : grid0.Coords, cc0_transform_11 i = ![(i 0).val, 0] := by decide +kernel

/-! ## What the host prepares -/

section Host
variable (m : (ℓ : Loc nD τ sig) → Buf (Elt Ideal) ℓ) (c : Dev nD)

abbrev aH : FVec Ideal S128x8x1024 .f32 := m ((c : Thread nD τ).loc main_arg0)
abbrev aY : FVec Ideal S128x8x1024 .f32 := m ((c : Thread nD τ).loc main_arg1)
abbrev aW : FVec Ideal S1024x1024 .f32 := m ((c : Thread nD τ).loc main_arg2)
abbrev aG1 : FVec Ideal S1024 .f32 := m ((c : Thread nD τ).loc main_arg3)
abbrev aG2 : FVec Ideal S1024 .f32 := m ((c : Thread nD τ).loc main_arg4)
abbrev aG3 : FVec Ideal S1024 .f32 := m ((c : Thread nD τ).loc main_arg5)
abbrev aU : FVec Ideal S1024x5632 .f32 := m ((c : Thread nD τ).loc main_arg6)
abbrev aD : FVec Ideal S2816x1024 .f32 := m ((c : Thread nD τ).loc main_arg7)

/-- The heads of one place in every group, side by side. -/
def heads (y : FVec Ideal S128x8x1024 .f32) (o : Fin 4 → ℕ) (ho : S1024x4x3x64.Slices o S1024x4x1x64) : FVec Ideal S1024x256 .bf16 :=
  truncf .bf16 (shapeCast S1024x256 (shapeCast S1024x4x64 (extractStridedSlice S1024x4x1x64 o
    (shapeCast S1024x4x3x64 (extractStridedSlice S128x8x768 ![0, 0, 0] y slices_S128x8x1024_S128x8x768_0_0_0) shapeCasts_S128x8x768_S1024x4x3x64) ho)
    shapeCasts_S1024x4x1x64_S1024x4x64) shapeCasts_S1024x4x64_S1024x256) bitsLt_bf16_f32

/-- The columns after the heads'. -/
def rest (y : FVec Ideal S128x8x1024 .f32) : FVec Ideal S1024x256 .bf16 :=
  truncf .bf16 (shapeCast S1024x256 (extractStridedSlice S128x8x256 ![0, 0, 768] y slices_S128x8x1024_S128x8x256_0_0_768) shapeCasts_S128x8x256_S1024x256) bitsLt_bf16_f32

theorem V_h : @Eq (FVec Ideal S1024x1024 .f32) (V m c main_v0) (shapeCast S1024x1024 (aH m c) shapeCasts_S128x8x1024_S1024x1024) := by
  show StableHlo.after hostOps0 _ (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m0 : @Eq (FVec Ideal S1024x256 .bf16) (V m c main_v6) (heads (aY m c) ![0, 0, 0, 0] slices_S1024x4x3x64_S1024x4x1x64_0_0_0_0) := by
  show StableHlo.after hostOps0 _ (Proc.devRef .tc main_v6) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m1 : @Eq (FVec Ideal S1024x256 .bf16) (V m c main_v10) (heads (aY m c) ![0, 0, 1, 0] slices_S1024x4x3x64_S1024x4x1x64_0_0_1_0) := by
  show StableHlo.after hostOps0 _ (Proc.devRef .tc main_v10) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m2 : @Eq (FVec Ideal S1024x256 .bf16) (V m c main_v14) (heads (aY m c) ![0, 0, 2, 0] slices_S1024x4x3x64_S1024x4x1x64_0_0_2_0) := by
  show StableHlo.after hostOps0 _ (Proc.devRef .tc main_v14) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m3 : @Eq (FVec Ideal S1024x256 .bf16) (V m c main_v17) (rest (aY m c)) := by
  show StableHlo.after hostOps0 _ (Proc.devRef .tc main_v17) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_w : @Eq (FVec Ideal S1024x1024 .bf16) (V m c main_v23) (rows (aW m c)) := by
  show StableHlo.after hostOps0 _ (Proc.devRef .tc main_v23) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g1 : @Eq (FVec Ideal S1x1024 .f32) (V m c main_v24) (broadcastInDim S1x1024 ![1] bcast_S1024_S1x1024_1 (aG1 m c)) := by
  show StableHlo.after hostOps0 _ (Proc.devRef .tc main_v24) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g2 : @Eq (FVec Ideal S1x1024 .f32) (V m c main_v25) (broadcastInDim S1x1024 ![1] bcast_S1024_S1x1024_1 (aG2 m c)) := by
  show StableHlo.after hostOps0 _ (Proc.devRef .tc main_v25) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g3 : @Eq (FVec Ideal S1x1024 .f32) (V m c main_v26) (broadcastInDim S1x1024 ![1] bcast_S1024_S1x1024_1 (aG3 m c)) := by
  show StableHlo.after hostOps0 _ (Proc.devRef .tc main_v26) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_u : @Eq (FVec Ideal S1024x5632 .bf16) (V m c main_v27) (truncf .bf16 (aU m c) bitsLt_bf16_f32) := by
  show StableHlo.after hostOps0 _ (Proc.devRef .tc main_v27) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_d : @Eq (FVec Ideal S2816x1024 .bf16) (V m c main_v28) (truncf .bf16 (aD m c) bitsLt_bf16_f32) := by
  show StableHlo.after hostOps0 _ (Proc.devRef .tc main_v28) = _
  simp only [hostOps0, StableHlo.TRef.binary, StableHlo.TRef.nullary, StableHlo.TRef.ternary, StableHlo.TRef.unary, StableHlo.TRef.toBuf, StableHlo.TRef.ofBuf, cast_eq]
  after_results_simp
  all_goals rfl

end Host

/-! ## What it prepares, read at an entry -/

theorem heads_apply (y : FVec Ideal S128x8x1024 .f32) (q : Fin 4) (hq : q.val < 3) {o : Fin 4 → ℕ} (ho : S1024x4x3x64.Slices o S1024x4x1x64)
    (e : o = ![0, 0, q.val, 0]) (b : Fin 128) (s : Fin 8) (R : Fin 1024) (l : Fin 256) (hR : R.val = b.val * 8 + s.val) :
    heads y o ho (ix2 R l) = y (ix3 b s (place (lane q l))) := by
  subst e
  have hl := l.isLt
  have hp : (place (lane q l)).val = ((l.val / 64) * 3 + q.val) * 64 + l.val % 64 := by
    unfold place
    rw [dif_pos (show (lane q l).val < 768 from show 256 * q.val + l.val < 768 by omega)]
    show (3 * ((256 * q.val + l.val) % 256 / 64) + (256 * q.val + l.val) / 256) * 64 + (256 * q.val + l.val) % 64 = _
    omega
  show shapeCast S1024x256 (shapeCast S1024x4x64 (extractStridedSlice S1024x4x1x64 _
    (shapeCast S1024x4x3x64 (extractStridedSlice S128x8x768 ![0, 0, 0] y slices_S128x8x1024_S128x8x768_0_0_0) shapeCasts_S128x8x768_S1024x4x3x64) ho)
    shapeCasts_S1024x4x1x64_S1024x4x64) shapeCasts_S1024x4x64_S1024x256 (ix2 R l) = _
  refine (shapeCast_apply _ _ (ix2 R l) (ix3 R (⟨l.val / 64, by omega⟩ : Fin 4) (⟨l.val % 64, by omega⟩ : Fin 64)) ?_).trans ?_
  · rw [Shape.rowMajor_val_three, Shape.rowMajor_val_two]
    show (R.val * 4 + l.val / 64) * 64 + l.val % 64 = R.val * 256 + l.val
    omega
  refine (shapeCast_apply _ _ _ (ix4 R (⟨l.val / 64, by omega⟩ : Fin 4) (0 : Fin 1) (⟨l.val % 64, by omega⟩ : Fin 64)) ?_).trans ?_
  · rw [Shape.rowMajor_val_three, Shape.rowMajor_val_four]
    show ((R.val * 4 + l.val / 64) * 1 + 0) * 64 + l.val % 64 = (R.val * 4 + l.val / 64) * 64 + l.val % 64
    omega
  refine (extractStridedSlice_apply _ _ _ _ (ix4 R (⟨l.val / 64, by omega⟩ : Fin 4) (⟨q.val, hq⟩ : Fin 3) (⟨l.val % 64, by omega⟩ : Fin 64)) fun a => ?_).trans ?_
  · match a with
    | ⟨0, _⟩ => exact (Nat.zero_add _).symm
    | ⟨1, _⟩ => exact (Nat.zero_add _).symm
    | ⟨2, _⟩ => rfl
    | ⟨3, _⟩ => exact (Nat.zero_add _).symm
  refine (shapeCast_apply _ _ _ (ix3 b s (⟨((l.val / 64) * 3 + q.val) * 64 + l.val % 64, by omega⟩ : Fin 768)) ?_).trans ?_
  · rw [Shape.rowMajor_val_three, Shape.rowMajor_val_four]
    show (b.val * 8 + s.val) * 768 + (((l.val / 64) * 3 + q.val) * 64 + l.val % 64) = ((R.val * 4 + l.val / 64) * 3 + q.val) * 64 + l.val % 64
    omega
  refine extractStridedSlice_apply _ _ _ _ _ fun a => ?_
  match a with
  | ⟨0, _⟩ => exact (Nat.zero_add _).symm
  | ⟨1, _⟩ => exact (Nat.zero_add _).symm
  | ⟨2, _⟩ => exact hp.trans (Nat.zero_add _).symm

theorem rest_apply (y : FVec Ideal S128x8x1024 .f32) (b : Fin 128) (s : Fin 8) (R : Fin 1024) (l : Fin 256) (hR : R.val = b.val * 8 + s.val) :
    rest y (ix2 R l) = y (ix3 b s (place (lane 3 l))) := by
  have hp : (place (lane 3 l)).val = 768 + l.val := by
    unfold place
    rw [dif_neg (show ¬((lane 3 l).val < 768) from show ¬(256 * 3 + l.val < 768) by omega)]
    rfl
  show shapeCast S1024x256 (extractStridedSlice S128x8x256 ![0, 0, 768] y slices_S128x8x1024_S128x8x256_0_0_768) shapeCasts_S128x8x256_S1024x256 (ix2 R l) = _
  refine (shapeCast_apply _ _ (ix2 R l) (ix3 b s l) ?_).trans ?_
  · rw [Shape.rowMajor_val_three, Shape.rowMajor_val_two]
    show (b.val * 8 + s.val) * 256 + l.val = R.val * 256 + l.val
    omega
  refine extractStridedSlice_apply _ _ _ _ _ fun a => ?_
  match a with
  | ⟨0, _⟩ => exact (Nat.zero_add _).symm
  | ⟨1, _⟩ => exact (Nat.zero_add _).symm
  | ⟨2, _⟩ => exact hp

section Blocks
variable (m : (ℓ : Loc nD τ sig) → Buf (Elt Ideal) ℓ) (c : Dev nD)

/-! ## What a grid point's blocks hold -/

theorem iblk0 (t : Fin cfg0.N) (r : Fin 512) (k : Fin 1024) (R : Fin 1024) (hR : R.val = (grid0.coords t 0).val * 512 + r.val) :
    iblk m c 0 t (ix2 r k) = V m c main_v0 (ix2 R k) := by
  show V m c main_v0 ((win0_0.rect t).emb (ix2 r k)) = _
  refine congrArg _ (funext fun a => Fin.ext ?_)
  refine (Pipeline.Window.rect_emb_val win0_0 t _ a).trans ?_
  have ht := tr0 (grid0.coords t)
  match a with
  | ⟨0, _⟩ => exact (congrArg (· * 512 + r.val) (congrFun ht 0)).trans hR.symm
  | ⟨1, _⟩ => exact (congrArg (· * 1024 + k.val) (congrFun ht 1)).trans (by show 0 * 1024 + k.val = k.val; omega)

theorem iblk1 (t : Fin cfg0.N) (r : Fin 512) (k : Fin 256) (R : Fin 1024) (hR : R.val = (grid0.coords t 0).val * 512 + r.val) :
    iblk m c 1 t (ix2 r k) = V m c main_v6 (ix2 R k) := by
  show V m c main_v6 ((win0_1.rect t).emb (ix2 r k)) = _
  refine congrArg _ (funext fun a => Fin.ext ?_)
  refine (Pipeline.Window.rect_emb_val win0_1 t _ a).trans ?_
  have ht := tr1 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk2 (t : Fin cfg0.N) (r : Fin 512) (k : Fin 256) (R : Fin 1024) (hR : R.val = (grid0.coords t 0).val * 512 + r.val) :
    iblk m c 2 t (ix2 r k) = V m c main_v10 (ix2 R k) := by
  show V m c main_v10 ((win0_2.rect t).emb (ix2 r k)) = _
  refine congrArg _ (funext fun a => Fin.ext ?_)
  refine (Pipeline.Window.rect_emb_val win0_2 t _ a).trans ?_
  have ht := tr2 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk3 (t : Fin cfg0.N) (r : Fin 512) (k : Fin 256) (R : Fin 1024) (hR : R.val = (grid0.coords t 0).val * 512 + r.val) :
    iblk m c 3 t (ix2 r k) = V m c main_v14 (ix2 R k) := by
  show V m c main_v14 ((win0_3.rect t).emb (ix2 r k)) = _
  refine congrArg _ (funext fun a => Fin.ext ?_)
  refine (Pipeline.Window.rect_emb_val win0_3 t _ a).trans ?_
  have ht := tr3 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk4 (t : Fin cfg0.N) (r : Fin 512) (k : Fin 256) (R : Fin 1024) (hR : R.val = (grid0.coords t 0).val * 512 + r.val) :
    iblk m c 4 t (ix2 r k) = V m c main_v17 (ix2 R k) := by
  show V m c main_v17 ((win0_4.rect t).emb (ix2 r k)) = _
  refine congrArg _ (funext fun a => Fin.ext ?_)
  refine (Pipeline.Window.rect_emb_val win0_4 t _ a).trans ?_
  have ht := tr4 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk5 (t : Fin cfg0.N) (r : Fin 1024) (k : Fin 1024) : iblk m c 5 t (ix2 r k) = V m c main_v23 (ix2 r k) := by
  show V m c main_v23 ((win0_5.rect t).emb (ix2 r k)) = _
  refine congrArg _ (funext fun a => Fin.ext ?_)
  refine (Pipeline.Window.rect_emb_val win0_5 t _ a).trans ?_
  have ht := tr5 (grid0.coords t)
  match a with
  | ⟨0, _⟩ => exact (congrArg (· * 1024 + r.val) (congrFun ht 0)).trans (by show 0 * 1024 + r.val = r.val; omega)
  | ⟨1, _⟩ => exact (congrArg (· * 1024 + k.val) (congrFun ht 1)).trans (by show 0 * 1024 + k.val = k.val; omega)

theorem iblk6 (t : Fin cfg0.N) (r : Fin 1) (k : Fin 1024) : iblk m c 6 t (ix2 r k) = V m c main_v24 (ix2 r k) := by
  show V m c main_v24 ((win0_6.rect t).emb (ix2 r k)) = _
  refine congrArg _ (funext fun a => Fin.ext ?_)
  refine (Pipeline.Window.rect_emb_val win0_6 t _ a).trans ?_
  have ht := tr6 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk7 (t : Fin cfg0.N) (r : Fin 1) (k : Fin 1024) : iblk m c 7 t (ix2 r k) = V m c main_v25 (ix2 r k) := by
  show V m c main_v25 ((win0_7.rect t).emb (ix2 r k)) = _
  refine congrArg _ (funext fun a => Fin.ext ?_)
  refine (Pipeline.Window.rect_emb_val win0_7 t _ a).trans ?_
  have ht := tr7 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk8 (t : Fin cfg0.N) (r : Fin 1) (k : Fin 1024) : iblk m c 8 t (ix2 r k) = V m c main_v26 (ix2 r k) := by
  show V m c main_v26 ((win0_8.rect t).emb (ix2 r k)) = _
  refine congrArg _ (funext fun a => Fin.ext ?_)
  refine (Pipeline.Window.rect_emb_val win0_8 t _ a).trans ?_
  have ht := tr8 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk9 (t : Fin cfg0.N) (r : Fin 1024) (k : Fin 5632) : iblk m c 9 t (ix2 r k) = V m c main_v27 (ix2 r k) := by
  show V m c main_v27 ((win0_9.rect t).emb (ix2 r k)) = _
  refine congrArg _ (funext fun a => Fin.ext ?_)
  refine (Pipeline.Window.rect_emb_val win0_9 t _ a).trans ?_
  have ht := tr9 (grid0.coords t)
  match a with
  | ⟨0, _⟩ => exact (congrArg (· * 1024 + r.val) (congrFun ht 0)).trans (by show 0 * 1024 + r.val = r.val; omega)
  | ⟨1, _⟩ => exact (congrArg (· * 5632 + k.val) (congrFun ht 1)).trans (by show 0 * 5632 + k.val = k.val; omega)

theorem iblk10 (t : Fin cfg0.N) (r : Fin 2816) (k : Fin 1024) : iblk m c 10 t (ix2 r k) = V m c main_v28 (ix2 r k) := by
  show V m c main_v28 ((win0_10.rect t).emb (ix2 r k)) = _
  refine congrArg _ (funext fun a => Fin.ext ?_)
  refine (Pipeline.Window.rect_emb_val win0_10 t _ a).trans ?_
  have ht := tr10 (grid0.coords t)
  match a with
  | ⟨0, _⟩ => exact (congrArg (· * 2816 + r.val) (congrFun ht 0)).trans (by show 0 * 2816 + r.val = r.val; omega)
  | ⟨1, _⟩ => exact (congrArg (· * 1024 + k.val) (congrFun ht 1)).trans (by show 0 * 1024 + k.val = k.val; omega)

/-- The layer's row of the arguments. -/
abbrev rowAt (b : Fin 128) (s : Fin 8) (j : Fin 1024) : EReal :=
  Cert.Tail.row (fun k => aH m c (ix3 b s k)) (fun k => ∑ i, aY m c (ix3 b s i) * aW m c (ix2 i k)) (fun k => aG1 m c (ix1 k)) (fun k => aG2 m c (ix1 k)) (fun k => aG3 m c (ix1 k))
    (fun d n => aU m c (ix2 d (lo n))) (fun d n => aU m c (ix2 d (hi n))) (fun n k => aD m c (ix2 n k)) j

/-- The sample's block computes as the prompt's: the two kernels' bodies are one text. -/
theorem block_same (x0 : Vec Ideal S512x1024 .f32) (x1 x2 x3 x4 : Vec Ideal S512x256 .bf16) (x5 : Vec Ideal S1024x1024 .bf16) (x6 x7 x8 : Vec Ideal S1x1024 .f32)
    (x9 : Vec Ideal S1024x5632 .bf16) (x10 : Vec Ideal S2816x1024 .bf16) :
    out0_11 (F := Ideal) x0 x1 x2 x3 x4 x5 x6 x7 x8 x9 x10 = Cert.Kernel2Ideal.Gen.out0_11 (F := Ideal) x0 x1 x2 x3 x4 x5 x6 x7 x8 x9 x10 := rfl

theorem block_val (t : Fin cfg0.N) (r : Fin 512) (j : Fin 1024) (b : Fin 128) (s : Fin 8) (hR : (grid0.coords t 0).val * 512 + r.val = b.val * 8 + s.val) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = rowAt m c b s j := by
  have hb := b.isLt
  have hs := s.isLt
  obtain ⟨R, hR'⟩ : ∃ R : Fin 1024, R.val = b.val * 8 + s.val := ⟨⟨b.val * 8 + s.val, by omega⟩, rfl⟩
  have hRt : R.val = (grid0.coords t 0).val * 512 + r.val := hR'.trans hR.symm
  refine (congrFun (block_same _ _ _ _ _ _ _ _ _ _ _) _).trans ((out_row (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_)
  have e0 : (fun k : Fin 1024 => (iblk m c 0 t : Vec Ideal S512x1024 .f32) (ix2 r k)) = fun k => aH m c (ix3 b s k) := funext fun k => by
    refine (iblk0 m c t r k R hRt).trans ((congrFun (V_h m c) _).trans (shapeCast_apply _ _ (ix2 R k) (ix3 b s k) ?_))
    rw [Shape.rowMajor_val_three, Shape.rowMajor_val_two]
    show (b.val * 8 + s.val) * 1024 + k.val = R.val * 1024 + k.val
    rw [hR']
  have w : ∀ (q : Fin 4) (l : Fin 256) (k : Fin 1024), (iblk m c 5 t : Vec Ideal S1024x1024 .bf16) (ix2 (lane q l) k) = aW m c (ix2 (place (lane q l)) k) := fun q l k =>
    (iblk5 m c t (lane q l) k).trans ((congrFun (V_w m c) _).trans (rows_apply _ _ _))
  have m0 : ∀ l : Fin 256, (iblk m c 1 t : Vec Ideal S512x256 .bf16) (ix2 r l) = aY m c (ix3 b s (place (lane 0 l))) := fun l =>
    (iblk1 m c t r l R hRt).trans ((congrFun (V_m0 m c) _).trans (heads_apply _ 0 (by decide) _ rfl b s R l hR'))
  have m1 : ∀ l : Fin 256, (iblk m c 2 t : Vec Ideal S512x256 .bf16) (ix2 r l) = aY m c (ix3 b s (place (lane 1 l))) := fun l =>
    (iblk2 m c t r l R hRt).trans ((congrFun (V_m1 m c) _).trans (heads_apply _ 1 (by decide) _ rfl b s R l hR'))
  have m2 : ∀ l : Fin 256, (iblk m c 3 t : Vec Ideal S512x256 .bf16) (ix2 r l) = aY m c (ix3 b s (place (lane 2 l))) := fun l =>
    (iblk3 m c t r l R hRt).trans ((congrFun (V_m2 m c) _).trans (heads_apply _ 2 (by decide) _ rfl b s R l hR'))
  have m3 : ∀ l : Fin 256, (iblk m c 4 t : Vec Ideal S512x256 .bf16) (ix2 r l) = aY m c (ix3 b s (place (lane 3 l))) := fun l =>
    (iblk4 m c t r l R hRt).trans ((congrFun (V_m3 m c) _).trans (rest_apply _ b s R l hR'))
  have ey : yrow (iblk m c 1 t) (iblk m c 2 t) (iblk m c 3 t) (iblk m c 4 t) (iblk m c 5 t) r = fun k => ∑ i, aY m c (ix3 b s i) * aW m c (ix2 i k) := funext fun k => by
    rw [← Cert.Tail.sum_place (fun i => aY m c (ix3 b s i) * aW m c (ix2 i k)), Cert.Tail.sum_lanes, Cert.Tail.sum_four]
    unfold yrow
    simp only [m0, m1, m2, m3, w]
  have g1 : (fun k : Fin 1024 => (iblk m c 6 t : Vec Ideal S1x1024 .f32) (ix2 0 k)) = fun k => aG1 m c (ix1 k) := funext fun k =>
    (iblk6 m c t 0 k).trans ((congrFun (V_g1 m c) _).trans (gain_apply _ k))
  have g2 : (fun k : Fin 1024 => (iblk m c 7 t : Vec Ideal S1x1024 .f32) (ix2 0 k)) = fun k => aG2 m c (ix1 k) := funext fun k =>
    (iblk7 m c t 0 k).trans ((congrFun (V_g2 m c) _).trans (gain_apply _ k))
  have g3 : (fun k : Fin 1024 => (iblk m c 8 t : Vec Ideal S1x1024 .f32) (ix2 0 k)) = fun k => aG3 m c (ix1 k) := funext fun k =>
    (iblk8 m c t 0 k).trans ((congrFun (V_g3 m c) _).trans (gain_apply _ k))
  have u : ∀ (d : Fin 1024) (n : Fin 5632), (iblk m c 9 t : Vec Ideal S1024x5632 .bf16) (ix2 d n) = aU m c (ix2 d n) := fun d n =>
    (iblk9 m c t d n).trans (congrFun (V_u m c) _)
  have e : ∀ (n : Fin 2816) (k : Fin 1024), (iblk m c 10 t : Vec Ideal S2816x1024 .bf16) (ix2 n k) = aD m c (ix2 n k) := fun n k =>
    (iblk10 m c t n k).trans (congrFun (V_d m c) _)
  rw [e0, ey, g1, g2, g3]
  simp only [u, e]

/-! ## The kernel's result -/

theorem cover11 (R : Fin 1024) (C : Fin 1024) : ∃ t : Fin cfg0.N, (cfg0.win 11).flush t = true ∧ (ix2 R C : S1024x1024.Idx) ∈ ((cfg0.win 11).blk t).view.set := by
  have hR := R.isLt
  obtain ⟨t, ht⟩ : ∃ t : Fin cfg0.N, t.val = R.val / 512 := ⟨⟨R.val / 512, by show _ < grid0.N; rw [N_0]; omega⟩, rfl⟩
  refine ⟨t, flush0_11 t, ?_⟩
  have h11 := tr11 (grid0.coords t)
  have c0 : (grid0.coords t 0).val = R.val / 512 := (Pipeline.Grid.coords_val (G := grid0) t 0 (S := 1) (B := 2) (by decide) rfl).trans (by omega)
  have key := View.emb_mem_set ((cfg0.win 11).blk t).view (ix2 (⟨R.val % 512, by omega⟩ : Fin 512) C : S512x1024.Idx)
  have e : ((cfg0.win 11).blk t).view.emb (ix2 (⟨R.val % 512, by omega⟩ : Fin 512) C : S512x1024.Idx) = (ix2 R C : S1024x1024.Idx) := by
    refine funext fun a => Fin.ext ?_
    refine (Pipeline.Window.rect_emb_val win0_11 t _ a).trans ?_
    match a with
    | ⟨0, _⟩ =>
      have h0 : cc0_transform_11 (grid0.coords t) 0 = (grid0.coords t 0).val := congrFun h11 0
      show cc0_transform_11 (grid0.coords t) 0 * 512 + R.val % 512 = R.val
      rw [h0, c0]
      omega
    | ⟨1, _⟩ =>
      have h0 : cc0_transform_11 (grid0.coords t) 1 = 0 := congrFun h11 1
      show cc0_transform_11 (grid0.coords t) 1 * 1024 + C.val = C.val
      rw [h0]
      omega
  rw [e] at key
  exact key

theorem arr_val (G : FVec Ideal S1024x1024 .f32)
    (hG : ∀ (b : Fin 128) (s : Fin 8) (R : Fin 1024) (j : Fin 1024), R.val = b.val * 8 + s.val → G (ix2 R j) = rowAt m c b s j) :
    @Eq (FVec Ideal S1024x1024 .f32) ((dats m 0 c).arrAt 11 cfg0.N) G := by
  funext (x : S1024x1024.Idx)
  have hx : x = ix2 (x 0) (x 1) := funext fun a => by
    match a with
    | ⟨0, _⟩ => rfl
    | ⟨1, _⟩ => rfl
  rw [hx]
  refine Pipeline.Dat.arrAt_forall_of_cover (dats m 0 c) 11 (fun i v => v = G i) (fun t _ y => ?_) (fun i => ?_) (ix2 (x 0) (x 1))
  · have hb : (grid0.coords t 0).val < 2 := (grid0.coords t 0).isLt
    obtain ⟨r, j, hy⟩ : ∃ (r : Fin 512) (j : Fin 1024), y = (ix2 r j : S512x1024.Idx) := ⟨y 0, y 1, funext fun a => by
      match a with
      | ⟨0, _⟩ => rfl
      | ⟨1, _⟩ => rfl⟩
    subst hy
    have hr := r.isLt
    obtain ⟨b, eb⟩ : ∃ b : Fin 128, b.val = ((grid0.coords t 0).val * 512 + r.val) / 8 := ⟨⟨_, by omega⟩, rfl⟩
    obtain ⟨s, es⟩ : ∃ s : Fin 8, s.val = ((grid0.coords t 0).val * 512 + r.val) % 8 := ⟨⟨_, Nat.mod_lt _ (by decide)⟩, rfl⟩
    have hR : (grid0.coords t 0).val * 512 + r.val = b.val * 8 + s.val := by omega
    have hg : G (((cfg0.win 11).blk t).view.emb (ix2 r j : S512x1024.Idx)) = rowAt m c b s j := by
      refine Eq.trans ?_ (hG b s ⟨(grid0.coords t 0).val * 512 + r.val, by omega⟩ j hR)
      refine congrArg G (funext fun a => Fin.ext ?_)
      refine (Pipeline.Window.rect_emb_val win0_11 t _ a).trans ?_
      have ht := tr11 (grid0.coords t)
      match a with
      | ⟨0, _⟩ => exact congrArg (· * 512 + r.val) (congrFun ht 0)
      | ⟨1, _⟩ =>
        have h0 : cc0_transform_11 (grid0.coords t) 1 = 0 := congrFun ht 1
        show cc0_transform_11 (grid0.coords t) 1 * 1024 + j.val = j.val
        rw [h0, Nat.zero_mul, Nat.zero_add]
    refine Eq.trans ?_ hg.symm
    show (dats m 0 c).flushed 11 t (ix2 r j : S512x1024.Idx) = _
    rw [Value.flushed11 m c t]
    exact block_val m c t r j b s hR
  · obtain ⟨R, C, rfl⟩ : ∃ (R : Fin 1024) (C : Fin 1024), i = (ix2 R C : S1024x1024.Idx) := ⟨i 0, i 1, funext fun a => by
      match a with
      | ⟨0, _⟩ => rfl
      | ⟨1, _⟩ => rfl⟩
    exact cover11 R C
end Blocks

end Cert.Kernel4Ideal.Tail
-- ==== Proof.TailRefSample.lean ====
module

public import proofs.«01_k».proof.Proof.Gen.Reference4Ideal.Run
public import proofs.«01_k».proof.Proof.TailRow
public import Idealize.ShloMosaic.Lib.IdealHost
public import Idealize.ShloMosaic.Lib.Pointwise
public import Idealize.ShloMosaic.Lib.ValueIdx

@[expose] public section

set_option maxRecDepth 8192

noncomputable section

namespace Cert.Reference4Ideal.Tail

open Idealize.ShloMosaic Idealize.ShloMosaic.TcCoe
open Cert.Reference4Ideal Cert.Reference4Ideal.Gen
open scoped BigOperators

abbrev Rs := FVec Ideal S128x8x1024 FTy.f32
abbrev Gn := FVec Ideal S1024 FTy.f32

/-! ## The reference's terms -/

def scale (x : Rs) : FVec Ideal S128x8x1 .f32 :=
  Host.rsqrt (addf (Host.divf
      (broadcastInDim S128x8x1 ![0, 1] bcast_S128x8_S128x8x1_0_1 (Host.reduceAdd (mulf x x) (constant S_ .f32 0x00000000#32) reducesTo_S128x8x1024_S128x8_d2 h_S_))
      (broadcastInDim S128x8x1 ![] bcast_S_S128x8x1 (constant S_ .f32 0x44800000#32))) (broadcastInDim S128x8x1 ![] bcast_S_S128x8x1 (constant S_ .f32 0x358637BD#32)))

def rms (x : Rs) (g : Gn) : Rs :=
  mulf (mulf x (broadcastInDim S128x8x1024 ![0, 1, 2] bcast_S128x8x1_S128x8x1024_0_1_2 (scale x)))
    (broadcastInDim S128x8x1024 ![0, 1, 2] bcast_S1x1x1024_S128x8x1024_0_1_2 (broadcastInDim S1x1x1024 ![2] bcast_S1024_S1x1x1024_2 g))

def mixed (y : Rs) (w : FVec Ideal S1024x1024 .f32) : Rs :=
  Host.dotGeneral (F := Ideal) (φ₁ := .f32) (φ₂ := .f32) dot_S128x8x1024_S1024x1024_S128x8x1024_2_0_01_1_n_n none y w

def mid (h y : Rs) (w : FVec Ideal S1024x1024 .f32) (g : Gn) : Rs := addf h (rms (mixed y w) g)

def units (x : Rs) (w : FVec Ideal S1024x5632 .f32) : FVec Ideal S128x8x5632 .f32 :=
  Host.dotGeneral (F := Ideal) (φ₁ := .f32) (φ₂ := .f32) dot_S128x8x1024_S1024x5632_S128x8x5632_2_0_01_1_n_n none x w

def gated (z : FVec Ideal S128x8x5632 .f32) : FVec Ideal S128x8x2816 .f32 :=
  mulf (mulf (extractStridedSlice S128x8x2816 ![0, 0, 0] z slices_S128x8x5632_S128x8x2816_0_0_0)
      (Host.divf (broadcastInDim S128x8x2816 ![] bcast_S_S128x8x2816 (constant S_ .f32 0x3F800000#32))
        (addf (broadcastInDim S128x8x2816 ![] bcast_S_S128x8x2816 (constant S_ .f32 0x3F800000#32))
          (Host.exp (Host.negf (extractStridedSlice S128x8x2816 ![0, 0, 0] z slices_S128x8x5632_S128x8x2816_0_0_0))))))
    (extractStridedSlice S128x8x2816 ![0, 0, 2816] z slices_S128x8x5632_S128x8x2816_0_0_2816)

def back (a : FVec Ideal S128x8x2816 .f32) (w : FVec Ideal S2816x1024 .f32) : Rs :=
  Host.dotGeneral (F := Ideal) (φ₁ := .f32) (φ₂ := .f32) dot_S128x8x2816_S2816x1024_S128x8x1024_2_0_01_1_n_n none a w

def layer (h y : Rs) (w : FVec Ideal S1024x1024 .f32) (g1 g2 g3 : Gn) (wgu : FVec Ideal S1024x5632 .f32) (wd : FVec Ideal S2816x1024 .f32) : Rs :=
  addf (mid h y w g1) (rms (back (gated (units (rms (mid h y w g1) g2) wgu)) wd) g3)

def out (h y : Rs) (w : FVec Ideal S1024x1024 .f32) (g1 g2 g3 : Gn) (wgu : FVec Ideal S1024x5632 .f32) (wd : FVec Ideal S2816x1024 .f32) :
    FVec Ideal S1024x1024 .f32 :=
  shapeCast S1024x1024 (layer h y w g1 g2 g3 wgu wd) shapeCasts_S128x8x1024_S1024x1024

theorem res_eq (m : (ℓ : Loc nD τ sig) → Buf (Elt Ideal) ℓ) (c : Dev nD) :
    Value.res_main_v48 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v48
  rfl

/-! ## Read at an entry -/

theorem rms_apply (x : Rs) (g : Gn) (b : Fin 128) (s : Fin 8) (j : Fin 1024) :
    rms x g (ix3 b s j) = Cert.Tail.rms (fun k => x (ix3 b s k)) (fun k => g (ix1 k)) j := by
  have es : ∀ z : FVec Ideal S128x8x1 .f32, broadcastInDim S128x8x1024 ![0, 1, 2] bcast_S128x8x1_S128x8x1024_0_1_2 z (ix3 b s j) = z (ix3 b s 0) := fun z => by
    refine broadcastInDim_apply _ _ z (ix3 b s j) (ix3 b s 0) fun a => ?_
    match a with
    | ⟨0, _⟩ => rfl
    | ⟨1, _⟩ => rfl
    | ⟨2, _⟩ => rfl
  have eg : broadcastInDim S128x8x1024 ![0, 1, 2] bcast_S1x1x1024_S128x8x1024_0_1_2 (broadcastInDim S1x1x1024 ![2] bcast_S1024_S1x1x1024_2 g) (ix3 b s j) = g (ix1 j) := by
    refine (broadcastInDim_apply _ _ _ (ix3 b s j) (ix3 0 0 j) fun a => ?_).trans ?_
    · match a with
      | ⟨0, _⟩ => rfl
      | ⟨1, _⟩ => rfl
      | ⟨2, _⟩ => rfl
    · refine broadcastInDim_apply _ _ g (ix3 0 0 j) (ix1 j) fun a => ?_
      match a with
      | ⟨0, _⟩ => rfl
  have ec : ∀ z : FVec Ideal S128x8 .f32, broadcastInDim S128x8x1 ![0, 1] bcast_S128x8_S128x8x1_0_1 z (ix3 b s 0) = z (ix2 b s) := fun z => by
    refine broadcastInDim_apply _ _ z (ix3 b s 0) (ix2 b s) fun a => ?_
    match a with
    | ⟨0, _⟩ => rfl
    | ⟨1, _⟩ => rfl
  have red : S128x8x1024.Reduces [2] S128x8 := by decide
  have er : Host.reduceAdd (mulf x x) (constant S_ .f32 0x00000000#32) reducesTo_S128x8x1024_S128x8_d2 h_S_ (ix2 b s) = ∑ k, x (ix3 b s k) * x (ix3 b s k) := by
    rw [ValueIdx.hostReduceAdd_apply]
    have e0 : Ideal.hostReduceAdd reducesTo_S128x8x1024_S128x8_d2 (mulf x x) (Ideal.ofBits .f32 0x00000000#32) (ix2 b s)
        = Ideal.ofBits .f32 0x00000000#32 + Ideal.reduceAdd red (mulf x x) (ix2 b s) := rfl
    refine e0.trans ?_
    rw [Ideal.ofBits_zero_f32, zero_add]
    refine (Ideal.reduceAdd_single red _ (ix2 b s)).trans ?_
    refine Finset.sum_congr rfl fun k _ => ?_
    have el : (red.lift (ix2 b s) k) = (ix3 b s k : S128x8x1024.Idx) := funext fun a => Fin.ext (by
      match a with
      | ⟨0, _⟩ => rfl
      | ⟨1, _⟩ => rfl
      | ⟨2, _⟩ => rfl)
    rw [el]; rfl
  unfold rms
  show x (ix3 b s j) * broadcastInDim S128x8x1024 ![0, 1, 2] bcast_S128x8x1_S128x8x1024_0_1_2 (scale x) (ix3 b s j)
    * broadcastInDim S128x8x1024 ![0, 1, 2] bcast_S1x1x1024_S128x8x1024_0_1_2 (broadcastInDim S1x1x1024 ![2] bcast_S1024_S1x1x1024_2 g) (ix3 b s j) = _
  rw [es, eg]
  have e0 : scale x (ix3 b s 0) = Ideal.rsqrt (Ideal.div (broadcastInDim S128x8x1 ![0, 1] bcast_S128x8_S128x8x1_0_1
      (Host.reduceAdd (mulf x x) (constant S_ .f32 0x00000000#32) reducesTo_S128x8x1024_S128x8_d2 h_S_) (ix3 b s 0)) (Ideal.ofBits .f32 0x44800000#32) + Ideal.ofBits .f32 0x358637BD#32) := rfl
  rw [e0, ec, er]
  rfl

theorem mixed_apply (y : Rs) (w : FVec Ideal S1024x1024 .f32) (b : Fin 128) (s : Fin 8) (j : Fin 1024) :
    mixed y w (ix3 b s j) = ∑ k : Fin 1024, y (ix3 b s k) * w (ix2 k j) := by
  show FloatOps.dotGeneral _ none _ y w (ix3 b s j) = _
  rw [Ideal.dotGeneral_apply, ← Equiv.sum_comp (ValueIdx.contrEquiv1 dot_S128x8x1024_S1024x1024_S128x8x1024_2_0_01_1_n_n 1024 rfl rfl).symm]
  refine Finset.sum_congr rfl fun d _ => ?_
  have c := ValueIdx.contrEquiv1_symm_val dot_S128x8x1024_S1024x1024_S128x8x1024_2_0_01_1_n_n 1024 rfl rfl d
  congr 2
  · funext a; apply Fin.ext
    match a with
    | ⟨0, _⟩ => rfl
    | ⟨1, _⟩ => rfl
    | ⟨2, _⟩ => exact c
  · funext a; apply Fin.ext
    match a with
    | ⟨0, _⟩ => exact c
    | ⟨1, _⟩ => rfl

theorem units_apply (x : Rs) (w : FVec Ideal S1024x5632 .f32) (b : Fin 128) (s : Fin 8) (n : Fin 5632) :
    units x w (ix3 b s n) = ∑ k : Fin 1024, x (ix3 b s k) * w (ix2 k n) := by
  show FloatOps.dotGeneral _ none _ x w (ix3 b s n) = _
  rw [Ideal.dotGeneral_apply, ← Equiv.sum_comp (ValueIdx.contrEquiv1 dot_S128x8x1024_S1024x5632_S128x8x5632_2_0_01_1_n_n 1024 rfl rfl).symm]
  refine Finset.sum_congr rfl fun d _ => ?_
  have c := ValueIdx.contrEquiv1_symm_val dot_S128x8x1024_S1024x5632_S128x8x5632_2_0_01_1_n_n 1024 rfl rfl d
  congr 2
  · funext a; apply Fin.ext
    match a with
    | ⟨0, _⟩ => rfl
    | ⟨1, _⟩ => rfl
    | ⟨2, _⟩ => exact c
  · funext a; apply Fin.ext
    match a with
    | ⟨0, _⟩ => exact c
    | ⟨1, _⟩ => rfl

theorem back_apply (x : FVec Ideal S128x8x2816 .f32) (w : FVec Ideal S2816x1024 .f32) (b : Fin 128) (s : Fin 8) (j : Fin 1024) :
    back x w (ix3 b s j) = ∑ n : Fin 2816, x (ix3 b s n) * w (ix2 n j) := by
  show FloatOps.dotGeneral _ none _ x w (ix3 b s j) = _
  rw [Ideal.dotGeneral_apply, ← Equiv.sum_comp (ValueIdx.contrEquiv1 dot_S128x8x2816_S2816x1024_S128x8x1024_2_0_01_1_n_n 2816 rfl rfl).symm]
  refine Finset.sum_congr rfl fun d _ => ?_
  have c := ValueIdx.contrEquiv1_symm_val dot_S128x8x2816_S2816x1024_S128x8x1024_2_0_01_1_n_n 2816 rfl rfl d
  congr 2
  · funext a; apply Fin.ext
    match a with
    | ⟨0, _⟩ => rfl
    | ⟨1, _⟩ => rfl
    | ⟨2, _⟩ => exact c
  · funext a; apply Fin.ext
    match a with
    | ⟨0, _⟩ => exact c
    | ⟨1, _⟩ => rfl

/-- A hidden unit's column of the gate's half, and of the other half. -/
abbrev lo (n : Fin 2816) : Fin 5632 := ⟨n.val, by omega⟩
abbrev hi (n : Fin 2816) : Fin 5632 := ⟨2816 + n.val, by omega⟩

theorem gated_apply (z : FVec Ideal S128x8x5632 .f32) (b : Fin 128) (s : Fin 8) (n : Fin 2816) :
    gated z (ix3 b s n) = Cert.Tail.act (z (ix3 b s (lo n))) (z (ix3 b s (hi n))) := by
  have e1 : extractStridedSlice S128x8x2816 ![0, 0, 0] z slices_S128x8x5632_S128x8x2816_0_0_0 (ix3 b s n) = z (ix3 b s (lo n)) :=
    extractStridedSlice_apply _ _ _ (ix3 b s n) (ix3 b s (lo n)) fun a => by
      match a with
      | ⟨0, _⟩ => exact (Nat.zero_add _).symm
      | ⟨1, _⟩ => exact (Nat.zero_add _).symm
      | ⟨2, _⟩ => exact (Nat.zero_add _).symm
  have e2 : extractStridedSlice S128x8x2816 ![0, 0, 2816] z slices_S128x8x5632_S128x8x2816_0_0_2816 (ix3 b s n) = z (ix3 b s (hi n)) :=
    extractStridedSlice_apply _ _ _ (ix3 b s n) (ix3 b s (hi n)) fun a => by
      match a with
      | ⟨0, _⟩ => exact (Nat.zero_add _).symm
      | ⟨1, _⟩ => exact (Nat.zero_add _).symm
      | ⟨2, _⟩ => rfl
  unfold gated
  show extractStridedSlice S128x8x2816 ![0, 0, 0] z slices_S128x8x5632_S128x8x2816_0_0_0 (ix3 b s n)
    * Ideal.div (Ideal.ofBits .f32 0x3F800000#32) (Ideal.ofBits .f32 0x3F800000#32 + Ideal.exp (-(extractStridedSlice S128x8x2816 ![0, 0, 0] z slices_S128x8x5632_S128x8x2816_0_0_0 (ix3 b s n))))
    * extractStridedSlice S128x8x2816 ![0, 0, 2816] z slices_S128x8x5632_S128x8x2816_0_0_2816 (ix3 b s n) = _
  rw [e1, e2, Ideal.ofBits_one_f32]
  rfl

theorem layer_apply (h y : Rs) (w : FVec Ideal S1024x1024 .f32) (g1 g2 g3 : Gn) (wgu : FVec Ideal S1024x5632 .f32) (wd : FVec Ideal S2816x1024 .f32)
    (b : Fin 128) (s : Fin 8) (j : Fin 1024) :
    layer h y w g1 g2 g3 wgu wd (ix3 b s j)
      = Cert.Tail.row (fun k => h (ix3 b s k)) (fun k => ∑ i, y (ix3 b s i) * w (ix2 i k)) (fun k => g1 (ix1 k)) (fun k => g2 (ix1 k)) (fun k => g3 (ix1 k))
        (fun d n => wgu (ix2 d (lo n))) (fun d n => wgu (ix2 d (hi n))) (fun n k => wd (ix2 n k)) j := by
  have em : (fun k => mid h y w g1 (ix3 b s k)) = Cert.Tail.mid (fun k => h (ix3 b s k)) (fun k => ∑ i, y (ix3 b s i) * w (ix2 i k)) (fun k => g1 (ix1 k)) := funext fun k => by
    show h (ix3 b s k) + rms (mixed y w) g1 (ix3 b s k) = _
    rw [rms_apply]
    simp only [mixed_apply]
    rfl
  have en : (fun k => rms (mid h y w g1) g2 (ix3 b s k)) = Cert.Tail.rms (Cert.Tail.mid (fun k => h (ix3 b s k)) (fun k => ∑ i, y (ix3 b s i) * w (ix2 i k)) (fun k => g1 (ix1 k))) (fun k => g2 (ix1 k)) := funext fun k => by
    rw [rms_apply, em]
  have ef : (fun k => back (gated (units (rms (mid h y w g1) g2) wgu)) wd (ix3 b s k))
      = Cert.Tail.ffn (fun k => rms (mid h y w g1) g2 (ix3 b s k)) (fun d n => wgu (ix2 d (lo n))) (fun d n => wgu (ix2 d (hi n))) (fun n k => wd (ix2 n k)) := funext fun k => by
    rw [back_apply]
    simp only [gated_apply, units_apply]
    rfl
  show mid h y w g1 (ix3 b s j) + rms _ g3 (ix3 b s j) = _
  rw [rms_apply, ef, en, congrFun em j]
  rfl

theorem out_apply (h y : Rs) (w : FVec Ideal S1024x1024 .f32) (g1 g2 g3 : Gn) (wgu : FVec Ideal S1024x5632 .f32) (wd : FVec Ideal S2816x1024 .f32)
    (b : Fin 128) (s : Fin 8) (R : Fin 1024) (j : Fin 1024) (hR : R.val = b.val * 8 + s.val) :
    out h y w g1 g2 g3 wgu wd (ix2 R j)
      = Cert.Tail.row (fun k => h (ix3 b s k)) (fun k => ∑ i, y (ix3 b s i) * w (ix2 i k)) (fun k => g1 (ix1 k)) (fun k => g2 (ix1 k)) (fun k => g3 (ix1 k))
        (fun d n => wgu (ix2 d (lo n))) (fun d n => wgu (ix2 d (hi n))) (fun n k => wd (ix2 n k)) j := by
  refine (shapeCast_apply _ _ (ix2 R j) (ix3 b s j) ?_).trans (layer_apply h y w g1 g2 g3 wgu wd b s j)
  rw [Shape.rowMajor_val_three, Shape.rowMajor_val_two]
  show (b.val * 8 + s.val) * 1024 + j.val = R.val * 1024 + j.val
  rw [hR]

end Cert.Reference4Ideal.Tail
-- ==== Proof.TailTwoSample.lean ====
module

public import proofs.«01_k».proof.Proof.Gen.Kernel9Ideal.Value
public import proofs.«01_k».proof.Proof.TailTwoArr
public import Idealize.ShloMosaic.Lib.StableHlo.Run

@[expose] public section

set_option maxRecDepth 1024

noncomputable section

namespace Cert.Kernel9Ideal.Tail

open Idealize.ShloMosaic Idealize.ShloMosaic.TcCoe Idealize.SL.Sem
open Cert.Kernel9Ideal Cert.Kernel9Ideal.Gen
open Cert.Kernel2Ideal.Tail (lo hi)
open Cert.Kernel3Ideal.Tail (yrow out_row sum_two fst snd gain_apply)
open scoped BigOperators

/-! ## Which block each window stages -/

theorem tr0 : ∀ i : grid0.Coords, cc0_transform_0 i = ![(i 0).val, 0] := by decide +kernel
theorem tr1 : ∀ i : grid0.Coords, cc0_transform_1 i = ![(i 0).val, 0] := by decide +kernel
theorem tr2 : ∀ i : grid0.Coords, cc0_transform_2 i = ![(i 0).val, 0] := by decide +kernel
theorem tr3 : ∀ i : grid0.Coords, cc0_transform_3 i = ![0, 0] := by decide +kernel
theorem tr4 : ∀ i : grid0.Coords, cc0_transform_4 i = ![0, 0] := by decide +kernel
theorem tr5 : ∀ i : grid0.Coords, cc0_transform_5 i = ![0, 0] := by decide +kernel
theorem tr6 : ∀ i : grid0.Coords, cc0_transform_6 i = ![0, 0] := by decide +kernel
theorem tr7 : ∀ i : grid0.Coords, cc0_transform_7 i = ![0, 0] := by decide +kernel
theorem tr8 : ∀ i : grid0.Coords, cc0_transform_8 i = ![0, 0] := by decide +kernel
theorem tr9 : ∀ i : grid0.Coords, cc0_transform_9 i = ![(i 0).val, 0] := by decide +kernel

/-! ## What the host prepares -/

section Host
variable (m : (ℓ : Loc nD τ sig) → Buf (Elt Ideal) ℓ) (c : Dev nD)

abbrev aH : FVec Ideal S128x8x1024 .f32 := m ((c : Thread nD τ).loc main_arg0)
abbrev aY : FVec Ideal S128x8x1024 .f32 := m ((c : Thread nD τ).loc main_arg1)
abbrev aW : FVec Ideal S1024x1024 .f32 := m ((c : Thread nD τ).loc main_arg2)
abbrev aG1 : FVec Ideal S1024 .f32 := m ((c : Thread nD τ).loc main_arg3)
abbrev aG2 : FVec Ideal S1024 .f32 := m ((c : Thread nD τ).loc main_arg4)
abbrev aG3 : FVec Ideal S1024 .f32 := m ((c : Thread nD τ).loc main_arg5)
abbrev aU : FVec Ideal S1024x5632 .f32 := m ((c : Thread nD τ).loc main_arg6)
abbrev aD : FVec Ideal S2816x1024 .f32 := m ((c : Thread nD τ).loc main_arg7)

/-- The first 768 columns of the mixer's output, in rows. -/
def first (y : FVec Ideal S128x8x1024 .f32) : FVec Ideal S1024x768 .bf16 :=
  truncf .bf16 (shapeCast S1024x768 (extractStridedSlice S128x8x768 ![0, 0, 0] y slices_S128x8x1024_S128x8x768_0_0_0) shapeCasts_S128x8x768_S1024x768) bitsLt_bf16_f32

/-- The last 256. -/
def last (y : FVec Ideal S128x8x1024 .f32) : FVec Ideal S1024x256 .bf16 :=
  truncf .bf16 (shapeCast S1024x256 (extractStridedSlice S128x8x256 ![0, 0, 768] y slices_S128x8x1024_S128x8x256_0_0_768) shapeCasts_S128x8x256_S1024x256) bitsLt_bf16_f32

theorem V_h : @Eq (FVec Ideal S1024x1024 .f32) (V m c main_v0) (shapeCast S1024x1024 (aH m c) shapeCasts_S128x8x1024_S1024x1024) := by
  show StableHlo.after hostOps0 _ (Proc.devRef .tc main_v0) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m0 : @Eq (FVec Ideal S1024x768 .bf16) (V m c main_v3) (first (aY m c)) := by
  show StableHlo.after hostOps0 _ (Proc.devRef .tc main_v3) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_m1 : @Eq (FVec Ideal S1024x256 .bf16) (V m c main_v6) (last (aY m c)) := by
  show StableHlo.after hostOps0 _ (Proc.devRef .tc main_v6) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_w : @Eq (FVec Ideal S1024x1024 .bf16) (V m c main_v7) (truncf .bf16 (aW m c) bitsLt_bf16_f32) := by
  show StableHlo.after hostOps0 _ (Proc.devRef .tc main_v7) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g1 : @Eq (FVec Ideal S1x1024 .f32) (V m c main_v8) (broadcastInDim S1x1024 ![1] bcast_S1024_S1x1024_1 (aG1 m c)) := by
  show StableHlo.after hostOps0 _ (Proc.devRef .tc main_v8) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g2 : @Eq (FVec Ideal S1x1024 .f32) (V m c main_v9) (broadcastInDim S1x1024 ![1] bcast_S1024_S1x1024_1 (aG2 m c)) := by
  show StableHlo.after hostOps0 _ (Proc.devRef .tc main_v9) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_g3 : @Eq (FVec Ideal S1x1024 .f32) (V m c main_v10) (broadcastInDim S1x1024 ![1] bcast_S1024_S1x1024_1 (aG3 m c)) := by
  show StableHlo.after hostOps0 _ (Proc.devRef .tc main_v10) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_u : @Eq (FVec Ideal S1024x5632 .bf16) (V m c main_v11) (truncf .bf16 (aU m c) bitsLt_bf16_f32) := by
  show StableHlo.after hostOps0 _ (Proc.devRef .tc main_v11) = _
  simp only [hostOps0, StableHlo.TRef.binary, StableHlo.TRef.nullary, StableHlo.TRef.ternary, StableHlo.TRef.unary, StableHlo.TRef.toBuf, StableHlo.TRef.ofBuf, cast_eq]
  after_results_simp
  all_goals rfl

theorem V_d : @Eq (FVec Ideal S2816x1024 .bf16) (V m c main_v12) (truncf .bf16 (aD m c) bitsLt_bf16_f32) := by
  show StableHlo.after hostOps0 _ (Proc.devRef .tc main_v12) = _
  simp only [hostOps0, StableHlo.TRef.binary, StableHlo.TRef.nullary, StableHlo.TRef.ternary, StableHlo.TRef.unary, StableHlo.TRef.toBuf, StableHlo.TRef.ofBuf, cast_eq]
  after_results_simp
  all_goals rfl

end Host

/-! ## What it prepares, read at an entry -/

theorem first_apply (y : FVec Ideal S128x8x1024 .f32) (b : Fin 128) (s : Fin 8) (R : Fin 1024) (l : Fin 768) (hR : R.val = b.val * 8 + s.val) :
    first y (ix2 R l) = y (ix3 b s (fst l)) := by
  show shapeCast S1024x768 (extractStridedSlice S128x8x768 ![0, 0, 0] y slices_S128x8x1024_S128x8x768_0_0_0) shapeCasts_S128x8x768_S1024x768 (ix2 R l) = _
  refine (shapeCast_apply _ _ (ix2 R l) (ix3 b s l) ?_).trans ?_
  · rw [Shape.rowMajor_val_three, Shape.rowMajor_val_two]
    show (b.val * 8 + s.val) * 768 + l.val = R.val * 768 + l.val
    omega
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

theorem last_apply (y : FVec Ideal S128x8x1024 .f32) (b : Fin 128) (s : Fin 8) (R : Fin 1024) (l : Fin 256) (hR : R.val = b.val * 8 + s.val) :
    last y (ix2 R l) = y (ix3 b s (snd l)) := by
  show shapeCast S1024x256 (extractStridedSlice S128x8x256 ![0, 0, 768] y slices_S128x8x1024_S128x8x256_0_0_768) shapeCasts_S128x8x256_S1024x256 (ix2 R l) = _
  refine (shapeCast_apply _ _ (ix2 R l) (ix3 b s l) ?_).trans ?_
  · rw [Shape.rowMajor_val_three, Shape.rowMajor_val_two]
    show (b.val * 8 + s.val) * 256 + l.val = R.val * 256 + l.val
    omega
  refine extractStridedSlice_apply _ _ _ _ _ fun a => ?_
  match a with
  | ⟨0, _⟩ => exact (Nat.zero_add _).symm
  | ⟨1, _⟩ => exact (Nat.zero_add _).symm
  | ⟨2, _⟩ => rfl

section Blocks
variable (m : (ℓ : Loc nD τ sig) → Buf (Elt Ideal) ℓ) (c : Dev nD)

/-! ## What a grid point's blocks hold -/

theorem iblk0 (t : Fin cfg0.N) (r : Fin 512) (k : Fin 1024) (R : Fin 1024) (hR : R.val = (grid0.coords t 0).val * 512 + r.val) :
    iblk m c 0 t (ix2 r k) = V m c main_v0 (ix2 R k) := by
  show V m c main_v0 ((win0_0.rect t).emb (ix2 r k)) = _
  refine congrArg _ (funext fun a => Fin.ext ?_)
  refine (Pipeline.Window.rect_emb_val win0_0 t _ a).trans ?_
  have ht := tr0 (grid0.coords t)
  match a with
  | ⟨0, _⟩ => exact (congrArg (· * 512 + r.val) (congrFun ht 0)).trans hR.symm
  | ⟨1, _⟩ => exact (congrArg (· * 1024 + k.val) (congrFun ht 1)).trans (by show 0 * 1024 + k.val = k.val; omega)

theorem iblk1 (t : Fin cfg0.N) (r : Fin 512) (k : Fin 768) (R : Fin 1024) (hR : R.val = (grid0.coords t 0).val * 512 + r.val) :
    iblk m c 1 t (ix2 r k) = V m c main_v3 (ix2 R k) := by
  show V m c main_v3 ((win0_1.rect t).emb (ix2 r k)) = _
  refine congrArg _ (funext fun a => Fin.ext ?_)
  refine (Pipeline.Window.rect_emb_val win0_1 t _ a).trans ?_
  have ht := tr1 (grid0.coords t)
  match a with
  | ⟨0, _⟩ => exact (congrArg (· * 512 + r.val) (congrFun ht 0)).trans hR.symm
  | ⟨1, _⟩ => exact (congrArg (· * 768 + k.val) (congrFun ht 1)).trans (by show 0 * 768 + k.val = k.val; omega)

theorem iblk2 (t : Fin cfg0.N) (r : Fin 512) (k : Fin 256) (R : Fin 1024) (hR : R.val = (grid0.coords t 0).val * 512 + r.val) :
    iblk m c 2 t (ix2 r k) = V m c main_v6 (ix2 R k) := by
  show V m c main_v6 ((win0_2.rect t).emb (ix2 r k)) = _
  refine congrArg _ (funext fun a => Fin.ext ?_)
  refine (Pipeline.Window.rect_emb_val win0_2 t _ a).trans ?_
  have ht := tr2 (grid0.coords t)
  match a with
  | ⟨0, _⟩ => exact (congrArg (· * 512 + r.val) (congrFun ht 0)).trans hR.symm
  | ⟨1, _⟩ => exact (congrArg (· * 256 + k.val) (congrFun ht 1)).trans (by show 0 * 256 + k.val = k.val; omega)

theorem iblk3 (t : Fin cfg0.N) (r : Fin 1024) (k : Fin 1024) : iblk m c 3 t (ix2 r k) = V m c main_v7 (ix2 r k) := by
  show V m c main_v7 ((win0_3.rect t).emb (ix2 r k)) = _
  refine congrArg _ (funext fun a => Fin.ext ?_)
  refine (Pipeline.Window.rect_emb_val win0_3 t _ a).trans ?_
  have ht := tr3 (grid0.coords t)
  match a with
  | ⟨0, _⟩ => exact (congrArg (· * 1024 + r.val) (congrFun ht 0)).trans (by show 0 * 1024 + r.val = r.val; omega)
  | ⟨1, _⟩ => exact (congrArg (· * 1024 + k.val) (congrFun ht 1)).trans (by show 0 * 1024 + k.val = k.val; omega)

theorem iblk4 (t : Fin cfg0.N) (r : Fin 1) (k : Fin 1024) : iblk m c 4 t (ix2 r k) = V m c main_v8 (ix2 r k) := by
  show V m c main_v8 ((win0_4.rect t).emb (ix2 r k)) = _
  refine congrArg _ (funext fun a => Fin.ext ?_)
  refine (Pipeline.Window.rect_emb_val win0_4 t _ a).trans ?_
  have ht := tr4 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk5 (t : Fin cfg0.N) (r : Fin 1) (k : Fin 1024) : iblk m c 5 t (ix2 r k) = V m c main_v9 (ix2 r k) := by
  show V m c main_v9 ((win0_5.rect t).emb (ix2 r k)) = _
  refine congrArg _ (funext fun a => Fin.ext ?_)
  refine (Pipeline.Window.rect_emb_val win0_5 t _ a).trans ?_
  have ht := tr5 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk6 (t : Fin cfg0.N) (r : Fin 1) (k : Fin 1024) : iblk m c 6 t (ix2 r k) = V m c main_v10 (ix2 r k) := by
  show V m c main_v10 ((win0_6.rect t).emb (ix2 r k)) = _
  refine congrArg _ (funext fun a => Fin.ext ?_)
  refine (Pipeline.Window.rect_emb_val win0_6 t _ a).trans ?_
  have ht := tr6 (grid0.coords t)
  match a with
  | ⟨0, _⟩ => exact (congrArg (· * 1 + r.val) (congrFun ht 0)).trans (by show 0 * 1 + r.val = r.val; omega)
  | ⟨1, _⟩ => exact (congrArg (· * 1024 + k.val) (congrFun ht 1)).trans (by show 0 * 1024 + k.val = k.val; omega)

theorem iblk7 (t : Fin cfg0.N) (r : Fin 1024) (k : Fin 5632) : iblk m c 7 t (ix2 r k) = V m c main_v11 (ix2 r k) := by
  show V m c main_v11 ((win0_7.rect t).emb (ix2 r k)) = _
  refine congrArg _ (funext fun a => Fin.ext ?_)
  refine (Pipeline.Window.rect_emb_val win0_7 t _ a).trans ?_
  have ht := tr7 (grid0.coords t)
  match a with
  | ⟨0, _⟩ => exact (congrArg (· * 1024 + r.val) (congrFun ht 0)).trans (by show 0 * 1024 + r.val = r.val; omega)
  | ⟨1, _⟩ => exact (congrArg (· * 5632 + k.val) (congrFun ht 1)).trans (by show 0 * 5632 + k.val = k.val; omega)

theorem iblk8 (t : Fin cfg0.N) (r : Fin 2816) (k : Fin 1024) : iblk m c 8 t (ix2 r k) = V m c main_v12 (ix2 r k) := by
  show V m c main_v12 ((win0_8.rect t).emb (ix2 r k)) = _
  refine congrArg _ (funext fun a => Fin.ext ?_)
  refine (Pipeline.Window.rect_emb_val win0_8 t _ a).trans ?_
  have ht := tr8 (grid0.coords t)
  match a with
  | ⟨0, _⟩ => exact (congrArg (· * 2816 + r.val) (congrFun ht 0)).trans (by show 0 * 2816 + r.val = r.val; omega)
  | ⟨1, _⟩ => exact (congrArg (· * 1024 + k.val) (congrFun ht 1)).trans (by show 0 * 1024 + k.val = k.val; omega)

/-- The layer's row of the arguments. -/
abbrev rowAt (b : Fin 128) (s : Fin 8) (j : Fin 1024) : EReal :=
  Cert.Tail.row (fun k => aH m c (ix3 b s k)) (fun k => ∑ i, aY m c (ix3 b s i) * aW m c (ix2 i k)) (fun k => aG1 m c (ix1 k)) (fun k => aG2 m c (ix1 k)) (fun k => aG3 m c (ix1 k))
    (fun d n => aU m c (ix2 d (lo n))) (fun d n => aU m c (ix2 d (hi n))) (fun n k => aD m c (ix2 n k)) j

/-- The sample's block computes as the prompt's: the two kernels' bodies are one text. -/
theorem block_same (x0 : Vec Ideal S512x1024 .f32) (x1 : Vec Ideal S512x768 .bf16) (x2 : Vec Ideal S512x256 .bf16) (x3 : Vec Ideal S1024x1024 .bf16) (x4 x5 x6 : Vec Ideal S1x1024 .f32)
    (x7 : Vec Ideal S1024x5632 .bf16) (x8 : Vec Ideal S2816x1024 .bf16) :
    out0_9 (F := Ideal) x0 x1 x2 x3 x4 x5 x6 x7 x8 = Cert.Kernel3Ideal.Gen.out0_9 (F := Ideal) x0 x1 x2 x3 x4 x5 x6 x7 x8 := rfl

theorem block_val (t : Fin cfg0.N) (r : Fin 512) (j : Fin 1024) (b : Fin 128) (s : Fin 8) (hR : (grid0.coords t 0).val * 512 + r.val = b.val * 8 + s.val) :
    out0_9 (F := Ideal) (iblk m c 0 t) (iblk m c 1 t) (iblk m c 2 t) (iblk m c 3 t) (iblk m c 4 t) (iblk m c 5 t) (iblk m c 6 t) (iblk m c 7 t) (iblk m c 8 t) (ix2 r j)
      = rowAt m c b s j := by
  have hb := b.isLt
  have hs := s.isLt
  obtain ⟨R, hR'⟩ : ∃ R : Fin 1024, R.val = b.val * 8 + s.val := ⟨⟨b.val * 8 + s.val, by omega⟩, rfl⟩
  have hRt : R.val = (grid0.coords t 0).val * 512 + r.val := hR'.trans hR.symm
  refine (congrFun (block_same _ _ _ _ _ _ _ _ _) _).trans ((out_row (iblk m c 0 t) (iblk m c 1 t) (iblk m c 2 t) (iblk m c 3 t) (iblk m c 4 t) (iblk m c 5 t) (iblk m c 6 t) (iblk m c 7 t) (iblk m c 8 t) r j).trans ?_)
  have e0 : (fun k : Fin 1024 => (iblk m c 0 t : Vec Ideal S512x1024 .f32) (ix2 r k)) = fun k => aH m c (ix3 b s k) := funext fun k => by
    refine (iblk0 m c t r k R hRt).trans ((congrFun (V_h m c) _).trans (shapeCast_apply _ _ (ix2 R k) (ix3 b s k) ?_))
    rw [Shape.rowMajor_val_three, Shape.rowMajor_val_two]
    show (b.val * 8 + s.val) * 1024 + k.val = R.val * 1024 + k.val
    rw [hR']
  have w : ∀ i k : Fin 1024, (iblk m c 3 t : Vec Ideal S1024x1024 .bf16) (ix2 i k) = aW m c (ix2 i k) := fun i k =>
    (iblk3 m c t i k).trans (congrFun (V_w m c) _)
  have m0 : ∀ l : Fin 768, (iblk m c 1 t : Vec Ideal S512x768 .bf16) (ix2 r l) = aY m c (ix3 b s (fst l)) := fun l =>
    (iblk1 m c t r l R hRt).trans ((congrFun (V_m0 m c) _).trans (first_apply _ b s R l hR'))
  have m1 : ∀ l : Fin 256, (iblk m c 2 t : Vec Ideal S512x256 .bf16) (ix2 r l) = aY m c (ix3 b s (snd l)) := fun l =>
    (iblk2 m c t r l R hRt).trans ((congrFun (V_m1 m c) _).trans (last_apply _ b s R l hR'))
  have ey : yrow (iblk m c 1 t) (iblk m c 2 t) (iblk m c 3 t) r = fun k => ∑ i, aY m c (ix3 b s i) * aW m c (ix2 i k) := funext fun k => by
    rw [sum_two (fun i => aY m c (ix3 b s i) * aW m c (ix2 i k))]
    unfold yrow
    simp only [m0, m1, w]
  have g1 : (fun k : Fin 1024 => (iblk m c 4 t : Vec Ideal S1x1024 .f32) (ix2 0 k)) = fun k => aG1 m c (ix1 k) := funext fun k =>
    (iblk4 m c t 0 k).trans ((congrFun (V_g1 m c) _).trans (gain_apply _ k))
  have g2 : (fun k : Fin 1024 => (iblk m c 5 t : Vec Ideal S1x1024 .f32) (ix2 0 k)) = fun k => aG2 m c (ix1 k) := funext fun k =>
    (iblk5 m c t 0 k).trans ((congrFun (V_g2 m c) _).trans (gain_apply _ k))
  have g3 : (fun k : Fin 1024 => (iblk m c 6 t : Vec Ideal S1x1024 .f32) (ix2 0 k)) = fun k => aG3 m c (ix1 k) := funext fun k =>
    (iblk6 m c t 0 k).trans ((congrFun (V_g3 m c) _).trans (gain_apply _ k))
  have u : ∀ (d : Fin 1024) (n : Fin 5632), (iblk m c 7 t : Vec Ideal S1024x5632 .bf16) (ix2 d n) = aU m c (ix2 d n) := fun d n =>
    (iblk7 m c t d n).trans (congrFun (V_u m c) _)
  have e : ∀ (n : Fin 2816) (k : Fin 1024), (iblk m c 8 t : Vec Ideal S2816x1024 .bf16) (ix2 n k) = aD m c (ix2 n k) := fun n k =>
    (iblk8 m c t n k).trans (congrFun (V_d m c) _)
  rw [e0, ey, g1, g2, g3]
  simp only [u, e]

/-! ## The kernel's result -/

theorem cover9 (R : Fin 1024) (C : Fin 1024) : ∃ t : Fin cfg0.N, (cfg0.win 9).flush t = true ∧ (ix2 R C : S1024x1024.Idx) ∈ ((cfg0.win 9).blk t).view.set := by
  have hR := R.isLt
  obtain ⟨t, ht⟩ : ∃ t : Fin cfg0.N, t.val = R.val / 512 := ⟨⟨R.val / 512, by show _ < grid0.N; rw [N_0]; omega⟩, rfl⟩
  refine ⟨t, flush0_9 t, ?_⟩
  have h9 := tr9 (grid0.coords t)
  have c0 : (grid0.coords t 0).val = R.val / 512 := (Pipeline.Grid.coords_val (G := grid0) t 0 (S := 1) (B := 2) (by decide) rfl).trans (by omega)
  have key := View.emb_mem_set ((cfg0.win 9).blk t).view (ix2 (⟨R.val % 512, by omega⟩ : Fin 512) C : S512x1024.Idx)
  have e : ((cfg0.win 9).blk t).view.emb (ix2 (⟨R.val % 512, by omega⟩ : Fin 512) C : S512x1024.Idx) = (ix2 R C : S1024x1024.Idx) := by
    refine funext fun a => Fin.ext ?_
    refine (Pipeline.Window.rect_emb_val win0_9 t _ a).trans ?_
    match a with
    | ⟨0, _⟩ =>
      have h0 : cc0_transform_9 (grid0.coords t) 0 = (grid0.coords t 0).val := congrFun h9 0
      show cc0_transform_9 (grid0.coords t) 0 * 512 + R.val % 512 = R.val
      rw [h0, c0]
      omega
    | ⟨1, _⟩ =>
      have h0 : cc0_transform_9 (grid0.coords t) 1 = 0 := congrFun h9 1
      show cc0_transform_9 (grid0.coords t) 1 * 1024 + C.val = C.val
      rw [h0]
      omega
  rw [e] at key
  exact key

theorem arr_val (G : FVec Ideal S1024x1024 .f32)
    (hG : ∀ (b : Fin 128) (s : Fin 8) (R : Fin 1024) (j : Fin 1024), R.val = b.val * 8 + s.val → G (ix2 R j) = rowAt m c b s j) :
    @Eq (FVec Ideal S1024x1024 .f32) ((dats m 0 c).arrAt 9 cfg0.N) G := by
  funext (x : S1024x1024.Idx)
  have hx : x = ix2 (x 0) (x 1) := funext fun a => by
    match a with
    | ⟨0, _⟩ => rfl
    | ⟨1, _⟩ => rfl
  rw [hx]
  refine Pipeline.Dat.arrAt_forall_of_cover (dats m 0 c) 9 (fun i v => v = G i) (fun t _ y => ?_) (fun i => ?_) (ix2 (x 0) (x 1))
  · have hb : (grid0.coords t 0).val < 2 := (grid0.coords t 0).isLt
    obtain ⟨r, j, hy⟩ : ∃ (r : Fin 512) (j : Fin 1024), y = (ix2 r j : S512x1024.Idx) := ⟨y 0, y 1, funext fun a => by
      match a with
      | ⟨0, _⟩ => rfl
      | ⟨1, _⟩ => rfl⟩
    subst hy
    have hr := r.isLt
    obtain ⟨b, eb⟩ : ∃ b : Fin 128, b.val = ((grid0.coords t 0).val * 512 + r.val) / 8 := ⟨⟨_, by omega⟩, rfl⟩
    obtain ⟨s, es⟩ : ∃ s : Fin 8, s.val = ((grid0.coords t 0).val * 512 + r.val) % 8 := ⟨⟨_, Nat.mod_lt _ (by decide)⟩, rfl⟩
    have hR : (grid0.coords t 0).val * 512 + r.val = b.val * 8 + s.val := by omega
    have hg : G (((cfg0.win 9).blk t).view.emb (ix2 r j : S512x1024.Idx)) = rowAt m c b s j := by
      refine Eq.trans ?_ (hG b s ⟨(grid0.coords t 0).val * 512 + r.val, by omega⟩ j hR)
      refine congrArg G (funext fun a => Fin.ext ?_)
      refine (Pipeline.Window.rect_emb_val win0_9 t _ a).trans ?_
      have ht := tr9 (grid0.coords t)
      match a with
      | ⟨0, _⟩ => exact congrArg (· * 512 + r.val) (congrFun ht 0)
      | ⟨1, _⟩ =>
        have h0 : cc0_transform_9 (grid0.coords t) 1 = 0 := congrFun ht 1
        show cc0_transform_9 (grid0.coords t) 1 * 1024 + j.val = j.val
        rw [h0, Nat.zero_mul, Nat.zero_add]
    refine Eq.trans ?_ hg.symm
    show (dats m 0 c).flushed 9 t (ix2 r j : S512x1024.Idx) = _
    rw [Value.flushed9 m c t]
    exact block_val m c t r j b s hR
  · obtain ⟨R, C, rfl⟩ : ∃ (R : Fin 1024) (C : Fin 1024), i = (ix2 R C : S1024x1024.Idx) := ⟨i 0, i 1, funext fun a => by
      match a with
      | ⟨0, _⟩ => rfl
      | ⟨1, _⟩ => rfl⟩
    exact cover9 R C
end Blocks

end Cert.Kernel9Ideal.Tail
-- ==== Proof.lean ====
/- The claims about the stick-breaking attention kernel, the layer tail kernel and the projections, assembled. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Memkv
public import proofs.«01_k».proof.Proof.MemkvRef
public import proofs.«01_k».proof.Proof.Inproj
public import proofs.«01_k».proof.Proof.InprojRef
public import proofs.«01_k».proof.Proof.InprojSample
public import proofs.«01_k».proof.Proof.InprojSampleRef
public import proofs.«01_k».proof.Proof.NsaRows
public import proofs.«01_k».proof.Proof.NsaKeys
public import proofs.«01_k».proof.Proof.NsaRowsRef
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Arr
public import proofs.«01_k».proof.Proof.Ref
public import proofs.«01_k».proof.Proof.TailArr
public import proofs.«01_k».proof.Proof.TailRef
public import proofs.«01_k».proof.Proof.TailTwoArr
public import proofs.«01_k».proof.Proof.TailSample
public import proofs.«01_k».proof.Proof.TailRefSample
public import proofs.«01_k».proof.Proof.TailTwoSample

@[expose] public section

set_option maxRecDepth 16384

noncomputable section

namespace Cert.Proof

open Idealize.ShloMosaic Idealize.ShloMosaic.TcCoe Idealize.SL.Sem
open scoped BigOperators

theorem preFacts : Cert.Pre_scores_finite.Facts := ⟨by decide⟩

/-- A number of finite size is a real number. -/
theorem real_of_abs_lt {x : EReal} (h : max x (-x) < ⊤) : (x.toReal : EReal) = x := by
  refine EReal.coe_toReal (fun e => ?_) (fun e => ?_)
  · rw [e] at h
    exact absurd h (by simp)
  · rw [e] at h
    exact absurd h (by simp)

theorem frame_Kernel : Cert.quiescent_Kernel (hKernel := Cert.Kernel.Gen.facts) := fun m g _ => Cert.Kernel.Gen.frame m g

theorem frame_KernelIdeal : Cert.quiescent_KernelIdeal (hKernelIdeal := Cert.KernelIdeal.Gen.facts) := fun m g _ => Cert.KernelIdeal.Gen.frame m g

theorem frame_KernelIdeal_pre : Cert.quiescent_KernelIdeal_pre_scores_finite (hKernelIdeal := Cert.KernelIdeal.Gen.facts) (hPre_scores_finite := preFacts) :=
  fun m g _ => Cert.KernelIdeal.Gen.frame m g

theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run m g)

theorem frame_ReferenceIdeal_pre : Cert.quiescent_ReferenceIdeal_pre_scores_finite (hReferenceIdeal := Cert.ReferenceIdeal.Gen.facts) (hPre_scores_finite := preFacts) :=
  fun m g _ => frame_ReferenceIdeal m g trivial

theorem preserves : Cert.preserves_Kernel_KernelIdeal :=
  ⟨IdealRules.named_const.statement Cert.KernelIdeal.κ "neg_q_scale" .f32 0xBE38AA3B#32 ((-((8 * (Real.log 2))⁻¹) : ℝ) : EReal) rfl,
    IdealRules.named_const.statement Cert.KernelIdeal.κ "log2_e" .f32 0x3FB8AA3B#32 (((Real.log 2)⁻¹ : ℝ) : EReal) rfl⟩

abbrev Arr4 := FVec Ideal Cert.Pre_scores_finite.S4x4096x12x64 .f32

theorem inf_val : Ideal.ofBits .f32 0x7F800000#32 = (⊤ : EReal) := by
  simp [Ideal.ofBits, Ideal.ieee]

theorem ofBool_and_eq (a b : Bool) : (BitVec.ofBool a &&& BitVec.ofBool b = 1#1) ↔ (a = true ∧ b = true) := by
  cases a <;> cases b <;> decide

/-- What the precondition says of a query and a key. -/
theorem finite_of_pre (q k v : Arr4) (h : @Cert.Pre_scores_finite.fn preFacts Ideal _ q k v = fun _ => 1#1) (i : Cert.Pre_scores_finite.S4x4096x12x64.Idx) :
    ((q i).toReal : EReal) = q i ∧ ((k i).toReal : EReal) = k i := by
  have e : BitVec.ofBool (decide (max (q i) (-(q i)) < Ideal.ofBits .f32 0x7F800000#32)) &&& BitVec.ofBool (decide (max (k i) (-(k i)) < Ideal.ofBits .f32 0x7F800000#32)) = 1#1 :=
    congrFun h i
  rw [ofBool_and_eq, decide_eq_true_eq, decide_eq_true_eq, inf_val] at e
  exact ⟨real_of_abs_lt e.1, real_of_abs_lt e.2⟩

theorem algebraic : Cert.algebraic_KernelIdeal_ReferenceIdeal_pre_scores_finite (hKernelIdeal := Cert.KernelIdeal.Gen.facts) (hReferenceIdeal := Cert.ReferenceIdeal.Gen.facts)
    (hPre_scores_finite := preFacts) := fun m g m' g' hpre hargs => by
  refine ⟨fun c => Cert.ReferenceIdeal.Sb.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.Value.run_blocks m g)
    have hf := fun i => finite_of_pre _ _ _ (hpre c) i
    refine Cert.KernelIdeal.Sb.arr_val m c (fun b s h d => (m ((c.tc : Thread Cert.KernelIdeal.nD Cert.KernelIdeal.τ).loc Cert.KernelIdeal.main_arg0) (ix4 b s h d)).toReal)
      (fun b s h d => (m ((c.tc : Thread Cert.KernelIdeal.nD Cert.KernelIdeal.τ).loc Cert.KernelIdeal.main_arg1) (ix4 b s h d)).toReal) (fun b s h d => (hf _).1.symm) (fun b s h d => (hf _).2.symm) _ fun b s h d R C hR hC => ?_
    refine (Cert.ReferenceIdeal.Sb.out_apply _ _ _ b s h d R C hR hC).trans (Finset.sum_congr rfl fun K _ => congrArg _ ?_)
    refine Cert.ReferenceIdeal.Sb.w_apply (fun K => ?_) K
    refine (Cert.ReferenceIdeal.Sb.sc_apply (fun b s h d => (hf _).1.symm) (fun b s h d => (hf _).2.symm) b h s K).trans ?_
    rw [Cert.KernelIdeal.Sb.zAt, dif_pos K.isLt]
  · refine (θ_run Cert.ReferenceIdeal.defs _ _).mono (fun r h c => ⟨(h c).1.trans ?_, (h c).2⟩) (Cert.ReferenceIdeal.Value.run m' g')
    obtain ⟨e0, e1, e2⟩ := hargs c
    rw [Cert.ReferenceIdeal.Sb.res_eq, e0, e1, e2]

theorem frame_Kernel2 : Cert.quiescent_Kernel2 (hKernel2 := Cert.Kernel2.Gen.facts) := fun m g _ => Cert.Kernel2.Gen.frame m g

theorem frame_Kernel2Ideal : Cert.quiescent_Kernel2Ideal (hKernel2Ideal := Cert.Kernel2Ideal.Gen.facts) := fun m g _ => Cert.Kernel2Ideal.Gen.frame m g

theorem frame_Reference2Ideal : Cert.quiescent_Reference2Ideal (hReference2Ideal := Cert.Reference2Ideal.Gen.facts) := fun m g _ =>
  (θ_run Cert.Reference2Ideal.defs _ _).mono (fun r h => ⟨fun c => (h c).2, sem_eq_zero_of_no_sems rfl r.2⟩) (Cert.Reference2Ideal.Value.run m g)

theorem preserves2 : Cert.preserves_Kernel2_Kernel2Ideal := trivial

theorem algebraic2 : Cert.algebraic_Kernel2Ideal_Reference2Ideal (hKernel2Ideal := Cert.Kernel2Ideal.Gen.facts) (hReference2Ideal := Cert.Reference2Ideal.Gen.facts) := fun m g m' g' _ hargs => by
  refine ⟨fun c => Cert.Reference2Ideal.Tail.out (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)), ?_, ?_⟩
  · refine (θ_run Cert.Kernel2Ideal.defs _ _).mono (fun r h c => ⟨(h c).1.trans ?_, (h c).2⟩) (Cert.Kernel2Ideal.Value.run_blocks m g)
    exact Cert.Kernel2Ideal.Tail.arr_val m c _ fun b s R j hR => Cert.Reference2Ideal.Tail.out_apply _ _ _ _ _ _ _ _ b s R j hR
  · refine (θ_run Cert.Reference2Ideal.defs _ _).mono (fun r h c => ⟨(h c).1.trans ?_, (h c).2⟩) (Cert.Reference2Ideal.Value.run m' g')
    obtain ⟨e0, e1, e2, e3, e4, e5, e6, e7⟩ := hargs c
    rw [Cert.Reference2Ideal.Tail.res_eq, e0, e1, e2, e3, e4, e5, e6, e7]

theorem frame_Kernel3 : Cert.quiescent_Kernel3 (hKernel3 := Cert.Kernel3.Gen.facts) := fun m g _ => Cert.Kernel3.Gen.frame m g

theorem frame_Kernel3Ideal : Cert.quiescent_Kernel3Ideal (hKernel3Ideal := Cert.Kernel3Ideal.Gen.facts) := fun m g _ => Cert.Kernel3Ideal.Gen.frame m g

theorem preserves3 : Cert.preserves_Kernel3_Kernel3Ideal := trivial

theorem algebraic3 : Cert.algebraic_Kernel3Ideal_Reference2Ideal (hKernel3Ideal := Cert.Kernel3Ideal.Gen.facts) (hReference2Ideal := Cert.Reference2Ideal.Gen.facts) := fun m g m' g' _ hargs => by
  refine ⟨fun c => Cert.Reference2Ideal.Tail.out (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)), ?_, ?_⟩
  · refine (θ_run Cert.Kernel3Ideal.defs _ _).mono (fun r h c => ⟨(h c).1.trans ?_, (h c).2⟩) (Cert.Kernel3Ideal.Value.run_blocks m g)
    exact Cert.Kernel3Ideal.Tail.arr_val m c _ fun b s R j hR => Cert.Reference2Ideal.Tail.out_apply _ _ _ _ _ _ _ _ b s R j hR
  · refine (θ_run Cert.Reference2Ideal.defs _ _).mono (fun r h c => ⟨(h c).1.trans ?_, (h c).2⟩) (Cert.Reference2Ideal.Value.run m' g')
    obtain ⟨e0, e1, e2, e3, e4, e5, e6, e7⟩ := hargs c
    rw [Cert.Reference2Ideal.Tail.res_eq, e0, e1, e2, e3, e4, e5, e6, e7]

theorem frame_Kernel4 : Cert.quiescent_Kernel4 (hKernel4 := Cert.Kernel4.Gen.facts) := fun m g _ => Cert.Kernel4.Gen.frame m g

theorem frame_Kernel4Ideal : Cert.quiescent_Kernel4Ideal (hKernel4Ideal := Cert.Kernel4Ideal.Gen.facts) := fun m g _ => Cert.Kernel4Ideal.Gen.frame m g

theorem frame_Reference4Ideal : Cert.quiescent_Reference4Ideal (hReference4Ideal := Cert.Reference4Ideal.Gen.facts) := fun m g _ =>
  (θ_run Cert.Reference4Ideal.defs _ _).mono (fun r h => ⟨fun c => (h c).2, sem_eq_zero_of_no_sems rfl r.2⟩) (Cert.Reference4Ideal.Value.run m g)

theorem preserves4 : Cert.preserves_Kernel4_Kernel4Ideal := trivial

theorem algebraic4 : Cert.algebraic_Kernel4Ideal_Reference4Ideal (hKernel4Ideal := Cert.Kernel4Ideal.Gen.facts) (hReference4Ideal := Cert.Reference4Ideal.Gen.facts) := fun m g m' g' _ hargs => by
  refine ⟨fun c => Cert.Reference4Ideal.Tail.out (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)), ?_, ?_⟩
  · refine (θ_run Cert.Kernel4Ideal.defs _ _).mono (fun r h c => ⟨(h c).1.trans ?_, (h c).2⟩) (Cert.Kernel4Ideal.Value.run_blocks m g)
    exact Cert.Kernel4Ideal.Tail.arr_val m c _ fun b s R j hR => Cert.Reference4Ideal.Tail.out_apply _ _ _ _ _ _ _ _ b s R j hR
  · refine (θ_run Cert.Reference4Ideal.defs _ _).mono (fun r h c => ⟨(h c).1.trans ?_, (h c).2⟩) (Cert.Reference4Ideal.Value.run m' g')
    obtain ⟨e0, e1, e2, e3, e4, e5, e6, e7⟩ := hargs c
    rw [Cert.Reference4Ideal.Tail.res_eq, e0, e1, e2, e3, e4, e5, e6, e7]

theorem frame_Kernel5 : Cert.quiescent_Kernel5 (hKernel5 := Cert.Kernel5.Gen.facts) := fun m g _ => Cert.Kernel5.Gen.frame m g

theorem frame_Kernel5Ideal : Cert.quiescent_Kernel5Ideal (hKernel5Ideal := Cert.Kernel5Ideal.Gen.facts) := fun m g _ => Cert.Kernel5Ideal.Gen.frame m g

theorem frame_Reference5Ideal : Cert.quiescent_Reference5Ideal (hReference5Ideal := Cert.Reference5Ideal.Gen.facts) := fun m g _ =>
  (θ_run Cert.Reference5Ideal.defs _ _).mono (fun r h => ⟨fun c => (h c).2.2.2.2, sem_eq_zero_of_no_sems rfl r.2⟩) (Cert.Reference5Ideal.Value.run m g)

theorem preserves5 : Cert.preserves_Kernel5_Kernel5Ideal := trivial

theorem algebraic5 : Cert.algebraic_Kernel5Ideal_Reference5Ideal (hKernel5Ideal := Cert.Kernel5Ideal.Gen.facts) (hReference5Ideal := Cert.Reference5Ideal.Gen.facts) := fun m g m' g' _ hargs => by
  refine ⟨fun c => Cert.Reference5Ideal.Memkv.k (Cert.Kernel5Ideal.Memkv.aX m c) (Cert.Kernel5Ideal.Memkv.aG m c) (Cert.Kernel5Ideal.Memkv.aW m c), fun c => Cert.Reference5Ideal.Memkv.kt (Cert.Kernel5Ideal.Memkv.aX m c) (Cert.Kernel5Ideal.Memkv.aG m c) (Cert.Kernel5Ideal.Memkv.aW m c), fun c => Cert.Reference5Ideal.Memkv.vt (Cert.Kernel5Ideal.Memkv.aX m c) (Cert.Kernel5Ideal.Memkv.aG m c) (Cert.Kernel5Ideal.Memkv.aW m c), fun c => Cert.Reference5Ideal.Memkv.v (Cert.Kernel5Ideal.Memkv.aX m c) (Cert.Kernel5Ideal.Memkv.aG m c) (Cert.Kernel5Ideal.Memkv.aW m c), ?_, ?_⟩
  · refine (θ_run Cert.Kernel5Ideal.defs _ _).mono (fun r h c => ?_) (Cert.Kernel5Ideal.Value.run_blocks m g)
    obtain ⟨h0, h1, h2, h3, hk⟩ := h c
    refine ⟨h0.trans ?_, h1.trans ?_, h2.trans ?_, h3.trans ?_, hk⟩
    · refine Cert.Proj.ext_two fun R j => ?_
      obtain ⟨n, hn⟩ : ∃ n : Fin 512, n.val = j.val := ⟨⟨j.val, by have := j.isLt; omega⟩, rfl⟩
      obtain ⟨b, s, hR⟩ := Cert.Proj.split (A := 4) (B := 256) (by decide) rfl R
      exact (Cert.Kernel5Ideal.Memkv.arr4 m c b s R hR j n hn).trans ((Cert.Reference5Ideal.Memkv.k_apply (Cert.Kernel5Ideal.Memkv.aX m c) (Cert.Kernel5Ideal.Memkv.aG m c) (Cert.Kernel5Ideal.Memkv.aW m c) b s R hR j n hn).trans (Cert.Reference5Ideal.Memkv.z_apply (Cert.Kernel5Ideal.Memkv.aX m c) (Cert.Kernel5Ideal.Memkv.aG m c) (Cert.Kernel5Ideal.Memkv.aW m c) b s n)).symm
    · refine Cert.Proj.ext_three fun b j s => ?_
      obtain ⟨n, hn⟩ : ∃ n : Fin 512, n.val = j.val := ⟨⟨j.val, by have := j.isLt; omega⟩, rfl⟩
      exact (Cert.Kernel5Ideal.Memkv.arr5 m c b s j n hn).trans ((Cert.Reference5Ideal.Memkv.kt_apply (Cert.Kernel5Ideal.Memkv.aX m c) (Cert.Kernel5Ideal.Memkv.aG m c) (Cert.Kernel5Ideal.Memkv.aW m c) b s j n hn).trans (Cert.Reference5Ideal.Memkv.z_apply (Cert.Kernel5Ideal.Memkv.aX m c) (Cert.Kernel5Ideal.Memkv.aG m c) (Cert.Kernel5Ideal.Memkv.aW m c) b s n)).symm
    · refine Cert.Proj.ext_three fun b j s => ?_
      obtain ⟨n, hn⟩ : ∃ n : Fin 512, n.val = 256 + j.val := ⟨⟨256 + j.val, by have := j.isLt; omega⟩, rfl⟩
      exact (Cert.Kernel5Ideal.Memkv.arr6 m c b s j n hn).trans ((Cert.Reference5Ideal.Memkv.vt_apply (Cert.Kernel5Ideal.Memkv.aX m c) (Cert.Kernel5Ideal.Memkv.aG m c) (Cert.Kernel5Ideal.Memkv.aW m c) b s j n hn).trans (Cert.Reference5Ideal.Memkv.z_apply (Cert.Kernel5Ideal.Memkv.aX m c) (Cert.Kernel5Ideal.Memkv.aG m c) (Cert.Kernel5Ideal.Memkv.aW m c) b s n)).symm
    · refine Cert.Proj.ext_two fun j R => ?_
      obtain ⟨n, hn⟩ : ∃ n : Fin 512, n.val = 256 + j.val := ⟨⟨256 + j.val, by have := j.isLt; omega⟩, rfl⟩
      obtain ⟨b, s, hR⟩ := Cert.Proj.split (A := 4) (B := 256) (by decide) rfl R
      exact (Cert.Kernel5Ideal.Memkv.arr7 m c b s R hR j n hn).trans ((Cert.Reference5Ideal.Memkv.v_apply (Cert.Kernel5Ideal.Memkv.aX m c) (Cert.Kernel5Ideal.Memkv.aG m c) (Cert.Kernel5Ideal.Memkv.aW m c) b s R hR j n hn).trans (Cert.Reference5Ideal.Memkv.z_apply (Cert.Kernel5Ideal.Memkv.aX m c) (Cert.Kernel5Ideal.Memkv.aG m c) (Cert.Kernel5Ideal.Memkv.aW m c) b s n)).symm
  · refine (θ_run Cert.Reference5Ideal.defs _ _).mono (fun r h c => ?_) (Cert.Reference5Ideal.Memkv.run m' g')
    obtain ⟨e0, e1, e2⟩ := hargs c
    obtain ⟨h0, h1, h2, h3, hk⟩ := h c
    exact ⟨h0.trans (Cert.Proj.congr_three Cert.Reference5Ideal.Memkv.k e0 e1 e2), h1.trans (Cert.Proj.congr_three Cert.Reference5Ideal.Memkv.kt e0 e1 e2), h2.trans (Cert.Proj.congr_three Cert.Reference5Ideal.Memkv.vt e0 e1 e2), h3.trans (Cert.Proj.congr_three Cert.Reference5Ideal.Memkv.v e0 e1 e2), hk⟩

theorem frame_Kernel6 : Cert.quiescent_Kernel6 (hKernel6 := Cert.Kernel6.Gen.facts) := fun m g _ => Cert.Kernel6.Gen.frame m g

theorem frame_Kernel6Ideal : Cert.quiescent_Kernel6Ideal (hKernel6Ideal := Cert.Kernel6Ideal.Gen.facts) := fun m g _ => Cert.Kernel6Ideal.Gen.frame m g

theorem frame_Reference6Ideal : Cert.quiescent_Reference6Ideal (hReference6Ideal := Cert.Reference6Ideal.Gen.facts) := fun m g _ =>
  (θ_run Cert.Reference6Ideal.defs _ _).mono (fun r h => ⟨fun c => (h c).2.2.2.2.2.2, sem_eq_zero_of_no_sems rfl r.2⟩) (Cert.Reference6Ideal.Value.run m g)

theorem preserves6 : Cert.preserves_Kernel6_Kernel6Ideal :=
  ⟨IdealRules.named_const.statement Cert.Kernel6Ideal.κ "neg_q_scale" .f32 0xBE38AA3B#32 ((-((8 * (Real.log 2))⁻¹) : ℝ) : EReal) rfl,
    IdealRules.named_const.statement Cert.Kernel6Ideal.κ "q_scale" .f32 0x3E38AA3B#32 (((8 * (Real.log 2))⁻¹ : ℝ) : EReal) rfl⟩

theorem algebraic6 : Cert.algebraic_Kernel6Ideal_Reference6Ideal (hKernel6Ideal := Cert.Kernel6Ideal.Gen.facts) (hReference6Ideal := Cert.Reference6Ideal.Gen.facts) := fun m g m' g' _ hargs => by
  refine ⟨fun c => Cert.Reference6Ideal.Inproj.q (Cert.Kernel6Ideal.Inproj.aX m c) (Cert.Kernel6Ideal.Inproj.aG m c) (Cert.Kernel6Ideal.Inproj.aW m c), fun c => Cert.Reference6Ideal.Inproj.qm (Cert.Kernel6Ideal.Inproj.aX m c) (Cert.Kernel6Ideal.Inproj.aG m c) (Cert.Kernel6Ideal.Inproj.aW m c), fun c => Cert.Reference6Ideal.Inproj.kb (Cert.Kernel6Ideal.Inproj.aX m c) (Cert.Kernel6Ideal.Inproj.aG m c) (Cert.Kernel6Ideal.Inproj.aW m c), fun c => Cert.Reference6Ideal.Inproj.kt (Cert.Kernel6Ideal.Inproj.aX m c) (Cert.Kernel6Ideal.Inproj.aG m c) (Cert.Kernel6Ideal.Inproj.aW m c), fun c => Cert.Reference6Ideal.Inproj.vt (Cert.Kernel6Ideal.Inproj.aX m c) (Cert.Kernel6Ideal.Inproj.aG m c) (Cert.Kernel6Ideal.Inproj.aW m c), fun c => Cert.Reference6Ideal.Inproj.v3 (Cert.Kernel6Ideal.Inproj.aX m c) (Cert.Kernel6Ideal.Inproj.aG m c) (Cert.Kernel6Ideal.Inproj.aW m c), ?_, ?_⟩
  · refine (θ_run Cert.Kernel6Ideal.defs _ _).mono (fun r h c => ?_) (Cert.Kernel6Ideal.Value.run_blocks m g)
    obtain ⟨h0, h1, h2, h3, h4, h5, hk⟩ := h c
    refine ⟨h0.trans ?_, h1.trans ?_, h2.trans ?_, h3.trans ?_, h4.trans ?_, h5.trans ?_, hk⟩
    · refine Cert.Proj.ext_two fun R j => ?_
      obtain ⟨n, hn⟩ : ∃ n : Fin 2560, n.val = j.val := ⟨⟨j.val, by have := j.isLt; omega⟩, rfl⟩
      obtain ⟨b, s, hR⟩ := Cert.Proj.split (A := 4) (B := 4096) (by decide) rfl R
      exact (Cert.Kernel6Ideal.Inproj.arr4 m c b s R hR j n hn).trans ((Cert.Reference6Ideal.Inproj.q_apply (Cert.Kernel6Ideal.Inproj.aX m c) (Cert.Kernel6Ideal.Inproj.aG m c) (Cert.Kernel6Ideal.Inproj.aW m c) b s R hR j n hn).trans (congrArg (· * ((-((8 * Real.log 2)⁻¹) : ℝ) : EReal)) (Cert.Reference6Ideal.Inproj.z_apply (Cert.Kernel6Ideal.Inproj.aX m c) (Cert.Kernel6Ideal.Inproj.aG m c) (Cert.Kernel6Ideal.Inproj.aW m c) b s n))).symm
    · refine Cert.Proj.ext_two fun R j => ?_
      obtain ⟨n, hn⟩ : ∃ n : Fin 2560, n.val = 2304 + j.val := ⟨⟨2304 + j.val, by have := j.isLt; omega⟩, rfl⟩
      obtain ⟨b, s, hR⟩ := Cert.Proj.split (A := 4) (B := 4096) (by decide) rfl R
      exact (Cert.Kernel6Ideal.Inproj.arr5 m c b s R hR j n hn).trans ((Cert.Reference6Ideal.Inproj.qm_apply (Cert.Kernel6Ideal.Inproj.aX m c) (Cert.Kernel6Ideal.Inproj.aG m c) (Cert.Kernel6Ideal.Inproj.aW m c) b s R hR j n hn).trans (congrArg (· * (((8 * Real.log 2)⁻¹ : ℝ) : EReal)) (Cert.Reference6Ideal.Inproj.z_apply (Cert.Kernel6Ideal.Inproj.aX m c) (Cert.Kernel6Ideal.Inproj.aG m c) (Cert.Kernel6Ideal.Inproj.aW m c) b s n))).symm
    · refine Cert.Proj.ext_two fun R j => ?_
      obtain ⟨n, hn⟩ : ∃ n : Fin 2560, n.val = 768 + j.val := ⟨⟨768 + j.val, by have := j.isLt; omega⟩, rfl⟩
      obtain ⟨b, s, hR⟩ := Cert.Proj.split (A := 4) (B := 4096) (by decide) rfl R
      exact (Cert.Kernel6Ideal.Inproj.arr6 m c b s R hR j n hn).trans ((Cert.Reference6Ideal.Inproj.kb_apply (Cert.Kernel6Ideal.Inproj.aX m c) (Cert.Kernel6Ideal.Inproj.aG m c) (Cert.Kernel6Ideal.Inproj.aW m c) b s R hR j n hn).trans (Cert.Reference6Ideal.Inproj.z_apply (Cert.Kernel6Ideal.Inproj.aX m c) (Cert.Kernel6Ideal.Inproj.aG m c) (Cert.Kernel6Ideal.Inproj.aW m c) b s n)).symm
    · refine Cert.Proj.ext_three fun b j s => ?_
      obtain ⟨n, hn⟩ : ∃ n : Fin 2560, n.val = 768 + j.val := ⟨⟨768 + j.val, by have := j.isLt; omega⟩, rfl⟩
      exact (Cert.Kernel6Ideal.Inproj.arr7 m c b s j n hn).trans ((Cert.Reference6Ideal.Inproj.kt_apply (Cert.Kernel6Ideal.Inproj.aX m c) (Cert.Kernel6Ideal.Inproj.aG m c) (Cert.Kernel6Ideal.Inproj.aW m c) b s j n hn).trans (Cert.Reference6Ideal.Inproj.z_apply (Cert.Kernel6Ideal.Inproj.aX m c) (Cert.Kernel6Ideal.Inproj.aG m c) (Cert.Kernel6Ideal.Inproj.aW m c) b s n)).symm
    · refine Cert.Proj.ext_three fun b j s => ?_
      obtain ⟨n, hn⟩ : ∃ n : Fin 2560, n.val = 1536 + j.val := ⟨⟨1536 + j.val, by have := j.isLt; omega⟩, rfl⟩
      exact (Cert.Kernel6Ideal.Inproj.arr8 m c b s j n hn).trans ((Cert.Reference6Ideal.Inproj.vt_apply (Cert.Kernel6Ideal.Inproj.aX m c) (Cert.Kernel6Ideal.Inproj.aG m c) (Cert.Kernel6Ideal.Inproj.aW m c) b s j n hn).trans (Cert.Reference6Ideal.Inproj.z_apply (Cert.Kernel6Ideal.Inproj.aX m c) (Cert.Kernel6Ideal.Inproj.aG m c) (Cert.Kernel6Ideal.Inproj.aW m c) b s n)).symm
    · refine Cert.Proj.ext_three fun p j l => ?_
      obtain ⟨n, hn⟩ : ∃ n : Fin 2560, n.val = 1536 + j.val := ⟨⟨1536 + j.val, by have := j.isLt; omega⟩, rfl⟩
      obtain ⟨R, hR⟩ : ∃ R : Fin 16384, R.val = p.val * 256 + l.val := ⟨⟨p.val * 256 + l.val, by have := p.isLt; have := l.isLt; omega⟩, rfl⟩
      obtain ⟨b, s, hs⟩ := Cert.Proj.split (A := 4) (B := 4096) (by decide) rfl R
      exact (Cert.Kernel6Ideal.Inproj.arr9 m c b s p l (hR.symm.trans hs) j n hn).trans ((Cert.Reference6Ideal.Inproj.v3_apply (Cert.Kernel6Ideal.Inproj.aX m c) (Cert.Kernel6Ideal.Inproj.aG m c) (Cert.Kernel6Ideal.Inproj.aW m c) b s p l (hR.symm.trans hs) j n hn).trans (Cert.Reference6Ideal.Inproj.z_apply (Cert.Kernel6Ideal.Inproj.aX m c) (Cert.Kernel6Ideal.Inproj.aG m c) (Cert.Kernel6Ideal.Inproj.aW m c) b s n)).symm
  · refine (θ_run Cert.Reference6Ideal.defs _ _).mono (fun r h c => ?_) (Cert.Reference6Ideal.Inproj.run m' g')
    obtain ⟨e0, e1, e2⟩ := hargs c
    obtain ⟨h0, h1, h2, h3, h4, h5, hk⟩ := h c
    exact ⟨h0.trans (Cert.Proj.congr_three Cert.Reference6Ideal.Inproj.q e0 e1 e2), h1.trans (Cert.Proj.congr_three Cert.Reference6Ideal.Inproj.qm e0 e1 e2), h2.trans (Cert.Proj.congr_three Cert.Reference6Ideal.Inproj.kb e0 e1 e2), h3.trans (Cert.Proj.congr_three Cert.Reference6Ideal.Inproj.kt e0 e1 e2), h4.trans (Cert.Proj.congr_three Cert.Reference6Ideal.Inproj.vt e0 e1 e2), h5.trans (Cert.Proj.congr_three Cert.Reference6Ideal.Inproj.v3 e0 e1 e2), hk⟩

theorem frame_Kernel7 : Cert.quiescent_Kernel7 (hKernel7 := Cert.Kernel7.Gen.facts) := fun m g _ => Cert.Kernel7.Gen.frame m g

theorem frame_Kernel7Ideal : Cert.quiescent_Kernel7Ideal (hKernel7Ideal := Cert.Kernel7Ideal.Gen.facts) := fun m g _ => Cert.Kernel7Ideal.Gen.frame m g

theorem frame_Reference7Ideal : Cert.quiescent_Reference7Ideal (hReference7Ideal := Cert.Reference7Ideal.Gen.facts) := fun m g _ =>
  (θ_run Cert.Reference7Ideal.defs _ _).mono (fun r h => ⟨fun c => (h c).2.2.2.2, sem_eq_zero_of_no_sems rfl r.2⟩) (Cert.Reference7Ideal.Value.run m g)

theorem preserves7 : Cert.preserves_Kernel7_Kernel7Ideal :=
  ⟨IdealRules.named_const.statement Cert.Kernel7Ideal.κ "neg_q_scale" .f32 0xBE38AA3B#32 ((-((8 * (Real.log 2))⁻¹) : ℝ) : EReal) rfl,
    IdealRules.named_const.statement Cert.Kernel7Ideal.κ "q_scale" .f32 0x3E38AA3B#32 (((8 * (Real.log 2))⁻¹ : ℝ) : EReal) rfl⟩

theorem algebraic7 : Cert.algebraic_Kernel7Ideal_Reference7Ideal (hKernel7Ideal := Cert.Kernel7Ideal.Gen.facts) (hReference7Ideal := Cert.Reference7Ideal.Gen.facts) := fun m g m' g' _ hargs => by
  refine ⟨fun c => Cert.Reference7Ideal.Inproj.q (Cert.Kernel7Ideal.Inproj.aX m c) (Cert.Kernel7Ideal.Inproj.aG m c) (Cert.Kernel7Ideal.Inproj.aW m c), fun c => Cert.Reference7Ideal.Inproj.qm (Cert.Kernel7Ideal.Inproj.aX m c) (Cert.Kernel7Ideal.Inproj.aG m c) (Cert.Kernel7Ideal.Inproj.aW m c), fun c => Cert.Reference7Ideal.Inproj.k (Cert.Kernel7Ideal.Inproj.aX m c) (Cert.Kernel7Ideal.Inproj.aG m c) (Cert.Kernel7Ideal.Inproj.aW m c), fun c => Cert.Reference7Ideal.Inproj.v (Cert.Kernel7Ideal.Inproj.aX m c) (Cert.Kernel7Ideal.Inproj.aG m c) (Cert.Kernel7Ideal.Inproj.aW m c), ?_, ?_⟩
  · refine (θ_run Cert.Kernel7Ideal.defs _ _).mono (fun r h c => ?_) (Cert.Kernel7Ideal.Value.run_blocks m g)
    obtain ⟨h0, h1, h2, h3, hk⟩ := h c
    refine ⟨h0.trans ?_, h1.trans ?_, h2.trans ?_, h3.trans ?_, hk⟩
    · refine Cert.Proj.ext_two fun R j => ?_
      obtain ⟨n, hn⟩ : ∃ n : Fin 2560, n.val = j.val := ⟨⟨j.val, by have := j.isLt; omega⟩, rfl⟩
      obtain ⟨b, s, hR⟩ := Cert.Proj.split (A := 128) (B := 8) (by decide) rfl R
      exact (Cert.Kernel7Ideal.Inproj.arr4 m c b s R hR j n hn).trans ((Cert.Reference7Ideal.Inproj.q_apply (Cert.Kernel7Ideal.Inproj.aX m c) (Cert.Kernel7Ideal.Inproj.aG m c) (Cert.Kernel7Ideal.Inproj.aW m c) b s R hR j n hn).trans (congrArg (· * ((-((8 * Real.log 2)⁻¹) : ℝ) : EReal)) (Cert.Reference7Ideal.Inproj.z_apply (Cert.Kernel7Ideal.Inproj.aX m c) (Cert.Kernel7Ideal.Inproj.aG m c) (Cert.Kernel7Ideal.Inproj.aW m c) b s n))).symm
    · refine Cert.Proj.ext_two fun R j => ?_
      obtain ⟨n, hn⟩ : ∃ n : Fin 2560, n.val = 2304 + j.val := ⟨⟨2304 + j.val, by have := j.isLt; omega⟩, rfl⟩
      obtain ⟨b, s, hR⟩ := Cert.Proj.split (A := 128) (B := 8) (by decide) rfl R
      exact (Cert.Kernel7Ideal.Inproj.arr5 m c b s R hR j n hn).trans ((Cert.Reference7Ideal.Inproj.qm_apply (Cert.Kernel7Ideal.Inproj.aX m c) (Cert.Kernel7Ideal.Inproj.aG m c) (Cert.Kernel7Ideal.Inproj.aW m c) b s R hR j n hn).trans (congrArg (· * (((8 * Real.log 2)⁻¹ : ℝ) : EReal)) (Cert.Reference7Ideal.Inproj.z_apply (Cert.Kernel7Ideal.Inproj.aX m c) (Cert.Kernel7Ideal.Inproj.aG m c) (Cert.Kernel7Ideal.Inproj.aW m c) b s n))).symm
    · refine Cert.Proj.ext_two fun R j => ?_
      obtain ⟨n, hn⟩ : ∃ n : Fin 2560, n.val = 768 + j.val := ⟨⟨768 + j.val, by have := j.isLt; omega⟩, rfl⟩
      obtain ⟨b, s, hR⟩ := Cert.Proj.split (A := 128) (B := 8) (by decide) rfl R
      exact (Cert.Kernel7Ideal.Inproj.arr6 m c b s R hR j n hn).trans ((Cert.Reference7Ideal.Inproj.k_apply (Cert.Kernel7Ideal.Inproj.aX m c) (Cert.Kernel7Ideal.Inproj.aG m c) (Cert.Kernel7Ideal.Inproj.aW m c) b s R hR j n hn).trans (Cert.Reference7Ideal.Inproj.z_apply (Cert.Kernel7Ideal.Inproj.aX m c) (Cert.Kernel7Ideal.Inproj.aG m c) (Cert.Kernel7Ideal.Inproj.aW m c) b s n)).symm
    · refine Cert.Proj.ext_two fun R j => ?_
      obtain ⟨n, hn⟩ : ∃ n : Fin 2560, n.val = 1536 + j.val := ⟨⟨1536 + j.val, by have := j.isLt; omega⟩, rfl⟩
      obtain ⟨b, s, hR⟩ := Cert.Proj.split (A := 128) (B := 8) (by decide) rfl R
      exact (Cert.Kernel7Ideal.Inproj.arr7 m c b s R hR j n hn).trans ((Cert.Reference7Ideal.Inproj.v_apply (Cert.Kernel7Ideal.Inproj.aX m c) (Cert.Kernel7Ideal.Inproj.aG m c) (Cert.Kernel7Ideal.Inproj.aW m c) b s R hR j n hn).trans (Cert.Reference7Ideal.Inproj.z_apply (Cert.Kernel7Ideal.Inproj.aX m c) (Cert.Kernel7Ideal.Inproj.aG m c) (Cert.Kernel7Ideal.Inproj.aW m c) b s n)).symm
  · refine (θ_run Cert.Reference7Ideal.defs _ _).mono (fun r h c => ?_) (Cert.Reference7Ideal.Inproj.run m' g')
    obtain ⟨e0, e1, e2⟩ := hargs c
    obtain ⟨h0, h1, h2, h3, hk⟩ := h c
    exact ⟨h0.trans (Cert.Proj.congr_three Cert.Reference7Ideal.Inproj.q e0 e1 e2), h1.trans (Cert.Proj.congr_three Cert.Reference7Ideal.Inproj.qm e0 e1 e2), h2.trans (Cert.Proj.congr_three Cert.Reference7Ideal.Inproj.k e0 e1 e2), h3.trans (Cert.Proj.congr_three Cert.Reference7Ideal.Inproj.v e0 e1 e2), hk⟩

theorem frame_Kernel8 : Cert.quiescent_Kernel8 (hKernel8 := Cert.Kernel8.Gen.facts) := fun m g _ => Cert.Kernel8.Gen.frame m g

theorem frame_Kernel8Ideal : Cert.quiescent_Kernel8Ideal (hKernel8Ideal := Cert.Kernel8Ideal.Gen.facts) := fun m g _ => Cert.Kernel8Ideal.Gen.frame m g

theorem frame_Reference8Ideal : Cert.quiescent_Reference8Ideal (hReference8Ideal := Cert.Reference8Ideal.Gen.facts) := fun m g _ =>
  (θ_run Cert.Reference8Ideal.defs _ _).mono (fun r h => ⟨fun c => (h c).2.2.2.2.2.2, sem_eq_zero_of_no_sems rfl r.2⟩) (Cert.Reference8Ideal.Value.run m g)

theorem preserves8 : Cert.preserves_Kernel8_Kernel8Ideal := trivial

set_option maxHeartbeats 1000000 in
theorem algebraic8 : Cert.algebraic_Kernel8Ideal_Reference8Ideal (hKernel8Ideal := Cert.Kernel8Ideal.Gen.facts) (hReference8Ideal := Cert.Reference8Ideal.Gen.facts) := fun m g m' g' _ hargs => by
  refine ⟨fun c => Cert.Reference8Ideal.NsaRows.kc (Cert.Kernel8Ideal.NsaRows.aX m c) (Cert.Kernel8Ideal.NsaRows.aG m c) (Cert.Kernel8Ideal.NsaRows.aW m c), fun c => Cert.Reference8Ideal.NsaRows.vc (Cert.Kernel8Ideal.NsaRows.aX m c) (Cert.Kernel8Ideal.NsaRows.aG m c) (Cert.Kernel8Ideal.NsaRows.aW m c), fun c => Cert.Reference8Ideal.NsaRows.ks (Cert.Kernel8Ideal.NsaRows.aX m c) (Cert.Kernel8Ideal.NsaRows.aG m c) (Cert.Kernel8Ideal.NsaRows.aW m c), fun c => Cert.Reference8Ideal.NsaRows.vs (Cert.Kernel8Ideal.NsaRows.aX m c) (Cert.Kernel8Ideal.NsaRows.aG m c) (Cert.Kernel8Ideal.NsaRows.aW m c), fun c => Cert.Reference8Ideal.NsaRows.kw (Cert.Kernel8Ideal.NsaRows.aX m c) (Cert.Kernel8Ideal.NsaRows.aG m c) (Cert.Kernel8Ideal.NsaRows.aW m c), fun c => Cert.Reference8Ideal.NsaRows.vw (Cert.Kernel8Ideal.NsaRows.aX m c) (Cert.Kernel8Ideal.NsaRows.aG m c) (Cert.Kernel8Ideal.NsaRows.aW m c), ?_, ?_⟩
  · refine (θ_run Cert.Kernel8Ideal.defs _ _).mono (fun r h c => ?_) (Cert.Kernel8Ideal.Value.run_blocks m g)
    obtain ⟨-, -, -, -, -, -, -, -, h0, h1, h2, h3, h4, h5, hk⟩ := h c
    refine ⟨h0.trans ?_, h1.trans ?_, h2.trans ?_, h3.trans ?_, h4.trans ?_, h5.trans ?_, hk⟩
    · refine Cert.Proj.ext_two fun R j => ?_
      obtain ⟨n, hn⟩ : ∃ n : Fin 2596, n.val = 768 + j.val := ⟨⟨768 + j.val, by have := j.isLt; omega⟩, rfl⟩
      obtain ⟨b, s, hR⟩ := Cert.Proj.split (A := 128) (B := 8) (by decide) rfl R
      exact (Cert.Kernel8Ideal.NsaRows.kc_arr m c b s R hR j n hn).trans ((Cert.Reference8Ideal.NsaRows.kc_apply (Cert.Kernel8Ideal.NsaRows.aX m c) (Cert.Kernel8Ideal.NsaRows.aG m c) (Cert.Kernel8Ideal.NsaRows.aW m c) b s R hR j n hn).trans (Cert.Reference8Ideal.NsaRows.z_apply (Cert.Kernel8Ideal.NsaRows.aX m c) (Cert.Kernel8Ideal.NsaRows.aG m c) (Cert.Kernel8Ideal.NsaRows.aW m c) b s n)).symm
    · refine Cert.Proj.ext_two fun R j => ?_
      obtain ⟨n, hn⟩ : ∃ n : Fin 2596, n.val = 1024 + j.val := ⟨⟨1024 + j.val, by have := j.isLt; omega⟩, rfl⟩
      obtain ⟨b, s, hR⟩ := Cert.Proj.split (A := 128) (B := 8) (by decide) rfl R
      exact (Cert.Kernel8Ideal.NsaRows.vc_arr m c b s R hR j n hn).trans ((Cert.Reference8Ideal.NsaRows.vc_apply (Cert.Kernel8Ideal.NsaRows.aX m c) (Cert.Kernel8Ideal.NsaRows.aG m c) (Cert.Kernel8Ideal.NsaRows.aW m c) b s R hR j n hn).trans (Cert.Reference8Ideal.NsaRows.z_apply (Cert.Kernel8Ideal.NsaRows.aX m c) (Cert.Kernel8Ideal.NsaRows.aG m c) (Cert.Kernel8Ideal.NsaRows.aW m c) b s n)).symm
    · refine Cert.Proj.ext_two fun R j => ?_
      obtain ⟨b, s, hR⟩ := Cert.Proj.split (A := 128) (B := 8) (by decide) rfl R
      obtain ⟨y, hy⟩ : ∃ y : ℕ → EReal, ∀ (d : ℕ) (n : Fin 2596), d < 64 → n.val = 1280 + (j.val / 64 * 64 + d) → Cert.Kernel8Ideal.NsaRows.at' m c b s n = y d :=
        ⟨fun d => Cert.Kernel8Ideal.NsaRows.at' m c b s (Fin.ofNat 2596 (1280 + (j.val / 64 * 64 + d))), fun d n _ hn =>
          congrArg (Cert.Kernel8Ideal.NsaRows.at' m c b s) (Fin.ext (by show n.val = (1280 + (j.val / 64 * 64 + d)) % 2596; rw [← hn]; exact (Nat.mod_eq_of_lt n.isLt).symm))⟩
      exact (Cert.Kernel8Ideal.NsaRows.ks_arr m c b s R hR j y hy).trans (Cert.Reference8Ideal.NsaRows.ks_apply (Cert.Kernel8Ideal.NsaRows.aX m c) (Cert.Kernel8Ideal.NsaRows.aG m c) (Cert.Kernel8Ideal.NsaRows.aW m c) b s R hR j y
        (fun d n hd hn => (Cert.Reference8Ideal.NsaRows.z_apply (Cert.Kernel8Ideal.NsaRows.aX m c) (Cert.Kernel8Ideal.NsaRows.aG m c) (Cert.Kernel8Ideal.NsaRows.aW m c) b s n).trans (hy d n hd hn))).symm
    · refine Cert.Proj.ext_two fun R j => ?_
      obtain ⟨n, hn⟩ : ∃ n : Fin 2596, n.val = 1536 + j.val := ⟨⟨1536 + j.val, by have := j.isLt; omega⟩, rfl⟩
      obtain ⟨b, s, hR⟩ := Cert.Proj.split (A := 128) (B := 8) (by decide) rfl R
      exact (Cert.Kernel8Ideal.NsaRows.vs_arr m c b s R hR j n hn).trans ((Cert.Reference8Ideal.NsaRows.vs_apply (Cert.Kernel8Ideal.NsaRows.aX m c) (Cert.Kernel8Ideal.NsaRows.aG m c) (Cert.Kernel8Ideal.NsaRows.aW m c) b s R hR j n hn).trans (Cert.Reference8Ideal.NsaRows.z_apply (Cert.Kernel8Ideal.NsaRows.aX m c) (Cert.Kernel8Ideal.NsaRows.aG m c) (Cert.Kernel8Ideal.NsaRows.aW m c) b s n)).symm
    · refine Cert.Proj.ext_two fun R j => ?_
      obtain ⟨b, s, hR⟩ := Cert.Proj.split (A := 128) (B := 8) (by decide) rfl R
      obtain ⟨y, hy⟩ : ∃ y : ℕ → EReal, ∀ (d : ℕ) (n : Fin 2596), d < 64 → n.val = 1792 + (j.val / 64 * 64 + d) → Cert.Kernel8Ideal.NsaRows.at' m c b s n = y d :=
        ⟨fun d => Cert.Kernel8Ideal.NsaRows.at' m c b s (Fin.ofNat 2596 (1792 + (j.val / 64 * 64 + d))), fun d n _ hn =>
          congrArg (Cert.Kernel8Ideal.NsaRows.at' m c b s) (Fin.ext (by show n.val = (1792 + (j.val / 64 * 64 + d)) % 2596; rw [← hn]; exact (Nat.mod_eq_of_lt n.isLt).symm))⟩
      exact (Cert.Kernel8Ideal.NsaRows.kw_arr m c b s R hR j y hy).trans (Cert.Reference8Ideal.NsaRows.kw_apply (Cert.Kernel8Ideal.NsaRows.aX m c) (Cert.Kernel8Ideal.NsaRows.aG m c) (Cert.Kernel8Ideal.NsaRows.aW m c) b s R hR j y
        (fun d n hd hn => (Cert.Reference8Ideal.NsaRows.z_apply (Cert.Kernel8Ideal.NsaRows.aX m c) (Cert.Kernel8Ideal.NsaRows.aG m c) (Cert.Kernel8Ideal.NsaRows.aW m c) b s n).trans (hy d n hd hn))).symm
    · refine Cert.Proj.ext_two fun R j => ?_
      obtain ⟨n, hn⟩ : ∃ n : Fin 2596, n.val = 2048 + j.val := ⟨⟨2048 + j.val, by have := j.isLt; omega⟩, rfl⟩
      obtain ⟨b, s, hR⟩ := Cert.Proj.split (A := 128) (B := 8) (by decide) rfl R
      exact (Cert.Kernel8Ideal.NsaRows.vw_arr m c b s R hR j n hn).trans ((Cert.Reference8Ideal.NsaRows.vw_apply (Cert.Kernel8Ideal.NsaRows.aX m c) (Cert.Kernel8Ideal.NsaRows.aG m c) (Cert.Kernel8Ideal.NsaRows.aW m c) b s R hR j n hn).trans (Cert.Reference8Ideal.NsaRows.z_apply (Cert.Kernel8Ideal.NsaRows.aX m c) (Cert.Kernel8Ideal.NsaRows.aG m c) (Cert.Kernel8Ideal.NsaRows.aW m c) b s n)).symm
  · refine (θ_run Cert.Reference8Ideal.defs _ _).mono (fun r h c => ?_) (Cert.Reference8Ideal.NsaRows.run m' g')
    obtain ⟨e0, e1, e2⟩ := hargs c
    obtain ⟨h0, h1, h2, h3, h4, h5, hk⟩ := h c
    exact ⟨h0.trans (Cert.Proj.congr_three Cert.Reference8Ideal.NsaRows.kc e0 e1 e2), h1.trans (Cert.Proj.congr_three Cert.Reference8Ideal.NsaRows.vc e0 e1 e2), h2.trans (Cert.Proj.congr_three Cert.Reference8Ideal.NsaRows.ks e0 e1 e2), h3.trans (Cert.Proj.congr_three Cert.Reference8Ideal.NsaRows.vs e0 e1 e2), h4.trans (Cert.Proj.congr_three Cert.Reference8Ideal.NsaRows.kw e0 e1 e2), h5.trans (Cert.Proj.congr_three Cert.Reference8Ideal.NsaRows.vw e0 e1 e2), hk⟩

theorem frame_Kernel9 : Cert.quiescent_Kernel9 (hKernel9 := Cert.Kernel9.Gen.facts) := fun m g _ => Cert.Kernel9.Gen.frame m g

theorem frame_Kernel9Ideal : Cert.quiescent_Kernel9Ideal (hKernel9Ideal := Cert.Kernel9Ideal.Gen.facts) := fun m g _ => Cert.Kernel9Ideal.Gen.frame m g

theorem preserves9 : Cert.preserves_Kernel9_Kernel9Ideal := trivial

theorem algebraic9 : Cert.algebraic_Kernel9Ideal_Reference4Ideal (hKernel9Ideal := Cert.Kernel9Ideal.Gen.facts) (hReference4Ideal := Cert.Reference4Ideal.Gen.facts) := fun m g m' g' _ hargs => by
  refine ⟨fun c => Cert.Reference4Ideal.Tail.out (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)), ?_, ?_⟩
  · refine (θ_run Cert.Kernel9Ideal.defs _ _).mono (fun r h c => ⟨(h c).1.trans ?_, (h c).2⟩) (Cert.Kernel9Ideal.Value.run_blocks m g)
    exact Cert.Kernel9Ideal.Tail.arr_val m c _ fun b s R j hR => Cert.Reference4Ideal.Tail.out_apply _ _ _ _ _ _ _ _ b s R j hR
  · refine (θ_run Cert.Reference4Ideal.defs _ _).mono (fun r h c => ⟨(h c).1.trans ?_, (h c).2⟩) (Cert.Reference4Ideal.Value.run m' g')
    obtain ⟨e0, e1, e2, e3, e4, e5, e6, e7⟩ := hargs c
    rw [Cert.Reference4Ideal.Tail.res_eq, e0, e1, e2, e3, e4, e5, e6, e7]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts, Cert.Kernel9.Gen.facts, Cert.Kernel9Ideal.Gen.facts, preFacts,
  frame_Kernel, frame_KernelIdeal, frame_KernelIdeal_pre, frame_ReferenceIdeal, frame_ReferenceIdeal_pre, frame_Kernel2, frame_Kernel2Ideal, frame_Reference2Ideal, frame_Kernel3, frame_Kernel3Ideal,
  frame_Kernel4, frame_Kernel4Ideal, frame_Reference4Ideal,
  frame_Kernel5, frame_Kernel5Ideal, frame_Reference5Ideal, frame_Kernel6, frame_Kernel6Ideal, frame_Reference6Ideal, frame_Kernel7, frame_Kernel7Ideal, frame_Reference7Ideal,
  frame_Kernel8, frame_Kernel8Ideal, frame_Reference8Ideal, frame_Kernel9, frame_Kernel9Ideal,
  preserves, algebraic, preserves2, algebraic2, preserves3, algebraic3, preserves4, algebraic4,
  preserves5, algebraic5, preserves6, algebraic6, preserves7, algebraic7, preserves8, algebraic8, preserves9, algebraic9⟩

end Cert.Proof

end
